-- ==== Defs.lean ====
def Pre_Kernel [hPre_prefix_fits : Cert.Pre_prefix_fits.Facts] (m : (ℓ : Loc Cert.Kernel.nD Cert.Kernel.τ Cert.Kernel.sig) → Buf (Elt Bits) ℓ) : Prop :=
  ∀ c : Dev Cert.Kernel.nD,
    (Cert.Pre_prefix_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_prefix_fits : Cert.Pre_prefix_fits.Facts] (m : (ℓ : Loc Cert.KernelIdeal.nD Cert.KernelIdeal.τ Cert.KernelIdeal.sig) → Buf (Elt Ideal) ℓ) : Prop :=
  ∀ c : Dev Cert.KernelIdeal.nD,
    (Cert.Pre_prefix_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_prefix_fits : Cert.Pre_prefix_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_prefix_fits : Cert.Pre_prefix_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "score" .f32 0x3AE7B46A#32 (((Real.sqrt 128)⁻¹ * (1 / 50) : ℝ) : EReal)
  ∧ IdealRules.named_const.Statement Cert.KernelIdeal.κ "cap_log2e" .f32 0x429044FE#32 ((50 * (Real.log 2)⁻¹ : ℝ) : EReal)

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_prefix_fits : Cert.Pre_prefix_fits.Facts) (hPre_scales_finite : Cert.Pre_scales_finite.Facts),
    quiescent_Kernel (hKernel := hKernel) (hPre_prefix_fits := hPre_prefix_fits)
    ∧ quiescent_KernelIdeal (hKernelIdeal := hKernelIdeal) (hPre_prefix_fits := hPre_prefix_fits)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_prefix_fits.lean ====
abbrev S4 : Shape := ⟨1, ![4]⟩
abbrev S4x16384x2048 : Shape := ⟨3, ![4, 16384, 2048]⟩
abbrev S4x16384x16 : Shape := ⟨3, ![4, 16384, 16]⟩
abbrev S4x16384x256 : Shape := ⟨3, ![4, 16384, 256]⟩
abbrev S4x16384x2 : Shape := ⟨3, ![4, 16384, 2]⟩
abbrev S4x256x16384 : Shape := ⟨3, ![4, 256, 16384]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : FVec F S4x16384x2048 .fp8e4m3) (main_arg2 : FVec F S4x16384x16 .f32) (main_arg3 : FVec F S4x16384x256 .fp8e4m3) (main_arg4 : FVec F S4x16384x2 .f32) (main_arg5 : FVec F S4x256x16384 .fp8e4m3) (main_arg6 : FVec F S4x16384x2 .f32) : IVec S4 1 :=
  let main_c : IVec S_ 32 := constantI S_ 32 16384#32
  let main_v0 : IVec S4 32 := broadcastInDim S4 ![] bcast_S_S4 main_c
  let main_v1 : IVec S4 1 := cmpi .sle main_arg0 main_v0
  main_v1
-- ==== Pre_scales_finite.lean ====
abbrev S4 : Shape := ⟨1, ![4]⟩
abbrev S4x16384x2048 : Shape := ⟨3, ![4, 16384, 2048]⟩
abbrev S4x16384x16 : Shape := ⟨3, ![4, 16384, 16]⟩
abbrev S4x16384x256 : Shape := ⟨3, ![4, 16384, 256]⟩
abbrev S4x16384x2 : Shape := ⟨3, ![4, 16384, 2]⟩
abbrev S4x256x16384 : Shape := ⟨3, ![4, 256, 16384]⟩
abbrev S_ : Shape := ⟨0, ![]⟩
abbrev S4x1x1 : Shape := ⟨3, ![4, 1, 1]⟩

class Facts : Prop where
  bcast_S_S4 : S_.BroadcastsInDim S4 (![] : Fin 0 → Fin S4.rank)
  bcast_S4_S4x1x1_0 : S4.BroadcastsInDim S4x1x1 (![0] : Fin 1 → Fin S4x1x1.rank)
  bcast_S_S4x16384x2 : S_.BroadcastsInDim S4x16384x2 (![] : Fin 0 → Fin S4x16384x2.rank)
  bcast_S4x1x1_S4x16384x2_0_1_2 : S4x1x1.BroadcastsInDim S4x16384x2 (![0, 1, 2] : Fin 3 → Fin S4x16384x2.rank)

variable [Facts]

def fn {F : FTy → Type} [FloatOps F] (main_arg0 : IVec S4 32) (main_arg1 : FVec F S4x16384x2048 .fp8e4m3) (main_arg2 : FVec F S4x16384x16 .f32) (main_arg3 : FVec F S4x16384x256 .fp8e4m3) (main_arg4 : FVec F S4x16384x2 .f32) (main_arg5 : FVec F S4x256x16384 .fp8e4m3) (main_arg6 : FVec F S4x16384x2 .f32) : IVec S4x16384x2 1 :=
  let main_c : IVec S_ 32 := constantI S_ 32 16384#32
  let main_v0 : IVec S4 32 := broadcastInDim S4 ![] bcast_S_S4 main_c
  let main_v1 : IVec S4 1 := cmpi .sle main_arg0 main_v0
  let main_v2 : IVec S4x1x1 1 := broadcastInDim S4x1x1 ![0] bcast_S4_S4x1x1_0 main_v1
  let main_v3 : FVec F S4x16384x2 .f32 := Host.absf main_arg6
  let main_cst : FVec F S_ .f32 := constant S_ .f32 0x7F800000#32
  let main_v4 : FVec F S4x16384x2 .f32 := broadcastInDim S4x16384x2 ![] bcast_S_S4x16384x2 main_cst
  let main_v5 : IVec S4x16384x2 1 := cmpf .olt main_v3 main_v4
  let main_v6 : IVec S4x16384x2 1 := broadcastInDim S4x16384x2 ![0, 1, 2] bcast_S4x1x1_S4x16384x2_0_1_2 main_v2
  let main_v7 : IVec S4x16384x2 1 := andi main_v6 main_v5
  main_v7
-- ==== Kernel.lean ====
abbrev S4 : Shape := ⟨1, ![4]⟩
abbrev S4x16384x2048 : Shape := ⟨3, ![4, 16384, 2048]⟩
abbrev S4x16384x16 : Shape := ⟨3, ![4, 16384, 16]⟩
abbrev S4x16384x256 : Shape := ⟨3, ![4, 16384, 256]⟩
abbrev S4x16384x2 : Shape := ⟨3, ![4, 16384, 2]⟩
abbrev S4x256x16384 : Shape := ⟨3, ![4, 256, 16384]⟩
abbrev S4x256x64x2x8 : Shape := ⟨5, ![4, 256, 64, 2, 8]⟩
abbrev S4x2x256x8x64 : Shape := ⟨5, ![4, 2, 256, 8, 64]⟩
abbrev S4x2x256x1x512 : Shape := ⟨5, ![4, 2, 256, 1, 512]⟩
abbrev S4x2x16384 : Shape := ⟨3, ![4, 2, 16384]⟩
abbrev S4x2x128x128 : Shape := ⟨4, ![4, 2, 128, 128]⟩
abbrev S1x64x1024 : Shape := ⟨3, ![1, 64, 1024]⟩
abbrev S1x1x1x1x512 : Shape := ⟨5, ![1, 1, 1, 1, 512]⟩
abbrev S1x16384x128 : Shape := ⟨3, ![1, 16384, 128]⟩
abbrev S1x128x16384 : Shape := ⟨3, ![1, 128, 16384]⟩
abbrev S1x1x128x128 : Shape := ⟨4, ![1, 1, 128, 128]⟩
abbrev S16384x512 : Shape := ⟨2, ![16384, 512]⟩
abbrev S1024x512 : Shape := ⟨2, ![1024, 512]⟩
abbrev S512x128 : Shape := ⟨2, ![512, 128]⟩
abbrev S128x512 : Shape := ⟨2, ![128, 512]⟩
abbrev S1 : Shape := ⟨1, ![1]⟩
abbrev S1x64x128 : Shape := ⟨3, ![1, 64, 128]⟩
abbrev S64x128 : Shape := ⟨2, ![64, 128]⟩
abbrev S1x512 : Shape := ⟨2, ![1, 512]⟩
abbrev S8x512 : Shape := ⟨2, ![8, 512]⟩
abbrev S1x1024x128 : Shape := ⟨3, ![1, 1024, 128]⟩
abbrev S1024x128 : Shape := ⟨2, ![1024, 128]⟩
abbrev S1x1x1x128 : Shape := ⟨4, ![1, 1, 1, 128]⟩
abbrev S1x128 : Shape := ⟨2, ![1, 128]⟩
abbrev S128x128 : Shape := ⟨2, ![128, 128]⟩
abbrev S16x8x512 : Shape := ⟨3, ![16, 8, 512]⟩
abbrev S1x8x512 : Shape := ⟨3, ![1, 8, 512]⟩
abbrev S1x256x128 : Shape := ⟨3, ![1, 256, 128]⟩
abbrev S256x128 : Shape := ⟨2, ![256, 128]⟩
abbrev S256x512 : Shape := ⟨2, ![256, 512]⟩
abbrev S512 : Shape := ⟨1, ![512]⟩
abbrev S1x128x1024 : Shape := ⟨3, ![1, 128, 1024]⟩
abbrev S128x1024 : Shape := ⟨2, ![128, 1024]⟩
abbrev S1x128x256 : Shape := ⟨3, ![1, 128, 256]⟩
abbrev S128x256 : Shape := ⟨2, ![128, 256]⟩

abbrev nBuf : Space → Nat
  | .hbm => 14
  | .vmem => 19
  | .smem => 1
  | _ => 0

abbrev bufTy : (tb : Table) → Fin (tcTables nBuf tb) → BufTy
  | .hbm, ⟨0, _⟩ => ⟨S4x16384x2048, .fp8e4m3⟩
  | .hbm, ⟨1, _⟩ => ⟨S4x16384x16, .f32⟩
  | .hbm, ⟨2, _⟩ => ⟨S4x16384x256, .fp8e4m3⟩
  | .hbm, ⟨3, _⟩ => ⟨S4x16384x2, .f32⟩
  | .hbm, ⟨4, _⟩ => ⟨S4x256x16384, .fp8e4m3⟩
  | .hbm, ⟨5, _⟩ => ⟨S4x16384x2, .f32⟩
  | .hbm, ⟨6, _⟩ => ⟨S4x256x64x2x8, .f32⟩
  | .hbm, ⟨7, _⟩ => ⟨S4x2x256x8x64, .f32⟩
  | .hbm, ⟨8, _⟩ => ⟨S4x2x256x1x512, .f32⟩
  | .hbm, ⟨9, _⟩ => ⟨S4x2x16384, .f32⟩
  | .hbm, ⟨10, _⟩ => ⟨S4x2x128x128, .f32⟩
  | .hbm, ⟨11, _⟩ => ⟨S4x2x16384, .f32⟩
  | .hbm, ⟨12, _⟩ => ⟨S4x2x128x128, .f32⟩
  | .hbm, ⟨13, _⟩ => ⟨S4x16384x2048, .bf16⟩
  | .local _ .vmem, ⟨0, _⟩ => ⟨S1x64x1024, .fp8e4m3⟩
  | .local _ .vmem, ⟨1, _⟩ => ⟨S1x64x1024, .fp8e4m3⟩
  | .local _ .vmem, ⟨2, _⟩ => ⟨S1x1x1x1x512, .f32⟩
  | .local _ .vmem, ⟨3, _⟩ => ⟨S1x1x1x1x512, .f32⟩
  | .local _ .vmem, ⟨4, _⟩ => ⟨S1x16384x128, .fp8e4m3⟩
  | .local _ .vmem, ⟨5, _⟩ => ⟨S1x16384x128, .fp8e4m3⟩
  | .local _ .vmem, ⟨6, _⟩ => ⟨S1x128x16384, .fp8e4m3⟩
  | .local _ .vmem, ⟨7, _⟩ => ⟨S1x128x16384, .fp8e4m3⟩
  | .local _ .vmem, ⟨8, _⟩ => ⟨S1x1x128x128, .f32⟩
  | .local _ .vmem, ⟨9, _⟩ => ⟨S1x1x128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x64x1024, .bf16⟩
  | .local _ .vmem, ⟨13, _⟩ => ⟨S1x64x1024, .bf16⟩
  | .local _ .vmem, ⟨14, _⟩ => ⟨S16384x512, .f32⟩
  | .local _ .vmem, ⟨15, _⟩ => ⟨S1024x512, .f32⟩
  | .local _ .vmem, ⟨16, _⟩ => ⟨S1024x512, .fp8e4m3⟩
  | .local _ .vmem, ⟨17, _⟩ => ⟨S512x128, .fp8e4m3⟩
  | .local _ .vmem, ⟨18, _⟩ => ⟨S128x512, .f32⟩
  | .local _ .smem, ⟨0, _⟩ => ⟨S4, .i32⟩
  | _, _ => ⟨S4x16384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 256], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
@[reducible] def k0_t1_loop (i : grid0.Coords) (v2 : BitVec 32) : Scf.Loop 32 :=
  let c0_i32_58 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v108 : BitVec 32 := Scalar.subi v76 c0_i32_58
  let c1_i32_59 : BitVec 32 := 1#32
  let v110 : BitVec 32 := Scalar.divsi v108 c1_i32_59
  let v111 : BitVec 32 := Scalar.muli v110 c1_i32_59
  let v112 : BitVec 32 := Scalar.addi c0_i32_58 v111
  let c1_i32_60 : BitVec 32 := 1#32
  ⟨c0_i32_58, v112, c1_i32_60⟩

def k0_mult1 (i : grid0.Coords) (v2 : BitVec 32) (k0_t1 : Fin (k0_t1_loop i v2).trips) : BitVec 32 :=
  let c0_i32_58 : BitVec 32 := 0#32
  let c1_i32_60 : BitVec 32 := 1#32
  let arg16 : BitVec 32 := Scf.iv c0_i32_58 c1_i32_60 k0_t1
  let c1024_i32_128 : BitVec 32 := 1024#32
  let v222 : BitVec 32 := Scalar.muli arg16 c1024_i32_128
  v222
def k0_off2 (i : grid0.Coords) (v2 : BitVec 32) (k0_t1 : Fin (k0_t1_loop i v2).trips) (c0_i32_135 : BitVec 32) : Fin 4 → Nat :=
  let c0_136 : Index := 0#32
  let c0_137 : Index := 0#32
  let c0_i32_58 : BitVec 32 := 0#32
  let c1_i32_60 : BitVec 32 := 1#32
  let arg16 : BitVec 32 := Scf.iv c0_i32_58 c1_i32_60 k0_t1
  let c1024_i32_128 : BitVec 32 := 1024#32
  let v222 : BitVec 32 := Scalar.muli arg16 c1024_i32_128
  let v223 : BitVec 32 := v222
  let c0_i32_129 : BitVec 32 := 0#32
  let v225 : BitVec 1 := Scalar.cmpi .sgt v223 c0_i32_129
  let v226 : BitVec 32 := Scalar.extui v225
  let c0_i32_130 : BitVec 32 := 0#32
  let v227 : BitVec 1 := Scalar.cmpi .slt v223 c0_i32_130
  let v228 : BitVec 32 := Scalar.extui v227
  let v229 : BitVec 32 := Scalar.subi v226 v228
  let c128_i32 : BitVec 32 := 128#32
  let c0_i32_131 : BitVec 32 := 0#32
  let v230 : BitVec 1 := Scalar.cmpi .sgt c128_i32 c0_i32_131
  let v231 : BitVec 32 := Scalar.extui v230
  let c0_i32_132 : BitVec 32 := 0#32
  let v232 : BitVec 1 := Scalar.cmpi .slt c128_i32 c0_i32_132
  let v233 : BitVec 32 := Scalar.extui v232
  let v234 : BitVec 32 := Scalar.subi v231 v233
  let v235 : BitVec 1 := Scalar.cmpi .ne v229 v234
  let v236 : BitVec 32 := Scalar.remsi v223 c128_i32
  let c0_i32_133 : BitVec 32 := 0#32
  let v237 : BitVec 1 := Scalar.cmpi .ne v236 c0_i32_133
  let v238 : BitVec 1 := Scalar.andi v235 v237
  let v224 : BitVec 32 := Scalar.divsi v223 c128_i32
  let c1_i32_134 : BitVec 32 := 1#32
  let v239 : BitVec 32 := Scalar.subi v224 c1_i32_134
  let v240 : BitVec 32 := Scalar.select v238 v239 v224
  let v241 : BitVec 32 := Scalar.addi v240 c0_i32_135
  let v242 : Index := Scalar.indexCast v241
  let c0_138 : Index := 0#32
  ![0, 0, v242.toNat, 0]
def k0_off3 (i : grid0.Coords) (v2 : BitVec 32) (k0_t1 : Fin (k0_t1_loop i v2).trips) (c0_i32_204 : BitVec 32) : Fin 2 → Nat :=
  let c0_i32_58 : BitVec 32 := 0#32
  let c1_i32_60 : BitVec 32 := 1#32
  let arg16 : BitVec 32 := Scf.iv c0_i32_58 c1_i32_60 k0_t1
  let c1024_i32_128 : BitVec 32 := 1024#32
  let v222 : BitVec 32 := Scalar.muli arg16 c1024_i32_128
  let v223 : BitVec 32 := v222
  let v388 : BitVec 32 := Scalar.addi v223 c0_i32_204
  let v389 : Index := Scalar.indexCast v388
  let c0_205 : Index := 0#32
  ![v389.toNat, 0]
def k0_mult2 (i : grid0.Coords) (v2 : BitVec 32) (k0_t1 : Fin (k0_t1_loop i v2).trips) : BitVec 32 :=
  let c0_i32_58 : BitVec 32 := 0#32
  let c1_i32_60 : BitVec 32 := 1#32
  let arg16 : BitVec 32 := Scf.iv c0_i32_58 c1_i32_60 k0_t1
  let c1_i32_252 : BitVec 32 := 1#32
  let v583 : BitVec 32 := Scalar.addi arg16 c1_i32_252
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1_i32_253 : BitVec 32 := 1#32
  let v584 : BitVec 32 := Scalar.subi v76 c1_i32_253
  let v585 : BitVec 32 := Scalar.minsi v583 v584
  let c1024_i32_254 : BitVec 32 := 1024#32
  let v586 : BitVec 32 := Scalar.muli v585 c1024_i32_254
  v586
def k0_off4 (i : grid0.Coords) (v2 : BitVec 32) (k0_t1 : Fin (k0_t1_loop i v2).trips) : Fin 3 → Nat :=
  let c0_255 : Index := 0#32
  let c0_i32_58 : BitVec 32 := 0#32
  let c1_i32_60 : BitVec 32 := 1#32
  let arg16 : BitVec 32 := Scf.iv c0_i32_58 c1_i32_60 k0_t1
  let c1_i32_252 : BitVec 32 := 1#32
  let v583 : BitVec 32 := Scalar.addi arg16 c1_i32_252
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1_i32_253 : BitVec 32 := 1#32
  let v584 : BitVec 32 := Scalar.subi v76 c1_i32_253
  let v585 : BitVec 32 := Scalar.minsi v583 v584
  let c1024_i32_254 : BitVec 32 := 1024#32
  let v586 : BitVec 32 := Scalar.muli v585 c1024_i32_254
  let v587 : BitVec 32 := v586
  let v588 : Index := Scalar.indexCast v587
  let c0_256 : Index := 0#32
  ![0, v588.toNat, 0]
@[reducible] def k0_t2_loop (i : grid0.Coords) (v2 : BitVec 32) : Scf.Loop 32 :=
  let c0_i32_58 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v108 : BitVec 32 := Scalar.subi v76 c0_i32_58
  let c1_i32_59 : BitVec 32 := 1#32
  let v110 : BitVec 32 := Scalar.divsi v108 c1_i32_59
  let v111 : BitVec 32 := Scalar.muli v110 c1_i32_59
  let v112 : BitVec 32 := Scalar.addi c0_i32_58 v111
  let v109 : BitVec 32 := Scalar.addi c0_i32_58 v108
  let c1_i32_61 : BitVec 32 := 1#32
  ⟨v112, v109, c1_i32_61⟩
def k0_mult3 (i : grid0.Coords) (v2 : BitVec 32) (k0_t2 : Fin (k0_t2_loop i v2).trips) : BitVec 32 :=
  let c0_i32_58 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v108 : BitVec 32 := Scalar.subi v76 c0_i32_58
  let c1_i32_59 : BitVec 32 := 1#32
  let v110 : BitVec 32 := Scalar.divsi v108 c1_i32_59
  let v111 : BitVec 32 := Scalar.muli v110 c1_i32_59
  let v112 : BitVec 32 := Scalar.addi c0_i32_58 v111
  let c1_i32_61 : BitVec 32 := 1#32
  let arg16 : BitVec 32 := Scf.iv v112 c1_i32_61 k0_t2
  let c1024_i32_128 : BitVec 32 := 1024#32
  let v222 : BitVec 32 := Scalar.muli arg16 c1024_i32_128
  v222
def k0_off5 (i : grid0.Coords) (v2 : BitVec 32) (k0_t2 : Fin (k0_t2_loop i v2).trips) (c0_i32_135 : BitVec 32) : Fin 4 → Nat :=
  let c0_136 : Index := 0#32
  let c0_137 : Index := 0#32
  let c0_i32_58 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v108 : BitVec 32 := Scalar.subi v76 c0_i32_58
  let c1_i32_59 : BitVec 32 := 1#32
  let v110 : BitVec 32 := Scalar.divsi v108 c1_i32_59
  let v111 : BitVec 32 := Scalar.muli v110 c1_i32_59
  let v112 : BitVec 32 := Scalar.addi c0_i32_58 v111
  let c1_i32_61 : BitVec 32 := 1#32
  let arg16 : BitVec 32 := Scf.iv v112 c1_i32_61 k0_t2
  let c1024_i32_128 : BitVec 32 := 1024#32
  let v222 : BitVec 32 := Scalar.muli arg16 c1024_i32_128
  let v223 : BitVec 32 := v222
  let c0_i32_129 : BitVec 32 := 0#32
  let v225 : BitVec 1 := Scalar.cmpi .sgt v223 c0_i32_129
  let v226 : BitVec 32 := Scalar.extui v225
  let c0_i32_130 : BitVec 32 := 0#32
  let v227 : BitVec 1 := Scalar.cmpi .slt v223 c0_i32_130
  let v228 : BitVec 32 := Scalar.extui v227
  let v229 : BitVec 32 := Scalar.subi v226 v228
  let c128_i32 : BitVec 32 := 128#32
  let c0_i32_131 : BitVec 32 := 0#32
  let v230 : BitVec 1 := Scalar.cmpi .sgt c128_i32 c0_i32_131
  let v231 : BitVec 32 := Scalar.extui v230
  let c0_i32_132 : BitVec 32 := 0#32
  let v232 : BitVec 1 := Scalar.cmpi .slt c128_i32 c0_i32_132
  let v233 : BitVec 32 := Scalar.extui v232
  let v234 : BitVec 32 := Scalar.subi v231 v233
  let v235 : BitVec 1 := Scalar.cmpi .ne v229 v234
  let v236 : BitVec 32 := Scalar.remsi v223 c128_i32
  let c0_i32_133 : BitVec 32 := 0#32
  let v237 : BitVec 1 := Scalar.cmpi .ne v236 c0_i32_133
  let v238 : BitVec 1 := Scalar.andi v235 v237
  let v224 : BitVec 32 := Scalar.divsi v223 c128_i32
  let c1_i32_134 : BitVec 32 := 1#32
  let v239 : BitVec 32 := Scalar.subi v224 c1_i32_134
  let v240 : BitVec 32 := Scalar.select v238 v239 v224
  let v241 : BitVec 32 := Scalar.addi v240 c0_i32_135
  let v242 : Index := Scalar.indexCast v241
  let c0_138 : Index := 0#32
  ![0, 0, v242.toNat, 0]
def k0_off6 (i : grid0.Coords) (v2 : BitVec 32) (k0_t2 : Fin (k0_t2_loop i v2).trips) (c0_i32_204 : BitVec 32) : Fin 2 → Nat :=
  let c0_i32_58 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v108 : BitVec 32 := Scalar.subi v76 c0_i32_58
  let c1_i32_59 : BitVec 32 := 1#32
  let v110 : BitVec 32 := Scalar.divsi v108 c1_i32_59
  let v111 : BitVec 32 := Scalar.muli v110 c1_i32_59
  let v112 : BitVec 32 := Scalar.addi c0_i32_58 v111
  let c1_i32_61 : BitVec 32 := 1#32
  let arg16 : BitVec 32 := Scf.iv v112 c1_i32_61 k0_t2
  let c1024_i32_128 : BitVec 32 := 1024#32
  let v222 : BitVec 32 := Scalar.muli arg16 c1024_i32_128
  let v223 : BitVec 32 := v222
  let v388 : BitVec 32 := Scalar.addi v223 c0_i32_204
  let v389 : Index := Scalar.indexCast v388
  let c0_205 : Index := 0#32
  ![v389.toNat, 0]
def k0_mult4 (i : grid0.Coords) (v2 : BitVec 32) (k0_t2 : Fin (k0_t2_loop i v2).trips) : BitVec 32 :=
  let c0_i32_58 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v108 : BitVec 32 := Scalar.subi v76 c0_i32_58
  let c1_i32_59 : BitVec 32 := 1#32
  let v110 : BitVec 32 := Scalar.divsi v108 c1_i32_59
  let v111 : BitVec 32 := Scalar.muli v110 c1_i32_59
  let v112 : BitVec 32 := Scalar.addi c0_i32_58 v111
  let c1_i32_61 : BitVec 32 := 1#32
  let arg16 : BitVec 32 := Scf.iv v112 c1_i32_61 k0_t2
  let c1_i32_252 : BitVec 32 := 1#32
  let v583 : BitVec 32 := Scalar.addi arg16 c1_i32_252
  let c1_i32_253 : BitVec 32 := 1#32
  let v584 : BitVec 32 := Scalar.subi v76 c1_i32_253
  let v585 : BitVec 32 := Scalar.minsi v583 v584
  let c1024_i32_254 : BitVec 32 := 1024#32
  let v586 : BitVec 32 := Scalar.muli v585 c1024_i32_254
  v586
def k0_off7 (i : grid0.Coords) (v2 : BitVec 32) (k0_t2 : Fin (k0_t2_loop i v2).trips) : Fin 3 → Nat :=
  let c0_255 : Index := 0#32
  let c0_i32_58 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v108 : BitVec 32 := Scalar.subi v76 c0_i32_58
  let c1_i32_59 : BitVec 32 := 1#32
  let v110 : BitVec 32 := Scalar.divsi v108 c1_i32_59
  let v111 : BitVec 32 := Scalar.muli v110 c1_i32_59
  let v112 : BitVec 32 := Scalar.addi c0_i32_58 v111
  let c1_i32_61 : BitVec 32 := 1#32
  let arg16 : BitVec 32 := Scf.iv v112 c1_i32_61 k0_t2
  let c1_i32_252 : BitVec 32 := 1#32
  let v583 : BitVec 32 := Scalar.addi arg16 c1_i32_252
  let c1_i32_253 : BitVec 32 := 1#32
  let v584 : BitVec 32 := Scalar.subi v76 c1_i32_253
  let v585 : BitVec 32 := Scalar.minsi v583 v584
  let c1024_i32_254 : BitVec 32 := 1024#32
  let v586 : BitVec 32 := Scalar.muli v585 c1024_i32_254
  let v587 : BitVec 32 := v586
  let v588 : Index := Scalar.indexCast v587
  let c0_256 : Index := 0#32
  ![0, v588.toNat, 0]
@[reducible] def k0_t3_loop (i : grid0.Coords) (v2 : BitVec 32) : Scf.Loop 32 :=
  let c0_i32_62 : BitVec 32 := 0#32
  let arg2 : BitVec 32 := BitVec.ofNat 32 (i 2).val
  let c64_i32 : BitVec 32 := 64#32
  let v0 : BitVec 32 := Scalar.muli arg2 c64_i32
  let c64_i32_39 : BitVec 32 := 64#32
  let v77 : BitVec 32 := Scalar.addi v0 c64_i32_39
  let v78 : BitVec 32 := Scalar.maxsi v77 v2
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v115 : BitVec 32 := Scalar.subi v99 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_64 : BitVec 32 := 1#32
  ⟨c0_i32_62, v119, c1_i32_64⟩
def k0_mult5 (i : grid0.Coords) (v2 : BitVec 32) (k0_t3 : Fin (k0_t3_loop i v2).trips) : BitVec 32 :=
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_62 : BitVec 32 := 0#32
  let c1_i32_64 : BitVec 32 := 1#32
  let arg16 : BitVec 32 := Scf.iv c0_i32_62 c1_i32_64 k0_t3
  let c256_i32_128 : BitVec 32 := 256#32
  let v222 : BitVec 32 := Scalar.muli arg16 c256_i32_128
  let v223 : BitVec 32 := Scalar.addi v79 v222
  v223
def k0_off8 (i : grid0.Coords) (v2 : BitVec 32) (k0_t3 : Fin (k0_t3_loop i v2).trips) : Fin 3 → Nat :=
  let c0_129 : Index := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_62 : BitVec 32 := 0#32
  let c1_i32_64 : BitVec 32 := 1#32
  let arg16 : BitVec 32 := Scf.iv c0_i32_62 c1_i32_64 k0_t3
  let c256_i32_128 : BitVec 32 := 256#32
  let v222 : BitVec 32 := Scalar.muli arg16 c256_i32_128
  let v223 : BitVec 32 := Scalar.addi v79 v222
  let v224 : BitVec 32 := v223
  let v225 : Index := Scalar.indexCast v224
  let c0_130 : Index := 0#32
  ![0, v225.toNat, 0]
def k0_off9 (i : grid0.Coords) (v2 : BitVec 32) (k0_t3 : Fin (k0_t3_loop i v2).trips) (c0_i32_140 : BitVec 32) : Fin 4 → Nat :=
  let c0_141 : Index := 0#32
  let c0_142 : Index := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_62 : BitVec 32 := 0#32
  let c1_i32_64 : BitVec 32 := 1#32
  let arg16 : BitVec 32 := Scf.iv c0_i32_62 c1_i32_64 k0_t3
  let c256_i32_128 : BitVec 32 := 256#32
  let v222 : BitVec 32 := Scalar.muli arg16 c256_i32_128
  let v223 : BitVec 32 := Scalar.addi v79 v222
  let v224 : BitVec 32 := v223
  let c0_i32_134 : BitVec 32 := 0#32
  let v231 : BitVec 1 := Scalar.cmpi .sgt v224 c0_i32_134
  let v232 : BitVec 32 := Scalar.extui v231
  let c0_i32_135 : BitVec 32 := 0#32
  let v233 : BitVec 1 := Scalar.cmpi .slt v224 c0_i32_135
  let v234 : BitVec 32 := Scalar.extui v233
  let v235 : BitVec 32 := Scalar.subi v232 v234
  let c128_i32 : BitVec 32 := 128#32
  let c0_i32_136 : BitVec 32 := 0#32
  let v236 : BitVec 1 := Scalar.cmpi .sgt c128_i32 c0_i32_136
  let v237 : BitVec 32 := Scalar.extui v236
  let c0_i32_137 : BitVec 32 := 0#32
  let v238 : BitVec 1 := Scalar.cmpi .slt c128_i32 c0_i32_137
  let v239 : BitVec 32 := Scalar.extui v238
  let v240 : BitVec 32 := Scalar.subi v237 v239
  let v241 : BitVec 1 := Scalar.cmpi .ne v235 v240
  let v242 : BitVec 32 := Scalar.remsi v224 c128_i32
  let c0_i32_138 : BitVec 32 := 0#32
  let v243 : BitVec 1 := Scalar.cmpi .ne v242 c0_i32_138
  let v244 : BitVec 1 := Scalar.andi v241 v243
  let v230 : BitVec 32 := Scalar.divsi v224 c128_i32
  let c1_i32_139 : BitVec 32 := 1#32
  let v245 : BitVec 32 := Scalar.subi v230 c1_i32_139
  let v246 : BitVec 32 := Scalar.select v244 v245 v230
  let v247 : BitVec 32 := Scalar.addi v246 c0_i32_140
  let v248 : Index := Scalar.indexCast v247
  let c0_143 : Index := 0#32
  ![0, 0, v248.toNat, 0]
def k0_off10 (i : grid0.Coords) (v2 : BitVec 32) (k0_t3 : Fin (k0_t3_loop i v2).trips) (c0_i32_167 : BitVec 32) : Fin 2 → Nat :=
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_62 : BitVec 32 := 0#32
  let c1_i32_64 : BitVec 32 := 1#32
  let arg16 : BitVec 32 := Scf.iv c0_i32_62 c1_i32_64 k0_t3
  let c256_i32_128 : BitVec 32 := 256#32
  let v222 : BitVec 32 := Scalar.muli arg16 c256_i32_128
  let v223 : BitVec 32 := Scalar.addi v79 v222
  let v224 : BitVec 32 := v223
  let v323 : BitVec 32 := Scalar.addi v224 c0_i32_167
  let v324 : Index := Scalar.indexCast v323
  let c0_168 : Index := 0#32
  ![v324.toNat, 0]
@[reducible] def k0_t4_loop (i : grid0.Coords) (v2 : BitVec 32) : Scf.Loop 32 :=
  let c0_i32_62 : BitVec 32 := 0#32
  let arg2 : BitVec 32 := BitVec.ofNat 32 (i 2).val
  let c64_i32 : BitVec 32 := 64#32
  let v0 : BitVec 32 := Scalar.muli arg2 c64_i32
  let c64_i32_39 : BitVec 32 := 64#32
  let v77 : BitVec 32 := Scalar.addi v0 c64_i32_39
  let v78 : BitVec 32 := Scalar.maxsi v77 v2
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v115 : BitVec 32 := Scalar.subi v99 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let v116 : BitVec 32 := Scalar.addi c0_i32_62 v115
  let c1_i32_65 : BitVec 32 := 1#32
  ⟨v119, v116, c1_i32_65⟩
def k0_mult6 (i : grid0.Coords) (v2 : BitVec 32) (k0_t4 : Fin (k0_t4_loop i v2).trips) : BitVec 32 :=
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_62 : BitVec 32 := 0#32
  let c64_i32_39 : BitVec 32 := 64#32
  let v77 : BitVec 32 := Scalar.addi v0 c64_i32_39
  let v78 : BitVec 32 := Scalar.maxsi v77 v2
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v115 : BitVec 32 := Scalar.subi v99 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg16 : BitVec 32 := Scf.iv v119 c1_i32_65 k0_t4
  let c256_i32_128 : BitVec 32 := 256#32
  let v222 : BitVec 32 := Scalar.muli arg16 c256_i32_128
  let v223 : BitVec 32 := Scalar.addi v79 v222
  v223
def k0_off11 (i : grid0.Coords) (v2 : BitVec 32) (k0_t4 : Fin (k0_t4_loop i v2).trips) : Fin 3 → Nat :=
  let c0_129 : Index := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_62 : BitVec 32 := 0#32
  let c64_i32_39 : BitVec 32 := 64#32
  let v77 : BitVec 32 := Scalar.addi v0 c64_i32_39
  let v78 : BitVec 32 := Scalar.maxsi v77 v2
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v115 : BitVec 32 := Scalar.subi v99 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg16 : BitVec 32 := Scf.iv v119 c1_i32_65 k0_t4
  let c256_i32_128 : BitVec 32 := 256#32
  let v222 : BitVec 32 := Scalar.muli arg16 c256_i32_128
  let v223 : BitVec 32 := Scalar.addi v79 v222
  let v224 : BitVec 32 := v223
  let v225 : Index := Scalar.indexCast v224
  let c0_130 : Index := 0#32
  ![0, v225.toNat, 0]
def k0_off12 (i : grid0.Coords) (v2 : BitVec 32) (k0_t4 : Fin (k0_t4_loop i v2).trips) (c0_i32_140 : BitVec 32) : Fin 4 → Nat :=
  let c0_141 : Index := 0#32
  let c0_142 : Index := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_62 : BitVec 32 := 0#32
  let c64_i32_39 : BitVec 32 := 64#32
  let v77 : BitVec 32 := Scalar.addi v0 c64_i32_39
  let v78 : BitVec 32 := Scalar.maxsi v77 v2
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v115 : BitVec 32 := Scalar.subi v99 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg16 : BitVec 32 := Scf.iv v119 c1_i32_65 k0_t4
  let c256_i32_128 : BitVec 32 := 256#32
  let v222 : BitVec 32 := Scalar.muli arg16 c256_i32_128
  let v223 : BitVec 32 := Scalar.addi v79 v222
  let v224 : BitVec 32 := v223
  let c0_i32_134 : BitVec 32 := 0#32
  let v231 : BitVec 1 := Scalar.cmpi .sgt v224 c0_i32_134
  let v232 : BitVec 32 := Scalar.extui v231
  let c0_i32_135 : BitVec 32 := 0#32
  let v233 : BitVec 1 := Scalar.cmpi .slt v224 c0_i32_135
  let v234 : BitVec 32 := Scalar.extui v233
  let v235 : BitVec 32 := Scalar.subi v232 v234
  let c128_i32 : BitVec 32 := 128#32
  let c0_i32_136 : BitVec 32 := 0#32
  let v236 : BitVec 1 := Scalar.cmpi .sgt c128_i32 c0_i32_136
  let v237 : BitVec 32 := Scalar.extui v236
  let c0_i32_137 : BitVec 32 := 0#32
  let v238 : BitVec 1 := Scalar.cmpi .slt c128_i32 c0_i32_137
  let v239 : BitVec 32 := Scalar.extui v238
  let v240 : BitVec 32 := Scalar.subi v237 v239
  let v241 : BitVec 1 := Scalar.cmpi .ne v235 v240
  let v242 : BitVec 32 := Scalar.remsi v224 c128_i32
  let c0_i32_138 : BitVec 32 := 0#32
  let v243 : BitVec 1 := Scalar.cmpi .ne v242 c0_i32_138
  let v244 : BitVec 1 := Scalar.andi v241 v243
  let v230 : BitVec 32 := Scalar.divsi v224 c128_i32
  let c1_i32_139 : BitVec 32 := 1#32
  let v245 : BitVec 32 := Scalar.subi v230 c1_i32_139
  let v246 : BitVec 32 := Scalar.select v244 v245 v230
  let v247 : BitVec 32 := Scalar.addi v246 c0_i32_140
  let v248 : Index := Scalar.indexCast v247
  let c0_143 : Index := 0#32
  ![0, 0, v248.toNat, 0]
def k0_off13 (i : grid0.Coords) (v2 : BitVec 32) (k0_t4 : Fin (k0_t4_loop i v2).trips) (c0_i32_167 : BitVec 32) : Fin 2 → Nat :=
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_62 : BitVec 32 := 0#32
  let c64_i32_39 : BitVec 32 := 64#32
  let v77 : BitVec 32 := Scalar.addi v0 c64_i32_39
  let v78 : BitVec 32 := Scalar.maxsi v77 v2
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v115 : BitVec 32 := Scalar.subi v99 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg16 : BitVec 32 := Scf.iv v119 c1_i32_65 k0_t4
  let c256_i32_128 : BitVec 32 := 256#32
  let v222 : BitVec 32 := Scalar.muli arg16 c256_i32_128
  let v223 : BitVec 32 := Scalar.addi v79 v222
  let v224 : BitVec 32 := v223
  let v323 : BitVec 32 := Scalar.addi v224 c0_i32_167
  let v324 : Index := Scalar.indexCast v323
  let c0_168 : Index := 0#32
  ![v324.toNat, 0]
@[reducible] def k0_t5_loop (i : grid0.Coords) (v2 : BitVec 32) : Scf.Loop 32 :=
  let c0_i32_81 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v155 : BitVec 32 := Scalar.subi v76 c0_i32_81
  let c1_i32_82 : BitVec 32 := 1#32
  let v157 : BitVec 32 := Scalar.divsi v155 c1_i32_82
  let v158 : BitVec 32 := Scalar.muli v157 c1_i32_82
  let v159 : BitVec 32 := Scalar.addi c0_i32_81 v158
  let c1_i32_83 : BitVec 32 := 1#32
  ⟨c0_i32_81, v159, c1_i32_83⟩
def k0_mult7 (i : grid0.Coords) (v2 : BitVec 32) (k0_t5 : Fin (k0_t5_loop i v2).trips) : BitVec 32 :=
  let c0_i32_81 : BitVec 32 := 0#32
  let c1_i32_83 : BitVec 32 := 1#32
  let arg16 : BitVec 32 := Scf.iv c0_i32_81 c1_i32_83 k0_t5
  let c1_i32_128 : BitVec 32 := 1#32
  let v222 : BitVec 32 := Scalar.subi arg16 c1_i32_128
  let c0_i32_129 : BitVec 32 := 0#32
  let v223 : BitVec 32 := Scalar.maxsi v222 c0_i32_129
  let c1024_i32_132 : BitVec 32 := 1024#32
  let v225 : BitVec 32 := Scalar.muli v223 c1024_i32_132
  v225
def k0_off14 (i : grid0.Coords) (v2 : BitVec 32) (k0_t5 : Fin (k0_t5_loop i v2).trips) : Fin 3 → Nat :=
  let c0_135 : Index := 0#32
  let c0_136 : Index := 0#32
  let c0_i32_81 : BitVec 32 := 0#32
  let c1_i32_83 : BitVec 32 := 1#32
  let arg16 : BitVec 32 := Scf.iv c0_i32_81 c1_i32_83 k0_t5
  let c1_i32_128 : BitVec 32 := 1#32
  let v222 : BitVec 32 := Scalar.subi arg16 c1_i32_128
  let c0_i32_129 : BitVec 32 := 0#32
  let v223 : BitVec 32 := Scalar.maxsi v222 c0_i32_129
  let c1024_i32_132 : BitVec 32 := 1024#32
  let v225 : BitVec 32 := Scalar.muli v223 c1024_i32_132
  let v226 : BitVec 32 := v225
  let v228 : Index := Scalar.indexCast v226
  ![0, 0, v228.toNat]
def k0_mult8 (i : grid0.Coords) (v2 : BitVec 32) (k0_t5 : Fin (k0_t5_loop i v2).trips) : BitVec 32 :=
  let c0_i32_81 : BitVec 32 := 0#32
  let c1_i32_83 : BitVec 32 := 1#32
  let arg16 : BitVec 32 := Scf.iv c0_i32_81 c1_i32_83 k0_t5
  let c1024_i32_140 : BitVec 32 := 1024#32
  let v236 : BitVec 32 := Scalar.muli arg16 c1024_i32_140
  v236
def k0_off15 (i : grid0.Coords) (v2 : BitVec 32) (k0_t5 : Fin (k0_t5_loop i v2).trips) (c0_i32_147 : BitVec 32) : Fin 4 → Nat :=
  let c0_148 : Index := 0#32
  let c0_149 : Index := 0#32
  let c0_i32_81 : BitVec 32 := 0#32
  let c1_i32_83 : BitVec 32 := 1#32
  let arg16 : BitVec 32 := Scf.iv c0_i32_81 c1_i32_83 k0_t5
  let c1024_i32_140 : BitVec 32 := 1024#32
  let v236 : BitVec 32 := Scalar.muli arg16 c1024_i32_140
  let v237 : BitVec 32 := v236
  let c0_i32_141 : BitVec 32 := 0#32
  let v239 : BitVec 1 := Scalar.cmpi .sgt v237 c0_i32_141
  let v240 : BitVec 32 := Scalar.extui v239
  let c0_i32_142 : BitVec 32 := 0#32
  let v241 : BitVec 1 := Scalar.cmpi .slt v237 c0_i32_142
  let v242 : BitVec 32 := Scalar.extui v241
  let v243 : BitVec 32 := Scalar.subi v240 v242
  let c128_i32 : BitVec 32 := 128#32
  let c0_i32_143 : BitVec 32 := 0#32
  let v244 : BitVec 1 := Scalar.cmpi .sgt c128_i32 c0_i32_143
  let v245 : BitVec 32 := Scalar.extui v244
  let c0_i32_144 : BitVec 32 := 0#32
  let v246 : BitVec 1 := Scalar.cmpi .slt c128_i32 c0_i32_144
  let v247 : BitVec 32 := Scalar.extui v246
  let v248 : BitVec 32 := Scalar.subi v245 v247
  let v249 : BitVec 1 := Scalar.cmpi .ne v243 v248
  let v250 : BitVec 32 := Scalar.remsi v237 c128_i32
  let c0_i32_145 : BitVec 32 := 0#32
  let v251 : BitVec 1 := Scalar.cmpi .ne v250 c0_i32_145
  let v252 : BitVec 1 := Scalar.andi v249 v251
  let v238 : BitVec 32 := Scalar.divsi v237 c128_i32
  let c1_i32_146 : BitVec 32 := 1#32
  let v253 : BitVec 32 := Scalar.subi v238 c1_i32_146
  let v254 : BitVec 32 := Scalar.select v252 v253 v238
  let v255 : BitVec 32 := Scalar.addi v254 c0_i32_147
  let v256 : Index := Scalar.indexCast v255
  let c0_150 : Index := 0#32
  ![0, 0, v256.toNat, 0]
def k0_off16 (i : grid0.Coords) (v2 : BitVec 32) (k0_t5 : Fin (k0_t5_loop i v2).trips) (c0_i32_173 : BitVec 32) : Fin 2 → Nat :=
  let c0_i32_81 : BitVec 32 := 0#32
  let c1_i32_83 : BitVec 32 := 1#32
  let arg16 : BitVec 32 := Scf.iv c0_i32_81 c1_i32_83 k0_t5
  let c1024_i32_140 : BitVec 32 := 1024#32
  let v236 : BitVec 32 := Scalar.muli arg16 c1024_i32_140
  let v237 : BitVec 32 := v236
  let v312 : BitVec 32 := Scalar.addi v237 c0_i32_173
  let v313 : Index := Scalar.indexCast v312
  let c0_174 : Index := 0#32
  ![v313.toNat, 0]
@[reducible] def k0_t6_loop (i : grid0.Coords) (v2 : BitVec 32) : Scf.Loop 32 :=
  let c0_i32_81 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v155 : BitVec 32 := Scalar.subi v76 c0_i32_81
  let c1_i32_82 : BitVec 32 := 1#32
  let v157 : BitVec 32 := Scalar.divsi v155 c1_i32_82
  let v158 : BitVec 32 := Scalar.muli v157 c1_i32_82
  let v159 : BitVec 32 := Scalar.addi c0_i32_81 v158
  let v156 : BitVec 32 := Scalar.addi c0_i32_81 v155
  let c1_i32_84 : BitVec 32 := 1#32
  ⟨v159, v156, c1_i32_84⟩
def k0_mult9 (i : grid0.Coords) (v2 : BitVec 32) (k0_t6 : Fin (k0_t6_loop i v2).trips) : BitVec 32 :=
  let c0_i32_81 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v155 : BitVec 32 := Scalar.subi v76 c0_i32_81
  let c1_i32_82 : BitVec 32 := 1#32
  let v157 : BitVec 32 := Scalar.divsi v155 c1_i32_82
  let v158 : BitVec 32 := Scalar.muli v157 c1_i32_82
  let v159 : BitVec 32 := Scalar.addi c0_i32_81 v158
  let c1_i32_84 : BitVec 32 := 1#32
  let arg16 : BitVec 32 := Scf.iv v159 c1_i32_84 k0_t6
  let c1_i32_128 : BitVec 32 := 1#32
  let v222 : BitVec 32 := Scalar.subi arg16 c1_i32_128
  let c0_i32_129 : BitVec 32 := 0#32
  let v223 : BitVec 32 := Scalar.maxsi v222 c0_i32_129
  let c1024_i32_132 : BitVec 32 := 1024#32
  let v225 : BitVec 32 := Scalar.muli v223 c1024_i32_132
  v225
def k0_off17 (i : grid0.Coords) (v2 : BitVec 32) (k0_t6 : Fin (k0_t6_loop i v2).trips) : Fin 3 → Nat :=
  let c0_135 : Index := 0#32
  let c0_136 : Index := 0#32
  let c0_i32_81 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v155 : BitVec 32 := Scalar.subi v76 c0_i32_81
  let c1_i32_82 : BitVec 32 := 1#32
  let v157 : BitVec 32 := Scalar.divsi v155 c1_i32_82
  let v158 : BitVec 32 := Scalar.muli v157 c1_i32_82
  let v159 : BitVec 32 := Scalar.addi c0_i32_81 v158
  let c1_i32_84 : BitVec 32 := 1#32
  let arg16 : BitVec 32 := Scf.iv v159 c1_i32_84 k0_t6
  let c1_i32_128 : BitVec 32 := 1#32
  let v222 : BitVec 32 := Scalar.subi arg16 c1_i32_128
  let c0_i32_129 : BitVec 32 := 0#32
  let v223 : BitVec 32 := Scalar.maxsi v222 c0_i32_129
  let c1024_i32_132 : BitVec 32 := 1024#32
  let v225 : BitVec 32 := Scalar.muli v223 c1024_i32_132
  let v226 : BitVec 32 := v225
  let v228 : Index := Scalar.indexCast v226
  ![0, 0, v228.toNat]
def k0_mult10 (i : grid0.Coords) (v2 : BitVec 32) (k0_t6 : Fin (k0_t6_loop i v2).trips) : BitVec 32 :=
  let c0_i32_81 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v155 : BitVec 32 := Scalar.subi v76 c0_i32_81
  let c1_i32_82 : BitVec 32 := 1#32
  let v157 : BitVec 32 := Scalar.divsi v155 c1_i32_82
  let v158 : BitVec 32 := Scalar.muli v157 c1_i32_82
  let v159 : BitVec 32 := Scalar.addi c0_i32_81 v158
  let c1_i32_84 : BitVec 32 := 1#32
  let arg16 : BitVec 32 := Scf.iv v159 c1_i32_84 k0_t6
  let c1024_i32_140 : BitVec 32 := 1024#32
  let v236 : BitVec 32 := Scalar.muli arg16 c1024_i32_140
  v236
def k0_off18 (i : grid0.Coords) (v2 : BitVec 32) (k0_t6 : Fin (k0_t6_loop i v2).trips) (c0_i32_147 : BitVec 32) : Fin 4 → Nat :=
  let c0_148 : Index := 0#32
  let c0_149 : Index := 0#32
  let c0_i32_81 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v155 : BitVec 32 := Scalar.subi v76 c0_i32_81
  let c1_i32_82 : BitVec 32 := 1#32
  let v157 : BitVec 32 := Scalar.divsi v155 c1_i32_82
  let v158 : BitVec 32 := Scalar.muli v157 c1_i32_82
  let v159 : BitVec 32 := Scalar.addi c0_i32_81 v158
  let c1_i32_84 : BitVec 32 := 1#32
  let arg16 : BitVec 32 := Scf.iv v159 c1_i32_84 k0_t6
  let c1024_i32_140 : BitVec 32 := 1024#32
  let v236 : BitVec 32 := Scalar.muli arg16 c1024_i32_140
  let v237 : BitVec 32 := v236
  let c0_i32_141 : BitVec 32 := 0#32
  let v239 : BitVec 1 := Scalar.cmpi .sgt v237 c0_i32_141
  let v240 : BitVec 32 := Scalar.extui v239
  let c0_i32_142 : BitVec 32 := 0#32
  let v241 : BitVec 1 := Scalar.cmpi .slt v237 c0_i32_142
  let v242 : BitVec 32 := Scalar.extui v241
  let v243 : BitVec 32 := Scalar.subi v240 v242
  let c128_i32 : BitVec 32 := 128#32
  let c0_i32_143 : BitVec 32 := 0#32
  let v244 : BitVec 1 := Scalar.cmpi .sgt c128_i32 c0_i32_143
  let v245 : BitVec 32 := Scalar.extui v244
  let c0_i32_144 : BitVec 32 := 0#32
  let v246 : BitVec 1 := Scalar.cmpi .slt c128_i32 c0_i32_144
  let v247 : BitVec 32 := Scalar.extui v246
  let v248 : BitVec 32 := Scalar.subi v245 v247
  let v249 : BitVec 1 := Scalar.cmpi .ne v243 v248
  let v250 : BitVec 32 := Scalar.remsi v237 c128_i32
  let c0_i32_145 : BitVec 32 := 0#32
  let v251 : BitVec 1 := Scalar.cmpi .ne v250 c0_i32_145
  let v252 : BitVec 1 := Scalar.andi v249 v251
  let v238 : BitVec 32 := Scalar.divsi v237 c128_i32
  let c1_i32_146 : BitVec 32 := 1#32
  let v253 : BitVec 32 := Scalar.subi v238 c1_i32_146
  let v254 : BitVec 32 := Scalar.select v252 v253 v238
  let v255 : BitVec 32 := Scalar.addi v254 c0_i32_147
  let v256 : Index := Scalar.indexCast v255
  let c0_150 : Index := 0#32
  ![0, 0, v256.toNat, 0]
def k0_off19 (i : grid0.Coords) (v2 : BitVec 32) (k0_t6 : Fin (k0_t6_loop i v2).trips) (c0_i32_173 : BitVec 32) : Fin 2 → Nat :=
  let c0_i32_81 : BitVec 32 := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let v155 : BitVec 32 := Scalar.subi v76 c0_i32_81
  let c1_i32_82 : BitVec 32 := 1#32
  let v157 : BitVec 32 := Scalar.divsi v155 c1_i32_82
  let v158 : BitVec 32 := Scalar.muli v157 c1_i32_82
  let v159 : BitVec 32 := Scalar.addi c0_i32_81 v158
  let c1_i32_84 : BitVec 32 := 1#32
  let arg16 : BitVec 32 := Scf.iv v159 c1_i32_84 k0_t6
  let c1024_i32_140 : BitVec 32 := 1024#32
  let v236 : BitVec 32 := Scalar.muli arg16 c1024_i32_140
  let v237 : BitVec 32 := v236
  let v312 : BitVec 32 := Scalar.addi v237 c0_i32_173
  let v313 : Index := Scalar.indexCast v312
  let c0_174 : Index := 0#32
  ![v313.toNat, 0]
def k0_mult11 (i : grid0.Coords) (v2 : BitVec 32) : BitVec 32 :=
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1_i32_85 : BitVec 32 := 1#32
  let v162 : BitVec 32 := Scalar.subi v76 c1_i32_85
  let c0_i32_86 : BitVec 32 := 0#32
  let v163 : BitVec 32 := Scalar.maxsi v162 c0_i32_86
  let c1024_i32_89 : BitVec 32 := 1024#32
  let v165 : BitVec 32 := Scalar.muli v163 c1024_i32_89
  v165
def k0_off20 (i : grid0.Coords) (v2 : BitVec 32) : Fin 3 → Nat :=
  let c0_92 : Index := 0#32
  let c0_93 : Index := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1_i32_85 : BitVec 32 := 1#32
  let v162 : BitVec 32 := Scalar.subi v76 c1_i32_85
  let c0_i32_86 : BitVec 32 := 0#32
  let v163 : BitVec 32 := Scalar.maxsi v162 c0_i32_86
  let c1024_i32_89 : BitVec 32 := 1024#32
  let v165 : BitVec 32 := Scalar.muli v163 c1024_i32_89
  let v166 : BitVec 32 := v165
  let v168 : Index := Scalar.indexCast v166
  ![0, 0, v168.toNat]
@[reducible] def k0_t7_loop (i : grid0.Coords) (v2 : BitVec 32) : Scf.Loop 32 :=
  let c0_i32_97 : BitVec 32 := 0#32
  let arg2 : BitVec 32 := BitVec.ofNat 32 (i 2).val
  let c64_i32 : BitVec 32 := 64#32
  let v0 : BitVec 32 := Scalar.muli arg2 c64_i32
  let c64_i32_39 : BitVec 32 := 64#32
  let v77 : BitVec 32 := Scalar.addi v0 c64_i32_39
  let v78 : BitVec 32 := Scalar.maxsi v77 v2
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v176 : BitVec 32 := Scalar.subi v99 c0_i32_97
  let c1_i32_98 : BitVec 32 := 1#32
  let v178 : BitVec 32 := Scalar.divsi v176 c1_i32_98
  let v179 : BitVec 32 := Scalar.muli v178 c1_i32_98
  let v180 : BitVec 32 := Scalar.addi c0_i32_97 v179
  let c1_i32_99 : BitVec 32 := 1#32
  ⟨c0_i32_97, v180, c1_i32_99⟩
def k0_mult12 (i : grid0.Coords) (v2 : BitVec 32) (k0_t7 : Fin (k0_t7_loop i v2).trips) : BitVec 32 :=
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_97 : BitVec 32 := 0#32
  let c1_i32_99 : BitVec 32 := 1#32
  let arg16 : BitVec 32 := Scf.iv c0_i32_97 c1_i32_99 k0_t7
  let c256_i32_128 : BitVec 32 := 256#32
  let v222 : BitVec 32 := Scalar.muli arg16 c256_i32_128
  let v223 : BitVec 32 := Scalar.addi v79 v222
  v223
def k0_off21 (i : grid0.Coords) (v2 : BitVec 32) (k0_t7 : Fin (k0_t7_loop i v2).trips) (c0_i32_135 : BitVec 32) : Fin 4 → Nat :=
  let c0_136 : Index := 0#32
  let c0_137 : Index := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_97 : BitVec 32 := 0#32
  let c1_i32_99 : BitVec 32 := 1#32
  let arg16 : BitVec 32 := Scf.iv c0_i32_97 c1_i32_99 k0_t7
  let c256_i32_128 : BitVec 32 := 256#32
  let v222 : BitVec 32 := Scalar.muli arg16 c256_i32_128
  let v223 : BitVec 32 := Scalar.addi v79 v222
  let v224 : BitVec 32 := v223
  let c0_i32_129 : BitVec 32 := 0#32
  let v226 : BitVec 1 := Scalar.cmpi .sgt v224 c0_i32_129
  let v227 : BitVec 32 := Scalar.extui v226
  let c0_i32_130 : BitVec 32 := 0#32
  let v228 : BitVec 1 := Scalar.cmpi .slt v224 c0_i32_130
  let v229 : BitVec 32 := Scalar.extui v228
  let v230 : BitVec 32 := Scalar.subi v227 v229
  let c128_i32 : BitVec 32 := 128#32
  let c0_i32_131 : BitVec 32 := 0#32
  let v231 : BitVec 1 := Scalar.cmpi .sgt c128_i32 c0_i32_131
  let v232 : BitVec 32 := Scalar.extui v231
  let c0_i32_132 : BitVec 32 := 0#32
  let v233 : BitVec 1 := Scalar.cmpi .slt c128_i32 c0_i32_132
  let v234 : BitVec 32 := Scalar.extui v233
  let v235 : BitVec 32 := Scalar.subi v232 v234
  let v236 : BitVec 1 := Scalar.cmpi .ne v230 v235
  let v237 : BitVec 32 := Scalar.remsi v224 c128_i32
  let c0_i32_133 : BitVec 32 := 0#32
  let v238 : BitVec 1 := Scalar.cmpi .ne v237 c0_i32_133
  let v239 : BitVec 1 := Scalar.andi v236 v238
  let v225 : BitVec 32 := Scalar.divsi v224 c128_i32
  let c1_i32_134 : BitVec 32 := 1#32
  let v240 : BitVec 32 := Scalar.subi v225 c1_i32_134
  let v241 : BitVec 32 := Scalar.select v239 v240 v225
  let v242 : BitVec 32 := Scalar.addi v241 c0_i32_135
  let v243 : Index := Scalar.indexCast v242
  let c0_138 : Index := 0#32
  ![0, 0, v243.toNat, 0]
def k0_off22 (i : grid0.Coords) (v2 : BitVec 32) (k0_t7 : Fin (k0_t7_loop i v2).trips) (c0_i32_143 : BitVec 32) : Fin 2 → Nat :=
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_97 : BitVec 32 := 0#32
  let c1_i32_99 : BitVec 32 := 1#32
  let arg16 : BitVec 32 := Scf.iv c0_i32_97 c1_i32_99 k0_t7
  let c256_i32_128 : BitVec 32 := 256#32
  let v222 : BitVec 32 := Scalar.muli arg16 c256_i32_128
  let v223 : BitVec 32 := Scalar.addi v79 v222
  let v224 : BitVec 32 := v223
  let v257 : BitVec 32 := Scalar.addi v224 c0_i32_143
  let v258 : Index := Scalar.indexCast v257
  let c0_144 : Index := 0#32
  ![v258.toNat, 0]
def k0_off23 (i : grid0.Coords) (v2 : BitVec 32) (k0_t7 : Fin (k0_t7_loop i v2).trips) : Fin 3 → Nat :=
  let c0_151 : Index := 0#32
  let c0_152 : Index := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_97 : BitVec 32 := 0#32
  let c1_i32_99 : BitVec 32 := 1#32
  let arg16 : BitVec 32 := Scf.iv c0_i32_97 c1_i32_99 k0_t7
  let c256_i32_128 : BitVec 32 := 256#32
  let v222 : BitVec 32 := Scalar.muli arg16 c256_i32_128
  let v223 : BitVec 32 := Scalar.addi v79 v222
  let v224 : BitVec 32 := v223
  let v291 : Index := Scalar.indexCast v224
  ![0, 0, v291.toNat]
@[reducible] def k0_t8_loop (i : grid0.Coords) (v2 : BitVec 32) : Scf.Loop 32 :=
  let c0_i32_97 : BitVec 32 := 0#32
  let arg2 : BitVec 32 := BitVec.ofNat 32 (i 2).val
  let c64_i32 : BitVec 32 := 64#32
  let v0 : BitVec 32 := Scalar.muli arg2 c64_i32
  let c64_i32_39 : BitVec 32 := 64#32
  let v77 : BitVec 32 := Scalar.addi v0 c64_i32_39
  let v78 : BitVec 32 := Scalar.maxsi v77 v2
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v176 : BitVec 32 := Scalar.subi v99 c0_i32_97
  let c1_i32_98 : BitVec 32 := 1#32
  let v178 : BitVec 32 := Scalar.divsi v176 c1_i32_98
  let v179 : BitVec 32 := Scalar.muli v178 c1_i32_98
  let v180 : BitVec 32 := Scalar.addi c0_i32_97 v179
  let v177 : BitVec 32 := Scalar.addi c0_i32_97 v176
  let c1_i32_100 : BitVec 32 := 1#32
  ⟨v180, v177, c1_i32_100⟩
def k0_mult13 (i : grid0.Coords) (v2 : BitVec 32) (k0_t8 : Fin (k0_t8_loop i v2).trips) : BitVec 32 :=
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_97 : BitVec 32 := 0#32
  let c64_i32_39 : BitVec 32 := 64#32
  let v77 : BitVec 32 := Scalar.addi v0 c64_i32_39
  let v78 : BitVec 32 := Scalar.maxsi v77 v2
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v176 : BitVec 32 := Scalar.subi v99 c0_i32_97
  let c1_i32_98 : BitVec 32 := 1#32
  let v178 : BitVec 32 := Scalar.divsi v176 c1_i32_98
  let v179 : BitVec 32 := Scalar.muli v178 c1_i32_98
  let v180 : BitVec 32 := Scalar.addi c0_i32_97 v179
  let c1_i32_100 : BitVec 32 := 1#32
  let arg16 : BitVec 32 := Scf.iv v180 c1_i32_100 k0_t8
  let c256_i32_128 : BitVec 32 := 256#32
  let v222 : BitVec 32 := Scalar.muli arg16 c256_i32_128
  let v223 : BitVec 32 := Scalar.addi v79 v222
  v223
def k0_off24 (i : grid0.Coords) (v2 : BitVec 32) (k0_t8 : Fin (k0_t8_loop i v2).trips) (c0_i32_135 : BitVec 32) : Fin 4 → Nat :=
  let c0_136 : Index := 0#32
  let c0_137 : Index := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_97 : BitVec 32 := 0#32
  let c64_i32_39 : BitVec 32 := 64#32
  let v77 : BitVec 32 := Scalar.addi v0 c64_i32_39
  let v78 : BitVec 32 := Scalar.maxsi v77 v2
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v176 : BitVec 32 := Scalar.subi v99 c0_i32_97
  let c1_i32_98 : BitVec 32 := 1#32
  let v178 : BitVec 32 := Scalar.divsi v176 c1_i32_98
  let v179 : BitVec 32 := Scalar.muli v178 c1_i32_98
  let v180 : BitVec 32 := Scalar.addi c0_i32_97 v179
  let c1_i32_100 : BitVec 32 := 1#32
  let arg16 : BitVec 32 := Scf.iv v180 c1_i32_100 k0_t8
  let c256_i32_128 : BitVec 32 := 256#32
  let v222 : BitVec 32 := Scalar.muli arg16 c256_i32_128
  let v223 : BitVec 32 := Scalar.addi v79 v222
  let v224 : BitVec 32 := v223
  let c0_i32_129 : BitVec 32 := 0#32
  let v226 : BitVec 1 := Scalar.cmpi .sgt v224 c0_i32_129
  let v227 : BitVec 32 := Scalar.extui v226
  let c0_i32_130 : BitVec 32 := 0#32
  let v228 : BitVec 1 := Scalar.cmpi .slt v224 c0_i32_130
  let v229 : BitVec 32 := Scalar.extui v228
  let v230 : BitVec 32 := Scalar.subi v227 v229
  let c128_i32 : BitVec 32 := 128#32
  let c0_i32_131 : BitVec 32 := 0#32
  let v231 : BitVec 1 := Scalar.cmpi .sgt c128_i32 c0_i32_131
  let v232 : BitVec 32 := Scalar.extui v231
  let c0_i32_132 : BitVec 32 := 0#32
  let v233 : BitVec 1 := Scalar.cmpi .slt c128_i32 c0_i32_132
  let v234 : BitVec 32 := Scalar.extui v233
  let v235 : BitVec 32 := Scalar.subi v232 v234
  let v236 : BitVec 1 := Scalar.cmpi .ne v230 v235
  let v237 : BitVec 32 := Scalar.remsi v224 c128_i32
  let c0_i32_133 : BitVec 32 := 0#32
  let v238 : BitVec 1 := Scalar.cmpi .ne v237 c0_i32_133
  let v239 : BitVec 1 := Scalar.andi v236 v238
  let v225 : BitVec 32 := Scalar.divsi v224 c128_i32
  let c1_i32_134 : BitVec 32 := 1#32
  let v240 : BitVec 32 := Scalar.subi v225 c1_i32_134
  let v241 : BitVec 32 := Scalar.select v239 v240 v225
  let v242 : BitVec 32 := Scalar.addi v241 c0_i32_135
  let v243 : Index := Scalar.indexCast v242
  let c0_138 : Index := 0#32
  ![0, 0, v243.toNat, 0]
def k0_off25 (i : grid0.Coords) (v2 : BitVec 32) (k0_t8 : Fin (k0_t8_loop i v2).trips) (c0_i32_143 : BitVec 32) : Fin 2 → Nat :=
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_97 : BitVec 32 := 0#32
  let c64_i32_39 : BitVec 32 := 64#32
  let v77 : BitVec 32 := Scalar.addi v0 c64_i32_39
  let v78 : BitVec 32 := Scalar.maxsi v77 v2
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v176 : BitVec 32 := Scalar.subi v99 c0_i32_97
  let c1_i32_98 : BitVec 32 := 1#32
  let v178 : BitVec 32 := Scalar.divsi v176 c1_i32_98
  let v179 : BitVec 32 := Scalar.muli v178 c1_i32_98
  let v180 : BitVec 32 := Scalar.addi c0_i32_97 v179
  let c1_i32_100 : BitVec 32 := 1#32
  let arg16 : BitVec 32 := Scf.iv v180 c1_i32_100 k0_t8
  let c256_i32_128 : BitVec 32 := 256#32
  let v222 : BitVec 32 := Scalar.muli arg16 c256_i32_128
  let v223 : BitVec 32 := Scalar.addi v79 v222
  let v224 : BitVec 32 := v223
  let v257 : BitVec 32 := Scalar.addi v224 c0_i32_143
  let v258 : Index := Scalar.indexCast v257
  let c0_144 : Index := 0#32
  ![v258.toNat, 0]
def k0_off26 (i : grid0.Coords) (v2 : BitVec 32) (k0_t8 : Fin (k0_t8_loop i v2).trips) : Fin 3 → Nat :=
  let c0_151 : Index := 0#32
  let c0_152 : Index := 0#32
  let arg2 : BitVec 32 := BitVec.ofNat 32 (i 2).val
  let c64_i32 : BitVec 32 := 64#32
  let v0 : BitVec 32 := Scalar.muli arg2 c64_i32
  let c1_i32_33 : BitVec 32 := 1#32
  let v58 : BitVec 32 := Scalar.addi v0 c1_i32_33
  let v59 : BitVec 32 := Scalar.maxsi v58 v2
  let c0_i32 : BitVec 32 := 0#32
  let v61 : BitVec 1 := Scalar.cmpi .sgt v59 c0_i32
  let v62 : BitVec 32 := Scalar.extui v61
  let c0_i32_34 : BitVec 32 := 0#32
  let v63 : BitVec 1 := Scalar.cmpi .slt v59 c0_i32_34
  let v64 : BitVec 32 := Scalar.extui v63
  let v65 : BitVec 32 := Scalar.subi v62 v64
  let c1024_i32 : BitVec 32 := 1024#32
  let c0_i32_35 : BitVec 32 := 0#32
  let v66 : BitVec 1 := Scalar.cmpi .sgt c1024_i32 c0_i32_35
  let v67 : BitVec 32 := Scalar.extui v66
  let c0_i32_36 : BitVec 32 := 0#32
  let v68 : BitVec 1 := Scalar.cmpi .slt c1024_i32 c0_i32_36
  let v69 : BitVec 32 := Scalar.extui v68
  let v70 : BitVec 32 := Scalar.subi v67 v69
  let v71 : BitVec 1 := Scalar.cmpi .ne v65 v70
  let v72 : BitVec 32 := Scalar.remsi v59 c1024_i32
  let c0_i32_37 : BitVec 32 := 0#32
  let v73 : BitVec 1 := Scalar.cmpi .ne v72 c0_i32_37
  let v74 : BitVec 1 := Scalar.andi v71 v73
  let v60 : BitVec 32 := Scalar.divsi v59 c1024_i32
  let c1_i32_38 : BitVec 32 := 1#32
  let v75 : BitVec 32 := Scalar.subi v60 c1_i32_38
  let v76 : BitVec 32 := Scalar.select v74 v75 v60
  let c1024_i32_40 : BitVec 32 := 1024#32
  let v79 : BitVec 32 := Scalar.muli v76 c1024_i32_40
  let c0_i32_97 : BitVec 32 := 0#32
  let c64_i32_39 : BitVec 32 := 64#32
  let v77 : BitVec 32 := Scalar.addi v0 c64_i32_39
  let v78 : BitVec 32 := Scalar.maxsi v77 v2
  let v80 : BitVec 32 := Scalar.subi v78 v79
  let c256_i32 : BitVec 32 := 256#32
  let v81 : BitVec 32 := Scalar.addi v80 c256_i32
  let c1_i32_41 : BitVec 32 := 1#32
  let v82 : BitVec 32 := Scalar.subi v81 c1_i32_41
  let c0_i32_43 : BitVec 32 := 0#32
  let v84 : BitVec 1 := Scalar.cmpi .sgt v82 c0_i32_43
  let v85 : BitVec 32 := Scalar.extui v84
  let c0_i32_44 : BitVec 32 := 0#32
  let v86 : BitVec 1 := Scalar.cmpi .slt v82 c0_i32_44
  let v87 : BitVec 32 := Scalar.extui v86
  let v88 : BitVec 32 := Scalar.subi v85 v87
  let c256_i32_42 : BitVec 32 := 256#32
  let c0_i32_45 : BitVec 32 := 0#32
  let v89 : BitVec 1 := Scalar.cmpi .sgt c256_i32_42 c0_i32_45
  let v90 : BitVec 32 := Scalar.extui v89
  let c0_i32_46 : BitVec 32 := 0#32
  let v91 : BitVec 1 := Scalar.cmpi .slt c256_i32_42 c0_i32_46
  let v92 : BitVec 32 := Scalar.extui v91
  let v93 : BitVec 32 := Scalar.subi v90 v92
  let v94 : BitVec 1 := Scalar.cmpi .ne v88 v93
  let v95 : BitVec 32 := Scalar.remsi v82 c256_i32_42
  let c0_i32_47 : BitVec 32 := 0#32
  let v96 : BitVec 1 := Scalar.cmpi .ne v95 c0_i32_47
  let v97 : BitVec 1 := Scalar.andi v94 v96
  let v83 : BitVec 32 := Scalar.divsi v82 c256_i32_42
  let c1_i32_48 : BitVec 32 := 1#32
  let v98 : BitVec 32 := Scalar.subi v83 c1_i32_48
  let v99 : BitVec 32 := Scalar.select v97 v98 v83
  let v176 : BitVec 32 := Scalar.subi v99 c0_i32_97
  let c1_i32_98 : BitVec 32 := 1#32
  let v178 : BitVec 32 := Scalar.divsi v176 c1_i32_98
  let v179 : BitVec 32 := Scalar.muli v178 c1_i32_98
  let v180 : BitVec 32 := Scalar.addi c0_i32_97 v179
  let c1_i32_100 : BitVec 32 := 1#32
  let arg16 : BitVec 32 := Scf.iv v180 c1_i32_100 k0_t8
  let c256_i32_128 : BitVec 32 := 256#32
  let v222 : BitVec 32 := Scalar.muli arg16 c256_i32_128
  let v223 : BitVec 32 := Scalar.addi v79 v222
  let v224 : BitVec 32 := v223
  let v291 : Index := Scalar.indexCast v224
  ![0, 0, v291.toNat]

def k0_chk1_0 (i : grid0.Coords) (v2 : BitVec 32) : Prop :=
  ((k0_t1_loop i v2).OK) ∧
  (∀ k0_t1 : Fin (k0_t1_loop i v2).trips, 1024 ∣ (k0_mult1 i v2 k0_t1).toNat) ∧
  (∀ k0_t1 : Fin (k0_t1_loop i v2).trips, ∀ (r : Fin 8), ∀ a, (k0_off2 i v2 k0_t1 (BitVec.ofNat 32 r.val)) a + S1x1x1x128.size a ≤ S1x1x128x128.size a) ∧
  (∀ k0_t1 : Fin (k0_t1_loop i v2).trips, ∀ (r : Fin 8), ∀ a, (k0_off3 i v2 k0_t1 (BitVec.ofNat 32 (128 * r.val))) a + S128x512.size a ≤ S16384x512.size a) ∧
  (∀ k0_t1 : Fin (k0_t1_loop i v2).trips, 1024 ∣ (k0_mult2 i v2 k0_t1).toNat) ∧
  (∀ k0_t1 : Fin (k0_t1_loop i v2).trips, ∀ a, (k0_off4 i v2 k0_t1) a + S1x1024x128.size a ≤ S1x16384x128.size a) ∧
  ((k0_t2_loop i v2).OK) ∧
  (∀ k0_t2 : Fin (k0_t2_loop i v2).trips, 1024 ∣ (k0_mult3 i v2 k0_t2).toNat) ∧
  (∀ k0_t2 : Fin (k0_t2_loop i v2).trips, ∀ (r : Fin 8), ∀ a, (k0_off5 i v2 k0_t2 (BitVec.ofNat 32 r.val)) a + S1x1x1x128.size a ≤ S1x1x128x128.size a) ∧
  (∀ k0_t2 : Fin (k0_t2_loop i v2).trips, ∀ (r : Fin 8), ∀ a, (k0_off6 i v2 k0_t2 (BitVec.ofNat 32 (128 * r.val))) a + S128x512.size a ≤ S16384x512.size a) ∧
  (∀ k0_t2 : Fin (k0_t2_loop i v2).trips, 1024 ∣ (k0_mult4 i v2 k0_t2).toNat) ∧
  (∀ k0_t2 : Fin (k0_t2_loop i v2).trips, ∀ a, (k0_off7 i v2 k0_t2) a + S1x1024x128.size a ≤ S1x16384x128.size a) ∧
  ((k0_t3_loop i v2).OK) ∧
  (∀ k0_t3 : Fin (k0_t3_loop i v2).trips, 256 ∣ (k0_mult5 i v2 k0_t3).toNat) ∧
  (∀ k0_t3 : Fin (k0_t3_loop i v2).trips, ∀ a, (k0_off8 i v2 k0_t3) a + S1x256x128.size a ≤ S1x16384x128.size a) ∧
  (∀ k0_t3 : Fin (k0_t3_loop i v2).trips, ∀ (r : Fin 2), ∀ a, (k0_off9 i v2 k0_t3 (BitVec.ofNat 32 r.val)) a + S1x1x1x128.size a ≤ S1x1x128x128.size a) ∧
  (∀ k0_t3 : Fin (k0_t3_loop i v2).trips, ∀ (r : Fin 2), ∀ a, (k0_off10 i v2 k0_t3 (BitVec.ofNat 32 (128 * r.val))) a + S128x512.size a ≤ S16384x512.size a) ∧
  ((k0_t4_loop i v2).OK) ∧
  (∀ k0_t4 : Fin (k0_t4_loop i v2).trips, 256 ∣ (k0_mult6 i v2 k0_t4).toNat) ∧
  (∀ k0_t4 : Fin (k0_t4_loop i v2).trips, ∀ a, (k0_off11 i v2 k0_t4) a + S1x256x128.size a ≤ S1x16384x128.size a) ∧
  (∀ k0_t4 : Fin (k0_t4_loop i v2).trips, ∀ (r : Fin 2), ∀ a, (k0_off12 i v2 k0_t4 (BitVec.ofNat 32 r.val)) a + S1x1x1x128.size a ≤ S1x1x128x128.size a) ∧
  (∀ k0_t4 : Fin (k0_t4_loop i v2).trips, ∀ (r : Fin 2), ∀ a, (k0_off13 i v2 k0_t4 (BitVec.ofNat 32 (128 * r.val))) a + S128x512.size a ≤ S16384x512.size a) ∧
  ((k0_t5_loop i v2).OK) ∧
  (∀ k0_t5 : Fin (k0_t5_loop i v2).trips, 1024 ∣ (k0_mult7 i v2 k0_t5).toNat) ∧
  (∀ k0_t5 : Fin (k0_t5_loop i v2).trips, ∀ a, (k0_off14 i v2 k0_t5) a + S1x128x1024.size a ≤ S1x128x16384.size a) ∧
  (∀ k0_t5 : Fin (k0_t5_loop i v2).trips, 1024 ∣ (k0_mult8 i v2 k0_t5).toNat) ∧
  (∀ k0_t5 : Fin (k0_t5_loop i v2).trips, ∀ (r : Fin 8), ∀ a, (k0_off15 i v2 k0_t5 (BitVec.ofNat 32 r.val)) a + S1x1x1x128.size a ≤ S1x1x128x128.size a) ∧
  (∀ k0_t5 : Fin (k0_t5_loop i v2).trips, ∀ (r : Fin 8), ∀ a, (k0_off16 i v2 k0_t5 (BitVec.ofNat 32 (128 * r.val))) a + S128x512.size a ≤ S16384x512.size a) ∧
  ((k0_t6_loop i v2).OK) ∧
  (∀ k0_t6 : Fin (k0_t6_loop i v2).trips, 1024 ∣ (k0_mult9 i v2 k0_t6).toNat) ∧
  (∀ k0_t6 : Fin (k0_t6_loop i v2).trips, ∀ a, (k0_off17 i v2 k0_t6) a + S1x128x1024.size a ≤ S1x128x16384.size a) ∧
  (∀ k0_t6 : Fin (k0_t6_loop i v2).trips, 1024 ∣ (k0_mult10 i v2 k0_t6).toNat)
def k0_chk1_1 (i : grid0.Coords) (v2 : BitVec 32) : Prop :=
  (∀ k0_t6 : Fin (k0_t6_loop i v2).trips, ∀ (r : Fin 8), ∀ a, (k0_off18 i v2 k0_t6 (BitVec.ofNat 32 r.val)) a + S1x1x1x128.size a ≤ S1x1x128x128.size a) ∧
  (∀ k0_t6 : Fin (k0_t6_loop i v2).trips, ∀ (r : Fin 8), ∀ a, (k0_off19 i v2 k0_t6 (BitVec.ofNat 32 (128 * r.val))) a + S128x512.size a ≤ S16384x512.size a) ∧
  (1024 ∣ (k0_mult11 i v2).toNat) ∧
  (∀ a, (k0_off20 i v2) a + S1x128x1024.size a ≤ S1x128x16384.size a) ∧
  ((k0_t7_loop i v2).OK) ∧
  (∀ k0_t7 : Fin (k0_t7_loop i v2).trips, 256 ∣ (k0_mult12 i v2 k0_t7).toNat) ∧
  (∀ k0_t7 : Fin (k0_t7_loop i v2).trips, ∀ (r : Fin 2), ∀ a, (k0_off21 i v2 k0_t7 (BitVec.ofNat 32 r.val)) a + S1x1x1x128.size a ≤ S1x1x128x128.size a) ∧
  (∀ k0_t7 : Fin (k0_t7_loop i v2).trips, ∀ (r : Fin 2), ∀ a, (k0_off22 i v2 k0_t7 (BitVec.ofNat 32 (128 * r.val))) a + S128x512.size a ≤ S16384x512.size a) ∧
  (∀ k0_t7 : Fin (k0_t7_loop i v2).trips, ∀ a, (k0_off23 i v2 k0_t7) a + S1x128x256.size a ≤ S1x128x16384.size a) ∧
  ((k0_t8_loop i v2).OK) ∧
  (∀ k0_t8 : Fin (k0_t8_loop i v2).trips, 256 ∣ (k0_mult13 i v2 k0_t8).toNat) ∧
  (∀ k0_t8 : Fin (k0_t8_loop i v2).trips, ∀ (r : Fin 2), ∀ a, (k0_off24 i v2 k0_t8 (BitVec.ofNat 32 r.val)) a + S1x1x1x128.size a ≤ S1x1x128x128.size a) ∧
  (∀ k0_t8 : Fin (k0_t8_loop i v2).trips, ∀ (r : Fin 2), ∀ a, (k0_off25 i v2 k0_t8 (BitVec.ofNat 32 (128 * r.val))) a + S128x512.size a ≤ S16384x512.size a) ∧
  (∀ k0_t8 : Fin (k0_t8_loop i v2).trips, ∀ a, (k0_off26 i v2 k0_t8) a + S1x128x256.size a ≤ S1x128x16384.size a)
def k0_chk1 (i : grid0.Coords) (v2 : BitVec 32) : Prop :=
  k0_chk1_0 i v2 ∧
  k0_chk1_1 i v2
theorem k0_t1_ok : ∀ (i : grid0.Coords) (v2 : BitVec 32) (k0_hw1 : k0_chk1 i v2), (k0_t1_loop i v2).OK := fun i v2 k0_hw1 => k0_hw1.1.1
theorem k0_mult1_dvd : ∀ (i : grid0.Coords) (v2 : BitVec 32) (k0_hw1 : k0_chk1 i v2) (k0_t1 : Fin (k0_t1_loop i v2).trips), 1024 ∣ (k0_mult1 i v2 k0_t1).toNat := fun i v2 k0_hw1 k0_t1 => k0_hw1.1.2.1 k0_t1
theorem k0_off2_inb : ∀ (i : grid0.Coords) (v2 : BitVec 32) (k0_hw1 : k0_chk1 i v2) (k0_t1 : Fin (k0_t1_loop i v2).trips), ∀ (r : Fin 8), ∀ a, (k0_off2 i v2 k0_t1 (BitVec.ofNat 32 r.val)) a + S1x1x1x128.size a ≤ S1x1x128x128.size a := fun i v2 k0_hw1 k0_t1 r => k0_hw1.1.2.2.1 k0_t1 r
theorem k0_off3_inb : ∀ (i : grid0.Coords) (v2 : BitVec 32) (k0_hw1 : k0_chk1 i v2) (k0_t1 : Fin (k0_t1_loop i v2).trips), ∀ (r : Fin 8), ∀ a, (k0_off3 i v2 k0_t1 (BitVec.ofNat 32 (128 * r.val))) a + S128x512.size a ≤ S16384x512.size a := fun i v2 k0_hw1 k0_t1 r => k0_hw1.1.2.2.2.1 k0_t1 r
theorem k0_mult2_dvd : ∀ (i : grid0.Coords) (v2 : BitVec 32) (k0_hw1 : k0_chk1 i v2) (k0_t1 : Fin (k0_t1_loop i v2).trips), 1024 ∣ (k0_mult2 i v2 k0_t1).toNat := fun i v2 k0_hw1 k0_t1 => k0_hw1.1.2.2.2.2.1 k0_t1
theorem k0_off4_inb : ∀ (i : grid0.Coords) (v2 : BitVec 32) (k0_hw1 : k0_chk1 i v2) (k0_t1 : Fin (k0_t1_loop i v2).trips), ∀ a, (k0_off4 i v2 k0_t1) a + S1x1024x128.size a ≤ S1x16384x128.size a := fun i v2 k0_hw1 k0_t1 => k0_hw1.1.2.2.2.2.2.1 k0_t1
theorem k0_t2_ok : ∀ (i : grid0.Coords) (v2 : BitVec 32) (k0_hw1 : k0_chk1 i v2), (k0_t2_loop i v2).OK := fun i v2 k0_hw1 => k0_hw1.1.2.2.2.2.2.2.1
theorem k0_mult3_dvd : ∀ (i : grid0.Coords) (v2 : BitVec 32) (k0_hw1 : k0_chk1 i v2) (k0_t2 : Fin (k0_t2_loop i v2).trips), 1024 ∣ (k0_mult3 i v2 k0_t2).toNat := fun i v2 k0_hw1 k0_t2 => k0_hw1.1.2.2.2.2.2.2.2.1 k0_t2
theorem k0_off5_inb : ∀ (i : grid0.Coords) (v2 : BitVec 32) (k0_hw1 : k0_chk1 i v2) (k0_t2 : Fin (k0_t2_loop i v2).trips), ∀ (r : Fin 8), ∀ a, (k0_off5 i v2 k0_t2 (BitVec.ofNat 32 r.val)) a + S1x1x1x128.size a ≤ S1x1x128x128.size a := fun i v2 k0_hw1 k0_t2 r => k0_hw1.1.2.2.2.2.2.2.2.2.1 k0_t2 r
theorem k0_off6_inb : ∀ (i : grid0.Coords) (v2 : BitVec 32) (k0_hw1 : k0_chk1 i v2) (k0_t2 : Fin (k0_t2_loop i v2).trips), ∀ (r : Fin 8), ∀ a, (k0_off6 i v2 k0_t2 (BitVec.ofNat 32 (128 * r.val))) a + S128x512.size a ≤ S16384x512.size a := fun i v2 k0_hw1 k0_t2 r => k0_hw1.1.2.2.2.2.2.2.2.2.2.1 k0_t2 r
theorem k0_mult4_dvd : ∀ (i : grid0.Coords) (v2 : BitVec 32) (k0_hw1 : k0_chk1 i v2) (k0_t2 : Fin (k0_t2_loop i v2).trips), 1024 ∣ (k0_mult4 i v2 k0_t2).toNat := fun i v2 k0_hw1 k0_t2 => k0_hw1.1.2.2.2.2.2.2.2.2.2.2.1 k0_t2
theorem k0_off7_inb : ∀ (i : grid0.Coords) (v2 : BitVec 32) (k0_hw1 : k0_chk1 i v2) (k0_t2 : Fin (k0_t2_loop i v2).trips), ∀ a, (k0_off7 i v2 k0_t2) a + S1x1024x128.size a ≤ S1x16384x128.size a := fun i v2 k0_hw1 k0_t2 => k0_hw1.1.2.2.2.2.2.2.2.2.2.2.2.1 k0_t2
theorem k0_t3_ok : ∀ (i : grid0.Coords) (v2 : BitVec 32) (k0_hw1 : k0_chk1 i v2), (k0_t3_loop i v2).OK := fun i v2 k0_hw1 => k0_hw1.1.2.2.2.2.2.2.2.2.2.2.2.2.1
theorem k0_mult5_dvd : ∀ (i : grid0.Coords) (v2 : BitVec 32) (k0_hw1 : k0_chk1 i v2) (k0_t3 : Fin (k0_t3_loop i v2).trips), 256 ∣ (k0_mult5 i v2 k0_t3).toNat := fun i v2 k0_hw1 k0_t3 => k0_hw1.1.2.2.2.2.2.2.2.2.2.2.2.2.2.1 k0_t3
theorem k0_off8_inb : ∀ (i : grid0.Coords) (v2 : BitVec 32) (k0_hw1 : k0_chk1 i v2) (k0_t3 : Fin (k0_t3_loop i v2).trips), ∀ a, (k0_off8 i v2 k0_t3) a + S1x256x128.size a ≤ S1x16384x128.size a := fun i v2 k0_hw1 k0_t3 => k0_hw1.1.2.2.2.2.2.2.2.2.2.2.2.2.2.2.1 k0_t3
theorem k0_off9_inb : ∀ (i : grid0.Coords) (v2 : BitVec 32) (k0_hw1 : k0_chk1 i v2) (k0_t3 : Fin (k0_t3_loop i v2).trips), ∀ (r : Fin 2), ∀ a, (k0_off9 i v2 k0_t3 (BitVec.ofNat 32 r.val)) a + S1x1x1x128.size a ≤ S1x1x128x128.size a := fun i v2 k0_hw1 k0_t3 r => k0_hw1.1.2.2.2.2.2.2.2.2.2.2.2.2.2.2.2.1 k0_t3 r
theorem k0_off10_inb : ∀ (i : grid0.Coords) (v2 : BitVec 32) (k0_hw1 : k0_chk1 i v2) (k0_t3 : Fin (k0_t3_loop i v2).trips), ∀ (r : Fin 2), ∀ a, (k0_off10 i v2 k0_t3 (BitVec.ofNat 32 (128 * r.val))) a + S128x512.size a ≤ S16384x512.size a := fun i v2 k0_hw1 k0_t3 r => k0_hw1.1.2.2.2.2.2.2.2.2.2.2.2.2.2.2.2.2.1 k0_t3 r
theorem k0_t4_ok : ∀ (i : grid0.Coords) (v2 : BitVec 32) (k0_hw1 : k0_chk1 i v2), (k0_t4_loop i v2).OK := fun i v2 k0_hw1 => k0_hw1.1.2.2.2.2.2.2.2.2.2.2.2.2.2.2.2.2.2.1
theorem k0_mult6_dvd : ∀ (i : grid0.Coords) (v2 : BitVec 32) (k0_hw1 : k0_chk1 i v2) (k0_t4 : Fin (k0_t4_loop i v2).trips), 256 ∣ (k0_mult6 i v2 k0_t4).toNat := fun i v2 k0_hw1 k0_t4 => k0_hw1.1.2.2.2.2.2.2.2.2.2.2.2.2.2.2.2.2.2.2.1 k0_t4
theorem k0_off11_inb : ∀ (i : grid0.Coords) (v2 : BitVec 32) (k0_hw1 : k0_chk1 i v2) (k0_t4 : Fin (k0_t4_loop i v2).trips), ∀ a, (k0_off11 i v2 k0_t4) a + S1x256x128.size a ≤ S1x16384x128.size a := fun i v2 k0_hw1 k0_t4 => k0_hw1.1.2.2.2.2.2.2.2.2.2.2.2.2.2.2.2.2.2.2.2.1 k0_t4
theorem k0_off12_inb : ∀ (i : grid0.Coords) (v2 : BitVec 32) (k0_hw1 : k0_chk1 i v2) (k0_t4 : Fin (k0_t4_loop i v2).trips), ∀ (r : Fin 2), ∀ a, (k0_off12 i v2 k0_t4 (BitVec.ofNat 32 r.val)) a + S1x1x1x128.size a ≤ S1x1x128x128.size a := fun i v2 k0_hw1 k0_t4 r => k0_hw1.1.2.2.2.2.2.2.2.2.2.2.2.2.2.2.2.2.2.2.2.2.1 k0_t4 r
theorem k0_off13_inb : ∀ (i : grid0.Coords) (v2 : BitVec 32) (k0_hw1 : k0_chk1 i v2) (k0_t4 : Fin (k0_t4_loop i v2).trips), ∀ (r : Fin 2), ∀ a, (k0_off13 i v2 k0_t4 (BitVec.ofNat 32 (128 * r.val))) a + S128x512.size a ≤ S16384x512.size a := fun i v2 k0_hw1 k0_t4 r => k0_hw1.1.2.2.2.2.2.2.2.2.2.2.2.2.2.2.2.2.2.2.2.2.2.1 k0_t4 r
theorem k0_t5_ok : ∀ (i : grid0.Coords) (v2 : BitVec 32) (k0_hw1 : k0_chk1 i v2), (k0_t5_loop i v2).OK := fun i v2 k0_hw1 => k0_hw1.1.2.2.2.2.2.2.2.2.2.2.2.2.2.2.2.2.2.2.2.2.2.2.1
theorem k0_mult7_dvd : ∀ (i : grid0.Coords) (v2 : BitVec 32) (k0_hw1 : k0_chk1 i v2) (k0_t5 : Fin (k0_t5_loop i v2).trips), 1024 ∣ (k0_mult7 i v2 k0_t5).toNat := fun i v2 k0_hw1 k0_t5 => k0_hw1.1.2.2.2.2.2.2.2.2.2.2.2.2.2.2.2.2.2.2.2.2.2.2.2.1 k0_t5
theorem k0_off14_inb : ∀ (i : grid0.Coords) (v2 : BitVec 32) (k0_hw1 : k0_chk1 i v2) (k0_t5 : Fin (k0_t5_loop i v2).trips), ∀ a, (k0_off14 i v2 k0_t5) a + S1x128x1024.size a ≤ S1x128x16384.size a := fun i v2 k0_hw1 k0_t5 => k0_hw1.1.2.2.2.2.2.2.2.2.2.2.2.2.2.2.2.2.2.2.2.2.2.2.2.2.1 k0_t5
theorem k0_mult8_dvd : ∀ (i : grid0.Coords) (v2 : BitVec 32) (k0_hw1 : k0_chk1 i v2) (k0_t5 : Fin (k0_t5_loop i v2).trips), 1024 ∣ (k0_mult8 i v2 k0_t5).toNat := fun i v2 k0_hw1 k0_t5 => k0_hw1.1.2.2.2.2.2.2.2.2.2.2.2.2.2.2.2.2.2.2.2.2.2.2.2.2.2.1 k0_t5
theorem k0_off15_inb : ∀ (i : grid0.Coords) (v2 : BitVec 32) (k0_hw1 : k0_chk1 i v2) (k0_t5 : Fin (k0_t5_loop i v2).trips), ∀ (r : Fin 8), ∀ a, (k0_off15 i v2 k0_t5 (BitVec.ofNat 32 r.val)) a + S1x1x1x128.size a ≤ S1x1x128x128.size a := fun i v2 k0_hw1 k0_t5 r => k0_hw1.1.2.2.2.2.2.2.2.2.2.2.2.2.2.2.2.2.2.2.2.2.2.2.2.2.2.2.1 k0_t5 r
theorem k0_off16_inb : ∀ (i : grid0.Coords) (v2 : BitVec 32) (k0_hw1 : k0_chk1 i v2) (k0_t5 : Fin (k0_t5_loop i v2).trips), ∀ (r : Fin 8), ∀ a, (k0_off16 i v2 k0_t5 (BitVec.ofNat 32 (128 * r.val))) a + S128x512.size a ≤ S16384x512.size a := fun i v2 k0_hw1 k0_t5 r => k0_hw1.1.2.2.2.2.2.2.2.2.2.2.2.2.2.2.2.2.2.2.2.2.2.2.2.2.2.2.2.1 k0_t5 r
theorem k0_t6_ok : ∀ (i : grid0.Coords) (v2 : BitVec 32) (k0_hw1 : k0_chk1 i v2), (k0_t6_loop i v2).OK := fun i v2 k0_hw1 => k0_hw1.1.2.2.2.2.2.2.2.2.2.2.2.2.2.2.2.2.2.2.2.2.2.2.2.2.2.2.2.2.1
theorem k0_mult9_dvd : ∀ (i : grid0.Coords) (v2 : BitVec 32) (k0_hw1 : k0_chk1 i v2) (k0_t6 : Fin (k0_t6_loop i v2).trips), 1024 ∣ (k0_mult9 i v2 k0_t6).toNat := fun i v2 k0_hw1 k0_t6 => k0_hw1.1.2.2.2.2.2.2.2.2.2.2.2.2.2.2.2.2.2.2.2.2.2.2.2.2.2.2.2.2.2.1 k0_t6
theorem k0_off17_inb : ∀ (i : grid0.Coords) (v2 : BitVec 32) (k0_hw1 : k0_chk1 i v2) (k0_t6 : Fin (k0_t6_loop i v2).trips), ∀ a, (k0_off17 i v2 k0_t6) a + S1x128x1024.size a ≤ S1x128x16384.size a := fun i v2 k0_hw1 k0_t6 => k0_hw1.1.2.2.2.2.2.2.2.2.2.2.2.2.2.2.2.2.2.2.2.2.2.2.2.2.2.2.2.2.2.2.1 k0_t6
theorem k0_mult10_dvd : ∀ (i : grid0.Coords) (v2 : BitVec 32) (k0_hw1 : k0_chk1 i v2) (k0_t6 : Fin (k0_t6_loop i v2).trips), 1024 ∣ (k0_mult10 i v2 k0_t6).toNat := fun i v2 k0_hw1 k0_t6 => k0_hw1.1.2.2.2.2.2.2.2.2.2.2.2.2.2.2.2.2.2.2.2.2.2.2.2.2.2.2.2.2.2.2.2 k0_t6
theorem k0_off18_inb : ∀ (i : grid0.Coords) (v2 : BitVec 32) (k0_hw1 : k0_chk1 i v2) (k0_t6 : Fin (k0_t6_loop i v2).trips), ∀ (r : Fin 8), ∀ a, (k0_off18 i v2 k0_t6 (BitVec.ofNat 32 r.val)) a + S1x1x1x128.size a ≤ S1x1x128x128.size a := fun i v2 k0_hw1 k0_t6 r => k0_hw1.2.1 k0_t6 r
theorem k0_off19_inb : ∀ (i : grid0.Coords) (v2 : BitVec 32) (k0_hw1 : k0_chk1 i v2) (k0_t6 : Fin (k0_t6_loop i v2).trips), ∀ (r : Fin 8), ∀ a, (k0_off19 i v2 k0_t6 (BitVec.ofNat 32 (128 * r.val))) a + S128x512.size a ≤ S16384x512.size a := fun i v2 k0_hw1 k0_t6 r => k0_hw1.2.2.1 k0_t6 r
theorem k0_mult11_dvd : ∀ (i : grid0.Coords) (v2 : BitVec 32) (k0_hw1 : k0_chk1 i v2), 1024 ∣ (k0_mult11 i v2).toNat := fun i v2 k0_hw1 => k0_hw1.2.2.2.1
theorem k0_off20_inb : ∀ (i : grid0.Coords) (v2 : BitVec 32) (k0_hw1 : k0_chk1 i v2), ∀ a, (k0_off20 i v2) a + S1x128x1024.size a ≤ S1x128x16384.size a := fun i v2 k0_hw1 => k0_hw1.2.2.2.2.1
theorem k0_t7_ok : ∀ (i : grid0.Coords) (v2 : BitVec 32) (k0_hw1 : k0_chk1 i v2), (k0_t7_loop i v2).OK := fun i v2 k0_hw1 => k0_hw1.2.2.2.2.2.1
theorem k0_mult12_dvd : ∀ (i : grid0.Coords) (v2 : BitVec 32) (k0_hw1 : k0_chk1 i v2) (k0_t7 : Fin (k0_t7_loop i v2).trips), 256 ∣ (k0_mult12 i v2 k0_t7).toNat := fun i v2 k0_hw1 k0_t7 => k0_hw1.2.2.2.2.2.2.1 k0_t7
theorem k0_off21_inb : ∀ (i : grid0.Coords) (v2 : BitVec 32) (k0_hw1 : k0_chk1 i v2) (k0_t7 : Fin (k0_t7_loop i v2).trips), ∀ (r : Fin 2), ∀ a, (k0_off21 i v2 k0_t7 (BitVec.ofNat 32 r.val)) a + S1x1x1x128.size a ≤ S1x1x128x128.size a := fun i v2 k0_hw1 k0_t7 r => k0_hw1.2.2.2.2.2.2.2.1 k0_t7 r
theorem k0_off22_inb : ∀ (i : grid0.Coords) (v2 : BitVec 32) (k0_hw1 : k0_chk1 i v2) (k0_t7 : Fin (k0_t7_loop i v2).trips), ∀ (r : Fin 2), ∀ a, (k0_off22 i v2 k0_t7 (BitVec.ofNat 32 (128 * r.val))) a + S128x512.size a ≤ S16384x512.size a := fun i v2 k0_hw1 k0_t7 r => k0_hw1.2.2.2.2.2.2.2.2.1 k0_t7 r
theorem k0_off23_inb : ∀ (i : grid0.Coords) (v2 : BitVec 32) (k0_hw1 : k0_chk1 i v2) (k0_t7 : Fin (k0_t7_loop i v2).trips), ∀ a, (k0_off23 i v2 k0_t7) a + S1x128x256.size a ≤ S1x128x16384.size a := fun i v2 k0_hw1 k0_t7 => k0_hw1.2.2.2.2.2.2.2.2.2.1 k0_t7
theorem k0_t8_ok : ∀ (i : grid0.Coords) (v2 : BitVec 32) (k0_hw1 : k0_chk1 i v2), (k0_t8_loop i v2).OK := fun i v2 k0_hw1 => k0_hw1.2.2.2.2.2.2.2.2.2.2.1
theorem k0_mult13_dvd : ∀ (i : grid0.Coords) (v2 : BitVec 32) (k0_hw1 : k0_chk1 i v2) (k0_t8 : Fin (k0_t8_loop i v2).trips), 256 ∣ (k0_mult13 i v2 k0_t8).toNat := fun i v2 k0_hw1 k0_t8 => k0_hw1.2.2.2.2.2.2.2.2.2.2.2.1 k0_t8
theorem k0_off24_inb : ∀ (i : grid0.Coords) (v2 : BitVec 32) (k0_hw1 : k0_chk1 i v2) (k0_t8 : Fin (k0_t8_loop i v2).trips), ∀ (r : Fin 2), ∀ a, (k0_off24 i v2 k0_t8 (BitVec.ofNat 32 r.val)) a + S1x1x1x128.size a ≤ S1x1x128x128.size a := fun i v2 k0_hw1 k0_t8 r => k0_hw1.2.2.2.2.2.2.2.2.2.2.2.2.1 k0_t8 r
theorem k0_off25_inb : ∀ (i : grid0.Coords) (v2 : BitVec 32) (k0_hw1 : k0_chk1 i v2) (k0_t8 : Fin (k0_t8_loop i v2).trips), ∀ (r : Fin 2), ∀ a, (k0_off25 i v2 k0_t8 (BitVec.ofNat 32 (128 * r.val))) a + S128x512.size a ≤ S16384x512.size a := fun i v2 k0_hw1 k0_t8 r => k0_hw1.2.2.2.2.2.2.2.2.2.2.2.2.2.1 k0_t8 r
theorem k0_off26_inb : ∀ (i : grid0.Coords) (v2 : BitVec 32) (k0_hw1 : k0_chk1 i v2) (k0_t8 : Fin (k0_t8_loop i v2).trips), ∀ a, (k0_off26 i v2 k0_t8) a + S1x128x256.size a ≤ S1x128x16384.size a := fun i v2 k0_hw1 k0_t8 => k0_hw1.2.2.2.2.2.2.2.2.2.2.2.2.2.2 k0_t8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x64x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16384x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x16384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "cap_log2e" => some ((50 * (Real.log 2)⁻¹ : ℝ) : EReal)
  | "score" => some (((Real.sqrt 128)⁻¹ * (1 / 50) : ℝ) : EReal)
  | _ => none
-- ==== ReferenceIdeal.lean ====
abbrev S4 : Shape := ⟨1, ![4]⟩
abbrev S4x16384x2048 : Shape := ⟨3, ![4, 16384, 2048]⟩
abbrev S4x16384x16 : Shape := ⟨3, ![4, 16384, 16]⟩
abbrev S4x16384x256 : Shape := ⟨3, ![4, 16384, 256]⟩
abbrev S4x16384x2 : Shape := ⟨3, ![4, 16384, 2]⟩
abbrev S4x256x16384 : Shape := ⟨3, ![4, 256, 16384]⟩
abbrev S4x16384x2x8x128 : Shape := ⟨5, ![4, 16384, 2, 8, 128]⟩
abbrev S4x16384x2x128 : Shape := ⟨4, ![4, 16384, 2, 128]⟩
abbrev S4x2x128x16384 : Shape := ⟨4, ![4, 2, 128, 16384]⟩
abbrev S4x2x16384x16384x8 : Shape := ⟨5, ![4, 2, 16384, 16384, 8]⟩
abbrev S4x2x8x16384x16384 : Shape := ⟨5, ![4, 2, 8, 16384, 16384]⟩
abbrev S4x16384x2x8 : Shape := ⟨4, ![4, 16384, 2, 8]⟩
abbrev S4x2x8x16384 : Shape := ⟨4, ![4, 2, 8, 16384]⟩
abbrev S_ : Shape := ⟨0, ![]⟩
abbrev S4x2x16384 : Shape := ⟨3, ![4, 2, 16384]⟩
abbrev S4x2x8x16384x1 : Shape := ⟨5, ![4, 2, 8, 16384, 1]⟩
abbrev S4x2x1x1x16384 : Shape := ⟨5, ![4, 2, 1, 1, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S4x1x1 : Shape := ⟨3, ![4, 1, 1]⟩
abbrev S4x1x16384 : Shape := ⟨3, ![4, 1, 16384]⟩
abbrev S4x16384x16384 : Shape := ⟨3, ![4, 16384, 16384]⟩
abbrev S4x1x1x16384x16384 : Shape := ⟨5, ![4, 1, 1, 16384, 16384]⟩
abbrev S4x2x128x8x16384 : Shape := ⟨5, ![4, 2, 128, 8, 16384]⟩
abbrev S4x16384x2x8x1 : Shape := ⟨5, ![4, 16384, 2, 8, 1]⟩

abbrev nBuf : Space → Nat
  | .hbm => 115
  | .vmem => 6
  | .smem => 0
  | _ => 0

abbrev bufTy : (tb : Table) → Fin (tcTables nBuf tb) → BufTy
  | .hbm, ⟨0, _⟩ => ⟨S4, .i32⟩
  | .hbm, ⟨1, _⟩ => ⟨S4x16384x2048, .fp8e4m3⟩
  | .hbm, ⟨2, _⟩ => ⟨S4x16384x16, .f32⟩
  | .hbm, ⟨3, _⟩ => ⟨S4x16384x256, .fp8e4m3⟩
  | .hbm, ⟨4, _⟩ => ⟨S4x16384x2, .f32⟩
  | .hbm, ⟨5, _⟩ => ⟨S4x256x16384, .fp8e4m3⟩
  | .hbm, ⟨6, _⟩ => ⟨S4x16384x2, .f32⟩
  | .hbm, ⟨7, _⟩ => ⟨S4x16384x2048, .f32⟩
  | .hbm, ⟨8, _⟩ => ⟨S4x16384x256, .f32⟩
  | .hbm, ⟨9, _⟩ => ⟨S4x256x16384, .f32⟩
  | .hbm, ⟨10, _⟩ => ⟨S4x16384x2x8x128, .f32⟩
  | .hbm, ⟨11, _⟩ => ⟨S4x16384x2x128, .f32⟩
  | .hbm, ⟨12, _⟩ => ⟨S4x2x128x16384, .f32⟩
  | .hbm, ⟨13, _⟩ => ⟨S4x2x16384x16384x8, .f32⟩
  | .hbm, ⟨14, _⟩ => ⟨S4x2x8x16384x16384, .f32⟩
  | .hbm, ⟨15, _⟩ => ⟨S4x16384x2x8, .f32⟩
  | .hbm, ⟨16, _⟩ => ⟨S4x2x8x16384, .f32⟩
  | .hbm, ⟨17, _⟩ => ⟨S_, .f32⟩
  | .hbm, ⟨18, _⟩ => ⟨S_, .f32⟩
  | .hbm, ⟨19, _⟩ => ⟨S4x2x8x16384, .f32⟩
  | .hbm, ⟨20, _⟩ => ⟨S4x2x8x16384, .f32⟩
  | .hbm, ⟨21, _⟩ => ⟨S4x2x16384, .f32⟩
  | .hbm, ⟨22, _⟩ => ⟨S4x2x16384, .f32⟩
  | .hbm, ⟨23, _⟩ => ⟨S4x2x8x16384x1, .f32⟩
  | .hbm, ⟨24, _⟩ => ⟨S4x2x8x16384x16384, .f32⟩
  | .hbm, ⟨25, _⟩ => ⟨S4x2x8x16384x16384, .f32⟩
  | .hbm, ⟨26, _⟩ => ⟨S4x2x1x1x16384, .f32⟩
  | .hbm, ⟨27, _⟩ => ⟨S4x2x8x16384x16384, .f32⟩
  | .hbm, ⟨28, _⟩ => ⟨S4x2x8x16384x16384, .f32⟩
  | .hbm, ⟨29, _⟩ => ⟨S_, .f32⟩
  | .hbm, ⟨30, _⟩ => ⟨S4x2x8x16384x16384, .f32⟩
  | .hbm, ⟨31, _⟩ => ⟨S4x2x8x16384x16384, .f32⟩
  | .hbm, ⟨32, _⟩ => ⟨S4x2x8x16384x16384, .f32⟩
  | .hbm, ⟨33, _⟩ => ⟨S_, .f32⟩
  | .hbm, ⟨34, _⟩ => ⟨S4x2x8x16384x16384, .f32⟩
  | .hbm, ⟨35, _⟩ => ⟨S4x2x8x16384x16384, .f32⟩
  | .hbm, ⟨36, _⟩ => ⟨S16384, .i32⟩
  | .hbm, ⟨37, _⟩ => ⟨S1x1x16384, .i32⟩
  | .hbm, ⟨38, _⟩ => ⟨S1x16384x1, .i32⟩
  | .hbm, ⟨39, _⟩ => ⟨S1x16384x16384, .i32⟩
  | .hbm, ⟨40, _⟩ => ⟨S1x16384x16384, .i32⟩
  | .hbm, ⟨41, _⟩ => ⟨S1x16384x16384, .i1⟩
  | .hbm, ⟨42, _⟩ => ⟨S1x1x16384, .i32⟩
  | .hbm, ⟨43, _⟩ => ⟨S4x1x1, .i32⟩
  | .hbm, ⟨44, _⟩ => ⟨S4x1x16384, .i32⟩
  | .hbm, ⟨45, _⟩ => ⟨S4x1x16384, .i32⟩
  | .hbm, ⟨46, _⟩ => ⟨S4x1x16384, .i1⟩
  | .hbm, ⟨47, _⟩ => ⟨S4x16384x16384, .i1⟩
  | .hbm, ⟨48, _⟩ => ⟨S4x16384x16384, .i1⟩
  | .hbm, ⟨49, _⟩ => ⟨S4x16384x16384, .i1⟩
  | .hbm, ⟨50, _⟩ => ⟨S4x1x1x16384x16384, .i1⟩
  | .hbm, ⟨51, _⟩ => ⟨S_, .f32⟩
  | .hbm, ⟨52, _⟩ => ⟨S_, .f32⟩
  | .hbm, ⟨53, _⟩ => ⟨S4x2x8x16384x16384, .i1⟩
  | .hbm, ⟨54, _⟩ => ⟨S4x2x8x16384x16384, .f32⟩
  | .hbm, ⟨55, _⟩ => ⟨S4x2x8x16384x16384, .f32⟩
  | .hbm, ⟨56, _⟩ => ⟨S_, .f32⟩
  | .hbm, ⟨57, _⟩ => ⟨S4x2x8x16384, .f32⟩
  | .hbm, ⟨58, _⟩ => ⟨S4x2x8x16384x1, .f32⟩
  | .hbm, ⟨59, _⟩ => ⟨S4x2x8x16384x16384, .f32⟩
  | .hbm, ⟨60, _⟩ => ⟨S4x2x8x16384x16384, .f32⟩
  | .hbm, ⟨61, _⟩ => ⟨S4x2x8x16384x16384, .f32⟩
  | .hbm, ⟨62, _⟩ => ⟨S_, .f32⟩
  | .hbm, ⟨63, _⟩ => ⟨S4x2x8x16384, .f32⟩
  | .hbm, ⟨64, _⟩ => ⟨S4x2x1x1x16384, .f32⟩
  | .hbm, ⟨65, _⟩ => ⟨S4x2x8x16384x16384, .f32⟩
  | .hbm, ⟨66, _⟩ => ⟨S4x2x8x16384x16384, .f32⟩
  | .hbm, ⟨67, _⟩ => ⟨S_, .f32⟩
  | .hbm, ⟨68, _⟩ => ⟨S_, .f32⟩
  | .hbm, ⟨69, _⟩ => ⟨S4x2x8x16384x16384, .f32⟩
  | .hbm, ⟨70, _⟩ => ⟨S_, .f32⟩
  | .hbm, ⟨71, _⟩ => ⟨S4x2x8x16384, .f32⟩
  | .hbm, ⟨72, _⟩ => ⟨S_, .f32⟩
  | .hbm, ⟨73, _⟩ => ⟨S4x2x8x16384, .f32⟩
  | .hbm, ⟨74, _⟩ => ⟨S4x2x8x16384, .f32⟩
  | .hbm, ⟨75, _⟩ => ⟨S4x2x8x16384, .f32⟩
  | .hbm, ⟨76, _⟩ => ⟨S4x2x8x16384, .f32⟩
  | .hbm, ⟨77, _⟩ => ⟨S4x2x8x16384, .f32⟩
  | .hbm, ⟨78, _⟩ => ⟨S4x2x8x16384, .f32⟩
  | .hbm, ⟨79, _⟩ => ⟨S_, .f32⟩
  | .hbm, ⟨80, _⟩ => ⟨S4x2x8x16384, .f32⟩
  | .hbm, ⟨81, _⟩ => ⟨S4x2x8x16384, .f32⟩
  | .hbm, ⟨82, _⟩ => ⟨S_, .f32⟩
  | .hbm, ⟨83, _⟩ => ⟨S4x2x8x16384, .f32⟩
  | .hbm, ⟨84, _⟩ => ⟨S4x2x8x16384, .i1⟩
  | .hbm, ⟨85, _⟩ => ⟨S_, .f32⟩
  | .hbm, ⟨86, _⟩ => ⟨S_, .f32⟩
  | .hbm, ⟨87, _⟩ => ⟨S4x2x8x16384, .f32⟩
  | .hbm, ⟨88, _⟩ => ⟨S4x2x8x16384, .f32⟩
  | .hbm, ⟨89, _⟩ => ⟨S4x2x8x16384, .f32⟩
  | .hbm, ⟨90, _⟩ => ⟨S4x2x8x16384, .f32⟩
  | .hbm, ⟨91, _⟩ => ⟨S4x2x8x16384, .f32⟩
  | .hbm, ⟨92, _⟩ => ⟨S4x2x8x16384x1, .f32⟩
  | .hbm, ⟨93, _⟩ => ⟨S4x2x8x16384x16384, .f32⟩
  | .hbm, ⟨94, _⟩ => ⟨S4x2x8x16384x16384, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S4x2x8x16384x16384, .f32⟩
  | .hbm, ⟨99, _⟩ => ⟨S4x2x8x16384x16384, .f32⟩
  | .hbm, ⟨100, _⟩ => ⟨S_, .f32⟩
  | .hbm, ⟨101, _⟩ => ⟨S4x2x8x16384x16384, .f32⟩
  | .hbm, ⟨102, _⟩ => ⟨S4x2x8x16384x16384, .f32⟩
  | .hbm, ⟨103, _⟩ => ⟨S4x2x128x8x16384, .f32⟩
  | .hbm, ⟨104, _⟩ => ⟨S4x16384x2x8x128, .f32⟩
  | .hbm, ⟨105, _⟩ => ⟨S4x16384x2x8, .f32⟩
  | .hbm, ⟨106, _⟩ => ⟨S4x16384x2x8x1, .f32⟩
  | .hbm, ⟨107, _⟩ => ⟨S4x16384x2x8x128, .f32⟩
  | .hbm, ⟨108, _⟩ => ⟨S4x16384x2x8x128, .f32⟩
  | .hbm, ⟨109, _⟩ => ⟨S4x16384x2x8, .f32⟩
  | .hbm, ⟨110, _⟩ => ⟨S4x16384x2x8x1, .f32⟩
  | .hbm, ⟨111, _⟩ => ⟨S4x16384x2x8x128, .f32⟩
  | .hbm, ⟨112, _⟩ => ⟨S4x16384x2x8x128, .f32⟩
  | .hbm, ⟨113, _⟩ => ⟨S4x16384x2048, .f32⟩
  | .hbm, ⟨114, _⟩ => ⟨S4x16384x2048, .bf16⟩
  | .local _ .vmem, ⟨0, _⟩ => ⟨S4x16384x2048, .fp8e4m3⟩
  | .local _ .vmem, ⟨1, _⟩ => ⟨S4x16384x256, .fp8e4m3⟩
  | .local _ .vmem, ⟨2, _⟩ => ⟨S4x256x16384, .fp8e4m3⟩
  | .local _ .vmem, ⟨3, _⟩ => ⟨S4x16384x2048, .f32⟩
  | .local _ .vmem, ⟨4, _⟩ => ⟨S4x16384x256, .f32⟩
  | .local _ .vmem, ⟨5, _⟩ => ⟨S4x256x16384, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_call1_v0 : Ref sig .tc := ⟨.hbm, 86, rfl⟩
abbrev main_call1_v1 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_11 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x16384x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16384x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x16384x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Words.lean ====
/- The kernel's index words in closed form: how many 1024-row blocks and 256-row tail blocks a grid point takes, and where each of their
   rows begins, as natural numbers; and from them that every offset of the body is in bounds when the prefix is at most 16384. -/
module

public import proofs.«01_k».proof.KernelIdeal
public import Idealize.ShloMosaic.Lib.WordArith

@[expose] public section

noncomputable section

namespace Cert.KernelIdeal.Val

open Idealize.ShloMosaic Cert.KernelIdeal

/-- The sign of a word, as the body computes it. -/
def sgn (x : BitVec 32) : BitVec 32 :=
  Scalar.subi (Scalar.extui (Scalar.cmpi .sgt x 0#32)) (Scalar.extui (Scalar.cmpi .slt x 0#32))

/-- Division rounded down, as the body computes it. -/
def fdiv (x c : BitVec 32) : BitVec 32 :=
  Scalar.select (Scalar.andi (Scalar.cmpi .ne (sgn x) (sgn c)) (Scalar.cmpi .ne (Scalar.remsi x c) 0#32))
    (Scalar.subi (Scalar.divsi x c) 1#32) (Scalar.divsi x c)

/-- The number of whole 1024-row blocks below the first masked row: the word. -/
def mainW (q : Nat) (v2 : BitVec 32) : BitVec 32 :=
  fdiv (Scalar.maxsi (Scalar.addi (Scalar.muli (BitVec.ofNat 32 q) 64#32) 1#32) v2) 1024#32

/-- The number of 256-row tail blocks: the word. -/
def tailW (q : Nat) (v2 : BitVec 32) : BitVec 32 :=
  fdiv (Scalar.subi (Scalar.addi (Scalar.subi
    (Scalar.maxsi (Scalar.addi (Scalar.muli (BitVec.ofNat 32 q) 64#32) 64#32) v2)
    (Scalar.muli (mainW q v2) 1024#32)) 256#32) 1#32) 256#32

/-- The number of whole 1024-row blocks. -/
def nMain (q : Nat) (p : Nat) : Nat := max (64 * q + 1) p / 1024
/-- The number of rows some query of the block sees. -/
def nVis (q : Nat) (p : Nat) : Nat := max (64 * q + 64) p
/-- The number of 256-row tail blocks. -/
def nTail (q : Nat) (p : Nat) : Nat := (nVis q p - 1024 * nMain q p + 255) / 256

/-- Signed division of small words. -/
theorem sdiv_ofNat (n c : Nat) (hn : n < 2 ^ 31) (hc : c < 2 ^ 31) :
    (BitVec.ofNat 32 n).sdiv (BitVec.ofNat 32 c) = BitVec.ofNat 32 (n / c) := by
  have h1 : (BitVec.ofNat 32 n).msb = false := by simp [BitVec.msb_eq_decide]; omega
  have h2 : (BitVec.ofNat 32 c).msb = false := by simp [BitVec.msb_eq_decide]; omega
  apply BitVec.eq_of_toNat_eq
  rw [BitVec.sdiv_eq, h1, h2]
  simp only [BitVec.udiv_eq, BitVec.toNat_udiv, BitVec.toNat_ofNat]
  rw [Nat.mod_eq_of_lt (by omega), Nat.mod_eq_of_lt (by omega), Nat.mod_eq_of_lt (by have := Nat.div_le_self n c; omega)]

/-- Division by a small positive word is not the overflowing one. -/
theorem sdivCorner_not (x : BitVec 32) (c : Nat) (h0 : 0 < c) (hc : c < 2 ^ 31) : ¬ IntOp.SDivCorner x (BitVec.ofNat 32 c) := by
  rintro (h | ⟨-, h⟩)
  · have := congrArg BitVec.toNat h
    simp at this; omega
  · have := congrArg BitVec.toNat h
    simp at this; omega

/-- The quotient of small words. -/
theorem divsi_ofNat (n c : Nat) (hn : n < 2 ^ 31) (h0 : 0 < c) (hc : c < 2 ^ 31) :
    Scalar.divsi (BitVec.ofNat 32 n) (BitVec.ofNat 32 c) = BitVec.ofNat 32 (n / c) := by
  show IntOp.divsi .scalar _ _ = _
  unfold IntOp.divsi
  rw [if_neg (sdivCorner_not _ c h0 hc), sdiv_ofNat n c hn hc]

/-- Zero leaves the remainder zero. -/
theorem remsi_zero (c : Nat) (h0 : 0 < c) (hc : c < 2 ^ 31) :
    Scalar.remsi (BitVec.ofNat 32 0) (BitVec.ofNat 32 c) = 0#32 := by
  show IntOp.remsi .scalar _ _ = _
  unfold IntOp.remsi
  rw [if_neg (sdivCorner_not _ c h0 hc)]
  simp

/-- The sign of a positive small word. -/
theorem sgn_pos (n : Nat) (h0 : 0 < n) (hn : n < 2 ^ 31) : sgn (BitVec.ofNat 32 n) = 1#32 := by
  have h1 : Scalar.cmpi .sgt (BitVec.ofNat 32 n) 0#32 = 1#1 := by
    show BitVec.ofBool (BitVec.slt 0#32 (BitVec.ofNat 32 n)) = _
    rw [BitVec.slt_eq_decide, WordArith.toInt_ofNat_small n hn]
    have : (0#32 : BitVec 32).toInt < (n : Int) := by simp; omega
    rw [decide_eq_true this]; rfl
  have h2 : Scalar.cmpi .slt (BitVec.ofNat 32 n) 0#32 = 0#1 := by
    show BitVec.ofBool (BitVec.slt (BitVec.ofNat 32 n) 0#32) = _
    rw [BitVec.slt_eq_decide, WordArith.toInt_ofNat_small n hn]
    have : ¬ (n : Int) < (0#32 : BitVec 32).toInt := by simp
    rw [decide_eq_false this]; rfl
  unfold sgn; rw [h1, h2]; decide

/-- Of a nonnegative word the body's division is the natural numbers'. -/
theorem fdiv_ofNat (n c : Nat) (hn : n < 2 ^ 31) (h0 : 0 < c) (hc : c < 2 ^ 31) :
    fdiv (BitVec.ofNat 32 n) (BitVec.ofNat 32 c) = BitVec.ofNat 32 (n / c) := by
  unfold fdiv
  have hs : Scalar.andi (Scalar.cmpi .ne (sgn (BitVec.ofNat 32 n)) (sgn (BitVec.ofNat 32 c)))
      (Scalar.cmpi .ne (Scalar.remsi (BitVec.ofNat 32 n) (BitVec.ofNat 32 c)) 0#32) = 0#1 := by
    rcases Nat.eq_zero_or_pos n with rfl | h
    · rw [remsi_zero c h0 hc, sgn_pos c h0 hc]; decide
    · rw [sgn_pos n h hn, sgn_pos c h0 hc]
      have : Scalar.cmpi .ne 1#32 1#32 = 0#1 := by decide
      rw [this]
      generalize Scalar.cmpi .ne (Scalar.remsi (BitVec.ofNat 32 n) (BitVec.ofNat 32 c)) 0#32 = y
      revert y; decide
  rw [hs, divsi_ofNat n c hn h0 hc]; rfl

/-- The greater of a small word and a word. -/
theorem maxsi_ofNat (a : Nat) (v : BitVec 32) (ha : a < 2 ^ 31) :
    Scalar.maxsi (BitVec.ofNat 32 a) v = BitVec.ofNat 32 (max a v.toInt.toNat) := by
  have hi := WordArith.toInt_ofNat_small a ha
  have hv := BitVec.toInt_lt (x := v)
  show (if BitVec.slt _ _ then _ else _) = _
  rw [BitVec.slt_eq_decide, hi]
  by_cases h : v.toInt < (a : Int)
  · rw [max_eq_left (by omega)]; simp [h]
  · have hm : max a v.toInt.toNat = v.toInt.toNat := max_eq_right (by omega)
    rw [hm]; simp only [h, decide_false, Bool.false_eq_true, if_false]
    apply BitVec.eq_of_toInt_eq
    rw [WordArith.toInt_ofNat_small _ (by omega)]; omega

/-- The sum of words. -/
theorem addi_ofNat (a b : Nat) : Scalar.addi (BitVec.ofNat 32 a) (BitVec.ofNat 32 b) = BitVec.ofNat 32 (a + b) := by
  show BitVec.ofNat 32 a + BitVec.ofNat 32 b = _
  rw [BitVec.ofNat_add]

/-- The product of words. -/
theorem muli_ofNat (a b : Nat) : Scalar.muli (BitVec.ofNat 32 a) (BitVec.ofNat 32 b) = BitVec.ofNat 32 (a * b) := by
  show BitVec.ofNat 32 a * BitVec.ofNat 32 b = _
  rw [BitVec.ofNat_mul]

/-- The difference of words. -/
theorem subi_ofNat (a b : Nat) (h : b ≤ a) : Scalar.subi (BitVec.ofNat 32 a) (BitVec.ofNat 32 b) = BitVec.ofNat 32 (a - b) := by
  show BitVec.ofNat 32 a - BitVec.ofNat 32 b = _
  obtain ⟨c, rfl⟩ := Nat.exists_eq_add_of_le h
  rw [BitVec.ofNat_add]; simp [BitVec.add_comm]

/-- The greater of zero and the predecessor. -/
theorem max_pred (n : Nat) (hn : n < 2 ^ 31) :
    Scalar.maxsi (Scalar.subi (BitVec.ofNat 32 n) 1#32) 0#32 = BitVec.ofNat 32 (n - 1) := by
  rcases Nat.eq_zero_or_pos n with rfl | h
  · decide
  · rw [show (1#32 : BitVec 32) = BitVec.ofNat 32 1 from rfl, subi_ofNat n 1 h, maxsi_ofNat _ _ (by omega)]; simp

/-- The lesser of small words. -/
theorem min_ofNat (a b : Nat) (ha : a < 2 ^ 31) (hb : b < 2 ^ 31) :
    Scalar.minsi (BitVec.ofNat 32 a) (BitVec.ofNat 32 b) = BitVec.ofNat 32 (min a b) := by
  show (if BitVec.slt _ _ then _ else _) = _
  rw [BitVec.slt_eq_decide, WordArith.toInt_ofNat_small a ha, WordArith.toInt_ofNat_small b hb]
  by_cases h : a < b
  · rw [min_eq_left (by omega)]; simp [h]
  · rw [min_eq_right (by omega)]; simp [h]

/-- The counter of a loop from zero by one. -/
theorem iv_ofNat (k : Nat) : Scf.iv 0#32 1#32 k = BitVec.ofNat 32 k := by
  unfold Scf.iv; simp

/-- A small word as an index. -/
theorem cast_toNat (n : Nat) (hn : n < 2 ^ 31) : (Scalar.indexCast (BitVec.ofNat 32 n) : Index).toNat = n := by
  show (BitVec.ofNat 32 n).toNat = n
  rw [BitVec.toNat_ofNat]; omega

/-- The number of trips between two small words. -/
theorem trips_ofNat (a b : Nat) (h : a ≤ b) (hb : b < 2 ^ 31) :
    Scf.trips (BitVec.ofNat 32 a) (BitVec.ofNat 32 b) 1#32 = b - a := by
  unfold Scf.trips
  rw [WordArith.toInt_ofNat_small a (by omega), WordArith.toInt_ofNat_small b hb]
  have : (1#32 : BitVec 32).toInt = 1 := by decide
  rw [this]; omega

/-- A loop between two small words is well formed. -/
theorem ok_ofNat (a b : Nat) (h : a ≤ b) (hb : b < 2 ^ 31) : Scf.OK (BitVec.ofNat 32 a) (BitVec.ofNat 32 b) 1#32 := by
  refine ⟨by decide, ?_⟩
  rw [trips_ofNat a b h hb, WordArith.toInt_ofNat_small a (by omega)]
  have : (1#32 : BitVec 32).toInt = 1 := by decide
  rw [this]; omega

section
variable (i : grid0.Coords) (v2 : BitVec 32) (hp : v2.toInt ≤ 16384)

/-- The query block of a grid point. -/
abbrev qb : Nat := (i 2).val
/-- The prefix as a natural number: a negative one counts as none. -/
abbrev pn : Nat := v2.toInt.toNat

/-- There are 256 query blocks. -/
theorem qb_lt : qb i < 256 := (i 2).isLt
include hp
/-- The prefix is at most 16384. -/
theorem pn_le : pn v2 ≤ 16384 := by unfold pn; omega
/-- The main blocks lie within the keys. -/
theorem nMain_le : 1024 * nMain (qb i) (pn v2) ≤ 16384 := by
  have := qb_lt i; have := pn_le v2 hp; unfold nMain; omega
/-- The main and the tail blocks lie within the keys. -/
theorem tail_le : 1024 * nMain (qb i) (pn v2) + 256 * nTail (qb i) (pn v2) ≤ 16384 := by
  have := qb_lt i; have := pn_le v2 hp; unfold nTail nVis nMain; omega
/-- The main and the tail blocks cover the visible keys. -/
theorem vis_le : nVis (qb i) (pn v2) ≤ 1024 * nMain (qb i) (pn v2) + 256 * nTail (qb i) (pn v2) := by
  have := qb_lt i; have := pn_le v2 hp; unfold nTail nVis nMain; omega
/-- The main blocks are visible. -/
theorem main_le_vis : 1024 * nMain (qb i) (pn v2) ≤ nVis (qb i) (pn v2) := by
  have := qb_lt i; have := pn_le v2 hp; unfold nVis nMain; omega

/-- The word of the number of main blocks. -/
theorem mainW_eq : mainW (qb i) v2 = BitVec.ofNat 32 (nMain (qb i) (pn v2)) := by
  have h := qb_lt i
  have h' := pn_le v2 hp
  unfold mainW nMain
  rw [show (64#32 : BitVec 32) = BitVec.ofNat 32 64 from rfl, muli_ofNat, show (1#32 : BitVec 32) = BitVec.ofNat 32 1 from rfl, addi_ofNat,
    maxsi_ofNat _ _ (by omega), show (1024#32 : BitVec 32) = BitVec.ofNat 32 1024 from rfl, fdiv_ofNat _ _ (by omega) (by omega) (by omega)]
  rw [Nat.mul_comm 64]

/-- The word of the number of tail blocks. -/
theorem tailW_eq : tailW (qb i) v2 = BitVec.ofNat 32 (nTail (qb i) (pn v2)) := by
  have h := qb_lt i
  have h' := pn_le v2 hp
  have h'' := nMain_le i v2 hp
  have h3 := main_le_vis i v2 hp
  unfold tailW nTail
  rw [mainW_eq i v2 hp, show (64#32 : BitVec 32) = BitVec.ofNat 32 64 from rfl, muli_ofNat, addi_ofNat,
    maxsi_ofNat _ _ (by omega), show (1024#32 : BitVec 32) = BitVec.ofNat 32 1024 from rfl, muli_ofNat]
  have e : max (qb i * 64 + 64) v2.toInt.toNat = nVis (qb i) (pn v2) := by unfold nVis; rw [Nat.mul_comm 64]
  rw [e, Nat.mul_comm _ 1024, subi_ofNat _ _ h3, show (256#32 : BitVec 32) = BitVec.ofNat 32 256 from rfl, addi_ofNat,
    show (1#32 : BitVec 32) = BitVec.ofNat 32 1 from rfl, subi_ofNat _ _ (by omega), fdiv_ofNat _ _ (by unfold nVis; omega) (by omega) (by omega)]
  congr 2

/-! ### The loops -/

omit hp in
theorem span_eq (n : Nat) (hn : n < 2 ^ 31) :
    Scalar.addi 0#32 (Scalar.muli (Scalar.divsi (Scalar.subi (BitVec.ofNat 32 n) 0#32) 1#32) 1#32) = BitVec.ofNat 32 n := by
  rw [show (0#32 : BitVec 32) = BitVec.ofNat 32 0 from rfl, subi_ofNat _ _ (by omega), show (1#32 : BitVec 32) = BitVec.ofNat 32 1 from rfl,
    divsi_ofNat _ _ (by omega) (by omega) (by omega), muli_ofNat, addi_ofNat]
  simp
omit hp in
theorem span_eq' (n : Nat) (hn : n < 2 ^ 31) :
    Scalar.addi 0#32 (Scalar.subi (BitVec.ofNat 32 n) 0#32) = BitVec.ofNat 32 n := by
  rw [show (0#32 : BitVec 32) = BitVec.ofNat 32 0 from rfl, subi_ofNat _ _ (by omega), addi_ofNat]
  simp
/-- The bounds of loop 1. -/
theorem loop1 : k0_t1_loop i v2 = ⟨0#32, BitVec.ofNat 32 (nMain (qb i) (pn v2)), 1#32⟩ := by
  have h := nMain_le i v2 hp
  show (⟨0#32, Scalar.addi 0#32 (Scalar.muli (Scalar.divsi (Scalar.subi (mainW (qb i) v2) 0#32) 1#32) 1#32), 1#32⟩ : Scf.Loop 32) = _
  rw [mainW_eq i v2 hp, span_eq _ (by omega)]
/-- The number of trips of loop 1. -/
theorem trips1 : (k0_t1_loop i v2).trips = nMain (qb i) (pn v2) := by
  have h := nMain_le i v2 hp
  rw [loop1 i v2 hp]; exact trips_ofNat 0 _ (by omega) (by omega)
/-- Loop 1 is well formed. -/
theorem ok1 : (k0_t1_loop i v2).OK := by
  have h := nMain_le i v2 hp
  rw [loop1 i v2 hp]; exact ok_ofNat 0 _ (by omega) (by omega)
/-- The bounds of loop 2. -/
theorem loop2 : k0_t2_loop i v2 = ⟨BitVec.ofNat 32 (nMain (qb i) (pn v2)), BitVec.ofNat 32 (nMain (qb i) (pn v2)), 1#32⟩ := by
  have h := nMain_le i v2 hp
  show (⟨Scalar.addi 0#32 (Scalar.muli (Scalar.divsi (Scalar.subi (mainW (qb i) v2) 0#32) 1#32) 1#32), Scalar.addi 0#32 (Scalar.subi (mainW (qb i) v2) 0#32), 1#32⟩ : Scf.Loop 32) = _
  rw [mainW_eq i v2 hp, span_eq _ (by omega), span_eq' _ (by omega)]
/-- The number of trips of loop 2. -/
theorem trips2 : (k0_t2_loop i v2).trips = 0 := by
  have h := nMain_le i v2 hp
  rw [loop2 i v2 hp, show ∀ a : BitVec 32, Scf.Loop.trips ⟨a, a, 1#32⟩ = Scf.trips a a 1#32 from fun _ => rfl,
    trips_ofNat _ _ le_rfl (by omega)]; omega
/-- Loop 2 is well formed. -/
theorem ok2 : (k0_t2_loop i v2).OK := by
  have h := nMain_le i v2 hp
  rw [loop2 i v2 hp]; exact ok_ofNat _ _ le_rfl (by omega)
/-- The bounds of loop 3. -/
theorem loop3 : k0_t3_loop i v2 = ⟨0#32, BitVec.ofNat 32 (nTail (qb i) (pn v2)), 1#32⟩ := by
  have h := tail_le i v2 hp
  show (⟨0#32, Scalar.addi 0#32 (Scalar.muli (Scalar.divsi (Scalar.subi (tailW (qb i) v2) 0#32) 1#32) 1#32), 1#32⟩ : Scf.Loop 32) = _
  rw [tailW_eq i v2 hp, span_eq _ (by omega)]
/-- The number of trips of loop 3. -/
theorem trips3 : (k0_t3_loop i v2).trips = nTail (qb i) (pn v2) := by
  have h := tail_le i v2 hp
  rw [loop3 i v2 hp]; exact trips_ofNat 0 _ (by omega) (by omega)
/-- Loop 3 is well formed. -/
theorem ok3 : (k0_t3_loop i v2).OK := by
  have h := tail_le i v2 hp
  rw [loop3 i v2 hp]; exact ok_ofNat 0 _ (by omega) (by omega)
/-- The bounds of loop 4. -/
theorem loop4 : k0_t4_loop i v2 = ⟨BitVec.ofNat 32 (nTail (qb i) (pn v2)), BitVec.ofNat 32 (nTail (qb i) (pn v2)), 1#32⟩ := by
  have h := tail_le i v2 hp
  show (⟨Scalar.addi 0#32 (Scalar.muli (Scalar.divsi (Scalar.subi (tailW (qb i) v2) 0#32) 1#32) 1#32), Scalar.addi 0#32 (Scalar.subi (tailW (qb i) v2) 0#32), 1#32⟩ : Scf.Loop 32) = _
  rw [tailW_eq i v2 hp, span_eq _ (by omega), span_eq' _ (by omega)]
/-- The number of trips of loop 4. -/
theorem trips4 : (k0_t4_loop i v2).trips = 0 := by
  have h := tail_le i v2 hp
  rw [loop4 i v2 hp, show ∀ a : BitVec 32, Scf.Loop.trips ⟨a, a, 1#32⟩ = Scf.trips a a 1#32 from fun _ => rfl,
    trips_ofNat _ _ le_rfl (by omega)]; omega
/-- Loop 4 is well formed. -/
theorem ok4 : (k0_t4_loop i v2).OK := by
  have h := tail_le i v2 hp
  rw [loop4 i v2 hp]; exact ok_ofNat _ _ le_rfl (by omega)
/-- The bounds of loop 5. -/
theorem loop5 : k0_t5_loop i v2 = ⟨0#32, BitVec.ofNat 32 (nMain (qb i) (pn v2)), 1#32⟩ := by
  have h := nMain_le i v2 hp
  show (⟨0#32, Scalar.addi 0#32 (Scalar.muli (Scalar.divsi (Scalar.subi (mainW (qb i) v2) 0#32) 1#32) 1#32), 1#32⟩ : Scf.Loop 32) = _
  rw [mainW_eq i v2 hp, span_eq _ (by omega)]
/-- The number of trips of loop 5. -/
theorem trips5 : (k0_t5_loop i v2).trips = nMain (qb i) (pn v2) := by
  have h := nMain_le i v2 hp
  rw [loop5 i v2 hp]; exact trips_ofNat 0 _ (by omega) (by omega)
/-- Loop 5 is well formed. -/
theorem ok5 : (k0_t5_loop i v2).OK := by
  have h := nMain_le i v2 hp
  rw [loop5 i v2 hp]; exact ok_ofNat 0 _ (by omega) (by omega)
/-- The bounds of loop 6. -/
theorem loop6 : k0_t6_loop i v2 = ⟨BitVec.ofNat 32 (nMain (qb i) (pn v2)), BitVec.ofNat 32 (nMain (qb i) (pn v2)), 1#32⟩ := by
  have h := nMain_le i v2 hp
  show (⟨Scalar.addi 0#32 (Scalar.muli (Scalar.divsi (Scalar.subi (mainW (qb i) v2) 0#32) 1#32) 1#32), Scalar.addi 0#32 (Scalar.subi (mainW (qb i) v2) 0#32), 1#32⟩ : Scf.Loop 32) = _
  rw [mainW_eq i v2 hp, span_eq _ (by omega), span_eq' _ (by omega)]
/-- The number of trips of loop 6. -/
theorem trips6 : (k0_t6_loop i v2).trips = 0 := by
  have h := nMain_le i v2 hp
  rw [loop6 i v2 hp, show ∀ a : BitVec 32, Scf.Loop.trips ⟨a, a, 1#32⟩ = Scf.trips a a 1#32 from fun _ => rfl,
    trips_ofNat _ _ le_rfl (by omega)]; omega
/-- Loop 6 is well formed. -/
theorem ok6 : (k0_t6_loop i v2).OK := by
  have h := nMain_le i v2 hp
  rw [loop6 i v2 hp]; exact ok_ofNat _ _ le_rfl (by omega)
/-- The bounds of loop 7. -/
theorem loop7 : k0_t7_loop i v2 = ⟨0#32, BitVec.ofNat 32 (nTail (qb i) (pn v2)), 1#32⟩ := by
  have h := tail_le i v2 hp
  show (⟨0#32, Scalar.addi 0#32 (Scalar.muli (Scalar.divsi (Scalar.subi (tailW (qb i) v2) 0#32) 1#32) 1#32), 1#32⟩ : Scf.Loop 32) = _
  rw [tailW_eq i v2 hp, span_eq _ (by omega)]
/-- The number of trips of loop 7. -/
theorem trips7 : (k0_t7_loop i v2).trips = nTail (qb i) (pn v2) := by
  have h := tail_le i v2 hp
  rw [loop7 i v2 hp]; exact trips_ofNat 0 _ (by omega) (by omega)
/-- Loop 7 is well formed. -/
theorem ok7 : (k0_t7_loop i v2).OK := by
  have h := tail_le i v2 hp
  rw [loop7 i v2 hp]; exact ok_ofNat 0 _ (by omega) (by omega)
/-- The bounds of loop 8. -/
theorem loop8 : k0_t8_loop i v2 = ⟨BitVec.ofNat 32 (nTail (qb i) (pn v2)), BitVec.ofNat 32 (nTail (qb i) (pn v2)), 1#32⟩ := by
  have h := tail_le i v2 hp
  show (⟨Scalar.addi 0#32 (Scalar.muli (Scalar.divsi (Scalar.subi (tailW (qb i) v2) 0#32) 1#32) 1#32), Scalar.addi 0#32 (Scalar.subi (tailW (qb i) v2) 0#32), 1#32⟩ : Scf.Loop 32) = _
  rw [tailW_eq i v2 hp, span_eq _ (by omega), span_eq' _ (by omega)]
/-- The number of trips of loop 8. -/
theorem trips8 : (k0_t8_loop i v2).trips = 0 := by
  have h := tail_le i v2 hp
  rw [loop8 i v2 hp, show ∀ a : BitVec 32, Scf.Loop.trips ⟨a, a, 1#32⟩ = Scf.trips a a 1#32 from fun _ => rfl,
    trips_ofNat _ _ le_rfl (by omega)]; omega
/-- Loop 8 is well formed. -/
theorem ok8 : (k0_t8_loop i v2).OK := by
  have h := tail_le i v2 hp
  rw [loop8 i v2 hp]; exact ok_ofNat _ _ le_rfl (by omega)

/-! ### Where the rows begin -/
theorem off2_eq (k : Fin (k0_t1_loop i v2).trips) (c : Nat) (hc : c < 16384) : k0_off2 i v2 k (BitVec.ofNat 32 c) = ![0, 0, 8 * k.val + c, 0] := by
  have h := nMain_le i v2 hp
  have h' := tail_le i v2 hp
  have hk : k.val < nMain (qb i) (pn v2) := lt_of_lt_of_eq k.isLt (trips1 i v2 hp)
  show ![0, 0, (Scalar.indexCast (Scalar.addi (fdiv (Scalar.muli (Scf.iv 0#32 1#32 k) 1024#32) 128#32) (BitVec.ofNat 32 c)) : Index).toNat, 0] = _
  rw [iv_ofNat, show (1024#32 : BitVec 32) = BitVec.ofNat 32 1024 from rfl, muli_ofNat, show (128#32 : BitVec 32) = BitVec.ofNat 32 128 from rfl, fdiv_ofNat _ _ (by omega) (by omega) (by omega), addi_ofNat, cast_toNat _ (by omega)]
  rw [show (k.val * 1024) / 128 = 8 * k.val by omega]
/-- Offset 3 of the body, as natural numbers. -/
theorem off3_eq (k : Fin (k0_t1_loop i v2).trips) (c : Nat) (hc : c < 16384) : k0_off3 i v2 k (BitVec.ofNat 32 c) = ![1024 * k.val + c, 0] := by
  have h := nMain_le i v2 hp
  have h' := tail_le i v2 hp
  have hk : k.val < nMain (qb i) (pn v2) := lt_of_lt_of_eq k.isLt (trips1 i v2 hp)
  show ![(Scalar.indexCast (Scalar.addi (Scalar.muli (Scf.iv 0#32 1#32 k) 1024#32) (BitVec.ofNat 32 c)) : Index).toNat, 0] = _
  rw [iv_ofNat, show (1024#32 : BitVec 32) = BitVec.ofNat 32 1024 from rfl, muli_ofNat, addi_ofNat, cast_toNat _ (by omega)]
  rw [show (k.val * 1024) = 1024 * k.val by omega]
/-- Offset 8 of the body, as natural numbers. -/
theorem off8_eq (k : Fin (k0_t3_loop i v2).trips) : k0_off8 i v2 k = ![0, 1024 * nMain (qb i) (pn v2) + 256 * k.val, 0] := by
  have h := nMain_le i v2 hp
  have h' := tail_le i v2 hp
  have hk : k.val < nTail (qb i) (pn v2) := lt_of_lt_of_eq k.isLt (trips3 i v2 hp)
  show ![0, (Scalar.indexCast (Scalar.addi (Scalar.muli (mainW (qb i) v2) 1024#32) (Scalar.muli (Scf.iv 0#32 1#32 k) 256#32)) : Index).toNat, 0] = _
  rw [iv_ofNat, show (1024#32 : BitVec 32) = BitVec.ofNat 32 1024 from rfl, show (256#32 : BitVec 32) = BitVec.ofNat 32 256 from rfl, mainW_eq i v2 hp, muli_ofNat, muli_ofNat, addi_ofNat, cast_toNat _ (by omega)]
  rw [show (nMain (qb i) (pn v2) * 1024 + k.val * 256) = 1024 * nMain (qb i) (pn v2) + 256 * k.val by omega]
/-- Offset 9 of the body, as natural numbers. -/
theorem off9_eq (k : Fin (k0_t3_loop i v2).trips) (c : Nat) (hc : c < 16384) : k0_off9 i v2 k (BitVec.ofNat 32 c) = ![0, 0, 8 * nMain (qb i) (pn v2) + 2 * k.val + c, 0] := by
  have h := nMain_le i v2 hp
  have h' := tail_le i v2 hp
  have hk : k.val < nTail (qb i) (pn v2) := lt_of_lt_of_eq k.isLt (trips3 i v2 hp)
  show ![0, 0, (Scalar.indexCast (Scalar.addi (fdiv (Scalar.addi (Scalar.muli (mainW (qb i) v2) 1024#32) (Scalar.muli (Scf.iv 0#32 1#32 k) 256#32)) 128#32) (BitVec.ofNat 32 c)) : Index).toNat, 0] = _
  rw [iv_ofNat, show (1024#32 : BitVec 32) = BitVec.ofNat 32 1024 from rfl, show (256#32 : BitVec 32) = BitVec.ofNat 32 256 from rfl, mainW_eq i v2 hp, muli_ofNat, muli_ofNat, addi_ofNat, show (128#32 : BitVec 32) = BitVec.ofNat 32 128 from rfl, fdiv_ofNat _ _ (by omega) (by omega) (by omega), addi_ofNat, cast_toNat _ (by omega)]
  rw [show (nMain (qb i) (pn v2) * 1024 + k.val * 256) / 128 = 8 * nMain (qb i) (pn v2) + 2 * k.val by omega]
/-- Offset 10 of the body, as natural numbers. -/
theorem off10_eq (k : Fin (k0_t3_loop i v2).trips) (c : Nat) (hc : c < 16384) : k0_off10 i v2 k (BitVec.ofNat 32 c) = ![1024 * nMain (qb i) (pn v2) + 256 * k.val + c, 0] := by
  have h := nMain_le i v2 hp
  have h' := tail_le i v2 hp
  have hk : k.val < nTail (qb i) (pn v2) := lt_of_lt_of_eq k.isLt (trips3 i v2 hp)
  show ![(Scalar.indexCast (Scalar.addi (Scalar.addi (Scalar.muli (mainW (qb i) v2) 1024#32) (Scalar.muli (Scf.iv 0#32 1#32 k) 256#32)) (BitVec.ofNat 32 c)) : Index).toNat, 0] = _
  rw [iv_ofNat, show (1024#32 : BitVec 32) = BitVec.ofNat 32 1024 from rfl, show (256#32 : BitVec 32) = BitVec.ofNat 32 256 from rfl, mainW_eq i v2 hp, muli_ofNat, muli_ofNat, addi_ofNat, addi_ofNat, cast_toNat _ (by omega)]
  rw [show (nMain (qb i) (pn v2) * 1024 + k.val * 256) = 1024 * nMain (qb i) (pn v2) + 256 * k.val by omega]
/-- Offset 15 of the body, as natural numbers. -/
theorem off15_eq (k : Fin (k0_t5_loop i v2).trips) (c : Nat) (hc : c < 16384) : k0_off15 i v2 k (BitVec.ofNat 32 c) = ![0, 0, 8 * k.val + c, 0] := by
  have h := nMain_le i v2 hp
  have h' := tail_le i v2 hp
  have hk : k.val < nMain (qb i) (pn v2) := lt_of_lt_of_eq k.isLt (trips5 i v2 hp)
  show ![0, 0, (Scalar.indexCast (Scalar.addi (fdiv (Scalar.muli (Scf.iv 0#32 1#32 k) 1024#32) 128#32) (BitVec.ofNat 32 c)) : Index).toNat, 0] = _
  rw [iv_ofNat, show (1024#32 : BitVec 32) = BitVec.ofNat 32 1024 from rfl, muli_ofNat, show (128#32 : BitVec 32) = BitVec.ofNat 32 128 from rfl, fdiv_ofNat _ _ (by omega) (by omega) (by omega), addi_ofNat, cast_toNat _ (by omega)]
  rw [show (k.val * 1024) / 128 = 8 * k.val by omega]
/-- Offset 16 of the body, as natural numbers. -/
theorem off16_eq (k : Fin (k0_t5_loop i v2).trips) (c : Nat) (hc : c < 16384) : k0_off16 i v2 k (BitVec.ofNat 32 c) = ![1024 * k.val + c, 0] := by
  have h := nMain_le i v2 hp
  have h' := tail_le i v2 hp
  have hk : k.val < nMain (qb i) (pn v2) := lt_of_lt_of_eq k.isLt (trips5 i v2 hp)
  show ![(Scalar.indexCast (Scalar.addi (Scalar.muli (Scf.iv 0#32 1#32 k) 1024#32) (BitVec.ofNat 32 c)) : Index).toNat, 0] = _
  rw [iv_ofNat, show (1024#32 : BitVec 32) = BitVec.ofNat 32 1024 from rfl, muli_ofNat, addi_ofNat, cast_toNat _ (by omega)]
  rw [show (k.val * 1024) = 1024 * k.val by omega]
/-- Offset 21 of the body, as natural numbers. -/
theorem off21_eq (k : Fin (k0_t7_loop i v2).trips) (c : Nat) (hc : c < 16384) : k0_off21 i v2 k (BitVec.ofNat 32 c) = ![0, 0, 8 * nMain (qb i) (pn v2) + 2 * k.val + c, 0] := by
  have h := nMain_le i v2 hp
  have h' := tail_le i v2 hp
  have hk : k.val < nTail (qb i) (pn v2) := lt_of_lt_of_eq k.isLt (trips7 i v2 hp)
  show ![0, 0, (Scalar.indexCast (Scalar.addi (fdiv (Scalar.addi (Scalar.muli (mainW (qb i) v2) 1024#32) (Scalar.muli (Scf.iv 0#32 1#32 k) 256#32)) 128#32) (BitVec.ofNat 32 c)) : Index).toNat, 0] = _
  rw [iv_ofNat, show (1024#32 : BitVec 32) = BitVec.ofNat 32 1024 from rfl, show (256#32 : BitVec 32) = BitVec.ofNat 32 256 from rfl, mainW_eq i v2 hp, muli_ofNat, muli_ofNat, addi_ofNat, show (128#32 : BitVec 32) = BitVec.ofNat 32 128 from rfl, fdiv_ofNat _ _ (by omega) (by omega) (by omega), addi_ofNat, cast_toNat _ (by omega)]
  rw [show (nMain (qb i) (pn v2) * 1024 + k.val * 256) / 128 = 8 * nMain (qb i) (pn v2) + 2 * k.val by omega]
/-- Offset 22 of the body, as natural numbers. -/
theorem off22_eq (k : Fin (k0_t7_loop i v2).trips) (c : Nat) (hc : c < 16384) : k0_off22 i v2 k (BitVec.ofNat 32 c) = ![1024 * nMain (qb i) (pn v2) + 256 * k.val + c, 0] := by
  have h := nMain_le i v2 hp
  have h' := tail_le i v2 hp
  have hk : k.val < nTail (qb i) (pn v2) := lt_of_lt_of_eq k.isLt (trips7 i v2 hp)
  show ![(Scalar.indexCast (Scalar.addi (Scalar.addi (Scalar.muli (mainW (qb i) v2) 1024#32) (Scalar.muli (Scf.iv 0#32 1#32 k) 256#32)) (BitVec.ofNat 32 c)) : Index).toNat, 0] = _
  rw [iv_ofNat, show (1024#32 : BitVec 32) = BitVec.ofNat 32 1024 from rfl, show (256#32 : BitVec 32) = BitVec.ofNat 32 256 from rfl, mainW_eq i v2 hp, muli_ofNat, muli_ofNat, addi_ofNat, addi_ofNat, cast_toNat _ (by omega)]
  rw [show (nMain (qb i) (pn v2) * 1024 + k.val * 256) = 1024 * nMain (qb i) (pn v2) + 256 * k.val by omega]
/-- Offset 23 of the body, as natural numbers. -/
theorem off23_eq (k : Fin (k0_t7_loop i v2).trips) : k0_off23 i v2 k = ![0, 0, 1024 * nMain (qb i) (pn v2) + 256 * k.val] := by
  have h := nMain_le i v2 hp
  have h' := tail_le i v2 hp
  have hk : k.val < nTail (qb i) (pn v2) := lt_of_lt_of_eq k.isLt (trips7 i v2 hp)
  show ![0, 0, (Scalar.indexCast (Scalar.addi (Scalar.muli (mainW (qb i) v2) 1024#32) (Scalar.muli (Scf.iv 0#32 1#32 k) 256#32)) : Index).toNat] = _
  rw [iv_ofNat, show (1024#32 : BitVec 32) = BitVec.ofNat 32 1024 from rfl, show (256#32 : BitVec 32) = BitVec.ofNat 32 256 from rfl, mainW_eq i v2 hp, muli_ofNat, muli_ofNat, addi_ofNat, cast_toNat _ (by omega)]
  rw [show (nMain (qb i) (pn v2) * 1024 + k.val * 256) = 1024 * nMain (qb i) (pn v2) + 256 * k.val by omega]
/-- Offset 4 of the body, as natural numbers. -/
theorem off4_eq (k : Fin (k0_t1_loop i v2).trips) : k0_off4 i v2 k = ![0, 1024 * min (k.val + 1) (nMain (qb i) (pn v2) - 1), 0] := by
  have h := nMain_le i v2 hp
  have hk : k.val < nMain (qb i) (pn v2) := lt_of_lt_of_eq k.isLt (trips1 i v2 hp)
  show ![0, (Scalar.indexCast (Scalar.muli (Scalar.minsi (Scalar.addi (Scf.iv 0#32 1#32 k) 1#32) (Scalar.subi (mainW (qb i) v2) 1#32)) 1024#32) : Index).toNat, 0] = _
  rw [iv_ofNat, show (1#32 : BitVec 32) = BitVec.ofNat 32 1 from rfl, addi_ofNat, mainW_eq i v2 hp, subi_ofNat _ _ (by omega), min_ofNat _ _ (by omega) (by omega), show (1024#32 : BitVec 32) = BitVec.ofNat 32 1024 from rfl,
    muli_ofNat, cast_toNat _ (by omega), Nat.mul_comm]
/-- Offset 14 of the body, as natural numbers. -/
theorem off14_eq (k : Fin (k0_t5_loop i v2).trips) : k0_off14 i v2 k = ![0, 0, 1024 * (k.val - 1)] := by
  have h := nMain_le i v2 hp
  have hk : k.val < nMain (qb i) (pn v2) := lt_of_lt_of_eq k.isLt (trips5 i v2 hp)
  show ![0, 0, (Scalar.indexCast (Scalar.muli (Scalar.maxsi (Scalar.subi (Scf.iv 0#32 1#32 k) 1#32) 0#32) 1024#32) : Index).toNat] = _
  rw [iv_ofNat, max_pred _ (by omega), show (1024#32 : BitVec 32) = BitVec.ofNat 32 1024 from rfl, muli_ofNat, cast_toNat _ (by omega), Nat.mul_comm]
/-- Offset 20 of the body, as natural numbers. -/
theorem off20_eq : k0_off20 i v2 = ![0, 0, 1024 * (nMain (qb i) (pn v2) - 1)] := by
  have h := nMain_le i v2 hp
  show ![0, 0, (Scalar.indexCast (Scalar.muli (Scalar.maxsi (Scalar.subi (mainW (qb i) v2) 1#32) 0#32) 1024#32) : Index).toNat] = _
  rw [mainW_eq i v2 hp, max_pred _ (by omega), show (1024#32 : BitVec 32) = BitVec.ofNat 32 1024 from rfl, muli_ofNat, cast_toNat _ (by omega), Nat.mul_comm]

/-! ### The body's side condition -/

/-- Loop 2 makes no trip. -/
theorem none2 (k : Fin (k0_t2_loop i v2).trips) : False := by
  have h := lt_of_lt_of_eq k.isLt (trips2 i v2 hp); omega
/-- Loop 4 makes no trip. -/
theorem none4 (k : Fin (k0_t4_loop i v2).trips) : False := by
  have h := lt_of_lt_of_eq k.isLt (trips4 i v2 hp); omega
/-- Loop 6 makes no trip. -/
theorem none6 (k : Fin (k0_t6_loop i v2).trips) : False := by
  have h := lt_of_lt_of_eq k.isLt (trips6 i v2 hp); omega
/-- Loop 8 makes no trip. -/
theorem none8 (k : Fin (k0_t8_loop i v2).trips) : False := by
  have h := lt_of_lt_of_eq k.isLt (trips8 i v2 hp); omega
omit hp in
theorem dvd_word (w : BitVec 32) (d n : Nat) (hn : d * n < 2 ^ 31) (e : w = BitVec.ofNat 32 (d * n)) : d ∣ w.toNat := by
  rw [e, BitVec.toNat_ofNat, Nat.mod_eq_of_lt (by omega)]; exact ⟨n, rfl⟩
omit hp in
theorem inbRow (n : Nat) (h : n + 128 ≤ 16384) : ∀ a, (![n, 0] : Fin 2 → Nat) a + S128x512.size a ≤ S16384x512.size a := by
  intro a; fin_cases a
  · exact h
  · exact le_rfl
omit hp in
theorem inbScale (n : Nat) (h : n + 1 ≤ 128) : ∀ a, (![0, 0, n, 0] : Fin 4 → Nat) a + S1x1x1x128.size a ≤ S1x1x128x128.size a := by
  intro a; fin_cases a
  · exact le_rfl
  · exact le_rfl
  · exact h
  · exact le_rfl
omit hp in
theorem inbK (n : Nat) (h : n + 1024 ≤ 16384) : ∀ a, (![0, n, 0] : Fin 3 → Nat) a + S1x1024x128.size a ≤ S1x16384x128.size a := by
  intro a; fin_cases a
  · exact le_rfl
  · exact h
  · exact le_rfl
omit hp in
theorem inbK' (n : Nat) (h : n + 256 ≤ 16384) : ∀ a, (![0, n, 0] : Fin 3 → Nat) a + S1x256x128.size a ≤ S1x16384x128.size a := by
  intro a; fin_cases a
  · exact le_rfl
  · exact h
  · exact le_rfl
omit hp in
theorem inbV (n : Nat) (h : n + 1024 ≤ 16384) : ∀ a, (![0, 0, n] : Fin 3 → Nat) a + S1x128x1024.size a ≤ S1x128x16384.size a := by
  intro a; fin_cases a
  · exact le_rfl
  · exact le_rfl
  · exact h
omit hp in
theorem inbV' (n : Nat) (h : n + 256 ≤ 16384) : ∀ a, (![0, 0, n] : Fin 3 → Nat) a + S1x128x256.size a ≤ S1x128x16384.size a := by
  intro a; fin_cases a
  · exact le_rfl
  · exact le_rfl
  · exact h

/-- The row of assumption 1 is a multiple of the block. -/
theorem mult1_dvd (k : Fin (k0_t1_loop i v2).trips) : 1024 ∣ (k0_mult1 i v2 k).toNat := by
  have h := nMain_le i v2 hp
  have hk : k.val < nMain (qb i) (pn v2) := lt_of_lt_of_eq k.isLt (trips1 i v2 hp)
  refine dvd_word _ 1024 k.val (by omega) ?_
  show Scalar.muli (Scf.iv 0#32 1#32 k) 1024#32 = _
  rw [iv_ofNat, show (1024#32 : BitVec 32) = BitVec.ofNat 32 1024 from rfl, muli_ofNat, Nat.mul_comm]
/-- The row of assumption 2 is a multiple of the block. -/
theorem mult2_dvd (k : Fin (k0_t1_loop i v2).trips) : 1024 ∣ (k0_mult2 i v2 k).toNat := by
  have h := nMain_le i v2 hp
  have hk : k.val < nMain (qb i) (pn v2) := lt_of_lt_of_eq k.isLt (trips1 i v2 hp)
  refine dvd_word _ 1024 (min (k.val + 1) (nMain (qb i) (pn v2) - 1)) (by omega) ?_
  show Scalar.muli (Scalar.minsi (Scalar.addi (Scf.iv 0#32 1#32 k) 1#32) (Scalar.subi (mainW (qb i) v2) 1#32)) 1024#32 = _
  rw [iv_ofNat, show (1#32 : BitVec 32) = BitVec.ofNat 32 1 from rfl, addi_ofNat, mainW_eq i v2 hp, subi_ofNat _ _ (by omega),
    min_ofNat _ _ (by omega) (by omega), show (1024#32 : BitVec 32) = BitVec.ofNat 32 1024 from rfl, muli_ofNat, Nat.mul_comm]
/-- The row of assumption 5 is a multiple of the block. -/
theorem mult5_dvd (k : Fin (k0_t3_loop i v2).trips) : 256 ∣ (k0_mult5 i v2 k).toNat := by
  have h := tail_le i v2 hp
  have hk : k.val < nTail (qb i) (pn v2) := lt_of_lt_of_eq k.isLt (trips3 i v2 hp)
  refine dvd_word _ 256 (4 * nMain (qb i) (pn v2) + k.val) (by omega) ?_
  show Scalar.addi (Scalar.muli (mainW (qb i) v2) 1024#32) (Scalar.muli (Scf.iv 0#32 1#32 k) 256#32) = _
  rw [iv_ofNat, show (1024#32 : BitVec 32) = BitVec.ofNat 32 1024 from rfl, show (256#32 : BitVec 32) = BitVec.ofNat 32 256 from rfl,
    mainW_eq i v2 hp, muli_ofNat, muli_ofNat, addi_ofNat]
  congr 1; omega
/-- The row of assumption 7 is a multiple of the block. -/
theorem mult7_dvd (k : Fin (k0_t5_loop i v2).trips) : 1024 ∣ (k0_mult7 i v2 k).toNat := by
  have h := nMain_le i v2 hp
  have hk : k.val < nMain (qb i) (pn v2) := lt_of_lt_of_eq k.isLt (trips5 i v2 hp)
  refine dvd_word _ 1024 (k.val - 1) (by omega) ?_
  show Scalar.muli (Scalar.maxsi (Scalar.subi (Scf.iv 0#32 1#32 k) 1#32) 0#32) 1024#32 = _
  rw [iv_ofNat, max_pred _ (by omega), show (1024#32 : BitVec 32) = BitVec.ofNat 32 1024 from rfl, muli_ofNat, Nat.mul_comm]
/-- The row of assumption 8 is a multiple of the block. -/
theorem mult8_dvd (k : Fin (k0_t5_loop i v2).trips) : 1024 ∣ (k0_mult8 i v2 k).toNat := by
  have h := nMain_le i v2 hp
  have hk : k.val < nMain (qb i) (pn v2) := lt_of_lt_of_eq k.isLt (trips5 i v2 hp)
  refine dvd_word _ 1024 k.val (by omega) ?_
  show Scalar.muli (Scf.iv 0#32 1#32 k) 1024#32 = _
  rw [iv_ofNat, show (1024#32 : BitVec 32) = BitVec.ofNat 32 1024 from rfl, muli_ofNat, Nat.mul_comm]
/-- The row of assumption 11 is a multiple of the block. -/
theorem mult11_dvd : 1024 ∣ (k0_mult11 i v2).toNat := by
  have h := nMain_le i v2 hp
  refine dvd_word _ 1024 (nMain (qb i) (pn v2) - 1) (by omega) ?_
  show Scalar.muli (Scalar.maxsi (Scalar.subi (mainW (qb i) v2) 1#32) 0#32) 1024#32 = _
  rw [mainW_eq i v2 hp, max_pred _ (by omega), show (1024#32 : BitVec 32) = BitVec.ofNat 32 1024 from rfl, muli_ofNat, Nat.mul_comm]
/-- The row of assumption 12 is a multiple of the block. -/
theorem mult12_dvd (k : Fin (k0_t7_loop i v2).trips) : 256 ∣ (k0_mult12 i v2 k).toNat := by
  have h := tail_le i v2 hp
  have hk : k.val < nTail (qb i) (pn v2) := lt_of_lt_of_eq k.isLt (trips7 i v2 hp)
  refine dvd_word _ 256 (4 * nMain (qb i) (pn v2) + k.val) (by omega) ?_
  show Scalar.addi (Scalar.muli (mainW (qb i) v2) 1024#32) (Scalar.muli (Scf.iv 0#32 1#32 k) 256#32) = _
  rw [iv_ofNat, show (1024#32 : BitVec 32) = BitVec.ofNat 32 1024 from rfl, show (256#32 : BitVec 32) = BitVec.ofNat 32 256 from rfl,
    mainW_eq i v2 hp, muli_ofNat, muli_ofNat, addi_ofNat]
  congr 1; omega

/-- Of a prefix of at most 16384 keys every loop of the body is one, every multiple it asserts is one, and every access is in bounds. -/
theorem chk : k0_chk1 i v2 := by
  have h := nMain_le i v2 hp
  have h' := tail_le i v2 hp
  have k1 : ∀ k : Fin (k0_t1_loop i v2).trips, k.val < nMain (qb i) (pn v2) := fun k => lt_of_lt_of_eq k.isLt (trips1 i v2 hp)
  have k3 : ∀ k : Fin (k0_t3_loop i v2).trips, k.val < nTail (qb i) (pn v2) := fun k => lt_of_lt_of_eq k.isLt (trips3 i v2 hp)
  have k5 : ∀ k : Fin (k0_t5_loop i v2).trips, k.val < nMain (qb i) (pn v2) := fun k => lt_of_lt_of_eq k.isLt (trips5 i v2 hp)
  have k7 : ∀ k : Fin (k0_t7_loop i v2).trips, k.val < nTail (qb i) (pn v2) := fun k => lt_of_lt_of_eq k.isLt (trips7 i v2 hp)
  refine ⟨⟨ok1 i v2 hp, mult1_dvd i v2 hp,
    fun k r => by have := k1 k; have := r.isLt; rw [off2_eq i v2 hp k r.val (by omega)]; exact inbScale _ (by omega),
    fun k r => by have := k1 k; have := r.isLt; rw [off3_eq i v2 hp k (128 * r.val) (by omega)]; exact inbRow _ (by omega),
    mult2_dvd i v2 hp,
    fun k => by have := k1 k; rw [off4_eq i v2 hp k]; exact inbK _ (by omega),
    ok2 i v2 hp, fun k => (none2 i v2 hp k).elim, fun k => (none2 i v2 hp k).elim, fun k => (none2 i v2 hp k).elim,
    fun k => (none2 i v2 hp k).elim, fun k => (none2 i v2 hp k).elim,
    ok3 i v2 hp, mult5_dvd i v2 hp,
    fun k => by have := k3 k; rw [off8_eq i v2 hp k]; exact inbK' _ (by omega),
    fun k r => by have := k3 k; have := r.isLt; rw [off9_eq i v2 hp k r.val (by omega)]; exact inbScale _ (by omega),
    fun k r => by have := k3 k; have := r.isLt; rw [off10_eq i v2 hp k (128 * r.val) (by omega)]; exact inbRow _ (by omega),
    ok4 i v2 hp, fun k => (none4 i v2 hp k).elim, fun k => (none4 i v2 hp k).elim, fun k => (none4 i v2 hp k).elim,
    fun k => (none4 i v2 hp k).elim,
    ok5 i v2 hp, mult7_dvd i v2 hp,
    fun k => by have := k5 k; rw [off14_eq i v2 hp k]; exact inbV _ (by omega),
    mult8_dvd i v2 hp,
    fun k r => by have := k5 k; have := r.isLt; rw [off15_eq i v2 hp k r.val (by omega)]; exact inbScale _ (by omega),
    fun k r => by have := k5 k; have := r.isLt; rw [off16_eq i v2 hp k (128 * r.val) (by omega)]; exact inbRow _ (by omega),
    ok6 i v2 hp, fun k => (none6 i v2 hp k).elim, fun k => (none6 i v2 hp k).elim, fun k => (none6 i v2 hp k).elim⟩,
    ⟨fun k => (none6 i v2 hp k).elim, fun k => (none6 i v2 hp k).elim,
    mult11_dvd i v2 hp, by rw [off20_eq i v2 hp]; exact inbV _ (by omega),
    ok7 i v2 hp, mult12_dvd i v2 hp,
    fun k r => by have := k7 k; have := r.isLt; rw [off21_eq i v2 hp k r.val (by omega)]; exact inbScale _ (by omega),
    fun k r => by have := k7 k; have := r.isLt; rw [off22_eq i v2 hp k (128 * r.val) (by omega)]; exact inbRow _ (by omega),
    fun k => by have := k7 k; rw [off23_eq i v2 hp k]; exact inbV' _ (by omega),
    ok8 i v2 hp, fun k => (none8 i v2 hp k).elim, fun k => (none8 i v2 hp k).elim, fun k => (none8 i v2 hp k).elim,
    fun k => (none8 i v2 hp k).elim⟩⟩

end
end Cert.KernelIdeal.Val
-- ==== Proof.KernelFrame.Points.lean ====
/- The schedule of the call: when each window is fetched or written back, the memrefs and the body at a point. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 1 (fun _ => rfl) (by decide)) (P := 1) (by decide) t).mpr (Nat.mod_one _) : ∀ t : Fin grid0.N, Pipeline.Window.fetchOf grid0 false cc0_transform_0 t = true)
/-- Window 1 (operand 2 (%2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 2 (by decide) (by decide) (Pipeline.Window.sep_of_coord cc0_transform_1 2 2 (fun _ => rfl) (by decide)) (P := 1) (by decide) t).mpr (Nat.mod_one _) : ∀ t : Fin grid0.N, Pipeline.Window.fetchOf grid0 false cc0_transform_1 t = true)
/-- Window 2 (operand 3 (%arg3)) is fetched at the points ≡ 0 (mod 256), at any contents of the tables (its index map reads none). -/
theorem fetch0_2 (a : (pcfg0 (F := F)).Adm) : ∀ t : Fin (cfg0 a).N, ((cfg0 a).win 2).fetch t = true ↔ t.val % 256 = 0 :=
  (fun t => Pipeline.Window.fetchOf_reads cc0_transform_2 reads0_2 hreads0_2 1 (by decide) (by decide) (Pipeline.Window.sep_of_coord cc0_transform_2 1 2 (fun _ => rfl) (by decide)) (P := 256) (by decide) t : ∀ t : Fin grid0.N, Pipeline.Window.fetchOf grid0 false cc0_transform_2 t = true ↔ t.val % 256 = 0)
/-- Window 3 (operand 4 (%arg5)) is fetched at the points ≡ 0 (mod 256), at any contents of the tables (its index map reads none). -/
theorem fetch0_3 (a : (pcfg0 (F := F)).Adm) : ∀ t : Fin (cfg0 a).N, ((cfg0 a).win 3).fetch t = true ↔ t.val % 256 = 0 :=
  (fun t => Pipeline.Window.fetchOf_reads cc0_transform_3 reads0_3 hreads0_3 1 (by decide) (by decide) (Pipeline.Window.sep_of_coord cc0_transform_3 1 1 (fun _ => rfl) (by decide)) (P := 256) (by decide) t : ∀ t : Fin grid0.N, Pipeline.Window.fetchOf grid0 false cc0_transform_3 t = true ↔ t.val % 256 = 0)
/-- Window 4 (operand 5 (%4)) is fetched at the points ≡ 0 (mod 256), at any contents of the tables (its index map reads none). -/
theorem fetch0_4 (a : (pcfg0 (F := F)).Adm) : ∀ t : Fin (cfg0 a).N, ((cfg0 a).win 4).fetch t = true ↔ t.val % 256 = 0 :=
  (fun t => Pipeline.Window.fetchOf_reads cc0_transform_4 reads0_4 hreads0_4 1 (by decide) (by decide) (Pipeline.Window.sep_of_coord cc0_transform_4 1 1 (fun _ => rfl) (by decide)) (P := 256) (by decide) t : ∀ t : Fin grid0.N, Pipeline.Window.fetchOf grid0 false cc0_transform_4 t = true ↔ t.val % 256 = 0)
/-- Window 5 (operand 6 (%6)) is fetched at the points ≡ 0 (mod 256), at any contents of the tables (its index map reads none). -/
theorem fetch0_5 (a : (pcfg0 (F := F)).Adm) : ∀ t : Fin (cfg0 a).N, ((cfg0 a).win 5).fetch t = true ↔ t.val % 256 = 0 :=
  (fun t => Pipeline.Window.fetchOf_reads cc0_transform_5 reads0_5 hreads0_5 1 (by decide) (by decide) (Pipeline.Window.sep_of_coord cc0_transform_5 1 1 (fun _ => rfl) (by decide)) (P := 256) (by decide) t : ∀ t : Fin grid0.N, Pipeline.Window.fetchOf grid0 false cc0_transform_5 t = true ↔ t.val % 256 = 0)
/-- Window 6 (result 0 (%7)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 2 (by decide) (by decide) (Pipeline.Window.sep_of_coord cc0_transform_6 2 1 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.Kernel.Gen

end
-- ==== Proof.KernelFrame.Runs.lean ====
/- What the frame of the kernel is stated over: the memory at the entry of the call, the blocks, the side conditions. -/
module

public import proofs.«01_k».proof.Proof.Gen.Kernel.Launch
public import proofs.«01_k».proof.Proof.Gen.Kernel.Skeleton
public import proofs.«01_k».proof.Proof.Gen.Kernel.Loops
public import proofs.«01_k».proof.Proof.KernelFrame.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host lines before the call make no fresh buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The configuration of the call. -/
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg0
/-- The table of prefixes is whole. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The table of prefixes, held with its contents. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      ((h c).2 main_arg2 (by decide : main_arg2 ∈ Pipeline.restRefs sig spec0)).trans (V_main_arg2 m c),
      (Pipeline.RDat.FramePost.arr_in h c 2 rfl).trans ((hA c 2).trans (V_main_arg3 m c)),
      ((h c).2 main_arg4 (by decide : main_arg4 ∈ Pipeline.restRefs sig spec0)).trans (V_main_arg4 m c),
      (Pipeline.RDat.FramePost.arr_in h c 3 rfl).trans ((hA c 3).trans (V_main_arg5 m c)),
      ((h c).2 main_arg6 (by decide : main_arg6 ∈ Pipeline.restRefs sig spec0)).trans (V_main_arg6 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x64x1024 .fp8e4m3 := spec0_0.stage ((cfgM m hO).slots t 0)
/-- The staged block of window 0 is whole. -/
abbrev hs0_0 (hO : Ok m) (t : Fin (cfgM m hO).N) : (ms0_0 m hO t).IsWhole := hstage0_0 (((cfgM m hO).slots t 0).cast nbuf0_0)
/-- The staged block of window 1. -/
abbrev ms0_1 (hO : Ok m) (t : Fin (cfgM m hO).N) : Memref sig .tc .vmem S1x1x1x1x512 .f32 := spec0_1.stage ((cfgM m hO).slots t 1)
/-- The staged block of window 1 is whole. -/
abbrev hs0_1 (hO : Ok m) (t : Fin (cfgM m hO).N) : (ms0_1 m hO t).IsWhole := hstage0_1 (((cfgM m hO).slots t 1).cast nbuf0_1)
/-- The staged block of window 2. -/
abbrev ms0_2 (hO : Ok m) (t : Fin (cfgM m hO).N) : Memref sig .tc .vmem S1x16384x128 .fp8e4m3 := spec0_2.stage ((cfgM m hO).slots t 2)
/-- The staged block of window 2 is whole. -/
abbrev hs0_2 (hO : Ok m) (t : Fin (cfgM m hO).N) : (ms0_2 m hO t).IsWhole := hstage0_2 (((cfgM m hO).slots t 2).cast nbuf0_2)
/-- The staged block of window 3. -/
abbrev ms0_3 (hO : Ok m) (t : Fin (cfgM m hO).N) : Memref sig .tc .vmem S1x128x16384 .fp8e4m3 := spec0_3.stage ((cfgM m hO).slots t 3)
/-- The staged block of window 3 is whole. -/
abbrev hs0_3 (hO : Ok m) (t : Fin (cfgM m hO).N) : (ms0_3 m hO t).IsWhole := hstage0_3 (((cfgM m hO).slots t 3).cast nbuf0_3)
/-- The staged block of window 4. -/
abbrev ms0_4 (hO : Ok m) (t : Fin (cfgM m hO).N) : Memref sig .tc .vmem S1x1x128x128 .f32 := spec0_4.stage ((cfgM m hO).slots t 4)
/-- The staged block of window 4 is whole. -/
abbrev hs0_4 (hO : Ok m) (t : Fin (cfgM m hO).N) : (ms0_4 m hO t).IsWhole := hstage0_4 (((cfgM m hO).slots t 4).cast nbuf0_4)
/-- The staged block of window 5. -/
abbrev ms0_5 (hO : Ok m) (t : Fin (cfgM m hO).N) : Memref sig .tc .vmem S1x1x128x128 .f32 := spec0_5.stage ((cfgM m hO).slots t 5)
/-- The staged block of window 5 is whole. -/
abbrev hs0_5 (hO : Ok m) (t : Fin (cfgM m hO).N) : (ms0_5 m hO t).IsWhole := hstage0_5 (((cfgM m hO).slots t 5).cast nbuf0_5)
/-- The staged block of window 6. -/
abbrev ms0_6 (hO : Ok m) (t : Fin (cfgM m hO).N) : Memref sig .tc .vmem S1x64x1024 .bf16 := spec0_6.stage ((cfgM m hO).slots t 6)
/-- The staged block of window 6 is whole. -/
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))
variable {m} in
/-- The side conditions at a grid point. -/
theorem Hyps.c0 {hO : Ok m} (hH : Hyps m hO) (c : Dev nD) (t : Fin (cfgM m hO).N) :
    k0_chk1 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos))) := (hH c t)
variable {m} in
/-- The side conditions from those of every grid point. -/
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S16384x512 .f32 := Memref.whole cc0_scratch0
/-- Scratch 1, whole. -/
abbrev scM0_1 : Memref sig .tc .vmem S1024x512 .f32 := Memref.whole cc0_scratch1
/-- Scratch 2, whole. -/
abbrev scM0_2 : Memref sig .tc .vmem S1024x512 .fp8e4m3 := Memref.whole cc0_scratch2
/-- Scratch 3, whole. -/
abbrev scM0_3 : Memref sig .tc .vmem S512x128 .fp8e4m3 := Memref.whole cc0_scratch3
/-- Scratch 4, whole. -/
abbrev scM0_4 : Memref sig .tc .vmem S128x512 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.KernelFrame.RunA.lean ====
/- One run of the kernel body at a grid point, the scratch buffers at any contents on entry. -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1496000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole)
    (x0 : Vec F S1x64x1024 .fp8e4m3) (x1 : Vec F S1x1x1x1x512 .f32) (x2 : Vec F S1x16384x128 .fp8e4m3) (x3 : Vec F S1x128x16384 .fp8e4m3) (x4 : Vec F S1x1x128x128 .f32) (x5 : Vec F S1x1x128x128 .f32) (xt0 : TbBuf0 (F := F) c tbM0_0) (k0_hw1 : k0_chk1 i (tbM0_0.view.readAt (Elt F) (Rect.unit (s := S4) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_attention i tbM0_0 htbM0_0 arg4 harg4 arg5 harg5 arg6 harg6 arg7 harg7 arg8 harg8 arg9 harg9 arg10 harg10 arg11 harg11 arg12 harg12 arg13 harg13 arg14 harg14 arg15 harg15) K := by
    intro E K
    simp only [cc0_attention_eq_skeleton]; unfold cc0_attention_skel
    simp only [k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.Kernel.Gen

end
-- ==== Proof.KernelFrame.Frame.lean ====
/- The frame of the kernel: it terminates and leaves its arguments as they were. -/
module

public import proofs.«01_k».proof.Proof.KernelFrame.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
/-- What window 1 holds after a grid point. -/
theorem after0_1 (hO : Ok m) (hH : Hyps m hO) (c : Dev nD) (t : Fin (cfgM m hO).N) : (dats m hO hH 0 c).after 1 t = iblk m hO c 1 t := by dsimp only [dats]; try rfl
/-- What window 2 holds after a grid point. -/
theorem after0_2 (hO : Ok m) (hH : Hyps m hO) (c : Dev nD) (t : Fin (cfgM m hO).N) : (dats m hO hH 0 c).after 2 t = iblk m hO c 2 t := by dsimp only [dats]; try rfl
/-- What window 3 holds after a grid point. -/
theorem after0_3 (hO : Ok m) (hH : Hyps m hO) (c : Dev nD) (t : Fin (cfgM m hO).N) : (dats m hO hH 0 c).after 3 t = iblk m hO c 3 t := by dsimp only [dats]; try rfl
/-- What window 4 holds after a grid point. -/
theorem after0_4 (hO : Ok m) (hH : Hyps m hO) (c : Dev nD) (t : Fin (cfgM m hO).N) : (dats m hO hH 0 c).after 4 t = iblk m hO c 4 t := by dsimp only [dats]; try rfl
/-- What window 5 holds after a grid point. -/
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
/-- What window 1 holds before the body runs. -/
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
/-- What window 2 holds before the body runs. -/
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
/-- What window 3 holds before the body runs. -/
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
/-- What window 4 holds before the body runs. -/
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
/-- What window 5 holds before the body runs. -/
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq, PhiA0_eq]
  iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (Hyps.c0 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, HS0, HS1, HS2, HS3, HS4, HT0⟩
  isplitl [HS0 HS1 HS2 HS3 HS4 Hg HT0]
  · isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.Kernel.Gen

end
-- ==== Proof.IdealFrame.Points.lean ====
/- The schedule of the call: when each window is fetched or written back, the memrefs and the body at a point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 1 (fun _ => rfl) (by decide)) (P := 1) (by decide) t).mpr (Nat.mod_one _) : ∀ t : Fin grid0.N, Pipeline.Window.fetchOf grid0 false cc0_transform_0 t = true)
/-- Window 1 (operand 2 (%2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 2 (by decide) (by decide) (Pipeline.Window.sep_of_coord cc0_transform_1 2 2 (fun _ => rfl) (by decide)) (P := 1) (by decide) t).mpr (Nat.mod_one _) : ∀ t : Fin grid0.N, Pipeline.Window.fetchOf grid0 false cc0_transform_1 t = true)
/-- Window 2 (operand 3 (%arg3)) is fetched at the points ≡ 0 (mod 256), at any contents of the tables (its index map reads none). -/
theorem fetch0_2 (a : (pcfg0 (F := F)).Adm) : ∀ t : Fin (cfg0 a).N, ((cfg0 a).win 2).fetch t = true ↔ t.val % 256 = 0 :=
  (fun t => Pipeline.Window.fetchOf_reads cc0_transform_2 reads0_2 hreads0_2 1 (by decide) (by decide) (Pipeline.Window.sep_of_coord cc0_transform_2 1 2 (fun _ => rfl) (by decide)) (P := 256) (by decide) t : ∀ t : Fin grid0.N, Pipeline.Window.fetchOf grid0 false cc0_transform_2 t = true ↔ t.val % 256 = 0)
/-- Window 3 (operand 4 (%arg5)) is fetched at the points ≡ 0 (mod 256), at any contents of the tables (its index map reads none). -/
theorem fetch0_3 (a : (pcfg0 (F := F)).Adm) : ∀ t : Fin (cfg0 a).N, ((cfg0 a).win 3).fetch t = true ↔ t.val % 256 = 0 :=
  (fun t => Pipeline.Window.fetchOf_reads cc0_transform_3 reads0_3 hreads0_3 1 (by decide) (by decide) (Pipeline.Window.sep_of_coord cc0_transform_3 1 1 (fun _ => rfl) (by decide)) (P := 256) (by decide) t : ∀ t : Fin grid0.N, Pipeline.Window.fetchOf grid0 false cc0_transform_3 t = true ↔ t.val % 256 = 0)
/-- Window 4 (operand 5 (%4)) is fetched at the points ≡ 0 (mod 256), at any contents of the tables (its index map reads none). -/
theorem fetch0_4 (a : (pcfg0 (F := F)).Adm) : ∀ t : Fin (cfg0 a).N, ((cfg0 a).win 4).fetch t = true ↔ t.val % 256 = 0 :=
  (fun t => Pipeline.Window.fetchOf_reads cc0_transform_4 reads0_4 hreads0_4 1 (by decide) (by decide) (Pipeline.Window.sep_of_coord cc0_transform_4 1 1 (fun _ => rfl) (by decide)) (P := 256) (by decide) t : ∀ t : Fin grid0.N, Pipeline.Window.fetchOf grid0 false cc0_transform_4 t = true ↔ t.val % 256 = 0)
/-- Window 5 (operand 6 (%6)) is fetched at the points ≡ 0 (mod 256), at any contents of the tables (its index map reads none). -/
theorem fetch0_5 (a : (pcfg0 (F := F)).Adm) : ∀ t : Fin (cfg0 a).N, ((cfg0 a).win 5).fetch t = true ↔ t.val % 256 = 0 :=
  (fun t => Pipeline.Window.fetchOf_reads cc0_transform_5 reads0_5 hreads0_5 1 (by decide) (by decide) (Pipeline.Window.sep_of_coord cc0_transform_5 1 1 (fun _ => rfl) (by decide)) (P := 256) (by decide) t : ∀ t : Fin grid0.N, Pipeline.Window.fetchOf grid0 false cc0_transform_5 t = true ↔ t.val % 256 = 0)
/-- Window 6 (result 0 (%7)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 2 (by decide) (by decide) (Pipeline.Window.sep_of_coord cc0_transform_6 2 1 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.KernelIdeal.Gen

end
-- ==== Proof.IdealFrame.Runs.lean ====
/- What the frame of the kernel is stated over: the memory at the entry of the call, the blocks, the side conditions. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.IdealFrame.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host lines before the call make no fresh buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The configuration of the call. -/
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg0
/-- The table of prefixes is whole. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The table of prefixes, held with its contents. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      ((h c).2 main_arg2 (by decide : main_arg2 ∈ Pipeline.restRefs sig spec0)).trans (V_main_arg2 m c),
      (Pipeline.RDat.FramePost.arr_in h c 2 rfl).trans ((hA c 2).trans (V_main_arg3 m c)),
      ((h c).2 main_arg4 (by decide : main_arg4 ∈ Pipeline.restRefs sig spec0)).trans (V_main_arg4 m c),
      (Pipeline.RDat.FramePost.arr_in h c 3 rfl).trans ((hA c 3).trans (V_main_arg5 m c)),
      ((h c).2 main_arg6 (by decide : main_arg6 ∈ Pipeline.restRefs sig spec0)).trans (V_main_arg6 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x64x1024 .fp8e4m3 := spec0_0.stage ((cfgM m hO).slots t 0)
/-- The staged block of window 0 is whole. -/
abbrev hs0_0 (hO : Ok m) (t : Fin (cfgM m hO).N) : (ms0_0 m hO t).IsWhole := hstage0_0 (((cfgM m hO).slots t 0).cast nbuf0_0)
/-- The staged block of window 1. -/
abbrev ms0_1 (hO : Ok m) (t : Fin (cfgM m hO).N) : Memref sig .tc .vmem S1x1x1x1x512 .f32 := spec0_1.stage ((cfgM m hO).slots t 1)
/-- The staged block of window 1 is whole. -/
abbrev hs0_1 (hO : Ok m) (t : Fin (cfgM m hO).N) : (ms0_1 m hO t).IsWhole := hstage0_1 (((cfgM m hO).slots t 1).cast nbuf0_1)
/-- The staged block of window 2. -/
abbrev ms0_2 (hO : Ok m) (t : Fin (cfgM m hO).N) : Memref sig .tc .vmem S1x16384x128 .fp8e4m3 := spec0_2.stage ((cfgM m hO).slots t 2)
/-- The staged block of window 2 is whole. -/
abbrev hs0_2 (hO : Ok m) (t : Fin (cfgM m hO).N) : (ms0_2 m hO t).IsWhole := hstage0_2 (((cfgM m hO).slots t 2).cast nbuf0_2)
/-- The staged block of window 3. -/
abbrev ms0_3 (hO : Ok m) (t : Fin (cfgM m hO).N) : Memref sig .tc .vmem S1x128x16384 .fp8e4m3 := spec0_3.stage ((cfgM m hO).slots t 3)
/-- The staged block of window 3 is whole. -/
abbrev hs0_3 (hO : Ok m) (t : Fin (cfgM m hO).N) : (ms0_3 m hO t).IsWhole := hstage0_3 (((cfgM m hO).slots t 3).cast nbuf0_3)
/-- The staged block of window 4. -/
abbrev ms0_4 (hO : Ok m) (t : Fin (cfgM m hO).N) : Memref sig .tc .vmem S1x1x128x128 .f32 := spec0_4.stage ((cfgM m hO).slots t 4)
/-- The staged block of window 4 is whole. -/
abbrev hs0_4 (hO : Ok m) (t : Fin (cfgM m hO).N) : (ms0_4 m hO t).IsWhole := hstage0_4 (((cfgM m hO).slots t 4).cast nbuf0_4)
/-- The staged block of window 5. -/
abbrev ms0_5 (hO : Ok m) (t : Fin (cfgM m hO).N) : Memref sig .tc .vmem S1x1x128x128 .f32 := spec0_5.stage ((cfgM m hO).slots t 5)
/-- The staged block of window 5 is whole. -/
abbrev hs0_5 (hO : Ok m) (t : Fin (cfgM m hO).N) : (ms0_5 m hO t).IsWhole := hstage0_5 (((cfgM m hO).slots t 5).cast nbuf0_5)
/-- The staged block of window 6. -/
abbrev ms0_6 (hO : Ok m) (t : Fin (cfgM m hO).N) : Memref sig .tc .vmem S1x64x1024 .bf16 := spec0_6.stage ((cfgM m hO).slots t 6)
/-- The staged block of window 6 is whole. -/
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))
variable {m} in
/-- The side conditions at a grid point. -/
theorem Hyps.c0 {hO : Ok m} (hH : Hyps m hO) (c : Dev nD) (t : Fin (cfgM m hO).N) :
    k0_chk1 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos))) := (hH c t)
variable {m} in
/-- The side conditions from those of every grid point. -/
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S16384x512 .f32 := Memref.whole cc0_scratch0
/-- Scratch 1, whole. -/
abbrev scM0_1 : Memref sig .tc .vmem S1024x512 .f32 := Memref.whole cc0_scratch1
/-- Scratch 2, whole. -/
abbrev scM0_2 : Memref sig .tc .vmem S1024x512 .fp8e4m3 := Memref.whole cc0_scratch2
/-- Scratch 3, whole. -/
abbrev scM0_3 : Memref sig .tc .vmem S512x128 .fp8e4m3 := Memref.whole cc0_scratch3
/-- Scratch 4, whole. -/
abbrev scM0_4 : Memref sig .tc .vmem S128x512 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.IdealFrame.RunA.lean ====
/- One run of the kernel body at a grid point, the scratch buffers at any contents on entry. -/
module

public import proofs.«01_k».proof.Proof.IdealFrame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1496000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole)
    (x0 : Vec F S1x64x1024 .fp8e4m3) (x1 : Vec F S1x1x1x1x512 .f32) (x2 : Vec F S1x16384x128 .fp8e4m3) (x3 : Vec F S1x128x16384 .fp8e4m3) (x4 : Vec F S1x1x128x128 .f32) (x5 : Vec F S1x1x128x128 .f32) (xt0 : TbBuf0 (F := F) c tbM0_0) (k0_hw1 : k0_chk1 i (tbM0_0.view.readAt (Elt F) (Rect.unit (s := S4) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_attention i tbM0_0 htbM0_0 arg4 harg4 arg5 harg5 arg6 harg6 arg7 harg7 arg8 harg8 arg9 harg9 arg10 harg10 arg11 harg11 arg12 harg12 arg13 harg13 arg14 harg14 arg15 harg15) K := by
    intro E K
    simp only [cc0_attention_eq_skeleton]; unfold cc0_attention_skel
    simp only [k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.KernelIdeal.Gen

end
-- ==== Proof.IdealFrame.Frame.lean ====
/- The frame of the kernel: it terminates and leaves its arguments as they were. -/
module

public import proofs.«01_k».proof.Proof.IdealFrame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
/-- What window 1 holds after a grid point. -/
theorem after0_1 (hO : Ok m) (hH : Hyps m hO) (c : Dev nD) (t : Fin (cfgM m hO).N) : (dats m hO hH 0 c).after 1 t = iblk m hO c 1 t := by dsimp only [dats]; try rfl
/-- What window 2 holds after a grid point. -/
theorem after0_2 (hO : Ok m) (hH : Hyps m hO) (c : Dev nD) (t : Fin (cfgM m hO).N) : (dats m hO hH 0 c).after 2 t = iblk m hO c 2 t := by dsimp only [dats]; try rfl
/-- What window 3 holds after a grid point. -/
theorem after0_3 (hO : Ok m) (hH : Hyps m hO) (c : Dev nD) (t : Fin (cfgM m hO).N) : (dats m hO hH 0 c).after 3 t = iblk m hO c 3 t := by dsimp only [dats]; try rfl
/-- What window 4 holds after a grid point. -/
theorem after0_4 (hO : Ok m) (hH : Hyps m hO) (c : Dev nD) (t : Fin (cfgM m hO).N) : (dats m hO hH 0 c).after 4 t = iblk m hO c 4 t := by dsimp only [dats]; try rfl
/-- What window 5 holds after a grid point. -/
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
/-- What window 1 holds before the body runs. -/
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
/-- What window 2 holds before the body runs. -/
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
/-- What window 3 holds before the body runs. -/
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
/-- What window 4 holds before the body runs. -/
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
/-- What window 5 holds before the body runs. -/
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq, PhiA0_eq]
  iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (Hyps.c0 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, HS0, HS1, HS2, HS3, HS4, HT0⟩
  isplitl [HS0 HS1 HS2 HS3 HS4 Hg HT0]
  · isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.KernelIdeal.Gen

end
-- ==== Proof.Side.lean ====
/- The side conditions of the two programs from the precondition: where every prefix is at most the number of keys, each word the
   body reads of the prefix table is, so that all its loops and accesses are good (Words.lean). -/
module

public import proofs.«01_k».proof.Defs
public import proofs.«01_k».proof.Proof.Words
public import proofs.«01_k».proof.Proof.KernelFrame.Frame
public import proofs.«01_k».proof.Proof.IdealFrame.Frame

@[expose] public section

noncomputable section

namespace Cert.Proof

open Idealize.ShloMosaic Idealize.SL.Sem

/-- A word the signed comparison finds at most 16384 is. -/
theorem le_of_sle (v : BitVec 32) (h : IntOp.cmpi .sle v 16384#32 = 1#1) : v.toInt ≤ 16384 := by
  have h' : BitVec.sle v 16384#32 = true := (WordArith.ofBool_eq_one_iff _).1 h
  rw [BitVec.sle_eq_decide, decide_eq_true_eq] at h'
  exact h'

/-- The first bit of a conjunction that is one. -/
theorem left_of_andi (x y : BitVec 1) (h : IntOp.andi x y = 1#1) : x = 1#1 := by revert x y; decide
/-- The second bit of a conjunction that is one. -/
theorem right_of_andi (x y : BitVec 1) (h : IntOp.andi x y = 1#1) : y = 1#1 := by revert x y; decide

section kernel
open Cert.Kernel Cert.Kernel.Gen
variable [Cert.Pre_prefix_fits.Facts]

/-- The precondition of the printed kernel's frame says that each prefix is at most 16384. -/
theorem fits_kernel (m : (ℓ : Loc nD τ sig) → Buf (Elt Bits) ℓ) (h : Cert.Pre_Kernel m) (c : Dev nD) (x : S4.Idx) :
    (m ((c.tc : Thread nD τ).loc main_arg0) x).toInt ≤ 16384 := by
  have e := congrFun (h c) x
  simp only [Pre_prefix_fits.fn, cmpi, broadcastInDim, constantI] at e
  exact le_of_sle _ e

/-- The kernel's side conditions under its precondition. -/
theorem hyps_kernel (m : (ℓ : Loc nD τ sig) → Buf (Elt Bits) ℓ) (h : Cert.Pre_Kernel m) : Cert.Kernel.Gen.Hyps m trivial :=
  Cert.Kernel.Gen.Hyps.of fun c t => by
    have e : ∀ x, (Cert.Kernel.Gen.tbl m 0 x).toInt ≤ 16384 := fun x => by
      show (V m 0 main_arg0 x).toInt ≤ _
      rw [V_main_arg0]; exact fits_kernel m h 0 x
    exact (Cert.KernelIdeal.Val.chk (Cert.Kernel.grid0.coords t) _ (e _))
end kernel

section ideal
open Cert.KernelIdeal Cert.KernelIdeal.Gen

/-- The side conditions of the kernel at the reals, of prefixes that fit. -/
theorem hyps_ideal (m : (ℓ : Loc nD τ sig) → Buf (Elt Ideal) ℓ)
    (h : ∀ x : S4.Idx, (m (((0 : Dev nD).tc : Thread nD τ).loc main_arg0) x).toInt ≤ 16384) : Cert.KernelIdeal.Gen.Hyps m trivial :=
  Cert.KernelIdeal.Gen.Hyps.of fun c t => by
    have e : ∀ x, (Cert.KernelIdeal.Gen.tbl m 0 x).toInt ≤ 16384 := fun x => by
      show (V m 0 main_arg0 x).toInt ≤ _
      rw [V_main_arg0]; exact h x
    exact (Cert.KernelIdeal.Val.chk (Cert.KernelIdeal.grid0.coords t) _ (e _))

/-- The precondition of the frame over the reals says that each prefix is at most 16384. -/
theorem fits_ideal [Cert.Pre_prefix_fits.Facts] (m : (ℓ : Loc nD τ sig) → Buf (Elt Ideal) ℓ) (h : Cert.Pre_KernelIdeal m) (c : Dev nD) (x : S4.Idx) :
    (m ((c.tc : Thread nD τ).loc main_arg0) x).toInt ≤ 16384 := by
  have e := congrFun (h c) x
  simp only [Pre_prefix_fits.fn, cmpi, broadcastInDim, constantI] at e
  exact le_of_sle _ e

end ideal

end Cert.Proof
end
-- ==== Proof.Value.Base.lean ====
/- Reading loads and stores of the kernel's buffers by rows, and the scalar facts of one score: a score capped by `tanh` is a
   real number whatever its operands are. -/
module

public import proofs.«01_k».proof.Proof.Gen.KernelIdeal.Loops
public import proofs.«01_k».proof.Proof.Words
public import Idealize.ShloMosaic.Lib.Pointwise
public import Idealize.ShloMosaic.Lib.VecWindow
public import Idealize.ShloMosaic.Lib.WritesUnit

@[expose] public section

set_option maxRecDepth 16384

noncomputable section

namespace Cert.KernelIdeal.Val

open Idealize.ShloMosaic Idealize.SL.Sem Cert.KernelIdeal Cert.KernelIdeal.Gen
open Idealize.ShloMosaic.Pointwise

/-! ### Loads of whole rows, read at an index -/

/-- A load of one row of the scales reads that row. -/
theorem row_apply {sp : Space} (v : View sig .tc sp ⟨4, ![1, 1, 128, 128]⟩ .f32) (X : v.ty.Contents (Elt Ideal)) {off : Fin 4 → ℕ}
    (inb : ∀ a, off a + (![1, 1, 1, 128] : Fin 4 → ℕ) a ≤ (⟨4, ![1, 1, 128, 128]⟩ : Shape).size a) (r : ℕ) (hr : r < 128) (ho : off = ![0, 0, r, 0]) (b : Fin 128) :
    v.readAt (Elt Ideal) (Rect.unit (s := ⟨4, ![1, 1, 128, 128]⟩) off ![1, 1, 1, 128] inb).toLoadRect X (ix4 (0 : Fin 1) (0 : Fin 1) (0 : Fin 1) b)
      = v.read (Elt Ideal) X (ix4 (0 : Fin 1) (0 : Fin 1) (⟨r, hr⟩ : Fin 128) b) := by
  subst ho
  rw [View.readAt_apply]
  congr 1
  funext a
  apply Fin.ext
  fin_cases a
  · rfl
  · rfl
  · rfl
  · show 0 + 1 * b.val = b.val; omega

/-- A load of consecutive rows of a matrix reads them. -/
theorem rows_apply {e : EltTy} {sp : Space} {N M R : ℕ} (v : View sig .tc sp ⟨2, ![N, M]⟩ e) (X : v.ty.Contents (Elt Ideal)) {off : Fin 2 → ℕ}
    (inb : ∀ a, off a + (![R, M] : Fin 2 → ℕ) a ≤ (⟨2, ![N, M]⟩ : Shape).size a) (o : ℕ) (ho : off = ![o, 0]) (a : Fin R) (j : Fin M) (h : o + a.val < N) :
    v.readAt (Elt Ideal) (Rect.unit (s := ⟨2, ![N, M]⟩) off ![R, M] inb).toLoadRect X (ix2 a j) = v.read (Elt Ideal) X (ix2 (⟨o + a.val, h⟩ : Fin N) j) := by
  subst ho
  rw [View.readAt_apply]
  congr 1
  funext x
  apply Fin.ext
  fin_cases x
  · show o + 1 * a.val = o + a.val; omega
  · show 0 + 1 * j.val = j.val; omega

/-- A load of consecutive rows of a matrix under a leading unit axis reads them. -/
theorem rows3_apply {e : EltTy} {sp : Space} {N M R : ℕ} (v : View sig .tc sp ⟨3, ![1, N, M]⟩ e) (X : v.ty.Contents (Elt Ideal)) {off : Fin 3 → ℕ}
    (inb : ∀ a, off a + (![1, R, M] : Fin 3 → ℕ) a ≤ (⟨3, ![1, N, M]⟩ : Shape).size a) (o : ℕ) (ho : off = ![0, o, 0]) (a : Fin R) (j : Fin M) (h : o + a.val < N) :
    v.readAt (Elt Ideal) (Rect.unit (s := ⟨3, ![1, N, M]⟩) off ![1, R, M] inb).toLoadRect X (ix3 (0 : Fin 1) a j) = v.read (Elt Ideal) X (ix3 (0 : Fin 1) (⟨o + a.val, h⟩ : Fin N) j) := by
  subst ho
  rw [View.readAt_apply]
  congr 1
  funext x
  apply Fin.ext
  fin_cases x
  · rfl
  · show o + 1 * a.val = o + a.val; omega
  · show 0 + 1 * j.val = j.val; omega

/-- A load of consecutive columns of a matrix under a leading unit axis reads them. -/
theorem cols3_apply {e : EltTy} {sp : Space} {N M R : ℕ} (v : View sig .tc sp ⟨3, ![1, N, M]⟩ e) (X : v.ty.Contents (Elt Ideal)) {off : Fin 3 → ℕ}
    (inb : ∀ a, off a + (![1, N, R] : Fin 3 → ℕ) a ≤ (⟨3, ![1, N, M]⟩ : Shape).size a) (o : ℕ) (ho : off = ![0, 0, o]) (a : Fin N) (j : Fin R) (h : o + j.val < M) :
    v.readAt (Elt Ideal) (Rect.unit (s := ⟨3, ![1, N, M]⟩) off ![1, N, R] inb).toLoadRect X (ix3 (0 : Fin 1) a j) = v.read (Elt Ideal) X (ix3 (0 : Fin 1) a (⟨o + j.val, h⟩ : Fin M)) := by
  subst ho
  rw [View.readAt_apply]
  congr 1
  funext x
  apply Fin.ext
  fin_cases x
  · rfl
  · show 0 + 1 * a.val = a.val; omega
  · show o + 1 * j.val = o + j.val; omega

/-! ### The scalars -/

/-- The cap in base two: `50 / ln 2`. -/
def cap : EReal := ((50 * (Real.log 2)⁻¹ : ℝ) : EReal)

/-- The named cap is 50 / ln 2. -/
theorem cap_named : (Named.named κ "cap_log2e" 1116751102#32 : Ideal .f32) = cap :=
  IdealRules.named_const.ideal_named_scalar _ _ _ _ rfl

/-- The hyperbolic tangent of an extended real is a real number. -/
theorem tanh_real (x : EReal) : ∃ r : ℝ, Ideal.tanh x = (r : EReal) := by
  induction x using EReal.rec with
  | bot => exact ⟨-1, rfl⟩
  | top => exact ⟨1, rfl⟩
  | coe r => exact ⟨Real.tanh r, rfl⟩

/-- A capped score is a real number. -/
theorem tanh_cap_real (x : EReal) : ∃ r : ℝ, Ideal.tanh x * cap = (r : EReal) := by
  obtain ⟨r, h⟩ := tanh_real x
  exact ⟨r * (50 * (Real.log 2)⁻¹), by rw [h, cap]; exact (EReal.coe_mul _ _).symm⟩

/-- A capped score is not +inf. -/
theorem tanh_cap_lt (x : EReal) : Ideal.tanh x * cap < ⊤ := by
  obtain ⟨r, h⟩ := tanh_cap_real x
  rw [h]; exact EReal.coe_lt_top r

/-- A capped score is not -inf. -/
theorem lt_tanh_cap (x : EReal) : ⊥ < Ideal.tanh x * cap := by
  obtain ⟨r, h⟩ := tanh_cap_real x
  rw [h]; exact EReal.bot_lt_coe r

/-! ### One score -/

/-- The product of key row `r` with query column `j`. -/
def kdot (K : S1x16384x128.Idx → EReal) (Q : S512x128.Idx → EReal) (r : Fin 16384) (j : Fin 512) : EReal :=
  ∑ d : Fin 128, K (ix3 (0 : Fin 1) r d) * Q (ix2 j d)

/-- The capped score of key row `r` and query column `j`, in base two: `tanh` of the product, the key's scale and the query's
    scale (which the body holds once for every row modulo 8), times the cap. -/
def zfun (K : S1x16384x128.Idx → EReal) (Q : S512x128.Idx → EReal) (KS : S1x1x128x128.Idx → EReal) (cv : S8x512.Idx → EReal)
    (r : Fin 16384) (j : Fin 512) : EReal :=
  Ideal.tanh (kdot K Q r j * KS (ix4 (0 : Fin 1) (0 : Fin 1) (⟨r.val / 128, by omega⟩ : Fin 128) (⟨r.val % 128, by omega⟩ : Fin 128))
    * cv (ix2 (⟨r.val % 8, by omega⟩ : Fin 8) j)) * cap

/-- `1 / ln 2` as the body writes it, a positive number. -/
theorem inv_ln2_pos : ∃ r : ℝ, 0 < r ∧ Ideal.ofBits FTy.f32 1069066811#32 = (r : EReal) := by
  refine ⟨_, ?_, rfl⟩
  norm_num [Ideal.ofBits]
  rw [if_neg (by decide)]
  positivity

/-- The logarithm in base two of a scale below `⊤` is below `⊤`. -/
theorem log_lt (x : EReal) (h : x < ⊤) : Ideal.log x * Ideal.ofBits FTy.f32 1069066811#32 < ⊤ := by
  obtain ⟨c, hc, e⟩ := inv_ln2_pos
  rw [e]
  induction x using EReal.rec with
  | bot => rw [Ideal.log_bot, EReal.bot_mul_coe_of_pos hc]; exact bot_lt_top
  | top => exact absurd h (lt_irrefl _)
  | coe r =>
    rw [Ideal.log_coe]
    split
    · rw [EReal.bot_mul_coe_of_pos hc]; exact bot_lt_top
    · rw [← EReal.coe_mul]; exact EReal.coe_lt_top _

end Cert.KernelIdeal.Val
end
-- ==== Proof.Value.Loop1.lean ====
/- One trip of the first pass over whole blocks of 1024 keys: it scales and caps the products of its own block, keeps running maxima,
   and multiplies the next block. -/
module

public import proofs.«01_k».proof.Proof.Value.Base

@[expose] public section

set_option maxRecDepth 16384

noncomputable section

namespace Cert.KernelIdeal.Val

open Idealize.ShloMosaic Idealize.SL.Sem Cert.KernelIdeal Cert.KernelIdeal.Gen
open Idealize.ShloMosaic.Pointwise

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v48 : FVec Ideal S8x512 .f32) (v57 : IVec S8x512 32) (v76 : BitVec 32) (v79 : BitVec 32) (v99 : BitVec 32) (X_arg6 : BufTy.Contents (Elt Ideal) arg6.view.ty) (X_arg8 : BufTy.Contents (Elt Ideal) arg8.view.ty) (X_arg9 : BufTy.Contents (Elt Ideal) arg9.view.ty) (X_arg14 : BufTy.Contents (Elt Ideal) arg14.view.ty) (k : Fin (k0_t1_loop i v2).trips)
  (acc : FVec Ideal S8x512 .f32 × FVec Ideal S8x512 .f32) (z : BufTy.Contents (Elt Ideal) arg11.view.ty) (raw : BufTy.Contents (Elt Ideal) arg12.view.ty)
  (hp : v2.toInt ≤ 16384)

/-- A trip of the main loop is below the number of trips. -/
theorem t1_lt (hp : v2.toInt ≤ 16384) : k.val < nMain (qb i) (pn v2) := lt_of_lt_of_eq k.isLt (trips1 i v2 hp)

/-- A load of one row of the scales, at the row and the column it names. -/
theorem row_at {sp : Space} (v : View sig .tc sp ⟨4, ![1, 1, 128, 128]⟩ .f32) (X : v.ty.Contents (Elt Ideal)) {off : Fin 4 → ℕ}
    (inb : ∀ a, off a + (![1, 1, 1, 128] : Fin 4 → ℕ) a ≤ (⟨4, ![1, 1, 128, 128]⟩ : Shape).size a) (r : ℕ) (ho : off = ![0, 0, r, 0]) (b r' b' : Fin 128)
    (e : r = r'.val) (e' : b.val = b'.val) :
    v.readAt (Elt Ideal) (Rect.unit (s := ⟨4, ![1, 1, 128, 128]⟩) off ![1, 1, 1, 128] inb).toLoadRect X (ix4 (0 : Fin 1) (0 : Fin 1) (0 : Fin 1) b)
      = v.read (Elt Ideal) X (ix4 (0 : Fin 1) (0 : Fin 1) r' b') := by
  subst e
  rw [row_apply v X inb r'.val r'.isLt ho b, Fin.ext e']

include hp in
/-- The main loop has at most 16 trips. -/
theorem t1_lt16 : k.val < 16 := by
  have h := nMain_le i v2 hp
  have hk := t1_lt i v2 k hp
  omega

set_option maxHeartbeats 400000 in
include hp in
/-- The key scales a trip lays out along its rows. -/
theorem ks1 (a : Fin 1024) (b : Fin 128) :
    trip_k0_t1.sl.v297 i arg8 v2 k0_hw1 X_arg8 k (ix2 a b)
      = arg8.view.read (Elt Ideal) X_arg8 (ix4 (0 : Fin 1) (0 : Fin 1) (⟨8 * k.val + a.val / 128, by have := t1_lt16 i v2 k hp; omega⟩ : Fin 128) (⟨a.val % 128, by omega⟩ : Fin 128)) := by
  have h16 := t1_lt16 i v2 k hp
  pointwise [trip_k0_t1.sl.v297, trip_k0_t1.sl.v244, trip_k0_t1.sl.v245, trip_k0_t1.sl.v246, trip_k0_t1.sl.v247, trip_k0_t1.sl.v251, trip_k0_t1.sl.v252, trip_k0_t1.sl.v253, trip_k0_t1.sl.v254, trip_k0_t1.sl.v258, trip_k0_t1.sl.v259, trip_k0_t1.sl.v260, trip_k0_t1.sl.v261, trip_k0_t1.sl.v265, trip_k0_t1.sl.v266, trip_k0_t1.sl.v267, trip_k0_t1.sl.v268, trip_k0_t1.sl.v272, trip_k0_t1.sl.v273, trip_k0_t1.sl.v274, trip_k0_t1.sl.v275, trip_k0_t1.sl.v279, trip_k0_t1.sl.v280, trip_k0_t1.sl.v281, trip_k0_t1.sl.v282, trip_k0_t1.sl.v286, trip_k0_t1.sl.v287, trip_k0_t1.sl.v288, trip_k0_t1.sl.v289, trip_k0_t1.sl.v293, trip_k0_t1.sl.v294, trip_k0_t1.sl.v295, trip_k0_t1.sl.v296]
  split_ifs
  · exact row_at _ _ _ _ (off2_eq i v2 hp k 0 (by omega)) _ _ _ (by dsimp only; omega) (by dsimp only; omega)
  · exact row_at _ _ _ _ (off2_eq i v2 hp k 0 (by omega)) _ _ _ (by dsimp only; omega) (by dsimp only; omega)
  · exact row_at _ _ _ _ (off2_eq i v2 hp k 1 (by omega)) _ _ _ (by dsimp only; omega) (by dsimp only; omega)
  · exact row_at _ _ _ _ (off2_eq i v2 hp k 1 (by omega)) _ _ _ (by dsimp only; omega) (by dsimp only; omega)
  · exact row_at _ _ _ _ (off2_eq i v2 hp k 2 (by omega)) _ _ _ (by dsimp only; omega) (by dsimp only; omega)
  · exact row_at _ _ _ _ (off2_eq i v2 hp k 2 (by omega)) _ _ _ (by dsimp only; omega) (by dsimp only; omega)
  · exact row_at _ _ _ _ (off2_eq i v2 hp k 3 (by omega)) _ _ _ (by dsimp only; omega) (by dsimp only; omega)
  · exact row_at _ _ _ _ (off2_eq i v2 hp k 3 (by omega)) _ _ _ (by dsimp only; omega) (by dsimp only; omega)
  · exact row_at _ _ _ _ (off2_eq i v2 hp k 4 (by omega)) _ _ _ (by dsimp only; omega) (by dsimp only; omega)
  · exact row_at _ _ _ _ (off2_eq i v2 hp k 4 (by omega)) _ _ _ (by dsimp only; omega) (by dsimp only; omega)
  · exact row_at _ _ _ _ (off2_eq i v2 hp k 5 (by omega)) _ _ _ (by dsimp only; omega) (by dsimp only; omega)
  · exact row_at _ _ _ _ (off2_eq i v2 hp k 5 (by omega)) _ _ _ (by dsimp only; omega) (by dsimp only; omega)
  · exact row_at _ _ _ _ (off2_eq i v2 hp k 6 (by omega)) _ _ _ (by dsimp only; omega) (by dsimp only; omega)
  · exact row_at _ _ _ _ (off2_eq i v2 hp k 6 (by omega)) _ _ _ (by dsimp only; omega) (by dsimp only; omega)
  · exact row_at _ _ _ _ (off2_eq i v2 hp k 7 (by omega)) _ _ _ (by dsimp only; omega) (by dsimp only; omega)
  · exact row_at _ _ _ _ (off2_eq i v2 hp k 7 (by omega)) _ _ _ (by dsimp only; omega) (by dsimp only; omega)

/-- The value scales of a trip, in logarithm, are below `⊤` when the scales are. -/
theorem lv1 (h : ∀ x, arg9.view.read (Elt Ideal) X_arg9 x < ⊤) (a : Fin 1024) (b : Fin 128) :
    trip_k0_t1.sl.v374 i arg9 v2 k0_hw1 X_arg9 k (ix2 a b) < ⊤ := by
  pointwise [trip_k0_t1.sl.v374, trip_k0_t1.sl.v373, trip_k0_t1.sl.v372, trip_k0_t1.sl.v371, trip_k0_t1.sl.cst_200, trip_k0_t1.sl.v318, trip_k0_t1.sl.v319, trip_k0_t1.sl.v320, trip_k0_t1.sl.v321, trip_k0_t1.sl.v325, trip_k0_t1.sl.v326, trip_k0_t1.sl.v327, trip_k0_t1.sl.v328, trip_k0_t1.sl.v332, trip_k0_t1.sl.v333, trip_k0_t1.sl.v334, trip_k0_t1.sl.v335, trip_k0_t1.sl.v339, trip_k0_t1.sl.v340, trip_k0_t1.sl.v341, trip_k0_t1.sl.v342, trip_k0_t1.sl.v346, trip_k0_t1.sl.v347, trip_k0_t1.sl.v348, trip_k0_t1.sl.v349, trip_k0_t1.sl.v353, trip_k0_t1.sl.v354, trip_k0_t1.sl.v355, trip_k0_t1.sl.v356, trip_k0_t1.sl.v360, trip_k0_t1.sl.v361, trip_k0_t1.sl.v362, trip_k0_t1.sl.v363, trip_k0_t1.sl.v367, trip_k0_t1.sl.v368, trip_k0_t1.sl.v369, trip_k0_t1.sl.v370]
  apply log_lt
  split_ifs <;> (rw [View.readAt_apply]; exact h _)

include hp in
/-- A capped score computed from a stored product, at the row it belongs to. -/
theorem z1 (j : Fin 512) (a : Fin 1024) (b : Fin 128) (s : ℕ) (hs8 : s < 8) (r : Fin 16384) (hr : r.val = 1024 * k.val + a.val) (hs : s = a.val % 8)
    (hraw : arg12.view.read (Elt Ideal) raw (ix2 a j) = kdot (arg6.view.read (Elt Ideal) X_arg6) (arg14.view.read (Elt Ideal) X_arg14) r j) :
    Ideal.tanh (arg12.view.read (Elt Ideal) raw (ix2 a j) * trip_k0_t1.sl.v297 i arg8 v2 k0_hw1 X_arg8 k (ix2 a b) * v48 (ix2 (⟨s, hs8⟩ : Fin 8) j)) * cap
      = zfun (arg6.view.read (Elt Ideal) X_arg6) (arg14.view.read (Elt Ideal) X_arg14) (arg8.view.read (Elt Ideal) X_arg8) v48 r j := by
  have h16 := t1_lt16 i v2 k hp
  rw [ks1 i arg8 v2 k0_hw1 X_arg8 k hp, hraw, zfun]
  have e1 : (⟨8 * k.val + a.val / 128, by omega⟩ : Fin 128) = ⟨r.val / 128, by omega⟩ := Fin.ext (by dsimp only; omega)
  have e2 : (⟨a.val % 128, by omega⟩ : Fin 128) = ⟨r.val % 128, by omega⟩ := Fin.ext (by dsimp only; omega)
  have e3 : s = r.val % 8 := by omega
  subst e3; rw [e1, e2]

include hp in
/-- Rows 0 to 127 of the block a trip stores. -/
theorem z1_0 (a : Fin 128) (j : Fin 512) (r : Fin 16384) (hr : r.val = 1024 * k.val + (0 + a.val))
    (hraw : arg12.view.read (Elt Ideal) raw (ix2 (⟨0 + a.val, by omega⟩ : Fin 1024) j) = kdot (arg6.view.read (Elt Ideal) X_arg6) (arg14.view.read (Elt Ideal) X_arg14) r j) :
    k0_pay16 v48 (trip_k0_t1.sl.v376 arg12 raw) (trip_k0_t1.sl.v378 i arg8 v2 k0_hw1 X_arg8 k) (ix2 a j)
      = zfun (arg6.view.read (Elt Ideal) X_arg6) (arg14.view.read (Elt Ideal) X_arg14) (arg8.view.read (Elt Ideal) X_arg8) v48 r j := by
  rw [← z1 i arg6 arg8 arg12 arg14 v2 k0_hw1 v48 X_arg6 X_arg8 X_arg14 k raw hp j ⟨0 + a.val, by omega⟩ ⟨(0 + a.val) % 128, by omega⟩ (a.val % 8) (by omega) r hr (by dsimp only; omega) hraw,
    ← rows_apply arg12.view raw inb_S1024x512_S128x512_0_0 0 rfl]
  pointwise [k0_pay16, k0_pay15, trip_k0_t1.sl.v376, trip_k0_t1.sl.v378, trip_k0_t1.sl.v377]
  simp only [cap_named, ks1 i arg8 v2 k0_hw1 X_arg8 k hp]
  split_ifs <;> rfl

include hp in
/-- Rows 128 to 255 of the block a trip stores. -/
theorem z1_128 (a : Fin 128) (j : Fin 512) (r : Fin 16384) (hr : r.val = 1024 * k.val + (128 + a.val))
    (hraw : arg12.view.read (Elt Ideal) raw (ix2 (⟨128 + a.val, by omega⟩ : Fin 1024) j) = kdot (arg6.view.read (Elt Ideal) X_arg6) (arg14.view.read (Elt Ideal) X_arg14) r j) :
    k0_pay19 v48 (trip_k0_t1.sl.v297 i arg8 v2 k0_hw1 X_arg8 k) (View.readAt (Elt Ideal) arg12.view (Rect.unit (s := S1024x512) ![128, 0] S128x512.size inb_S1024x512_S128x512_128_0).toLoadRect raw) (ix2 a j)
      = zfun (arg6.view.read (Elt Ideal) X_arg6) (arg14.view.read (Elt Ideal) X_arg14) (arg8.view.read (Elt Ideal) X_arg8) v48 r j := by
  rw [← z1 i arg6 arg8 arg12 arg14 v2 k0_hw1 v48 X_arg6 X_arg8 X_arg14 k raw hp j ⟨128 + a.val, by omega⟩ ⟨(128 + a.val) % 128, by omega⟩ (a.val % 8) (by omega) r hr (by dsimp only; omega) hraw,
    ← rows_apply arg12.view raw inb_S1024x512_S128x512_128_0 128 rfl]
  pointwise [k0_pay19, k0_pay18]
  simp only [cap_named, ks1 i arg8 v2 k0_hw1 X_arg8 k hp]
  split_ifs <;> rfl

include hp in
/-- Rows 256 to 383 of the block a trip stores. -/
theorem z1_256 (a : Fin 128) (j : Fin 512) (r : Fin 16384) (hr : r.val = 1024 * k.val + (256 + a.val))
    (hraw : arg12.view.read (Elt Ideal) raw (ix2 (⟨256 + a.val, by omega⟩ : Fin 1024) j) = kdot (arg6.view.read (Elt Ideal) X_arg6) (arg14.view.read (Elt Ideal) X_arg14) r j) :
    k0_pay23 v48 (trip_k0_t1.sl.v297 i arg8 v2 k0_hw1 X_arg8 k) (View.readAt (Elt Ideal) arg12.view (Rect.unit (s := S1024x512) ![256, 0] S128x512.size inb_S1024x512_S128x512_256_0).toLoadRect raw) (ix2 a j)
      = zfun (arg6.view.read (Elt Ideal) X_arg6) (arg14.view.read (Elt Ideal) X_arg14) (arg8.view.read (Elt Ideal) X_arg8) v48 r j := by
  rw [← z1 i arg6 arg8 arg12 arg14 v2 k0_hw1 v48 X_arg6 X_arg8 X_arg14 k raw hp j ⟨256 + a.val, by omega⟩ ⟨(256 + a.val) % 128, by omega⟩ (a.val % 8) (by omega) r hr (by dsimp only; omega) hraw,
    ← rows_apply arg12.view raw inb_S1024x512_S128x512_256_0 256 rfl]
  pointwise [k0_pay23, k0_pay22]
  simp only [cap_named, ks1 i arg8 v2 k0_hw1 X_arg8 k hp]
  split_ifs <;> rfl

include hp in
/-- Rows 384 to 511 of the block a trip stores. -/
theorem z1_384 (a : Fin 128) (j : Fin 512) (r : Fin 16384) (hr : r.val = 1024 * k.val + (384 + a.val))
    (hraw : arg12.view.read (Elt Ideal) raw (ix2 (⟨384 + a.val, by omega⟩ : Fin 1024) j) = kdot (arg6.view.read (Elt Ideal) X_arg6) (arg14.view.read (Elt Ideal) X_arg14) r j) :
    k0_pay27 v48 (trip_k0_t1.sl.v297 i arg8 v2 k0_hw1 X_arg8 k) (View.readAt (Elt Ideal) arg12.view (Rect.unit (s := S1024x512) ![384, 0] S128x512.size inb_S1024x512_S128x512_384_0).toLoadRect raw) (ix2 a j)
      = zfun (arg6.view.read (Elt Ideal) X_arg6) (arg14.view.read (Elt Ideal) X_arg14) (arg8.view.read (Elt Ideal) X_arg8) v48 r j := by
  rw [← z1 i arg6 arg8 arg12 arg14 v2 k0_hw1 v48 X_arg6 X_arg8 X_arg14 k raw hp j ⟨384 + a.val, by omega⟩ ⟨(384 + a.val) % 128, by omega⟩ (a.val % 8) (by omega) r hr (by dsimp only; omega) hraw,
    ← rows_apply arg12.view raw inb_S1024x512_S128x512_384_0 384 rfl]
  pointwise [k0_pay27, k0_pay26]
  simp only [cap_named, ks1 i arg8 v2 k0_hw1 X_arg8 k hp]
  split_ifs <;> rfl

include hp in
/-- Rows 512 to 639 of the block a trip stores. -/
theorem z1_512 (a : Fin 128) (j : Fin 512) (r : Fin 16384) (hr : r.val = 1024 * k.val + (512 + a.val))
    (hraw : arg12.view.read (Elt Ideal) raw (ix2 (⟨512 + a.val, by omega⟩ : Fin 1024) j) = kdot (arg6.view.read (Elt Ideal) X_arg6) (arg14.view.read (Elt Ideal) X_arg14) r j) :
    k0_pay29 v48 (trip_k0_t1.sl.v297 i arg8 v2 k0_hw1 X_arg8 k) (View.readAt (Elt Ideal) arg12.view (Rect.unit (s := S1024x512) ![512, 0] S128x512.size inb_S1024x512_S128x512_512_0).toLoadRect raw) (ix2 a j)
      = zfun (arg6.view.read (Elt Ideal) X_arg6) (arg14.view.read (Elt Ideal) X_arg14) (arg8.view.read (Elt Ideal) X_arg8) v48 r j := by
  rw [← z1 i arg6 arg8 arg12 arg14 v2 k0_hw1 v48 X_arg6 X_arg8 X_arg14 k raw hp j ⟨512 + a.val, by omega⟩ ⟨(512 + a.val) % 128, by omega⟩ (a.val % 8) (by omega) r hr (by dsimp only; omega) hraw,
    ← rows_apply arg12.view raw inb_S1024x512_S128x512_512_0 512 rfl]
  pointwise [k0_pay29, k0_pay28]
  simp only [cap_named, ks1 i arg8 v2 k0_hw1 X_arg8 k hp]
  split_ifs <;> rfl

include hp in
/-- Rows 640 to 767 of the block a trip stores. -/
theorem z1_640 (a : Fin 128) (j : Fin 512) (r : Fin 16384) (hr : r.val = 1024 * k.val + (640 + a.val))
    (hraw : arg12.view.read (Elt Ideal) raw (ix2 (⟨640 + a.val, by omega⟩ : Fin 1024) j) = kdot (arg6.view.read (Elt Ideal) X_arg6) (arg14.view.read (Elt Ideal) X_arg14) r j) :
    k0_pay34 (trip_k0_t1.sl.r_9 i arg8 arg12 v2 k0_hw1 v48 X_arg8 k raw) (ix2 a j)
      = zfun (arg6.view.read (Elt Ideal) X_arg6) (arg14.view.read (Elt Ideal) X_arg14) (arg8.view.read (Elt Ideal) X_arg8) v48 r j := by
  rw [← z1 i arg6 arg8 arg12 arg14 v2 k0_hw1 v48 X_arg6 X_arg8 X_arg14 k raw hp j ⟨640 + a.val, by omega⟩ ⟨(640 + a.val) % 128, by omega⟩ (a.val % 8) (by omega) r hr (by dsimp only; omega) hraw,
    ← rows_apply arg12.view raw inb_S1024x512_S128x512_640_0 640 rfl]
  pointwise [k0_pay34, trip_k0_t1.sl.r_9, k0_pay33, k0_pay32, k0_pay31]
  simp only [cap_named, ks1 i arg8 v2 k0_hw1 X_arg8 k hp]
  split_ifs <;> rfl

include hp in
/-- Rows 768 to 895 of the block a trip stores. -/
theorem z1_768 (a : Fin 128) (j : Fin 512) (r : Fin 16384) (hr : r.val = 1024 * k.val + (768 + a.val))
    (hraw : arg12.view.read (Elt Ideal) raw (ix2 (⟨768 + a.val, by omega⟩ : Fin 1024) j) = kdot (arg6.view.read (Elt Ideal) X_arg6) (arg14.view.read (Elt Ideal) X_arg14) r j) :
    k0_pay36 v48 (trip_k0_t1.sl.v297 i arg8 v2 k0_hw1 X_arg8 k) (View.readAt (Elt Ideal) arg12.view (Rect.unit (s := S1024x512) ![768, 0] S128x512.size inb_S1024x512_S128x512_768_0).toLoadRect raw) (ix2 a j)
      = zfun (arg6.view.read (Elt Ideal) X_arg6) (arg14.view.read (Elt Ideal) X_arg14) (arg8.view.read (Elt Ideal) X_arg8) v48 r j := by
  rw [← z1 i arg6 arg8 arg12 arg14 v2 k0_hw1 v48 X_arg6 X_arg8 X_arg14 k raw hp j ⟨768 + a.val, by omega⟩ ⟨(768 + a.val) % 128, by omega⟩ (a.val % 8) (by omega) r hr (by dsimp only; omega) hraw,
    ← rows_apply arg12.view raw inb_S1024x512_S128x512_768_0 768 rfl]
  pointwise [k0_pay36, k0_pay35]
  simp only [cap_named, ks1 i arg8 v2 k0_hw1 X_arg8 k hp]
  split_ifs <;> rfl

include hp in
/-- Rows 896 to 1023 of the block a trip stores. -/
theorem z1_896 (a : Fin 128) (j : Fin 512) (r : Fin 16384) (hr : r.val = 1024 * k.val + (896 + a.val))
    (hraw : arg12.view.read (Elt Ideal) raw (ix2 (⟨896 + a.val, by omega⟩ : Fin 1024) j) = kdot (arg6.view.read (Elt Ideal) X_arg6) (arg14.view.read (Elt Ideal) X_arg14) r j) :
    k0_pay177 v48 (trip_k0_t1.sl.r_12 i arg8 arg12 v2 k0_hw1 X_arg8 k raw) (ix2 a j)
      = zfun (arg6.view.read (Elt Ideal) X_arg6) (arg14.view.read (Elt Ideal) X_arg14) (arg8.view.read (Elt Ideal) X_arg8) v48 r j := by
  rw [← z1 i arg6 arg8 arg12 arg14 v2 k0_hw1 v48 X_arg6 X_arg8 X_arg14 k raw hp j ⟨896 + a.val, by omega⟩ ⟨(896 + a.val) % 128, by omega⟩ (a.val % 8) (by omega) r hr (by dsimp only; omega) hraw,
    ← rows_apply arg12.view raw inb_S1024x512_S128x512_896_0 896 rfl]
  pointwise [k0_pay177, k0_pay176, trip_k0_t1.sl.r_12, k0_pay39]
  simp only [cap_named, ks1 i arg8 v2 k0_hw1 X_arg8 k hp]
  split_ifs <;> rfl

end

end Cert.KernelIdeal.Val
end
-- ==== Proof.Value.Loop1b.lean ====
/- What the first pass over whole blocks of 1024 keys leaves: by induction over its trips, the scores of the blocks it has passed, the
   products of the block it comes to, and bounds on the two running maxima. -/
module

public import proofs.«01_k».proof.Proof.Value.Loop1

@[expose] public section

set_option maxRecDepth 16384

noncomputable section

namespace Cert.KernelIdeal.Val

open Idealize.ShloMosaic Idealize.SL.Sem Cert.KernelIdeal Cert.KernelIdeal.Gen
open Idealize.ShloMosaic.Pointwise

/-- The word of -inf is the least extended real. -/
theorem negInf : Ideal.ofBits FTy.f32 4286578688#32 = ⊥ := rfl

/-- What holds before trip `k` of the first pass: the scores of the blocks before `k` are stored, the products of block `k` are
    ready, and the running maxima (of the scores, and of the scores plus the logarithms of the value scales) are bounded. -/
structure F1 (K : S1x16384x128.Idx → EReal) (Q : S512x128.Idx → EReal) (KS VS : S1x1x128x128.Idx → EReal) (cv : S8x512.Idx → EReal)
    (nM k : ℕ) (m y : S8x512.Idx → EReal) (z : S16384x512.Idx → EReal) (raw : S1024x512.Idx → EReal) : Prop where
  scores : ∀ (r : Fin 16384) (j : Fin 512), r.val < 1024 * k → z (ix2 r j) = zfun K Q KS cv r j
  products : k < nM → ∀ (a : Fin 1024) (j : Fin 512) (r : Fin 16384), r.val = 1024 * k + a.val → raw (ix2 a j) = kdot K Q r j
  m_lt : ∀ (s : Fin 8) (j : Fin 512), m (ix2 s j) < ⊤
  y_lt : (∀ x, VS x < ⊤) → ∀ (s : Fin 8) (j : Fin 512), y (ix2 s j) < ⊤
  lt_m : 0 < k → ∀ (s : Fin 8) (j : Fin 512), ⊥ < m (ix2 s j)

/-- A maximum over capped scores is below `⊤`. -/
theorem fold_tanh_lt (f : Fin 16 → EReal) : Finset.fold max (Ideal.ofBits FTy.f32 4286578688#32) (fun x => Ideal.tanh (f x) * cap) Finset.univ < ⊤ := by
  rw [Finset.fold_max_lt, negInf]
  exact ⟨bot_lt_top, fun x _ => tanh_cap_lt _⟩

/-- A maximum over capped scores is above `⊥`. -/
theorem lt_fold_tanh (f : Fin 16 → EReal) : ⊥ < Finset.fold max (Ideal.ofBits FTy.f32 4286578688#32) (fun x => Ideal.tanh (f x) * cap) Finset.univ := by
  rw [Finset.lt_fold_max]
  exact Or.inr ⟨0, Finset.mem_univ _, lt_tanh_cap _⟩

/-- A maximum over capped scores plus terms below `⊤` is below `⊤`. -/
theorem fold_tanh_add_lt (f g : Fin 16 → EReal) (hg : ∀ x, g x < ⊤) :
    Finset.fold max (Ideal.ofBits FTy.f32 4286578688#32) (fun x => Ideal.tanh (f x) * cap + g x) Finset.univ < ⊤ := by
  rw [Finset.fold_max_lt, negInf]
  exact ⟨bot_lt_top, fun x _ => EReal.add_lt_top (tanh_cap_lt _).ne (hg x).ne⟩

/-! ### Each stage of the maxima keeps them below `⊤` -/

/-- The value computed here stays below +inf when what enters it does. -/
theorem pay20_lt (v48 : FVec Ideal S8x512 .f32) (u : FVec Ideal S8x512 .f32) (v297 : FVec Ideal S1024x128 .f32) (v376 : FVec Ideal S16x8x512 .f32) (v378 : FVec Ideal S128x512 .f32) (v401 : FVec Ideal S128x512 .f32) (s : Fin 8) (j : Fin 512) (h : u (ix2 s j) < ⊤) : k0_pay20 v48 u v297 v376 v378 v401 (ix2 s j) < ⊤ := by
  pointwise [k0_pay20, k0_pay15, k0_pay18]
  simp only [max_lt_iff, cap_named, Finset.fold_max_lt, negInf]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay24_lt (v48 : FVec Ideal S8x512 .f32) (v297 : FVec Ideal S1024x128 .f32) (u : FVec Ideal S8x512 .f32) (v427 : FVec Ideal S128x512 .f32) (s : Fin 8) (j : Fin 512) (h : u (ix2 s j) < ⊤) : k0_pay24 v48 v297 u v427 (ix2 s j) < ⊤ := by
  pointwise [k0_pay24, k0_pay22]
  simp only [max_lt_iff, cap_named, Finset.fold_max_lt, negInf]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay30_lt (v48 : FVec Ideal S8x512 .f32) (v297 : FVec Ideal S1024x128 .f32) (u : FVec Ideal S8x512 .f32) (w : FVec Ideal S16x8x512 .f32) (v479 : FVec Ideal S128x512 .f32) (s : Fin 8) (j : Fin 512) (h : u (ix2 s j) < ⊤) (hx : ∀ x : Fin 16, w (ix3 x s j) < ⊤) : k0_pay30 v48 v297 u w v479 (ix2 s j) < ⊤ := by
  pointwise [k0_pay30, k0_pay28]
  simp only [max_lt_iff, cap_named, Finset.fold_max_lt, negInf]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay37_lt (v48 : FVec Ideal S8x512 .f32) (v297 : FVec Ideal S1024x128 .f32) (u : FVec Ideal S8x512 .f32) (w : FVec Ideal S16x8x512 .f32) (v531 : FVec Ideal S128x512 .f32) (s : Fin 8) (j : Fin 512) (h : u (ix2 s j) < ⊤) (hx : ∀ x : Fin 16, w (ix3 x s j) < ⊤) : k0_pay37 v48 v297 u w v531 (ix2 s j) < ⊤ := by
  pointwise [k0_pay37, k0_pay35]
  simp only [max_lt_iff, cap_named, Finset.fold_max_lt, negInf]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay178_lt (v48 : FVec Ideal S8x512 .f32) (u : FVec Ideal S8x512 .f32) (v562 : FVec Ideal S16x8x512 .f32) (s : Fin 8) (j : Fin 512) (h : u (ix2 s j) < ⊤) : k0_pay178 v48 u v562 (ix2 s j) < ⊤ := by
  pointwise [k0_pay178, k0_pay176]
  simp only [max_lt_iff, cap_named, Finset.fold_max_lt, negInf]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay17_lt (v48 : FVec Ideal S8x512 .f32) (u : FVec Ideal S8x512 .f32) (v374 : FVec Ideal S1024x128 .f32) (v376 : FVec Ideal S16x8x512 .f32) (v378 : FVec Ideal S128x512 .f32) (s : Fin 8) (j : Fin 512) (hw : ∀ a b, v374 (ix2 a b) < ⊤) (h : u (ix2 s j) < ⊤) : k0_pay17 v48 u v374 v376 v378 (ix2 s j) < ⊤ := by
  pointwise [k0_pay17, k0_pay15]
  simp only [max_lt_iff, cap_named, Finset.fold_max_lt, negInf]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay25_lt (v48 : FVec Ideal S8x512 .f32) (v297 : FVec Ideal S1024x128 .f32) (v374 : FVec Ideal S1024x128 .f32) (u : FVec Ideal S8x512 .f32) (w : FVec Ideal S16x8x512 .f32) (v427 : FVec Ideal S128x512 .f32) (s : Fin 8) (j : Fin 512) (hw : ∀ a b, v374 (ix2 a b) < ⊤) (h : u (ix2 s j) < ⊤) (hx : ∀ x : Fin 16, w (ix3 x s j) < ⊤) : k0_pay25 v48 v297 v374 u w v427 (ix2 s j) < ⊤ := by
  pointwise [k0_pay25, k0_pay22]
  simp only [max_lt_iff, cap_named, Finset.fold_max_lt, negInf]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay31_lt (v48 : FVec Ideal S8x512 .f32) (v297 : FVec Ideal S1024x128 .f32) (v374 : FVec Ideal S1024x128 .f32) (u : FVec Ideal S8x512 .f32) (w : FVec Ideal S16x8x512 .f32) (v479 : FVec Ideal S128x512 .f32) (s : Fin 8) (j : Fin 512) (hw : ∀ a b, v374 (ix2 a b) < ⊤) (h : u (ix2 s j) < ⊤) (hx : ∀ x : Fin 16, w (ix3 x s j) < ⊤) : k0_pay31 v48 v297 v374 u w v479 (ix2 s j) < ⊤ := by
  pointwise [k0_pay31, k0_pay28]
  simp only [max_lt_iff, cap_named, Finset.fold_max_lt, negInf]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay38_lt (v48 : FVec Ideal S8x512 .f32) (v297 : FVec Ideal S1024x128 .f32) (v374 : FVec Ideal S1024x128 .f32) (u : FVec Ideal S8x512 .f32) (w : FVec Ideal S16x8x512 .f32) (v531 : FVec Ideal S128x512 .f32) (s : Fin 8) (j : Fin 512) (hw : ∀ a b, v374 (ix2 a b) < ⊤) (h : u (ix2 s j) < ⊤) (hx : ∀ x : Fin 16, w (ix3 x s j) < ⊤) : k0_pay38 v48 v297 v374 u w v531 (ix2 s j) < ⊤ := by
  pointwise [k0_pay38, k0_pay35]
  simp only [max_lt_iff, cap_named, Finset.fold_max_lt, negInf]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay179_lt (v48 : FVec Ideal S8x512 .f32) (v374 : FVec Ideal S1024x128 .f32) (u : FVec Ideal S8x512 .f32) (v562 : FVec Ideal S16x8x512 .f32) (s : Fin 8) (j : Fin 512) (hw : ∀ a b, v374 (ix2 a b) < ⊤) (h : u (ix2 s j) < ⊤) : k0_pay179 v48 v374 u v562 (ix2 s j) < ⊤ := by
  pointwise [k0_pay179, k0_pay176]
  simp only [max_lt_iff, cap_named, Finset.fold_max_lt, negInf]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay26_lt (v48 : FVec Ideal S8x512 .f32) (v297 : FVec Ideal S1024x128 .f32) (v453 : FVec Ideal S128x512 .f32) (x : Fin 16) (s : Fin 8) (j : Fin 512) : k0_pay26 v48 v297 v453 (ix3 x s j) < ⊤ := by
  pointwise [k0_pay26]
  simp only [cap_named]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay32_lt (v48 : FVec Ideal S8x512 .f32) (v297 : FVec Ideal S1024x128 .f32) (v505 : FVec Ideal S128x512 .f32) (x : Fin 16) (s : Fin 8) (j : Fin 512) : k0_pay32 v48 v297 v505 (ix3 x s j) < ⊤ := by
  pointwise [k0_pay32, k0_pay31]
  simp only [cap_named]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here stays below +inf when what enters it does. -/
theorem pay21_lt (v48 : FVec Ideal S8x512 .f32) (v297 : FVec Ideal S1024x128 .f32) (v374 : FVec Ideal S1024x128 .f32) (v401 : FVec Ideal S128x512 .f32) (x : Fin 16) (s : Fin 8) (j : Fin 512) (hw : ∀ a b, v374 (ix2 a b) < ⊤) : k0_pay21 v48 v297 v374 v401 (ix3 x s j) < ⊤ := by
  pointwise [k0_pay21, k0_pay18]
  simp only [cap_named]
  repeat' apply And.intro
  all_goals try intro x _
  all_goals first
    | exact bot_lt_top
    | exact h
    | exact hx _
    | exact tanh_cap_lt _
    | (refine EReal.add_lt_top (tanh_cap_lt _).ne (ne_of_lt ?_); split_ifs <;> exact hw _ _)
    | (refine EReal.add_lt_top (hx _).ne (ne_of_lt ?_); split_ifs <;> exact hw _ _)
    | (split_ifs <;> exact hw _ _)

/-- The value computed here is not -inf. -/
theorem lt_pay178 (v48 : FVec Ideal S8x512 .f32) (u : FVec Ideal S8x512 .f32) (v562 : FVec Ideal S16x8x512 .f32) (s : Fin 8) (j : Fin 512) :
    ⊥ < k0_pay178 v48 u v562 (ix2 s j) := by
  pointwise [k0_pay178, k0_pay176]
  simp only [cap_named]
  exact lt_max_of_lt_right (lt_fold_tanh _)

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v48 : FVec Ideal S8x512 .f32) (v57 : IVec S8x512 32) (v76 : BitVec 32) (v79 : BitVec 32) (v99 : BitVec 32) (X_arg6 : BufTy.Contents (Elt Ideal) arg6.view.ty) (X_arg8 : BufTy.Contents (Elt Ideal) arg8.view.ty) (X_arg9 : BufTy.Contents (Elt Ideal) arg9.view.ty) (X_arg14 : BufTy.Contents (Elt Ideal) arg14.view.ty) (k : Fin (k0_t1_loop i v2).trips)
  (acc : FVec Ideal S8x512 .f32 × FVec Ideal S8x512 .f32) (z : BufTy.Contents (Elt Ideal) arg11.view.ty) (raw : BufTy.Contents (Elt Ideal) arg12.view.ty)
  (hp : v2.toInt ≤ 16384)

/-- The carried maximum of the scores after a trip, and the one with the value scales. -/
theorem tripR1_eq : tripR_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc z raw
    = (k0_pay178 v48 (trip_k0_t1.sl.r_10 i arg8 arg12 v2 k0_hw1 v48 X_arg8 k acc raw) (trip_k0_t1.sl.r_12 i arg8 arg12 v2 k0_hw1 X_arg8 k raw),
       k0_pay179 v48 (trip_k0_t1.sl.v374 i arg9 v2 k0_hw1 X_arg9 k) (trip_k0_t1.sl.r_11 i arg8 arg9 arg12 v2 k0_hw1 v48 X_arg8 X_arg9 k acc raw)
         (trip_k0_t1.sl.r_12 i arg8 arg12 v2 k0_hw1 X_arg8 k raw)) := by
  unfold tripR_k0_t1 trip_k0_t1
  rfl

/-- The running maximum of the scores after a trip is a real number. -/
theorem m1 (s : Fin 8) (j : Fin 512) (h : acc.1 (ix2 s j) < ⊤) :
    (tripR_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc z raw).1 (ix2 s j) < ⊤ ∧ ⊥ < (tripR_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc z raw).1 (ix2 s j) := by
  rw [tripR1_eq]
  refine ⟨pay178_lt _ _ _ _ _ ?_, lt_pay178 _ _ _ _ _⟩
  refine pay37_lt _ _ _ _ _ _ _ ?_ fun x => pay32_lt _ _ _ _ _ _
  refine pay30_lt _ _ _ _ _ _ _ ?_ fun x => pay26_lt _ _ _ _ _ _
  exact pay24_lt _ _ _ _ _ _ (pay20_lt _ _ _ _ _ _ _ _ h)

/-- The running maximum with the value scales' logarithms stays below `⊤` when the scales are. -/
theorem y1 (hv : ∀ x, arg9.view.read (Elt Ideal) X_arg9 x < ⊤) (s : Fin 8) (j : Fin 512) (h : acc.2 (ix2 s j) < ⊤) :
    (tripR_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc z raw).2 (ix2 s j) < ⊤ := by
  have hw := lv1 i arg9 v2 k0_hw1 X_arg9 k hv
  rw [tripR1_eq]
  refine pay179_lt _ _ _ _ _ _ hw ?_
  refine pay38_lt _ _ _ _ _ _ _ _ hw ?_ fun x => pay32_lt _ _ _ _ _ _
  refine pay31_lt _ _ _ _ _ _ _ _ hw ?_ fun x => pay26_lt _ _ _ _ _ _
  exact pay25_lt _ _ _ _ _ _ _ _ hw (pay17_lt _ _ _ _ _ _ _ hw h) fun x => pay21_lt _ _ _ _ _ _ _ hw

end

end Cert.KernelIdeal.Val
end
-- ==== Proof.Value.Loop1c.lean ====
/- One trip of the first pass over whole blocks of 1024 keys, and all of them: what the pass leaves, as facts about the buffers and the
   carried maxima. -/
module

public import proofs.«01_k».proof.Proof.Value.Loop1b

@[expose] public section

set_option maxRecDepth 16384

noncomputable section

namespace Cert.KernelIdeal.Val

open Idealize.ShloMosaic Idealize.SL.Sem Cert.KernelIdeal Cert.KernelIdeal.Gen
open Idealize.ShloMosaic.Pointwise

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v48 : FVec Ideal S8x512 .f32) (v57 : IVec S8x512 32) (v76 : BitVec 32) (v79 : BitVec 32) (v99 : BitVec 32) (X_arg6 : BufTy.Contents (Elt Ideal) arg6.view.ty) (X_arg8 : BufTy.Contents (Elt Ideal) arg8.view.ty) (X_arg9 : BufTy.Contents (Elt Ideal) arg9.view.ty) (X_arg14 : BufTy.Contents (Elt Ideal) arg14.view.ty) (k : Fin (k0_t1_loop i v2).trips)
  (acc : FVec Ideal S8x512 .f32 × FVec Ideal S8x512 .f32) (z : BufTy.Contents (Elt Ideal) arg11.view.ty) (raw : BufTy.Contents (Elt Ideal) arg12.view.ty)
  (hp : v2.toInt ≤ 16384)

include hp in
/-- The scores after a trip: its own block's, if its products were ready, and the earlier ones as they were. -/
theorem trip1_z (hraw : ∀ (a : Fin 1024) (j : Fin 512) (r : Fin 16384), r.val = 1024 * k.val + a.val →
      arg12.view.read (Elt Ideal) raw (ix2 a j) = kdot (arg6.view.read (Elt Ideal) X_arg6) (arg14.view.read (Elt Ideal) X_arg14) r j)
    (r : Fin 16384) (j : Fin 512) (hr : r.val < 1024 * (k.val + 1)) :
    arg11.view.read (Elt Ideal) (arg11.view.writes (Elt Ideal) z (tripL_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc z raw).1) (ix2 r j)
      = if r.val < 1024 * k.val then arg11.view.read (Elt Ideal) z (ix2 r j)
        else zfun (arg6.view.read (Elt Ideal) X_arg6) (arg14.view.read (Elt Ideal) X_arg14) (arg8.view.read (Elt Ideal) X_arg8) v48 r j := by
  unfold tripL_k0_t1 trip_k0_t1
  dsimp only
  by_cases h896 : 1024 * k.val + 896 ≤ r.val
  · rw [if_neg (by omega)]
    have e : r.val = 1024 * k.val + (896 + (r.val - (1024 * k.val + 896))) := by omega
    refine (View.read_writes_cons_rows_of_mem arg11.view z _ _ _ (ix2 r j) (ix2 (⟨r.val - (1024 * k.val + 896), by omega⟩ : Fin 128) j) (off3_eq i v2 hp k 896 (by omega)) ?_ rfl).trans ?_
    · show r.val = 1024 * k.val + 896 + (r.val - (1024 * k.val + 896)); omega
    · exact z1_896 i arg6 arg8 arg12 arg14 v2 k0_hw1 v48 X_arg6 X_arg8 X_arg14 k raw hp ⟨r.val - (1024 * k.val + 896), by omega⟩ j r e (hraw _ _ _ e)
  refine (View.read_writes_cons_rows_of_not_mem arg11.view z _ _ _ (ix2 r j) (off3_eq i v2 hp k 896 (by omega)) (W := 128) rfl (Or.inl (by show r.val < 1024 * k.val + 896; omega))).trans ?_
  by_cases h768 : 1024 * k.val + 768 ≤ r.val
  · rw [if_neg (by omega)]
    have e : r.val = 1024 * k.val + (768 + (r.val - (1024 * k.val + 768))) := by omega
    refine (View.read_writes_cons_rows_of_mem arg11.view z _ _ _ (ix2 r j) (ix2 (⟨r.val - (1024 * k.val + 768), by omega⟩ : Fin 128) j) (off3_eq i v2 hp k 768 (by omega)) ?_ rfl).trans ?_
    · show r.val = 1024 * k.val + 768 + (r.val - (1024 * k.val + 768)); omega
    · exact z1_768 i arg6 arg8 arg12 arg14 v2 k0_hw1 v48 X_arg6 X_arg8 X_arg14 k raw hp ⟨r.val - (1024 * k.val + 768), by omega⟩ j r e (hraw _ _ _ e)
  refine (View.read_writes_cons_rows_of_not_mem arg11.view z _ _ _ (ix2 r j) (off3_eq i v2 hp k 768 (by omega)) (W := 128) rfl (Or.inl (by show r.val < 1024 * k.val + 768; omega))).trans ?_
  by_cases h640 : 1024 * k.val + 640 ≤ r.val
  · rw [if_neg (by omega)]
    have e : r.val = 1024 * k.val + (640 + (r.val - (1024 * k.val + 640))) := by omega
    refine (View.read_writes_cons_rows_of_mem arg11.view z _ _ _ (ix2 r j) (ix2 (⟨r.val - (1024 * k.val + 640), by omega⟩ : Fin 128) j) (off3_eq i v2 hp k 640 (by omega)) ?_ rfl).trans ?_
    · show r.val = 1024 * k.val + 640 + (r.val - (1024 * k.val + 640)); omega
    · exact z1_640 i arg6 arg8 arg12 arg14 v2 k0_hw1 v48 X_arg6 X_arg8 X_arg14 k raw hp ⟨r.val - (1024 * k.val + 640), by omega⟩ j r e (hraw _ _ _ e)
  refine (View.read_writes_cons_rows_of_not_mem arg11.view z _ _ _ (ix2 r j) (off3_eq i v2 hp k 640 (by omega)) (W := 128) rfl (Or.inl (by show r.val < 1024 * k.val + 640; omega))).trans ?_
  by_cases h512 : 1024 * k.val + 512 ≤ r.val
  · rw [if_neg (by omega)]
    have e : r.val = 1024 * k.val + (512 + (r.val - (1024 * k.val + 512))) := by omega
    refine (View.read_writes_cons_rows_of_mem arg11.view z _ _ _ (ix2 r j) (ix2 (⟨r.val - (1024 * k.val + 512), by omega⟩ : Fin 128) j) (off3_eq i v2 hp k 512 (by omega)) ?_ rfl).trans ?_
    · show r.val = 1024 * k.val + 512 + (r.val - (1024 * k.val + 512)); omega
    · exact z1_512 i arg6 arg8 arg12 arg14 v2 k0_hw1 v48 X_arg6 X_arg8 X_arg14 k raw hp ⟨r.val - (1024 * k.val + 512), by omega⟩ j r e (hraw _ _ _ e)
  refine (View.read_writes_cons_rows_of_not_mem arg11.view z _ _ _ (ix2 r j) (off3_eq i v2 hp k 512 (by omega)) (W := 128) rfl (Or.inl (by show r.val < 1024 * k.val + 512; omega))).trans ?_
  by_cases h384 : 1024 * k.val + 384 ≤ r.val
  · rw [if_neg (by omega)]
    have e : r.val = 1024 * k.val + (384 + (r.val - (1024 * k.val + 384))) := by omega
    refine (View.read_writes_cons_rows_of_mem arg11.view z _ _ _ (ix2 r j) (ix2 (⟨r.val - (1024 * k.val + 384), by omega⟩ : Fin 128) j) (off3_eq i v2 hp k 384 (by omega)) ?_ rfl).trans ?_
    · show r.val = 1024 * k.val + 384 + (r.val - (1024 * k.val + 384)); omega
    · exact z1_384 i arg6 arg8 arg12 arg14 v2 k0_hw1 v48 X_arg6 X_arg8 X_arg14 k raw hp ⟨r.val - (1024 * k.val + 384), by omega⟩ j r e (hraw _ _ _ e)
  refine (View.read_writes_cons_rows_of_not_mem arg11.view z _ _ _ (ix2 r j) (off3_eq i v2 hp k 384 (by omega)) (W := 128) rfl (Or.inl (by show r.val < 1024 * k.val + 384; omega))).trans ?_
  by_cases h256 : 1024 * k.val + 256 ≤ r.val
  · rw [if_neg (by omega)]
    have e : r.val = 1024 * k.val + (256 + (r.val - (1024 * k.val + 256))) := by omega
    refine (View.read_writes_cons_rows_of_mem arg11.view z _ _ _ (ix2 r j) (ix2 (⟨r.val - (1024 * k.val + 256), by omega⟩ : Fin 128) j) (off3_eq i v2 hp k 256 (by omega)) ?_ rfl).trans ?_
    · show r.val = 1024 * k.val + 256 + (r.val - (1024 * k.val + 256)); omega
    · exact z1_256 i arg6 arg8 arg12 arg14 v2 k0_hw1 v48 X_arg6 X_arg8 X_arg14 k raw hp ⟨r.val - (1024 * k.val + 256), by omega⟩ j r e (hraw _ _ _ e)
  refine (View.read_writes_cons_rows_of_not_mem arg11.view z _ _ _ (ix2 r j) (off3_eq i v2 hp k 256 (by omega)) (W := 128) rfl (Or.inl (by show r.val < 1024 * k.val + 256; omega))).trans ?_
  by_cases h128 : 1024 * k.val + 128 ≤ r.val
  · rw [if_neg (by omega)]
    have e : r.val = 1024 * k.val + (128 + (r.val - (1024 * k.val + 128))) := by omega
    refine (View.read_writes_cons_rows_of_mem arg11.view z _ _ _ (ix2 r j) (ix2 (⟨r.val - (1024 * k.val + 128), by omega⟩ : Fin 128) j) (off3_eq i v2 hp k 128 (by omega)) ?_ rfl).trans ?_
    · show r.val = 1024 * k.val + 128 + (r.val - (1024 * k.val + 128)); omega
    · exact z1_128 i arg6 arg8 arg12 arg14 v2 k0_hw1 v48 X_arg6 X_arg8 X_arg14 k raw hp ⟨r.val - (1024 * k.val + 128), by omega⟩ j r e (hraw _ _ _ e)
  refine (View.read_writes_cons_rows_of_not_mem arg11.view z _ _ _ (ix2 r j) (off3_eq i v2 hp k 128 (by omega)) (W := 128) rfl (Or.inl (by show r.val < 1024 * k.val + 128; omega))).trans ?_
  by_cases h0 : 1024 * k.val + 0 ≤ r.val
  · rw [if_neg (by omega)]
    have e : r.val = 1024 * k.val + (0 + (r.val - (1024 * k.val + 0))) := by omega
    refine (View.read_writes_cons_rows_of_mem arg11.view z _ _ _ (ix2 r j) (ix2 (⟨r.val - (1024 * k.val + 0), by omega⟩ : Fin 128) j) (off3_eq i v2 hp k 0 (by omega)) ?_ rfl).trans ?_
    · show r.val = 1024 * k.val + 0 + (r.val - (1024 * k.val + 0)); omega
    · exact z1_0 i arg6 arg8 arg12 arg14 v2 k0_hw1 v48 X_arg6 X_arg8 X_arg14 k raw hp ⟨r.val - (1024 * k.val + 0), by omega⟩ j r e (hraw _ _ _ e)
  refine (View.read_writes_cons_rows_of_not_mem arg11.view z _ _ _ (ix2 r j) (off3_eq i v2 hp k 0 (by omega)) (W := 128) rfl (Or.inl (by show r.val < 1024 * k.val + 0; omega))).trans ?_
  rw [if_pos (by omega)]
  rfl

include hp in
/-- The products after a trip are the next block's, if there is one. -/
theorem trip1_raw (h : k.val + 1 < nMain (qb i) (pn v2)) (a : Fin 1024) (j : Fin 512) (r : Fin 16384) (hr : r.val = 1024 * (k.val + 1) + a.val) :
    arg12.view.read (Elt Ideal) (arg12.view.writes (Elt Ideal) raw (tripL_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc z raw).2) (ix2 a j)
      = kdot (arg6.view.read (Elt Ideal) X_arg6) (arg14.view.read (Elt Ideal) X_arg14) r j := by
  unfold tripL_k0_t1 trip_k0_t1
  dsimp only
  refine (View.read_writes_cons_rows_of_mem arg12.view raw _ _ _ (ix2 a j) (ix2 a j) (o := 0) rfl (by show a.val = 0 + a.val; omega) rfl).trans ?_
  pointwise [k0_pay180]
  refine Finset.sum_congr rfl fun d _ => ?_
  rw [rows3_apply _ _ _ _ (off4_eq i v2 hp k) a d (by have := a.isLt; omega), rows_apply _ _ _ 0 rfl j d (by have := j.isLt; omega)]
  have e1 : (⟨1024 * min (k.val + 1) (nMain (qb i) (pn v2) - 1) + a.val, by omega⟩ : Fin 16384) = r := Fin.ext (by dsimp only; omega)
  have e2 : (⟨0 + j.val, by omega⟩ : Fin 512) = j := Fin.ext (by dsimp only; omega)
  rw [e1, e2]

include hp in
/-- One trip takes the facts before it to the facts after it. -/
theorem F1_step (h : F1 (arg6.view.read (Elt Ideal) X_arg6) (arg14.view.read (Elt Ideal) X_arg14) (arg8.view.read (Elt Ideal) X_arg8) (arg9.view.read (Elt Ideal) X_arg9) v48 (nMain (qb i) (pn v2)) k.val acc.1 acc.2 (arg11.view.read (Elt Ideal) z) (arg12.view.read (Elt Ideal) raw)) :
    F1 (arg6.view.read (Elt Ideal) X_arg6) (arg14.view.read (Elt Ideal) X_arg14) (arg8.view.read (Elt Ideal) X_arg8) (arg9.view.read (Elt Ideal) X_arg9) v48 (nMain (qb i) (pn v2)) (k.val + 1)
      (tripR_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc z raw).1 (tripR_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc z raw).2
      (arg11.view.read (Elt Ideal) (arg11.view.writes (Elt Ideal) z (tripL_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc z raw).1))
      (arg12.view.read (Elt Ideal) (arg12.view.writes (Elt Ideal) raw (tripL_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc z raw).2)) where
  scores r j hr := by
    rw [trip1_z (hp := hp) (hraw := h.products (t1_lt i v2 k hp)) (hr := hr)]
    split
    · exact h.scores r j (by assumption)
    · rfl
  products hk a j r hr := trip1_raw (hp := hp) (h := hk) (hr := hr) ..
  m_lt s j := (m1 (h := h.m_lt s j) ..).1
  y_lt hv s j := y1 (hv := hv) (h := h.y_lt hv s j) ..
  lt_m _ s j := (m1 (h := h.m_lt s j) ..).2
end

open Idealize.ShloMosaic.TcCoe Idealize.ShloMosaic.Tactic Idealize.SL Idealize.SL.RA Idealize.SL.BI
open scoped Idealize.SL.BI
open Idealize.SL.BI.BIBase Idealize.SL.BI.Laws Idealize.SL.ProofMode

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v48 : FVec Ideal S8x512 .f32) (v57 : IVec S8x512 32) (v76 : BitVec 32) (v79 : BitVec 32) (v99 : BitVec 32) (X_arg6 : BufTy.Contents (Elt Ideal) arg6.view.ty) (X_arg8 : BufTy.Contents (Elt Ideal) arg8.view.ty) (X_arg9 : BufTy.Contents (Elt Ideal) arg9.view.ty) (X_arg14 : BufTy.Contents (Elt Ideal) arg14.view.ty) (G_arg11 : BufTy.Contents (Elt Ideal) arg11.view.ty) (G_arg12 : BufTy.Contents (Elt Ideal) arg12.view.ty)
  (init : FVec Ideal S8x512 .f32 × FVec Ideal S8x512 .f32)

/-- All the trips: the facts hold before every one of them, and after the last. -/
theorem F1_all (hp : v2.toInt ≤ 16384) (h0 : F1 (arg6.view.read (Elt Ideal) X_arg6) (arg14.view.read (Elt Ideal) X_arg14) (arg8.view.read (Elt Ideal) X_arg8) (arg9.view.read (Elt Ideal) X_arg9) v48 (nMain (qb i) (pn v2)) 0 init.1 init.2 (arg11.view.read (Elt Ideal) G_arg11) (arg12.view.read (Elt Ideal) G_arg12)) (k : ℕ) (hk : k ≤ (k0_t1_loop i v2).trips) :
    F1 (arg6.view.read (Elt Ideal) X_arg6) (arg14.view.read (Elt Ideal) X_arg14) (arg8.view.read (Elt Ideal) X_arg8) (arg9.view.read (Elt Ideal) X_arg9) v48 (nMain (qb i) (pn v2)) k (st_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 G_arg12 init k).1.1 (st_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 G_arg12 init k).1.2
      (arg11.view.read (Elt Ideal) (arg11.view.writes (Elt Ideal) G_arg11 (st_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 G_arg12 init k).2.1))
      (arg12.view.read (Elt Ideal) (arg12.view.writes (Elt Ideal) G_arg12 (st_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 G_arg12 init k).2.2)) := by
  induction k with
  | zero => exact h0
  | succ k ih =>
    have e := st_k0_t1_succ 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 G_arg12 init ⟨k, by omega⟩
    dsimp only at e
    rw [e, View.writes_append, View.writes_append]
    exact F1_step (hp := hp) (k := ⟨k, by omega⟩) (h := ih (by omega)) ..

set_option warn.classDefReducibility false in
/-- What the run of the body takes out of the pass: its buffers, with the facts. -/
def exit1 (E : Set ℕ) : LoopExit (loopInv_k0_t1 (F := Ideal) 𝒱 c bd E i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 G_arg12 init) where
  post acc := iprop((arg6.view.loc (c : Thread nD τ) ↦[arg6.view.set]{fullShare} X_arg6) ∗ (arg8.view.loc (c : Thread nD τ) ↦[arg8.view.set]{fullShare} X_arg8)
    ∗ (arg9.view.loc (c : Thread nD τ) ↦[arg9.view.set]{fullShare} X_arg9) ∗ (arg14.view.loc (c : Thread nD τ) ↦[arg14.view.set]{fullShare} X_arg14)
    ∗ (∃ f g, (arg11.view.loc (c : Thread nD τ) ↦[arg11.view.set]{fullShare} f) ∗ (arg12.view.loc (c : Thread nD τ) ↦[arg12.view.set]{fullShare} g)
      ∗ ⌜v2.toInt ≤ 16384 → F1 (arg6.view.read (Elt Ideal) X_arg6) (arg14.view.read (Elt Ideal) X_arg14) (arg8.view.read (Elt Ideal) X_arg8) (arg9.view.read (Elt Ideal) X_arg9) v48 (nMain (qb i) (pn v2)) 0 init.1 init.2 (arg11.view.read (Elt Ideal) G_arg11) (arg12.view.read (Elt Ideal) G_arg12) →
          F1 (arg6.view.read (Elt Ideal) X_arg6) (arg14.view.read (Elt Ideal) X_arg14) (arg8.view.read (Elt Ideal) X_arg8) (arg9.view.read (Elt Ideal) X_arg9) v48 (nMain (qb i) (pn v2)) (nMain (qb i) (pn v2)) acc.1 acc.2 (arg11.view.read (Elt Ideal) f) (arg12.view.read (Elt Ideal) g)⌝))
  exit acc := by
    show inv_k0_t1 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 G_arg12 init (k0_t1_loop i v2).trips acc ⊢ _
    iintro ⟨H6, H8, H9, H14, ⟨%f, H11, %hf⟩, ⟨%g, H12, %hg⟩, %ha⟩
    isplitl [H6]; · iexact H6
    isplitl [H8]; · iexact H8
    isplitl [H9]; · iexact H9
    isplitl [H14]; · iexact H14
    iexists f, g
    isplitl [H11]; · iexact H11
    isplitl [H12]; · iexact H12
    ipureintro
    intro hp h0
    subst hf hg ha
    have h := F1_all 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 G_arg12 init hp h0 (k0_t1_loop i v2).trips le_rfl
    rw [← show (k0_t1_loop i v2).trips = nMain (qb i) (pn v2) from trips1 i v2 hp] at h ⊢
    exact h
end

end Cert.KernelIdeal.Val
end
-- ==== Proof.Value.Loop3.lean ====
/- One trip of the first pass over the tail, 256 keys at a time: scores beyond a column's limit are masked. -/
module

public import proofs.«01_k».proof.Proof.Value.Loop1c

@[expose] public section

set_option maxRecDepth 16384

noncomputable section

namespace Cert.KernelIdeal.Val

open Idealize.ShloMosaic Idealize.SL.Sem Cert.KernelIdeal Cert.KernelIdeal.Gen
open Idealize.ShloMosaic.Pointwise

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v48 : FVec Ideal S8x512 .f32) (v57 : IVec S8x512 32) (v76 : BitVec 32) (v79 : BitVec 32) (v99 : BitVec 32) (X_arg6 : BufTy.Contents (Elt Ideal) arg6.view.ty) (X_arg8 : BufTy.Contents (Elt Ideal) arg8.view.ty) (X_arg9 : BufTy.Contents (Elt Ideal) arg9.view.ty) (X_arg14 : BufTy.Contents (Elt Ideal) arg14.view.ty) (k : Fin (k0_t3_loop i v2).trips)
  (acc : FVec Ideal S8x512 .f32 × FVec Ideal S8x512 .f32) (z : BufTy.Contents (Elt Ideal) arg11.view.ty)
  (hp : v2.toInt ≤ 16384)

include hp in
/-- A tail block ends within the keys. -/
theorem t3_lt : 1024 * nMain (qb i) (pn v2) + 256 * k.val + 256 ≤ 16384 := by
  have h := tail_le i v2 hp
  have hk : k.val < nTail (qb i) (pn v2) := lt_of_lt_of_eq k.isLt (trips3 i v2 hp)
  omega

/-- The first row of a trip of the tail, as the word the body computes. -/
theorem start3 (h79 : v79 = BitVec.ofNat 32 (1024 * nMain (qb i) (pn v2))) :
    trip_k0_t3.sl.v223 i v2 v79 k = BitVec.ofNat 32 (1024 * nMain (qb i) (pn v2) + 256 * k.val) := by
  show Scalar.addi v79 (Scalar.muli (Scf.iv 0#32 1#32 k) 256#32) = _
  rw [h79, iv_ofNat, show (256#32 : BitVec 32) = BitVec.ofNat 32 256 from rfl, muli_ofNat, addi_ofNat, Nat.mul_comm k.val]

include hp in
/-- The key scales a trip of the tail lays out along its rows. -/
theorem ks3 (a : Fin 256) (b : Fin 128) :
    trip_k0_t3.sl.v261 i arg8 v2 k0_hw1 X_arg8 k (ix2 a b)
      = arg8.view.read (Elt Ideal) X_arg8 (ix4 (0 : Fin 1) (0 : Fin 1) (⟨8 * nMain (qb i) (pn v2) + 2 * k.val + a.val / 128, by have := t3_lt i v2 k hp; omega⟩ : Fin 128) (⟨a.val % 128, by omega⟩ : Fin 128)) := by
  have h16 := t3_lt i v2 k hp
  pointwise [trip_k0_t3.sl.v261, trip_k0_t3.sl.v253, trip_k0_t3.sl.v252, trip_k0_t3.sl.v251, trip_k0_t3.sl.v250, trip_k0_t3.sl.v260, trip_k0_t3.sl.v259, trip_k0_t3.sl.v258, trip_k0_t3.sl.v257]
  split_ifs
  · exact row_at _ _ _ _ (off9_eq i v2 hp k 0 (by omega)) _ _ _ (by dsimp only; omega) (by dsimp only; omega)
  · exact row_at _ _ _ _ (off9_eq i v2 hp k 1 (by omega)) _ _ _ (by dsimp only; omega) (by dsimp only; omega)
  · exact row_at _ _ _ _ (off9_eq i v2 hp k 1 (by omega)) _ _ _ (by dsimp only; omega) (by dsimp only; omega)

/-- The value scales of a trip of the tail, in logarithm, are below `⊤` when the scales are. -/
theorem lv3 (h : ∀ x, arg9.view.read (Elt Ideal) X_arg9 x < ⊤) (a : Fin 256) (b : Fin 128) :
    trip_k0_t3.sl.v296 i arg9 v2 k0_hw1 X_arg9 k (ix2 a b) < ⊤ := by
  pointwise [trip_k0_t3.sl.v296, trip_k0_t3.sl.v295, trip_k0_t3.sl.v294, trip_k0_t3.sl.v293, trip_k0_t3.sl.cst_163, trip_k0_t3.sl.v285, trip_k0_t3.sl.v284, trip_k0_t3.sl.v283, trip_k0_t3.sl.v282, trip_k0_t3.sl.v292, trip_k0_t3.sl.v291, trip_k0_t3.sl.v290, trip_k0_t3.sl.v289]
  apply log_lt
  split_ifs <;> (rw [View.readAt_apply]; exact h _)

include hp in
/-- The products of a trip of the tail. -/
theorem raw3 (a : Fin 256) (j : Fin 512) (r : Fin 16384) (hr : r.val = 1024 * nMain (qb i) (pn v2) + 256 * k.val + a.val) :
    trip_k0_t3.sl.v229 i arg6 arg14 v2 k0_hw1 X_arg6 X_arg14 k (ix2 a j) = kdot (arg6.view.read (Elt Ideal) X_arg6) (arg14.view.read (Elt Ideal) X_arg14) r j := by
  have h16 := t3_lt i v2 k hp
  pointwise [trip_k0_t3.sl.v229, trip_k0_t3.sl.v227, trip_k0_t3.sl.cst_133]
  refine Finset.sum_congr rfl fun d _ => ?_
  rw [rows3_apply _ _ _ _ (off8_eq i v2 hp k) a d (by omega), rows_apply _ _ _ 0 rfl j d (by have := j.isLt; omega)]
  have e1 : (⟨1024 * nMain (qb i) (pn v2) + 256 * k.val + a.val, by omega⟩ : Fin 16384) = r := Fin.ext (by dsimp only; omega)
  have e2 : (⟨0 + j.val, by omega⟩ : Fin 512) = j := Fin.ext (by dsimp only; omega)
  rw [e1, e2]

/-- The mask, in numbers: a row below its column's limit keeps its score. -/
theorem mask_eq (x s o st lim : ℕ) (w : BitVec 32) (hw : w = BitVec.ofNat 32 lim) (hl : lim < 2 ^ 31) (h : x * 8 + s + (st + o) < 2 ^ 31) (A B : EReal) :
    Scalar.select (IntOp.cmpi CmpIPredicate.slt
      (IntOp.addi (IntOp.addi (IntOp.muli (BitVec.ofNat 32 x) 8#32) (BitVec.ofNat 32 s)) (Scalar.addi (BitVec.ofNat 32 st) (BitVec.ofNat 32 o))) w) A B
      = if x * 8 + s + (st + o) < lim then A else B := by
  subst hw
  have e : IntOp.addi (IntOp.addi (IntOp.muli (BitVec.ofNat 32 x) 8#32) (BitVec.ofNat 32 s)) (Scalar.addi (BitVec.ofNat 32 st) (BitVec.ofNat 32 o))
      = BitVec.ofNat 32 (x * 8 + s + (st + o)) := by
    show BitVec.ofNat 32 x * BitVec.ofNat 32 8 + BitVec.ofNat 32 s + (BitVec.ofNat 32 st + BitVec.ofNat 32 o) = _
    rw [← BitVec.ofNat_mul, ← BitVec.ofNat_add, ← BitVec.ofNat_add, ← BitVec.ofNat_add]
  rw [e]
  show (if BitVec.ofBool (BitVec.slt _ _) = 1#1 then A else B) = _
  rw [BitVec.slt_eq_decide, WordArith.toInt_ofNat_small _ h, WordArith.toInt_ofNat_small _ hl]
  by_cases hc : x * 8 + s + (st + o) < lim
  · rw [if_pos hc, decide_eq_true (by omega : ((x * 8 + s + (st + o) : ℕ) : ℤ) < (lim : ℤ))]; rfl
  · rw [if_neg hc, decide_eq_false (by omega : ¬ ((x * 8 + s + (st + o) : ℕ) : ℤ) < (lim : ℤ))]; rfl

include hp in
/-- The capped score at a row of a trip of the tail. -/
theorem z3 (j : Fin 512) (a : Fin 256) (s : ℕ) (hs8 : s < 8) (r : Fin 16384) (hr : r.val = 1024 * nMain (qb i) (pn v2) + 256 * k.val + a.val) (hs : s = a.val % 8) :
    Ideal.tanh (trip_k0_t3.sl.v229 i arg6 arg14 v2 k0_hw1 X_arg6 X_arg14 k (ix2 a j) * trip_k0_t3.sl.v261 i arg8 v2 k0_hw1 X_arg8 k (ix2 a (⟨a.val % 128, by omega⟩ : Fin 128)) * v48 (ix2 (⟨s, hs8⟩ : Fin 8) j)) * cap = zfun (arg6.view.read (Elt Ideal) X_arg6) (arg14.view.read (Elt Ideal) X_arg14) (arg8.view.read (Elt Ideal) X_arg8) v48 r j := by
  have h16 := t3_lt i v2 k hp
  rw [ks3 i arg8 v2 k0_hw1 X_arg8 k hp, raw3 i arg6 arg14 v2 k0_hw1 X_arg6 X_arg14 k hp a j r hr, zfun]
  have e1 : (⟨8 * nMain (qb i) (pn v2) + 2 * k.val + a.val / 128, by omega⟩ : Fin 128) = ⟨r.val / 128, by omega⟩ := Fin.ext (by dsimp only; omega)
  have e2 : (⟨a.val % 128, by omega⟩ : Fin 128) = ⟨r.val % 128, by omega⟩ := Fin.ext (by dsimp only; omega)
  have e3 : s = r.val % 8 := by omega
  subst e3; rw [e1, e2]

variable (lim : Fin 512 → ℕ) (h79 : v79 = BitVec.ofNat 32 (1024 * nMain (qb i) (pn v2)))
  (h57 : ∀ (s : Fin 8) (j : Fin 512), v57 (ix2 s j) = BitVec.ofNat 32 (lim j)) (hlim : ∀ j, lim j < 2 ^ 31)

include hp h79 h57 hlim in
/-- The first 128 rows a trip of the tail stores. -/
theorem z3_0 (x : Fin 16) (s : Fin 8) (j : Fin 512) (r : Fin 16384) (hr : r.val = 1024 * nMain (qb i) (pn v2) + 256 * k.val + (0 + (x.val * 8 + s.val))) :
    k0_pay82 v57 (trip_k0_t3.sl.v223 i v2 v79 k) (trip_k0_t3.sl.v302 i arg6 arg8 arg14 v2 k0_hw1 X_arg6 X_arg8 X_arg14 k) (trip_k0_t3.sl.v303 v48) (ix3 x s j)
      = if r.val < lim j then zfun (arg6.view.read (Elt Ideal) X_arg6) (arg14.view.read (Elt Ideal) X_arg14) (arg8.view.read (Elt Ideal) X_arg8) v48 r j else ⊥ := by
  have h16 := t3_lt i v2 k hp
  have hx := x.isLt
  have hs := s.isLt
  rw [← z3 i arg6 arg8 arg14 v2 k0_hw1 v48 X_arg6 X_arg8 X_arg14 k hp j ⟨0 + (x.val * 8 + s.val), by omega⟩ s.val hs r hr (by dsimp only; omega)]
  pointwise [k0_pay82, trip_k0_t3.sl.v302, trip_k0_t3.sl.v303, trip_k0_t3.sl.v301, trip_k0_t3.sl.v300, trip_k0_t3.sl.v299, trip_k0_t3.sl.v298, trip_k0_t3.sl.v297]
  rw [start3 i v2 v79 k h79]
  refine (mask_eq x.val s.val 0 _ (lim j) _ (h57 s j) (hlim j) (by omega) _ _).trans ?_
  simp only [cap_named, negInf, ks3 i arg8 v2 k0_hw1 X_arg8 k hp]
  have e : (x.val * 8 + s.val + (1024 * nMain (qb i) (pn v2) + 256 * k.val + 0) < lim j) = (r.val < lim j) := by rw [hr]; congr 1; omega
  simp only [e]
  split_ifs <;> rfl

include hp h79 h57 hlim in
/-- The last 128 rows a trip of the tail stores. -/
theorem z3_128 (x : Fin 16) (s : Fin 8) (j : Fin 512) (r : Fin 16384) (hr : r.val = 1024 * nMain (qb i) (pn v2) + 256 * k.val + (128 + (x.val * 8 + s.val))) :
    k0_pay186 v57 (trip_k0_t3.sl.v223 i v2 v79 k) (trip_k0_t3.sl.r_2 i arg6 arg8 arg14 v2 k0_hw1 v48 X_arg6 X_arg8 X_arg14 k) k0_pay87 (ix3 x s j)
      = if r.val < lim j then zfun (arg6.view.read (Elt Ideal) X_arg6) (arg14.view.read (Elt Ideal) X_arg14) (arg8.view.read (Elt Ideal) X_arg8) v48 r j else ⊥ := by
  have h16 := t3_lt i v2 k hp
  have hx := x.isLt
  have hs := s.isLt
  rw [← z3 i arg6 arg8 arg14 v2 k0_hw1 v48 X_arg6 X_arg8 X_arg14 k hp j ⟨128 + (x.val * 8 + s.val), by omega⟩ s.val hs r hr (by dsimp only; omega)]
  pointwise [k0_pay186, k0_pay87, k0_pay86, trip_k0_t3.sl.r_2]
  rw [start3 i v2 v79 k h79]
  refine (mask_eq x.val s.val 128 _ (lim j) _ (h57 s j) (hlim j) (by omega) _ _).trans ?_
  simp only [cap_named, negInf, ks3 i arg8 v2 k0_hw1 X_arg8 k hp]
  have e : (x.val * 8 + s.val + (1024 * nMain (qb i) (pn v2) + 256 * k.val + 128) < lim j) = (r.val < lim j) := by rw [hr]; congr 1; omega
  simp only [e]
  split_ifs <;> rfl

/-- A masked score is below `⊤`. -/
theorem masked_lt (c : Prop) [Decidable c] (K : S1x16384x128.Idx → EReal) (Q : S512x128.Idx → EReal) (KS : S1x1x128x128.Idx → EReal) (cv : S8x512.Idx → EReal) (r : Fin 16384) (j : Fin 512) :
    (if c then zfun K Q KS cv r j else ⊥) < ⊤ := by
  split_ifs
  · exact tanh_cap_lt _
  · exact bot_lt_top

include hp in
/-- A row of a tail block is a key. -/
theorem row3_lt (o : ℕ) (ho : o ≤ 128) (x : Fin 16) (s : Fin 8) : 1024 * nMain (qb i) (pn v2) + 256 * k.val + (o + (x.val * 8 + s.val)) < 16384 := by
  have := t3_lt i v2 k hp
  omega

/-- The result of a trip of the tail loop, as the two maxima it carries. -/
theorem tripR3_eq : tripR_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc
    = (k0_pay188 v57 (trip_k0_t3.sl.v223 i v2 v79 k) (trip_k0_t3.sl.r i arg6 arg8 arg14 v2 k0_hw1 v48 v57 v79 X_arg6 X_arg8 X_arg14 k acc) (trip_k0_t3.sl.r_2 i arg6 arg8 arg14 v2 k0_hw1 v48 X_arg6 X_arg8 X_arg14 k) k0_pay87,
       k0_pay189 v57 (trip_k0_t3.sl.v223 i v2 v79 k) (trip_k0_t3.sl.v296 i arg9 v2 k0_hw1 X_arg9 k) (trip_k0_t3.sl.r_1 i arg6 arg8 arg9 arg14 v2 k0_hw1 v48 v57 v79 X_arg6 X_arg8 X_arg9 X_arg14 k acc)
         (trip_k0_t3.sl.r_2 i arg6 arg8 arg14 v2 k0_hw1 v48 X_arg6 X_arg8 X_arg14 k) k0_pay87) := by
  unfold tripR_k0_t3 trip_k0_t3
  rfl

/-- A stage of the maxima: the carried value and the block's largest entry. -/
theorem pay188_eq (v57 : IVec S8x512 32) (w : BitVec 32) (u : FVec Ideal S8x512 .f32) (g : FVec Ideal S16x8x512 .f32) (c : IVec S16x8x512 32) (s : Fin 8) (j : Fin 512) :
    k0_pay188 v57 w u g c (ix2 s j) = max (u (ix2 s j)) (Finset.fold max ⊥ (fun x : Fin 16 => k0_pay186 v57 w g c (ix3 x s j)) Finset.univ) := by
  rw [← negInf]
  pointwise [k0_pay188]

/-- The carried maximum with the masked scores of the first half of the block. -/
theorem pay84_eq (v57 : IVec S8x512 32) (u : FVec Ideal S8x512 .f32) (w : BitVec 32) (g : FVec Ideal S16x8x512 .f32) (c : FVec Ideal S1x8x512 .f32) (s : Fin 8) (j : Fin 512) :
    k0_pay84 v57 u w g c (ix2 s j) = max (u (ix2 s j)) (Finset.fold max ⊥ (fun x : Fin 16 => k0_pay82 v57 w g c (ix3 x s j)) Finset.univ) := by
  rw [← negInf]
  pointwise [k0_pay84]

/-- A stage of the maxima that adds the value scales' logarithms stays below `⊤`. -/
theorem pay189_lt (v57 : IVec S8x512 32) (w : BitVec 32) (v : FVec Ideal S256x128 .f32) (u : FVec Ideal S8x512 .f32) (g : FVec Ideal S16x8x512 .f32) (c : IVec S16x8x512 32) (s : Fin 8) (j : Fin 512)
    (h : u (ix2 s j) < ⊤) (hv : ∀ a b, v (ix2 a b) < ⊤) (hx : ∀ x : Fin 16, k0_pay186 v57 w g c (ix3 x s j) < ⊤) : k0_pay189 v57 w v u g c (ix2 s j) < ⊤ := by
  pointwise [k0_pay189]
  simp only [max_lt_iff, Finset.fold_max_lt, negInf]
  refine ⟨h, bot_lt_top, fun x _ => EReal.add_lt_top (hx x).ne (ne_of_lt ?_)⟩
  split_ifs <;> exact hv _ _

/-- The carried maximum of score and logarithm of scale stays below +inf. -/
theorem pay85_lt (v57 : IVec S8x512 32) (u : FVec Ideal S8x512 .f32) (w : BitVec 32) (v : FVec Ideal S256x128 .f32) (g : FVec Ideal S16x8x512 .f32) (c : FVec Ideal S1x8x512 .f32) (s : Fin 8) (j : Fin 512)
    (h : u (ix2 s j) < ⊤) (hv : ∀ a b, v (ix2 a b) < ⊤) (hx : ∀ x : Fin 16, k0_pay82 v57 w g c (ix3 x s j) < ⊤) : k0_pay85 v57 u w v g c (ix2 s j) < ⊤ := by
  pointwise [k0_pay85]
  simp only [max_lt_iff, Finset.fold_max_lt, negInf]
  refine ⟨h, bot_lt_top, fun x _ => EReal.add_lt_top (hx x).ne (ne_of_lt ?_)⟩
  split_ifs <;> exact hv _ _

include hp h79 h57 hlim in
/-- A masked score of the first half is below +inf. -/
theorem z3_0_lt (x : Fin 16) (s : Fin 8) (j : Fin 512) :
    k0_pay82 v57 (trip_k0_t3.sl.v223 i v2 v79 k) (trip_k0_t3.sl.v302 i arg6 arg8 arg14 v2 k0_hw1 X_arg6 X_arg8 X_arg14 k) (trip_k0_t3.sl.v303 v48) (ix3 x s j) < ⊤ := by
  rw [z3_0 i arg6 arg8 arg14 v2 k0_hw1 v48 v57 v79 X_arg6 X_arg8 X_arg14 k hp lim h79 h57 hlim x s j ⟨_, row3_lt i v2 k hp 0 (by omega) x s⟩ rfl]
  exact masked_lt ..

include hp h79 h57 hlim in
/-- A masked score of the second half is below +inf. -/
theorem z3_128_lt (x : Fin 16) (s : Fin 8) (j : Fin 512) :
    k0_pay186 v57 (trip_k0_t3.sl.v223 i v2 v79 k) (trip_k0_t3.sl.r_2 i arg6 arg8 arg14 v2 k0_hw1 v48 X_arg6 X_arg8 X_arg14 k) k0_pay87 (ix3 x s j) < ⊤ := by
  rw [z3_128 i arg6 arg8 arg14 v2 k0_hw1 v48 v57 v79 X_arg6 X_arg8 X_arg14 k hp lim h79 h57 hlim x s j ⟨_, row3_lt i v2 k hp 128 (by omega) x s⟩ rfl]
  exact masked_lt ..

include hp h79 h57 hlim in
/-- The running maximum of the scores after a trip of the tail: below `⊤`, at least the carried one, and a score if the trip's first row is seen. -/
theorem m3 (s : Fin 8) (j : Fin 512) (h : acc.1 (ix2 s j) < ⊤) :
    (tripR_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc).1 (ix2 s j) < ⊤ ∧ acc.1 (ix2 s j) ≤ (tripR_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc).1 (ix2 s j)
      ∧ (s.val = 0 → 1024 * nMain (qb i) (pn v2) + 256 * k.val < lim j → ⊥ < (tripR_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc).1 (ix2 s j)) := by
  rw [tripR3_eq]
  dsimp only
  rw [pay188_eq]
  unfold trip_k0_t3.sl.r
  rw [pay84_eq]
  refine ⟨?_, ?_, ?_⟩
  · simp only [max_lt_iff, Finset.fold_max_lt]
    exact ⟨⟨h, bot_lt_top, fun x _ => z3_0_lt i arg6 arg8 arg14 v2 k0_hw1 v48 v57 v79 X_arg6 X_arg8 X_arg14 k hp lim h79 h57 hlim x s j⟩,
      bot_lt_top, fun x _ => z3_128_lt i arg6 arg8 arg14 v2 k0_hw1 v48 v57 v79 X_arg6 X_arg8 X_arg14 k hp lim h79 h57 hlim x s j⟩
  · exact le_max_of_le_left (le_max_left _ _)
  · intro hs hl
    refine lt_max_of_lt_left (lt_max_of_lt_right ?_)
    rw [Finset.lt_fold_max]
    refine Or.inr ⟨0, Finset.mem_univ _, ?_⟩
    rw [z3_0 i arg6 arg8 arg14 v2 k0_hw1 v48 v57 v79 X_arg6 X_arg8 X_arg14 k hp lim h79 h57 hlim 0 s j ⟨_, row3_lt i v2 k hp 0 (by omega) 0 s⟩ rfl,
      if_pos (by show 1024 * nMain (qb i) (pn v2) + 256 * k.val + (0 + (0 * 8 + s.val)) < lim j; omega)]
    exact lt_tanh_cap _

include hp h79 h57 hlim in
/-- The running maximum with the value scales' logarithms stays below `⊤` when the scales are. -/
theorem y3 (hv : ∀ x, arg9.view.read (Elt Ideal) X_arg9 x < ⊤) (s : Fin 8) (j : Fin 512) (h : acc.2 (ix2 s j) < ⊤) :
    (tripR_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc).2 (ix2 s j) < ⊤ := by
  have hw := lv3 i arg9 v2 k0_hw1 X_arg9 k hv
  rw [tripR3_eq]
  refine pay189_lt _ _ _ _ _ _ _ _ ?_ hw fun x => z3_128_lt i arg6 arg8 arg14 v2 k0_hw1 v48 v57 v79 X_arg6 X_arg8 X_arg14 k hp lim h79 h57 hlim x s j
  exact pay85_lt _ _ _ _ _ _ _ _ h hw fun x => z3_0_lt i arg6 arg8 arg14 v2 k0_hw1 v48 v57 v79 X_arg6 X_arg8 X_arg14 k hp lim h79 h57 hlim x s j
end

end Cert.KernelIdeal.Val
end
-- ==== Proof.Value.Loop3b.lean ====
/- All the trips of the first pass over the tail: what the pass leaves, as facts about the buffers and the carried maxima. -/
module

public import proofs.«01_k».proof.Proof.Value.Loop3

@[expose] public section

set_option maxRecDepth 16384

noncomputable section

namespace Cert.KernelIdeal.Val

open Idealize.ShloMosaic Idealize.SL.Sem Cert.KernelIdeal Cert.KernelIdeal.Gen
open Idealize.ShloMosaic.Pointwise

/-- What holds before trip `k` of the tail: the scores of the rows so far are stored, those at or beyond a column's limit masked, and
    the running maxima are bounded. -/
structure F3 (K : S1x16384x128.Idx → EReal) (Q : S512x128.Idx → EReal) (KS VS : S1x1x128x128.Idx → EReal) (cv : S8x512.Idx → EReal)
    (nM : ℕ) (lim : Fin 512 → ℕ) (k : ℕ) (m y : S8x512.Idx → EReal) (z : S16384x512.Idx → EReal) : Prop where
  scores : ∀ (r : Fin 16384) (j : Fin 512), r.val < 1024 * nM + 256 * k → z (ix2 r j) = if r.val < lim j then zfun K Q KS cv r j else ⊥
  m_lt : ∀ (s : Fin 8) (j : Fin 512), m (ix2 s j) < ⊤
  y_lt : (∀ x, VS x < ⊤) → ∀ (s : Fin 8) (j : Fin 512), y (ix2 s j) < ⊤
  lt_m : 0 < nM ∨ 0 < k → ∀ j : Fin 512, ∃ s : Fin 8, ⊥ < m (ix2 s j)

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v48 : FVec Ideal S8x512 .f32) (v57 : IVec S8x512 32) (v76 : BitVec 32) (v79 : BitVec 32) (v99 : BitVec 32) (X_arg6 : BufTy.Contents (Elt Ideal) arg6.view.ty) (X_arg8 : BufTy.Contents (Elt Ideal) arg8.view.ty) (X_arg9 : BufTy.Contents (Elt Ideal) arg9.view.ty) (X_arg14 : BufTy.Contents (Elt Ideal) arg14.view.ty) (k : Fin (k0_t3_loop i v2).trips)
  (acc : FVec Ideal S8x512 .f32 × FVec Ideal S8x512 .f32) (z : BufTy.Contents (Elt Ideal) arg11.view.ty)
  (hp : v2.toInt ≤ 16384) (lim : Fin 512 → ℕ) (h79 : v79 = BitVec.ofNat 32 (1024 * nMain (qb i) (pn v2)))
  (h57 : ∀ (s : Fin 8) (j : Fin 512), v57 (ix2 s j) = BitVec.ofNat 32 (lim j)) (hlim : ∀ j, lim j < 2 ^ 31)

include hp h79 h57 hlim in
/-- The scores after a trip of the tail. -/
theorem trip3_z (r : Fin 16384) (j : Fin 512) (hr : r.val < 1024 * nMain (qb i) (pn v2) + 256 * (k.val + 1)) :
    arg11.view.read (Elt Ideal) (arg11.view.writes (Elt Ideal) z (tripL_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc)) (ix2 r j)
      = if r.val < 1024 * nMain (qb i) (pn v2) + 256 * k.val then arg11.view.read (Elt Ideal) z (ix2 r j)
        else if r.val < lim j then zfun (arg6.view.read (Elt Ideal) X_arg6) (arg14.view.read (Elt Ideal) X_arg14) (arg8.view.read (Elt Ideal) X_arg8) v48 r j else ⊥ := by
  unfold tripL_k0_t3 trip_k0_t3
  dsimp only
  by_cases h128 : 1024 * nMain (qb i) (pn v2) + 256 * k.val + 128 ≤ r.val
  · rw [if_neg (by omega)]
    have e : r.val = 1024 * nMain (qb i) (pn v2) + 256 * k.val + (128 + ((r.val - (1024 * nMain (qb i) (pn v2) + 256 * k.val + 128)) / 8 * 8 + (r.val - (1024 * nMain (qb i) (pn v2) + 256 * k.val + 128)) % 8)) := by omega
    refine (View.read_writes_cons_rows_of_mem arg11.view z _ _ _ (ix2 r j) (ix2 (⟨r.val - (1024 * nMain (qb i) (pn v2) + 256 * k.val + 128), by omega⟩ : Fin 128) j) (off10_eq i v2 hp k 128 (by omega)) ?_ rfl).trans ?_
    · show r.val = 1024 * nMain (qb i) (pn v2) + 256 * k.val + 128 + (r.val - (1024 * nMain (qb i) (pn v2) + 256 * k.val + 128)); omega
    · have ez := z3_128 i arg6 arg8 arg14 v2 k0_hw1 v48 v57 v79 X_arg6 X_arg8 X_arg14 k hp lim h79 h57 hlim (⟨(r.val - (1024 * nMain (qb i) (pn v2) + 256 * k.val + 128)) / 8, by omega⟩ : Fin 16) (⟨(r.val - (1024 * nMain (qb i) (pn v2) + 256 * k.val + 128)) % 8, by omega⟩ : Fin 8) j r e
      rw [← ez]
      pointwise [k0_pay187]
  refine (View.read_writes_cons_rows_of_not_mem arg11.view z _ _ _ (ix2 r j) (off10_eq i v2 hp k 128 (by omega)) (W := 128) rfl (Or.inl (by show r.val < 1024 * nMain (qb i) (pn v2) + 256 * k.val + 128; omega))).trans ?_
  by_cases h0 : 1024 * nMain (qb i) (pn v2) + 256 * k.val + 0 ≤ r.val
  · rw [if_neg (by omega)]
    have e : r.val = 1024 * nMain (qb i) (pn v2) + 256 * k.val + (0 + ((r.val - (1024 * nMain (qb i) (pn v2) + 256 * k.val + 0)) / 8 * 8 + (r.val - (1024 * nMain (qb i) (pn v2) + 256 * k.val + 0)) % 8)) := by omega
    refine (View.read_writes_cons_rows_of_mem arg11.view z _ _ _ (ix2 r j) (ix2 (⟨r.val - (1024 * nMain (qb i) (pn v2) + 256 * k.val + 0), by omega⟩ : Fin 128) j) (off10_eq i v2 hp k 0 (by omega)) ?_ rfl).trans ?_
    · show r.val = 1024 * nMain (qb i) (pn v2) + 256 * k.val + 0 + (r.val - (1024 * nMain (qb i) (pn v2) + 256 * k.val + 0)); omega
    · have ez := z3_0 i arg6 arg8 arg14 v2 k0_hw1 v48 v57 v79 X_arg6 X_arg8 X_arg14 k hp lim h79 h57 hlim (⟨(r.val - (1024 * nMain (qb i) (pn v2) + 256 * k.val + 0)) / 8, by omega⟩ : Fin 16) (⟨(r.val - (1024 * nMain (qb i) (pn v2) + 256 * k.val + 0)) % 8, by omega⟩ : Fin 8) j r e
      rw [← ez]
      pointwise [k0_pay83]
  refine (View.read_writes_cons_rows_of_not_mem arg11.view z _ _ _ (ix2 r j) (off10_eq i v2 hp k 0 (by omega)) (W := 128) rfl (Or.inl (by show r.val < 1024 * nMain (qb i) (pn v2) + 256 * k.val + 0; omega))).trans ?_
  rw [if_pos (by omega)]
  rfl

include hp h79 h57 hlim in
/-- One trip of the tail takes the facts before it to the facts after it. -/
theorem F3_step (h1 : ∀ j, 0 < lim j) (h : F3 (arg6.view.read (Elt Ideal) X_arg6) (arg14.view.read (Elt Ideal) X_arg14) (arg8.view.read (Elt Ideal) X_arg8) (arg9.view.read (Elt Ideal) X_arg9) v48 (nMain (qb i) (pn v2)) lim k.val acc.1 acc.2 (arg11.view.read (Elt Ideal) z)) :
    F3 (arg6.view.read (Elt Ideal) X_arg6) (arg14.view.read (Elt Ideal) X_arg14) (arg8.view.read (Elt Ideal) X_arg8) (arg9.view.read (Elt Ideal) X_arg9) v48 (nMain (qb i) (pn v2)) lim (k.val + 1)
      (tripR_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc).1 (tripR_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc).2
      (arg11.view.read (Elt Ideal) (arg11.view.writes (Elt Ideal) z (tripL_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 k acc))) where
  scores r j hr := by
    rw [trip3_z (hp := hp) (lim := lim) (h79 := h79) (h57 := h57) (hlim := hlim) (hr := hr)]
    by_cases hc : r.val < 1024 * nMain (qb i) (pn v2) + 256 * k.val
    · rw [if_pos hc]; exact h.scores r j hc
    · rw [if_neg hc]
  m_lt s j := (m3 (hp := hp) (lim := lim) (h79 := h79) (h57 := h57) (hlim := hlim) (h := h.m_lt s j) ..).1
  y_lt hv s j := y3 (hp := hp) (lim := lim) (h79 := h79) (h57 := h57) (hlim := hlim) (hv := hv) (h := h.y_lt hv s j) ..
  lt_m _ j := by
    by_cases hc : 0 < nMain (qb i) (pn v2) ∨ 0 < k.val
    · obtain ⟨s, hs⟩ := h.lt_m hc j
      exact ⟨s, lt_of_lt_of_le hs (m3 (hp := hp) (lim := lim) (h79 := h79) (h57 := h57) (hlim := hlim) (h := h.m_lt s j) ..).2.1⟩
    · exact ⟨0, (m3 (hp := hp) (lim := lim) (h79 := h79) (h57 := h57) (hlim := hlim) (h := h.m_lt 0 j) ..).2.2 rfl (by have := h1 j; omega)⟩
end

open Idealize.ShloMosaic.TcCoe Idealize.ShloMosaic.Tactic Idealize.SL Idealize.SL.RA Idealize.SL.BI
open scoped Idealize.SL.BI
open Idealize.SL.BI.BIBase Idealize.SL.BI.Laws Idealize.SL.ProofMode

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v48 : FVec Ideal S8x512 .f32) (v57 : IVec S8x512 32) (v76 : BitVec 32) (v79 : BitVec 32) (v99 : BitVec 32) (X_arg6 : BufTy.Contents (Elt Ideal) arg6.view.ty) (X_arg8 : BufTy.Contents (Elt Ideal) arg8.view.ty) (X_arg9 : BufTy.Contents (Elt Ideal) arg9.view.ty) (X_arg14 : BufTy.Contents (Elt Ideal) arg14.view.ty) (G_arg11 : BufTy.Contents (Elt Ideal) arg11.view.ty)
  (init : FVec Ideal S8x512 .f32 × FVec Ideal S8x512 .f32)

/-- All the trips of the tail: the facts hold before every one of them, and after the last. -/
theorem F3_all (hp : v2.toInt ≤ 16384) (lim : Fin 512 → ℕ) (h79 : v79 = BitVec.ofNat 32 (1024 * nMain (qb i) (pn v2)))
    (h57 : ∀ (s : Fin 8) (j : Fin 512), v57 (ix2 s j) = BitVec.ofNat 32 (lim j)) (hlim : ∀ j, lim j < 2 ^ 31) (h1 : ∀ j, 0 < lim j)
    (h0 : F3 (arg6.view.read (Elt Ideal) X_arg6) (arg14.view.read (Elt Ideal) X_arg14) (arg8.view.read (Elt Ideal) X_arg8) (arg9.view.read (Elt Ideal) X_arg9) v48 (nMain (qb i) (pn v2)) lim 0 init.1 init.2 (arg11.view.read (Elt Ideal) G_arg11)) (k : ℕ) (hk : k ≤ (k0_t3_loop i v2).trips) :
    F3 (arg6.view.read (Elt Ideal) X_arg6) (arg14.view.read (Elt Ideal) X_arg14) (arg8.view.read (Elt Ideal) X_arg8) (arg9.view.read (Elt Ideal) X_arg9) v48 (nMain (qb i) (pn v2)) lim k (st_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 init k).1.1 (st_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 init k).1.2
      (arg11.view.read (Elt Ideal) (arg11.view.writes (Elt Ideal) G_arg11 (st_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 init k).2)) := by
  induction k with
  | zero => exact h0
  | succ k ih =>
    have e := st_k0_t3_succ 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 init ⟨k, by omega⟩
    dsimp only at e
    rw [e, View.writes_append]
    exact F3_step (hp := hp) (lim := lim) (h79 := h79) (h57 := h57) (hlim := hlim) (h1 := h1) (k := ⟨k, by omega⟩) (h := ih (by omega)) ..

set_option warn.classDefReducibility false in
/-- What the run of the body takes out of the pass over the tail: its buffers, with the facts. -/
def exit3 (E : Set ℕ) : LoopExit (loopInv_k0_t3 (F := Ideal) 𝒱 c bd E i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 init) where
  post acc := iprop((arg6.view.loc (c : Thread nD τ) ↦[arg6.view.set]{fullShare} X_arg6) ∗ (arg8.view.loc (c : Thread nD τ) ↦[arg8.view.set]{fullShare} X_arg8)
    ∗ (arg9.view.loc (c : Thread nD τ) ↦[arg9.view.set]{fullShare} X_arg9) ∗ (arg14.view.loc (c : Thread nD τ) ↦[arg14.view.set]{fullShare} X_arg14)
    ∗ (∃ f, (arg11.view.loc (c : Thread nD τ) ↦[arg11.view.set]{fullShare} f)
      ∗ ⌜v2.toInt ≤ 16384 → ∀ lim : Fin 512 → ℕ, v79 = BitVec.ofNat 32 (1024 * nMain (qb i) (pn v2)) →
          (∀ (s : Fin 8) (j : Fin 512), v57 (ix2 s j) = BitVec.ofNat 32 (lim j)) → (∀ j, lim j < 2 ^ 31) → (∀ j, 0 < lim j) →
          F3 (arg6.view.read (Elt Ideal) X_arg6) (arg14.view.read (Elt Ideal) X_arg14) (arg8.view.read (Elt Ideal) X_arg8) (arg9.view.read (Elt Ideal) X_arg9) v48 (nMain (qb i) (pn v2)) lim 0 init.1 init.2 (arg11.view.read (Elt Ideal) G_arg11) →
          F3 (arg6.view.read (Elt Ideal) X_arg6) (arg14.view.read (Elt Ideal) X_arg14) (arg8.view.read (Elt Ideal) X_arg8) (arg9.view.read (Elt Ideal) X_arg9) v48 (nMain (qb i) (pn v2)) lim (nTail (qb i) (pn v2)) acc.1 acc.2 (arg11.view.read (Elt Ideal) f)⌝))
  exit acc := by
    show inv_k0_t3 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 init (k0_t3_loop i v2).trips acc ⊢ _
    iintro ⟨H6, H8, H9, H14, ⟨%f, H11, %hf⟩, %ha⟩
    isplitl [H6]; · iexact H6
    isplitl [H8]; · iexact H8
    isplitl [H9]; · iexact H9
    isplitl [H14]; · iexact H14
    iexists f
    isplitl [H11]; · iexact H11
    ipureintro
    intro hp lim h79 h57 hlim h1 h0
    subst hf ha
    have h := F3_all 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 X_arg6 X_arg8 X_arg9 X_arg14 G_arg11 init hp lim h79 h57 hlim h1 h0 (k0_t3_loop i v2).trips le_rfl
    rw [← show (k0_t3_loop i v2).trips = nTail (qb i) (pn v2) from trips3 i v2 hp]
    exact h
end

end Cert.KernelIdeal.Val
end
-- ==== Proof.Value.Loop5.lean ====
/- The second pass over whole blocks of 1024 keys: the weights of a block, their sums, and the block of scaled weights stored for the
   next trip's product. -/
module

public import proofs.«01_k».proof.Proof.Value.Loop1

@[expose] public section

set_option maxRecDepth 16384

noncomputable section

namespace Cert.KernelIdeal.Val

open Idealize.ShloMosaic Idealize.SL.Sem Cert.KernelIdeal Cert.KernelIdeal.Gen
open Idealize.ShloMosaic.Pointwise

/-- The weight of row `r` for column `j`: two to the stored score less the bias. -/
def wgt (z : S16384x512.Idx → EReal) (b : S8x512.Idx → EReal) (r : ℕ) (j : Fin 512) : EReal :=
  Ideal.exp2 (z (ix2 (⟨r % 16384, Nat.mod_lt _ (by omega)⟩ : Fin 16384) j) - b (ix2 (⟨r % 8, Nat.mod_lt _ (by omega)⟩ : Fin 8) j))

/-- The value scale of row `r`. -/
def vsc (VS : S1x1x128x128.Idx → EReal) (r : ℕ) : EReal :=
  VS (ix4 (0 : Fin 1) (0 : Fin 1) (⟨r / 128 % 128, Nat.mod_lt _ (by omega)⟩ : Fin 128) (⟨r % 128, Nat.mod_lt _ (by omega)⟩ : Fin 128))

/-- The value code of row `r` in column `d` of the head. -/
def vat (V : S1x128x16384.Idx → EReal) (d : Fin 128) (r : ℕ) : EReal :=
  V (ix3 (0 : Fin 1) d (⟨r % 16384, Nat.mod_lt _ (by omega)⟩ : Fin 16384))

/-- A weight of the second pass is that of its row and column. -/
theorem wgt_at (z : S16384x512.Idx → EReal) (b : S8x512.Idx → EReal) (r : ℕ) (j : Fin 512) (r' : Fin 16384) (s' : Fin 8) (hr : r = r'.val) (hs : s'.val = r % 8) :
    Ideal.exp2 (z (ix2 r' j) - b (ix2 s' j)) = wgt z b r j := by
  subst hr
  unfold wgt
  rw [show (⟨r'.val % 16384, Nat.mod_lt _ (by omega)⟩ : Fin 16384) = r' from Fin.ext (Nat.mod_eq_of_lt r'.isLt),
    show (⟨r'.val % 8, Nat.mod_lt _ (by omega)⟩ : Fin 8) = s' from Fin.ext hs.symm]

/-- A weight times its scale does not depend on how the row is written. -/
theorem prod_at (z : S16384x512.Idx → EReal) (b : S8x512.Idx → EReal) (VS : S1x1x128x128.Idx → EReal) (j : Fin 512) {r r1 r2 : ℕ} (h1 : r1 = r) (h2 : r2 = r) :
    wgt z b r1 j * vsc VS r2 = wgt z b r j * vsc VS r := by
  rw [h1, h2]

/-- A running sum over an initial segment, extended by a block of terms. -/
theorem sum_more (g : ℕ → EReal) (n : ℕ) {N m : ℕ} {S : EReal} {f : Fin N → EReal} (hS : S = ∑ r ∈ Finset.range n, g r) (hf : ∀ x, f x = g (n + x.val)) (hm : m = n + N) :
    S + ∑ x, f x = ∑ r ∈ Finset.range m, g r := by
  rw [hm, Finset.sum_range_add, Finset.sum_range (fun x => g (n + x)), hS, Finset.sum_congr rfl fun x _ => hf x]

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v76 : BitVec 32) (v123 : FVec Ideal S1x512 .f32) (v126 : FVec Ideal S1x512 .f32) (v129 : FVec Ideal S1x512 .f32) (v135 : FVec Ideal S1x512 .f32) (cst_71 : Ideal .f32) (X_arg7 : BufTy.Contents (Elt Ideal) arg7.view.ty) (X_arg9 : BufTy.Contents (Elt Ideal) arg9.view.ty) (X_arg11 : BufTy.Contents (Elt Ideal) arg11.view.ty) (k : Fin (k0_t5_loop i v2).trips)
  (acc : FVec Ideal S8x512 .f32) (p : BufTy.Contents (Elt Ideal) arg13.view.ty) (o : BufTy.Contents (Elt Ideal) arg15.view.ty)
  (hp : v2.toInt ≤ 16384)

include hp in
/-- The main loop of the second pass has at most 16 trips. -/
theorem t5_lt16 : k.val < 16 := by
  have h := nMain_le i v2 hp
  have hk : k.val < nMain (qb i) (pn v2) := lt_of_lt_of_eq k.isLt (trips5 i v2 hp)
  omega

set_option maxHeartbeats 400000 in
include hp in
/-- The value scales a trip lays out along its rows. -/
theorem vs5 (a : Fin 1024) (b : Fin 128) : trip_k0_t5.sl.v311 i arg9 v2 k0_hw1 X_arg9 k (ix2 a b) = vsc (arg9.view.read (Elt Ideal) X_arg9) (1024 * k.val + a.val) := by
  have h16 := t5_lt16 i v2 k hp
  pointwise [trip_k0_t5.sl.v311, trip_k0_t5.sl.v258, trip_k0_t5.sl.v259, trip_k0_t5.sl.v260, trip_k0_t5.sl.v261, trip_k0_t5.sl.v265, trip_k0_t5.sl.v266, trip_k0_t5.sl.v267, trip_k0_t5.sl.v268, trip_k0_t5.sl.v272, trip_k0_t5.sl.v273, trip_k0_t5.sl.v274, trip_k0_t5.sl.v275, trip_k0_t5.sl.v279, trip_k0_t5.sl.v280, trip_k0_t5.sl.v281, trip_k0_t5.sl.v282, trip_k0_t5.sl.v286, trip_k0_t5.sl.v287, trip_k0_t5.sl.v288, trip_k0_t5.sl.v289, trip_k0_t5.sl.v293, trip_k0_t5.sl.v294, trip_k0_t5.sl.v295, trip_k0_t5.sl.v296, trip_k0_t5.sl.v300, trip_k0_t5.sl.v301, trip_k0_t5.sl.v302, trip_k0_t5.sl.v303, trip_k0_t5.sl.v307, trip_k0_t5.sl.v308, trip_k0_t5.sl.v309, trip_k0_t5.sl.v310]
  split_ifs
  · exact row_at _ _ _ _ (off15_eq i v2 hp k 0 (by omega)) _ _ _ (by dsimp only; omega) (by dsimp only; omega)
  · exact row_at _ _ _ _ (off15_eq i v2 hp k 0 (by omega)) _ _ _ (by dsimp only; omega) (by dsimp only; omega)
  · exact row_at _ _ _ _ (off15_eq i v2 hp k 1 (by omega)) _ _ _ (by dsimp only; omega) (by dsimp only; omega)
  · exact row_at _ _ _ _ (off15_eq i v2 hp k 1 (by omega)) _ _ _ (by dsimp only; omega) (by dsimp only; omega)
  · exact row_at _ _ _ _ (off15_eq i v2 hp k 2 (by omega)) _ _ _ (by dsimp only; omega) (by dsimp only; omega)
  · exact row_at _ _ _ _ (off15_eq i v2 hp k 2 (by omega)) _ _ _ (by dsimp only; omega) (by dsimp only; omega)
  · exact row_at _ _ _ _ (off15_eq i v2 hp k 3 (by omega)) _ _ _ (by dsimp only; omega) (by dsimp only; omega)
  · exact row_at _ _ _ _ (off15_eq i v2 hp k 3 (by omega)) _ _ _ (by dsimp only; omega) (by dsimp only; omega)
  · exact row_at _ _ _ _ (off15_eq i v2 hp k 4 (by omega)) _ _ _ (by dsimp only; omega) (by dsimp only; omega)
  · exact row_at _ _ _ _ (off15_eq i v2 hp k 4 (by omega)) _ _ _ (by dsimp only; omega) (by dsimp only; omega)
  · exact row_at _ _ _ _ (off15_eq i v2 hp k 5 (by omega)) _ _ _ (by dsimp only; omega) (by dsimp only; omega)
  · exact row_at _ _ _ _ (off15_eq i v2 hp k 5 (by omega)) _ _ _ (by dsimp only; omega) (by dsimp only; omega)
  · exact row_at _ _ _ _ (off15_eq i v2 hp k 6 (by omega)) _ _ _ (by dsimp only; omega) (by dsimp only; omega)
  · exact row_at _ _ _ _ (off15_eq i v2 hp k 6 (by omega)) _ _ _ (by dsimp only; omega) (by dsimp only; omega)
  · exact row_at _ _ _ _ (off15_eq i v2 hp k 7 (by omega)) _ _ _ (by dsimp only; omega) (by dsimp only; omega)
  · exact row_at _ _ _ _ (off15_eq i v2 hp k 7 (by omega)) _ _ _ (by dsimp only; omega) (by dsimp only; omega)

include hp in
/-- The weights of rows 0 to 127 of the block. -/
theorem e5_0 (x : Fin 16) (s : Fin 8) (j : Fin 512) : trip_k0_t5.sl.v319 i arg11 v2 k0_hw1 v123 v126 v129 v135 cst_71 X_arg11 k (ix3 x s j) = wgt (arg11.view.read (Elt Ideal) X_arg11) (k0_pay198 v123 v126 v129 v135 cst_71) (1024 * k.val + 0 + 8 * x.val + s.val) j := by
  have h16 := t5_lt16 i v2 k hp
  pointwise [trip_k0_t5.sl.v319, trip_k0_t5.sl.v318, trip_k0_t5.sl.v315, trip_k0_t5.sl.v317, trip_k0_t5.sl.v316]
  rw [rows_apply _ _ _ _ (off16_eq i v2 hp k 0 (by omega)) _ _ (by dsimp only; omega)]
  exact wgt_at _ _ _ _ _ _ (by dsimp only; omega) (by omega)

include hp in
/-- The scaled weights of rows 0 to 127 of the block. -/
theorem p5_0 (a : Fin 128) (j : Fin 512) : k0_pay202 (trip_k0_t5.sl.v327 i arg9 arg11 v2 k0_hw1 v123 v126 v129 v135 cst_71 X_arg9 X_arg11 k) (ix2 a j)
      = wgt (arg11.view.read (Elt Ideal) X_arg11) (k0_pay198 v123 v126 v129 v135 cst_71) (1024 * k.val + 0 + a.val) j * vsc (arg9.view.read (Elt Ideal) X_arg9) (1024 * k.val + 0 + a.val) := by
  pointwise [k0_pay202, trip_k0_t5.sl.v327, trip_k0_t5.sl.v326, trip_k0_t5.sl.v325, trip_k0_t5.sl.v324, trip_k0_t5.sl.v323, trip_k0_t5.sl.v322]
  simp only [vs5 i arg9 v2 k0_hw1 X_arg9 k hp, e5_0 i arg11 v2 k0_hw1 v123 v126 v129 v135 cst_71 X_arg11 k hp]
  split_ifs <;> exact prod_at _ _ _ _ (by omega) (by omega)

include hp in
/-- The weights of rows 128 to 255 of the block. -/
theorem e5_128 (x : Fin 16) (s : Fin 8) (j : Fin 512) : trip_k0_t5.sl.v335 i arg11 v2 k0_hw1 v123 v126 v129 v135 cst_71 X_arg11 k (ix3 x s j) = wgt (arg11.view.read (Elt Ideal) X_arg11) (k0_pay198 v123 v126 v129 v135 cst_71) (1024 * k.val + 128 + 8 * x.val + s.val) j := by
  have h16 := t5_lt16 i v2 k hp
  pointwise [trip_k0_t5.sl.v335, trip_k0_t5.sl.v334, trip_k0_t5.sl.v331, trip_k0_t5.sl.v317, trip_k0_t5.sl.v316]
  rw [rows_apply _ _ _ _ (off16_eq i v2 hp k 128 (by omega)) _ _ (by dsimp only; omega)]
  exact wgt_at _ _ _ _ _ _ (by dsimp only; omega) (by omega)

include hp in
/-- The scaled weights of rows 128 to 255 of the block. -/
theorem p5_128 (a : Fin 128) (j : Fin 512) : k0_pay203 (trip_k0_t5.sl.v343 i arg9 arg11 v2 k0_hw1 v123 v126 v129 v135 cst_71 X_arg9 X_arg11 k) (ix2 a j)
      = wgt (arg11.view.read (Elt Ideal) X_arg11) (k0_pay198 v123 v126 v129 v135 cst_71) (1024 * k.val + 128 + a.val) j * vsc (arg9.view.read (Elt Ideal) X_arg9) (1024 * k.val + 128 + a.val) := by
  pointwise [k0_pay203, trip_k0_t5.sl.v343, trip_k0_t5.sl.v342, trip_k0_t5.sl.v341, trip_k0_t5.sl.v340, trip_k0_t5.sl.v339, trip_k0_t5.sl.v338]
  simp only [vs5 i arg9 v2 k0_hw1 X_arg9 k hp, e5_128 i arg11 v2 k0_hw1 v123 v126 v129 v135 cst_71 X_arg11 k hp]
  split_ifs <;> exact prod_at _ _ _ _ (by omega) (by omega)

include hp in
/-- The weights of rows 256 to 383 of the block. -/
theorem e5_256 (x : Fin 16) (s : Fin 8) (j : Fin 512) : trip_k0_t5.sl.v351 i arg11 v2 k0_hw1 v123 v126 v129 v135 cst_71 X_arg11 k (ix3 x s j) = wgt (arg11.view.read (Elt Ideal) X_arg11) (k0_pay198 v123 v126 v129 v135 cst_71) (1024 * k.val + 256 + 8 * x.val + s.val) j := by
  have h16 := t5_lt16 i v2 k hp
  pointwise [trip_k0_t5.sl.v351, trip_k0_t5.sl.v350, trip_k0_t5.sl.v347, trip_k0_t5.sl.v317, trip_k0_t5.sl.v316]
  rw [rows_apply _ _ _ _ (off16_eq i v2 hp k 256 (by omega)) _ _ (by dsimp only; omega)]
  exact wgt_at _ _ _ _ _ _ (by dsimp only; omega) (by omega)

include hp in
/-- The scaled weights of rows 256 to 383 of the block. -/
theorem p5_256 (a : Fin 128) (j : Fin 512) : k0_pay204 (trip_k0_t5.sl.v359 i arg9 arg11 v2 k0_hw1 v123 v126 v129 v135 cst_71 X_arg9 X_arg11 k) (ix2 a j)
      = wgt (arg11.view.read (Elt Ideal) X_arg11) (k0_pay198 v123 v126 v129 v135 cst_71) (1024 * k.val + 256 + a.val) j * vsc (arg9.view.read (Elt Ideal) X_arg9) (1024 * k.val + 256 + a.val) := by
  pointwise [k0_pay204, trip_k0_t5.sl.v359, trip_k0_t5.sl.v358, trip_k0_t5.sl.v357, trip_k0_t5.sl.v356, trip_k0_t5.sl.v355, trip_k0_t5.sl.v354]
  simp only [vs5 i arg9 v2 k0_hw1 X_arg9 k hp, e5_256 i arg11 v2 k0_hw1 v123 v126 v129 v135 cst_71 X_arg11 k hp]
  split_ifs <;> exact prod_at _ _ _ _ (by omega) (by omega)

include hp in
/-- The weights of rows 384 to 511 of the block. -/
theorem e5_384 (x : Fin 16) (s : Fin 8) (j : Fin 512) : trip_k0_t5.sl.v367 i arg11 v2 k0_hw1 v123 v126 v129 v135 cst_71 X_arg11 k (ix3 x s j) = wgt (arg11.view.read (Elt Ideal) X_arg11) (k0_pay198 v123 v126 v129 v135 cst_71) (1024 * k.val + 384 + 8 * x.val + s.val) j := by
  have h16 := t5_lt16 i v2 k hp
  pointwise [trip_k0_t5.sl.v367, trip_k0_t5.sl.v366, trip_k0_t5.sl.v363, trip_k0_t5.sl.v317, trip_k0_t5.sl.v316]
  rw [rows_apply _ _ _ _ (off16_eq i v2 hp k 384 (by omega)) _ _ (by dsimp only; omega)]
  exact wgt_at _ _ _ _ _ _ (by dsimp only; omega) (by omega)

include hp in
/-- The scaled weights of rows 384 to 511 of the block. -/
theorem p5_384 (a : Fin 128) (j : Fin 512) : k0_pay205 (trip_k0_t5.sl.v375 i arg9 arg11 v2 k0_hw1 v123 v126 v129 v135 cst_71 X_arg9 X_arg11 k) (ix2 a j)
      = wgt (arg11.view.read (Elt Ideal) X_arg11) (k0_pay198 v123 v126 v129 v135 cst_71) (1024 * k.val + 384 + a.val) j * vsc (arg9.view.read (Elt Ideal) X_arg9) (1024 * k.val + 384 + a.val) := by
  pointwise [k0_pay205, trip_k0_t5.sl.v375, trip_k0_t5.sl.v374, trip_k0_t5.sl.v373, trip_k0_t5.sl.v372, trip_k0_t5.sl.v371, trip_k0_t5.sl.v370]
  simp only [vs5 i arg9 v2 k0_hw1 X_arg9 k hp, e5_384 i arg11 v2 k0_hw1 v123 v126 v129 v135 cst_71 X_arg11 k hp]
  split_ifs <;> exact prod_at _ _ _ _ (by omega) (by omega)

include hp in
/-- The weights of rows 512 to 639 of the block. -/
theorem e5_512 (x : Fin 16) (s : Fin 8) (j : Fin 512) : trip_k0_t5.sl.v383 i arg11 v2 k0_hw1 v123 v126 v129 v135 cst_71 X_arg11 k (ix3 x s j) = wgt (arg11.view.read (Elt Ideal) X_arg11) (k0_pay198 v123 v126 v129 v135 cst_71) (1024 * k.val + 512 + 8 * x.val + s.val) j := by
  have h16 := t5_lt16 i v2 k hp
  pointwise [trip_k0_t5.sl.v383, trip_k0_t5.sl.v382, trip_k0_t5.sl.v379, trip_k0_t5.sl.v317, trip_k0_t5.sl.v316]
  rw [rows_apply _ _ _ _ (off16_eq i v2 hp k 512 (by omega)) _ _ (by dsimp only; omega)]
  exact wgt_at _ _ _ _ _ _ (by dsimp only; omega) (by omega)

include hp in
/-- The scaled weights of rows 512 to 639 of the block. -/
theorem p5_512 (a : Fin 128) (j : Fin 512) : k0_pay206 (trip_k0_t5.sl.v391 i arg9 arg11 v2 k0_hw1 v123 v126 v129 v135 cst_71 X_arg9 X_arg11 k) (ix2 a j)
      = wgt (arg11.view.read (Elt Ideal) X_arg11) (k0_pay198 v123 v126 v129 v135 cst_71) (1024 * k.val + 512 + a.val) j * vsc (arg9.view.read (Elt Ideal) X_arg9) (1024 * k.val + 512 + a.val) := by
  pointwise [k0_pay206, trip_k0_t5.sl.v391, trip_k0_t5.sl.v390, trip_k0_t5.sl.v389, trip_k0_t5.sl.v388, trip_k0_t5.sl.v387, trip_k0_t5.sl.v386]
  simp only [vs5 i arg9 v2 k0_hw1 X_arg9 k hp, e5_512 i arg11 v2 k0_hw1 v123 v126 v129 v135 cst_71 X_arg11 k hp]
  split_ifs <;> exact prod_at _ _ _ _ (by omega) (by omega)

include hp in
/-- The weights of rows 640 to 767 of the block. -/
theorem e5_640 (x : Fin 16) (s : Fin 8) (j : Fin 512) : trip_k0_t5.sl.v399 i arg11 v2 k0_hw1 v123 v126 v129 v135 cst_71 X_arg11 k (ix3 x s j) = wgt (arg11.view.read (Elt Ideal) X_arg11) (k0_pay198 v123 v126 v129 v135 cst_71) (1024 * k.val + 640 + 8 * x.val + s.val) j := by
  have h16 := t5_lt16 i v2 k hp
  pointwise [trip_k0_t5.sl.v399, trip_k0_t5.sl.v398, trip_k0_t5.sl.v395, trip_k0_t5.sl.v317, trip_k0_t5.sl.v316]
  rw [rows_apply _ _ _ _ (off16_eq i v2 hp k 640 (by omega)) _ _ (by dsimp only; omega)]
  exact wgt_at _ _ _ _ _ _ (by dsimp only; omega) (by omega)

include hp in
/-- The scaled weights of rows 640 to 767 of the block. -/
theorem p5_640 (a : Fin 128) (j : Fin 512) : k0_pay207 (trip_k0_t5.sl.v407 i arg9 arg11 v2 k0_hw1 v123 v126 v129 v135 cst_71 X_arg9 X_arg11 k) (ix2 a j)
      = wgt (arg11.view.read (Elt Ideal) X_arg11) (k0_pay198 v123 v126 v129 v135 cst_71) (1024 * k.val + 640 + a.val) j * vsc (arg9.view.read (Elt Ideal) X_arg9) (1024 * k.val + 640 + a.val) := by
  pointwise [k0_pay207, trip_k0_t5.sl.v407, trip_k0_t5.sl.v406, trip_k0_t5.sl.v405, trip_k0_t5.sl.v404, trip_k0_t5.sl.v403, trip_k0_t5.sl.v402]
  simp only [vs5 i arg9 v2 k0_hw1 X_arg9 k hp, e5_640 i arg11 v2 k0_hw1 v123 v126 v129 v135 cst_71 X_arg11 k hp]
  split_ifs <;> exact prod_at _ _ _ _ (by omega) (by omega)

include hp in
/-- The weights of rows 768 to 895 of the block. -/
theorem e5_768 (x : Fin 16) (s : Fin 8) (j : Fin 512) : trip_k0_t5.sl.v415 i arg11 v2 k0_hw1 v123 v126 v129 v135 cst_71 X_arg11 k (ix3 x s j) = wgt (arg11.view.read (Elt Ideal) X_arg11) (k0_pay198 v123 v126 v129 v135 cst_71) (1024 * k.val + 768 + 8 * x.val + s.val) j := by
  have h16 := t5_lt16 i v2 k hp
  pointwise [trip_k0_t5.sl.v415, trip_k0_t5.sl.v414, trip_k0_t5.sl.v411, trip_k0_t5.sl.v317, trip_k0_t5.sl.v316]
  rw [rows_apply _ _ _ _ (off16_eq i v2 hp k 768 (by omega)) _ _ (by dsimp only; omega)]
  exact wgt_at _ _ _ _ _ _ (by dsimp only; omega) (by omega)

include hp in
/-- The scaled weights of rows 768 to 895 of the block. -/
theorem p5_768 (a : Fin 128) (j : Fin 512) : k0_pay208 (trip_k0_t5.sl.v423 i arg9 arg11 v2 k0_hw1 v123 v126 v129 v135 cst_71 X_arg9 X_arg11 k) (ix2 a j)
      = wgt (arg11.view.read (Elt Ideal) X_arg11) (k0_pay198 v123 v126 v129 v135 cst_71) (1024 * k.val + 768 + a.val) j * vsc (arg9.view.read (Elt Ideal) X_arg9) (1024 * k.val + 768 + a.val) := by
  pointwise [k0_pay208, trip_k0_t5.sl.v423, trip_k0_t5.sl.v422, trip_k0_t5.sl.v421, trip_k0_t5.sl.v420, trip_k0_t5.sl.v419, trip_k0_t5.sl.v418]
  simp only [vs5 i arg9 v2 k0_hw1 X_arg9 k hp, e5_768 i arg11 v2 k0_hw1 v123 v126 v129 v135 cst_71 X_arg11 k hp]
  split_ifs <;> exact prod_at _ _ _ _ (by omega) (by omega)

include hp in
/-- The weights of rows 896 to 1023 of the block. -/
theorem e5_896 (x : Fin 16) (s : Fin 8) (j : Fin 512) : trip_k0_t5.sl.v431 i arg11 v2 k0_hw1 v123 v126 v129 v135 cst_71 X_arg11 k (ix3 x s j) = wgt (arg11.view.read (Elt Ideal) X_arg11) (k0_pay198 v123 v126 v129 v135 cst_71) (1024 * k.val + 896 + 8 * x.val + s.val) j := by
  have h16 := t5_lt16 i v2 k hp
  pointwise [trip_k0_t5.sl.v431, trip_k0_t5.sl.v430, trip_k0_t5.sl.v427, trip_k0_t5.sl.v317, trip_k0_t5.sl.v316]
  rw [rows_apply _ _ _ _ (off16_eq i v2 hp k 896 (by omega)) _ _ (by dsimp only; omega)]
  exact wgt_at _ _ _ _ _ _ (by dsimp only; omega) (by omega)

include hp in
/-- The scaled weights of rows 896 to 1023 of the block. -/
theorem p5_896 (a : Fin 128) (j : Fin 512) : k0_pay209 (trip_k0_t5.sl.v439 i arg9 arg11 v2 k0_hw1 v123 v126 v129 v135 cst_71 X_arg9 X_arg11 k) (ix2 a j)
      = wgt (arg11.view.read (Elt Ideal) X_arg11) (k0_pay198 v123 v126 v129 v135 cst_71) (1024 * k.val + 896 + a.val) j * vsc (arg9.view.read (Elt Ideal) X_arg9) (1024 * k.val + 896 + a.val) := by
  pointwise [k0_pay209, trip_k0_t5.sl.v439, trip_k0_t5.sl.v438, trip_k0_t5.sl.v437, trip_k0_t5.sl.v436, trip_k0_t5.sl.v435, trip_k0_t5.sl.v434]
  simp only [vs5 i arg9 v2 k0_hw1 X_arg9 k hp, e5_896 i arg11 v2 k0_hw1 v123 v126 v129 v135 cst_71 X_arg11 k hp]
  split_ifs <;> exact prod_at _ _ _ _ (by omega) (by omega)

include hp in
/-- A trip adds its block's weights to the running sums. -/
theorem l5 (s : Fin 8) (j : Fin 512) (h : acc (ix2 s j) = ∑ t ∈ Finset.range (128 * k.val), wgt (arg11.view.read (Elt Ideal) X_arg11) (k0_pay198 v123 v126 v129 v135 cst_71) (8 * t + s.val) j) :
    trip_k0_t5.sl.v433 i arg11 v2 k0_hw1 v123 v126 v129 v135 cst_71 X_arg11 k acc (ix2 s j) = ∑ t ∈ Finset.range (128 * (k.val + 1)), wgt (arg11.view.read (Elt Ideal) X_arg11) (k0_pay198 v123 v126 v129 v135 cst_71) (8 * t + s.val) j := by
  pointwise [trip_k0_t5.sl.v433, trip_k0_t5.sl.v432, trip_k0_t5.sl.v417, trip_k0_t5.sl.v416, trip_k0_t5.sl.v401, trip_k0_t5.sl.v400, trip_k0_t5.sl.v385, trip_k0_t5.sl.v384, trip_k0_t5.sl.v369, trip_k0_t5.sl.v368, trip_k0_t5.sl.v353, trip_k0_t5.sl.v352, trip_k0_t5.sl.v337, trip_k0_t5.sl.v336, trip_k0_t5.sl.v321, trip_k0_t5.sl.v320]
  simp only [e5_0 i arg11 v2 k0_hw1 v123 v126 v129 v135 cst_71 X_arg11 k hp, e5_128 i arg11 v2 k0_hw1 v123 v126 v129 v135 cst_71 X_arg11 k hp, e5_256 i arg11 v2 k0_hw1 v123 v126 v129 v135 cst_71 X_arg11 k hp, e5_384 i arg11 v2 k0_hw1 v123 v126 v129 v135 cst_71 X_arg11 k hp, e5_512 i arg11 v2 k0_hw1 v123 v126 v129 v135 cst_71 X_arg11 k hp, e5_640 i arg11 v2 k0_hw1 v123 v126 v129 v135 cst_71 X_arg11 k hp, e5_768 i arg11 v2 k0_hw1 v123 v126 v129 v135 cst_71 X_arg11 k hp, e5_896 i arg11 v2 k0_hw1 v123 v126 v129 v135 cst_71 X_arg11 k hp]
  exact (sum_more _ (128 * k.val + 112) (sum_more _ (128 * k.val + 96) (sum_more _ (128 * k.val + 80) (sum_more _ (128 * k.val + 64) (sum_more _ (128 * k.val + 48) (sum_more _ (128 * k.val + 32) (sum_more _ (128 * k.val + 16) (sum_more _ (128 * k.val + 0) h (fun x => congrArg (fun r => wgt (arg11.view.read (Elt Ideal) X_arg11) (k0_pay198 v123 v126 v129 v135 cst_71) r j) (by omega)) (by omega)) (fun x => congrArg (fun r => wgt (arg11.view.read (Elt Ideal) X_arg11) (k0_pay198 v123 v126 v129 v135 cst_71) r j) (by omega)) (by omega)) (fun x => congrArg (fun r => wgt (arg11.view.read (Elt Ideal) X_arg11) (k0_pay198 v123 v126 v129 v135 cst_71) r j) (by omega)) (by omega)) (fun x => congrArg (fun r => wgt (arg11.view.read (Elt Ideal) X_arg11) (k0_pay198 v123 v126 v129 v135 cst_71) r j) (by omega)) (by omega)) (fun x => congrArg (fun r => wgt (arg11.view.read (Elt Ideal) X_arg11) (k0_pay198 v123 v126 v129 v135 cst_71) r j) (by omega)) (by omega)) (fun x => congrArg (fun r => wgt (arg11.view.read (Elt Ideal) X_arg11) (k0_pay198 v123 v126 v129 v135 cst_71) r j) (by omega)) (by omega)) (fun x => congrArg (fun r => wgt (arg11.view.read (Elt Ideal) X_arg11) (k0_pay198 v123 v126 v129 v135 cst_71) r j) (by omega)) (by omega)) (fun x => congrArg (fun r => wgt (arg11.view.read (Elt Ideal) X_arg11) (k0_pay198 v123 v126 v129 v135 cst_71) r j) (by omega)) (by omega))

include hp in
/-- A trip adds the product of the previous block's values and scaled weights to the accumulator. -/
theorem o5 (d : Fin 128) (j : Fin 512) (g : ℕ → EReal)
    (hb : ∀ a : Fin 1024, arg13.view.read (Elt Ideal) p (ix2 a j) = if k.val = 0 then 0 else g (1024 * (k.val - 1) + a.val))
    (h : arg15.view.read (Elt Ideal) o (ix2 d j) = ∑ r ∈ Finset.range (1024 * (k.val - 1)), vat (arg7.view.read (Elt Ideal) X_arg7) d r * g r) :
    trip_k0_t5.sl.v235 i arg7 arg13 arg15 v2 k0_hw1 X_arg7 k p o (ix2 d j) = ∑ r ∈ Finset.range (1024 * k.val), vat (arg7.view.read (Elt Ideal) X_arg7) d r * g r := by
  have h16 := t5_lt16 i v2 k hp
  pointwise [trip_k0_t5.sl.v235, trip_k0_t5.sl.v232, trip_k0_t5.sl.v231, trip_k0_t5.sl.v230, trip_k0_t5.sl.cst_137]
  rw [rows_apply _ _ _ 0 rfl d j (by have := d.isLt; omega), show (⟨0 + d.val, by have := d.isLt; omega⟩ : Fin 128) = d from Fin.ext (by dsimp only; omega)]
  have e : ∀ x : Fin 1024, View.readAt (Elt Ideal) arg13.view (Rect.unit (s := S1024x512) ![0, 0] ![1024, 512] inb_S1024x512_S1024x512_0_0).toLoadRect p (ix2 x j) = if k.val = 0 then 0 else g (1024 * (k.val - 1) + x.val) := fun x => by
    rw [rows_apply _ _ _ 0 rfl x j (by have := x.isLt; omega), ← hb]
    exact congrArg (fun y => View.read (Elt Ideal) arg13.view p (ix2 y j)) (Fin.ext (by dsimp only; omega))
  by_cases h0 : k.val = 0
  · rw [Finset.sum_eq_zero fun x _ => by rw [e x, if_pos h0, mul_zero], add_zero, h, h0]
  · refine sum_more _ (1024 * (k.val - 1)) h (fun x => ?_) (by omega)
    rw [e x, if_neg h0, cols3_apply _ _ _ _ (off14_eq i v2 hp k) d x (by have := x.isLt; omega)]
    refine congrArg (· * g _) ?_
    unfold vat
    exact congrArg (fun y => View.read (Elt Ideal) arg7.view X_arg7 (ix3 0 d y)) (Fin.ext (by have := x.isLt; dsimp only; omega))
end

end Cert.KernelIdeal.Val
end
-- ==== Proof.Value.Loop7.lean ====
/- The second pass over the tail, 256 keys at a time: the weights, their sums and their product with the values. -/
module

public import proofs.«01_k».proof.Proof.Value.Loop5

@[expose] public section

set_option maxRecDepth 16384

noncomputable section

namespace Cert.KernelIdeal.Val

open Idealize.ShloMosaic Idealize.SL.Sem Cert.KernelIdeal Cert.KernelIdeal.Gen
open Idealize.ShloMosaic.Pointwise

/-- What holds before trip `k` of the second pass over the tail: the weights so far are summed and their products accumulated. -/
structure F7 (z : S16384x512.Idx → EReal) (b : S8x512.Idx → EReal) (VS : S1x1x128x128.Idx → EReal) (V : S1x128x16384.Idx → EReal)
    (nM k : ℕ) (l : S8x512.Idx → EReal) (o : S128x512.Idx → EReal) : Prop where
  sums : ∀ (s : Fin 8) (j : Fin 512), l (ix2 s j) = ∑ t ∈ Finset.range (128 * nM + 32 * k), wgt z b (8 * t + s.val) j
  acc : ∀ (d : Fin 128) (j : Fin 512), o (ix2 d j) = ∑ r ∈ Finset.range (1024 * nM + 256 * k), vat V d r * (wgt z b r j * vsc VS r)

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v79 : BitVec 32) (v99 : BitVec 32) (v145 : FVec Ideal S8x512 .f32) (v161 : FVec Ideal S8x512 .f32) (v164 : Vec Ideal S128x512 .f32) (v167 : Vec Ideal S1024x512 .fp8e4m3) (v170 : FVec Ideal S128x1024 .fp8e4m3) (cst_94 : FVec Ideal S128x512 .f32) (X_arg7 : BufTy.Contents (Elt Ideal) arg7.view.ty) (X_arg9 : BufTy.Contents (Elt Ideal) arg9.view.ty) (X_arg11 : BufTy.Contents (Elt Ideal) arg11.view.ty) (k : Fin (k0_t7_loop i v2).trips)
  (acc : FVec Ideal S8x512 .f32) (o : BufTy.Contents (Elt Ideal) arg15.view.ty)
  (hp : v2.toInt ≤ 16384)

include hp in
/-- A tail block of the second pass ends within the keys. -/
theorem t7_lt : 1024 * nMain (qb i) (pn v2) + 256 * k.val + 256 ≤ 16384 := by
  have h := tail_le i v2 hp
  have hk : k.val < nTail (qb i) (pn v2) := lt_of_lt_of_eq k.isLt (trips7 i v2 hp)
  omega

include hp in
/-- The value scales a trip of the tail lays out along its rows. -/
theorem vs7 (a : Fin 256) (b : Fin 128) : trip_k0_t7.sl.v256 i arg9 v2 k0_hw1 X_arg9 k (ix2 a b) = vsc (arg9.view.read (Elt Ideal) X_arg9) (1024 * nMain (qb i) (pn v2) + 256 * k.val + a.val) := by
  have h16 := t7_lt i v2 k hp
  pointwise [trip_k0_t7.sl.v256, trip_k0_t7.sl.v248, trip_k0_t7.sl.v247, trip_k0_t7.sl.v246, trip_k0_t7.sl.v245, trip_k0_t7.sl.v255, trip_k0_t7.sl.v254, trip_k0_t7.sl.v253, trip_k0_t7.sl.v252]
  split_ifs
  · exact row_at _ _ _ _ (off21_eq i v2 hp k 0 (by omega)) _ _ _ (by dsimp only; omega) (by dsimp only; omega)
  · exact row_at _ _ _ _ (off21_eq i v2 hp k 1 (by omega)) _ _ _ (by dsimp only; omega) (by dsimp only; omega)
  · exact row_at _ _ _ _ (off21_eq i v2 hp k 1 (by omega)) _ _ _ (by dsimp only; omega) (by dsimp only; omega)

include hp in
/-- The weights of the first 128 rows of a trip of the tail. -/
theorem e7_0 (x : Fin 16) (s : Fin 8) (j : Fin 512) : k0_pay220 (trip_k0_t7.sl.v260 i arg11 v2 k0_hw1 X_arg11 k) (trip_k0_t7.sl.v262 v145) (ix3 x s j) = wgt (arg11.view.read (Elt Ideal) X_arg11) v145 (1024 * nMain (qb i) (pn v2) + 256 * k.val + 8 * x.val + s.val) j := by
  have h16 := t7_lt i v2 k hp
  pointwise [k0_pay220, trip_k0_t7.sl.v260, trip_k0_t7.sl.v262, trip_k0_t7.sl.v261]
  rw [rows_apply _ _ _ _ (off22_eq i v2 hp k 0 (by omega)) _ _ (by dsimp only; omega)]
  exact wgt_at _ _ _ _ _ _ (by dsimp only; omega) (by omega)

include hp in
/-- The weights of the last 128 rows of a trip of the tail. -/
theorem e7_128 (inb) (x : Fin 16) (s : Fin 8) (j : Fin 512) : k0_pay221 v145 (View.readAt (Elt Ideal) arg11.view (Rect.unit (s := S16384x512) (k0_off22 i v2 k 128#32) S128x512.size inb).toLoadRect X_arg11) (ix3 x s j) = wgt (arg11.view.read (Elt Ideal) X_arg11) v145 (1024 * nMain (qb i) (pn v2) + 256 * k.val + 128 + 8 * x.val + s.val) j := by
  have h16 := t7_lt i v2 k hp
  pointwise [k0_pay221]
  rw [rows_apply _ _ _ _ (off22_eq i v2 hp k 128 (by omega)) _ _ (by dsimp only; omega)]
  exact wgt_at _ _ _ _ _ _ (by dsimp only; omega) (by omega)

include hp in
/-- A trip of the tail adds its weights to the running sums. -/
theorem l7 (inb) (s : Fin 8) (j : Fin 512) (h : acc (ix2 s j) = ∑ t ∈ Finset.range (128 * nMain (qb i) (pn v2) + 32 * k.val), wgt (arg11.view.read (Elt Ideal) X_arg11) v145 (8 * t + s.val) j) :
    k0_pay222 v145 acc (trip_k0_t7.sl.v260 i arg11 v2 k0_hw1 X_arg11 k) (trip_k0_t7.sl.v262 v145) (View.readAt (Elt Ideal) arg11.view (Rect.unit (s := S16384x512) (k0_off22 i v2 k 128#32) S128x512.size inb).toLoadRect X_arg11) (ix2 s j)
      = ∑ t ∈ Finset.range (128 * nMain (qb i) (pn v2) + 32 * (k.val + 1)), wgt (arg11.view.read (Elt Ideal) X_arg11) v145 (8 * t + s.val) j := by
  pointwise [k0_pay222]
  simp only [e7_0 i arg11 v2 k0_hw1 v145 X_arg11 k hp, e7_128 i arg11 v2 v145 X_arg11 k hp]
  exact sum_more _ (128 * nMain (qb i) (pn v2) + 32 * k.val + 16) (sum_more _ (128 * nMain (qb i) (pn v2) + 32 * k.val) h (fun x => congrArg (fun r => wgt (arg11.view.read (Elt Ideal) X_arg11) v145 r j) (by omega)) (by omega)) (fun x => congrArg (fun r => wgt (arg11.view.read (Elt Ideal) X_arg11) v145 r j) (by omega)) (by omega)

include hp in
/-- A trip of the tail adds the product of its values and scaled weights to the accumulator. -/
theorem o7 (inb i1 i2) (d : Fin 128) (j : Fin 512)
    (h : arg15.view.read (Elt Ideal) o (ix2 d j) = ∑ r ∈ Finset.range (1024 * nMain (qb i) (pn v2) + 256 * k.val), vat (arg7.view.read (Elt Ideal) X_arg7) d r * (wgt (arg11.view.read (Elt Ideal) X_arg11) v145 r j * vsc (arg9.view.read (Elt Ideal) X_arg9) r)) :
    k0_pay223 v145 (trip_k0_t7.sl.v256 i arg9 v2 k0_hw1 X_arg9 k) (trip_k0_t7.sl.v260 i arg11 v2 k0_hw1 X_arg11 k) (trip_k0_t7.sl.v262 v145) (View.readAt (Elt Ideal) arg11.view (Rect.unit (s := S16384x512) (k0_off22 i v2 k 128#32) S128x512.size inb).toLoadRect X_arg11)
        (View.readAt (Elt Ideal) arg15.view (Rect.unit (s := S128x512) ![0, 0] S128x512.size i1).toLoadRect o)
        (View.readAt (Elt Ideal) arg7.view (Rect.unit (s := S1x128x16384) (k0_off23 i v2 k) S1x128x256.size i2).toLoadRect X_arg7) (ix2 d j)
      = ∑ r ∈ Finset.range (1024 * nMain (qb i) (pn v2) + 256 * (k.val + 1)), vat (arg7.view.read (Elt Ideal) X_arg7) d r * (wgt (arg11.view.read (Elt Ideal) X_arg11) v145 r j * vsc (arg9.view.read (Elt Ideal) X_arg9) r) := by
  have h16 := t7_lt i v2 k hp
  pointwise [k0_pay223]
  simp only [e7_0 i arg11 v2 k0_hw1 v145 X_arg11 k hp, e7_128 i arg11 v2 v145 X_arg11 k hp, vs7 i arg9 v2 k0_hw1 X_arg9 k hp]
  rw [rows_apply _ _ _ 0 rfl d j (by have := d.isLt; omega), show (⟨0 + d.val, by have := d.isLt; omega⟩ : Fin 128) = d from Fin.ext (by dsimp only; omega)]
  have ev : ∀ (y : Fin 256), View.readAt (Elt Ideal) arg7.view (Rect.unit (s := S1x128x16384) (k0_off23 i v2 k) S1x128x256.size i2).toLoadRect X_arg7 (ix3 (0 : Fin 1) d y)
      = vat (arg7.view.read (Elt Ideal) X_arg7) d (1024 * nMain (qb i) (pn v2) + 256 * k.val + y.val) := fun y => by
    rw [cols3_apply (R := 256) _ _ _ _ (off23_eq i v2 hp k) d y (lt_of_lt_of_le (Nat.add_lt_add_left y.isLt _) h16)]
    unfold vat
    exact congrArg (fun y => View.read (Elt Ideal) arg7.view X_arg7 (ix3 0 d y)) (Fin.ext (by have := y.isLt; dsimp only; omega))
  rw [← add_assoc]
  refine sum_more (N := 128) _ (1024 * nMain (qb i) (pn v2) + 256 * k.val + 128) (sum_more (N := 128) _ (1024 * nMain (qb i) (pn v2) + 256 * k.val) h (fun x => ?_) rfl) (fun x => ?_) (by omega)
  · rw [ev]
    refine congrArg (vat _ d _ * ·) ?_
    split_ifs <;> exact prod_at _ _ _ _ (by omega) (by omega)
  · rw [ev, show 1024 * nMain (qb i) (pn v2) + 256 * k.val + (128 + x.val) = 1024 * nMain (qb i) (pn v2) + 256 * k.val + 128 + x.val by omega]
    refine congrArg (vat _ d _ * ·) ?_
    split_ifs <;> exact prod_at _ _ _ _ (by omega) (by omega)

include hp in
/-- One trip takes the facts before it to the facts after it. -/
theorem F7_step (h : F7 (arg11.view.read (Elt Ideal) X_arg11) v145 (arg9.view.read (Elt Ideal) X_arg9) (arg7.view.read (Elt Ideal) X_arg7) (nMain (qb i) (pn v2)) k.val acc (arg15.view.read (Elt Ideal) o)) :
    F7 (arg11.view.read (Elt Ideal) X_arg11) v145 (arg9.view.read (Elt Ideal) X_arg9) (arg7.view.read (Elt Ideal) X_arg7) (nMain (qb i) (pn v2)) (k.val + 1) (tripR_k0_t7 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v79 v99 v145 v161 v164 v167 v170 cst_94 X_arg7 X_arg9 X_arg11 k acc o) (arg15.view.read (Elt Ideal) (arg15.view.writes (Elt Ideal) o (tripL_k0_t7 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v79 v99 v145 v161 v164 v167 v170 cst_94 X_arg7 X_arg9 X_arg11 k acc o))) where
  sums s j := by
    unfold tripR_k0_t7 trip_k0_t7
    dsimp only
    exact l7 (hp := hp) (h := h.sums s j) ..
  acc d j := by
    unfold tripL_k0_t7 trip_k0_t7
    dsimp only
    refine (View.read_writes_cons_rows_of_mem arg15.view o _ _ _ (ix2 d j) (ix2 d j) (o := 0) rfl (by show d.val = 0 + d.val; omega) rfl).trans ?_
    exact o7 (hp := hp) (h := h.acc d j) ..
end

open Idealize.ShloMosaic.TcCoe Idealize.ShloMosaic.Tactic Idealize.SL Idealize.SL.RA Idealize.SL.BI
open scoped Idealize.SL.BI
open Idealize.SL.BI.BIBase Idealize.SL.BI.Laws Idealize.SL.ProofMode

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v79 : BitVec 32) (v99 : BitVec 32) (v145 : FVec Ideal S8x512 .f32) (v161 : FVec Ideal S8x512 .f32) (v164 : Vec Ideal S128x512 .f32) (v167 : Vec Ideal S1024x512 .fp8e4m3) (v170 : FVec Ideal S128x1024 .fp8e4m3) (cst_94 : FVec Ideal S128x512 .f32) (X_arg7 : BufTy.Contents (Elt Ideal) arg7.view.ty) (X_arg9 : BufTy.Contents (Elt Ideal) arg9.view.ty) (X_arg11 : BufTy.Contents (Elt Ideal) arg11.view.ty) (G_arg15 : BufTy.Contents (Elt Ideal) arg15.view.ty)
  (init : FVec Ideal S8x512 .f32)

/-- All the trips: the facts hold before every one of them, and after the last. -/
theorem F7_all (hp : v2.toInt ≤ 16384) (h0 : F7 (arg11.view.read (Elt Ideal) X_arg11) v145 (arg9.view.read (Elt Ideal) X_arg9) (arg7.view.read (Elt Ideal) X_arg7) (nMain (qb i) (pn v2)) 0 init (arg15.view.read (Elt Ideal) G_arg15)) (k : ℕ) (hk : k ≤ (k0_t7_loop i v2).trips) :
    F7 (arg11.view.read (Elt Ideal) X_arg11) v145 (arg9.view.read (Elt Ideal) X_arg9) (arg7.view.read (Elt Ideal) X_arg7) (nMain (qb i) (pn v2)) k (st_k0_t7 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v79 v99 v145 v161 v164 v167 v170 cst_94 X_arg7 X_arg9 X_arg11 G_arg15 init k).1
      (arg15.view.read (Elt Ideal) (arg15.view.writes (Elt Ideal) G_arg15 (st_k0_t7 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v79 v99 v145 v161 v164 v167 v170 cst_94 X_arg7 X_arg9 X_arg11 G_arg15 init k).2)) := by
  induction k with
  | zero => exact h0
  | succ k ih =>
    have e := st_k0_t7_succ 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v79 v99 v145 v161 v164 v167 v170 cst_94 X_arg7 X_arg9 X_arg11 G_arg15 init ⟨k, by omega⟩
    dsimp only at e
    rw [e, View.writes_append]
    exact F7_step (hp := hp) (k := ⟨k, by omega⟩) (h := ih (by omega)) ..

set_option warn.classDefReducibility false in
/-- What the run of the body takes out of the pass over the tail: its buffers, with the facts. -/
def exit7 (E : Set ℕ) : LoopExit (loopInv_k0_t7 (F := Ideal) 𝒱 c bd E i arg3 harg3 arg4 harg4 arg5 harg5 arg6 harg6 arg7 harg7 arg8 harg8 arg9 harg9 arg10 harg10 arg11 harg11 arg12 harg12 arg13 harg13 arg14 harg14 arg15 harg15 v2 k0_hw1 v79 v99 v145 v161 v164 v167 v170 cst_94 X_arg7 X_arg9 X_arg11 G_arg15 init) where
  post acc := iprop((arg7.view.loc (c : Thread nD τ) ↦[arg7.view.set]{fullShare} X_arg7) ∗ (arg9.view.loc (c : Thread nD τ) ↦[arg9.view.set]{fullShare} X_arg9)
    ∗ (arg11.view.loc (c : Thread nD τ) ↦[arg11.view.set]{fullShare} X_arg11)
    ∗ (∃ g, (arg15.view.loc (c : Thread nD τ) ↦[arg15.view.set]{fullShare} g)
      ∗ ⌜v2.toInt ≤ 16384 → F7 (arg11.view.read (Elt Ideal) X_arg11) v145 (arg9.view.read (Elt Ideal) X_arg9) (arg7.view.read (Elt Ideal) X_arg7) (nMain (qb i) (pn v2)) 0 init (arg15.view.read (Elt Ideal) G_arg15) →
          F7 (arg11.view.read (Elt Ideal) X_arg11) v145 (arg9.view.read (Elt Ideal) X_arg9) (arg7.view.read (Elt Ideal) X_arg7) (nMain (qb i) (pn v2)) (nTail (qb i) (pn v2)) acc (arg15.view.read (Elt Ideal) g)⌝))
  exit acc := by
    show inv_k0_t7 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v79 v99 v145 v161 v164 v167 v170 cst_94 X_arg7 X_arg9 X_arg11 G_arg15 init (k0_t7_loop i v2).trips acc ⊢ _
    iintro ⟨H7, H9, H11, ⟨%g, H15, %hg⟩, %ha⟩
    isplitl [H7]; · iexact H7
    isplitl [H9]; · iexact H9
    isplitl [H11]; · iexact H11
    iexists g
    isplitl [H15]; · iexact H15
    ipureintro
    intro hp h0
    subst hg ha
    have h := F7_all 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v79 v99 v145 v161 v164 v167 v170 cst_94 X_arg7 X_arg9 X_arg11 G_arg15 init hp h0 (k0_t7_loop i v2).trips le_rfl
    rw [← show (k0_t7_loop i v2).trips = nTail (qb i) (pn v2) from trips7 i v2 hp]
    exact h
end

end Cert.KernelIdeal.Val
end
-- ==== Proof.Value.Out.lean ====
/- What the body computes, said once for a grid point as a function of its input blocks: the weighted mean of the dequantised values
   over the visible keys, and why the running bias of the passes drops out of it. -/
module

public import proofs.«01_k».proof.Proof.Value.Loop3b
public import proofs.«01_k».proof.Proof.Value.Loop7

@[expose] public section

set_option maxRecDepth 16384

noncomputable section

namespace Cert.KernelIdeal.Val

open Idealize.ShloMosaic Idealize.SL.Sem Cert.KernelIdeal Cert.KernelIdeal.Gen
open Idealize.ShloMosaic.Pointwise

/-! ### The mean over the visible keys -/

/-- The query row of a score column: column `64 h + q` is query `q` of head `h`. -/
def qrow (X0 : S1x64x1024.Idx → EReal) : S512x128.Idx → EReal := fun x =>
  X0 (ix3 (0 : Fin 1) (⟨(x 0).val % 64, Nat.mod_lt _ (by omega)⟩ : Fin 64)
    (⟨(x 0).val / 64 * 128 + (x 1).val, by have h0 : (x 0).val < 512 := (x 0).isLt; have h1 : (x 1).val < 128 := (x 1).isLt; omega⟩ : Fin 1024))

/-- `1 / (50 √128)`, the factor between a product of codes and scales and the argument of `tanh`. -/
def score : EReal := (((Real.sqrt 128)⁻¹ * (1 / 50) : ℝ) : EReal)

/-- The query's scale times the score factor, for every row modulo 8. -/
def crow (X1 : S1x1x1x1x512.Idx → EReal) : S8x512.Idx → EReal := fun x =>
  X1 (ix5 (0 : Fin 1) (0 : Fin 1) (0 : Fin 1) (0 : Fin 1) (⟨(x 1).val, (x 1).isLt⟩ : Fin 512)) * score

/-- One past the last key the query of column `j` sees. -/
def lim (q p : ℕ) (j : Fin 512) : ℕ := max (64 * q + j.val % 64 + 1) p

/-- The unshifted weight of key `r` for column `j`. -/
def ewt (Z : Fin 16384 → Fin 512 → EReal) (L : Fin 512 → ℕ) (r : ℕ) (j : Fin 512) : EReal :=
  if r < L j then Ideal.exp2 (Z (⟨r % 16384, Nat.mod_lt _ (by omega)⟩ : Fin 16384) j) else 0

/-- The weighted mean of the values in column `d` of the head. -/
def mean (Z : Fin 16384 → Fin 512 → EReal) (L : Fin 512 → ℕ) (VS : S1x1x128x128.Idx → EReal) (V : S1x128x16384.Idx → EReal)
    (d : Fin 128) (j : Fin 512) : EReal :=
  Ideal.div (∑ r ∈ Finset.range 16384, vat V d r * (ewt Z L r j * vsc VS r)) (∑ r ∈ Finset.range 16384, ewt Z L r j)

/-- The output block: row `q`, column `128 h + d` is the mean in column `d` for query `q` of head `h`. -/
def outSpec (q p : ℕ) (X0 : S1x64x1024.Idx → EReal) (X1 : S1x1x1x1x512.Idx → EReal) (X2 : S1x16384x128.Idx → EReal)
    (X3 : S1x128x16384.Idx → EReal) (X4 X5 : S1x1x128x128.Idx → EReal) : S1x64x1024.Idx → EReal := fun x =>
  mean (zfun X2 (qrow X0) X4 (crow X1)) (lim q p) X5 X3 (⟨(x 2).val % 128, Nat.mod_lt _ (by omega)⟩ : Fin 128)
    (⟨(x 2).val / 128 * 64 + (x 1).val, by have h1 : (x 1).val < 64 := (x 1).isLt; have h2 : (x 2).val < 1024 := (x 2).isLt; omega⟩ : Fin 512)

/-! ### The bias drops out -/

/-- A positive real factor goes into a sum. -/
theorem mul_sum_pos {ι : Type*} (s : Finset ι) (f : ι → EReal) (t : ℝ) (ht : 0 ≤ t) : (t : EReal) * ∑ i ∈ s, f i = ∑ i ∈ s, (t : EReal) * f i := by
  classical
  induction s using Finset.induction with
  | empty => simp
  | insert a s ha ih =>
    rw [Finset.sum_insert ha, Finset.sum_insert ha, EReal.left_distrib_of_nonneg_of_ne_top (by exact_mod_cast ht) (EReal.coe_ne_top t), ih]

/-- A sum of real numbers is the real sum. -/
theorem sum_coe {ι : Type*} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- A common positive real factor cancels in a quotient by a positive real. -/
theorem div_cancel (a : EReal) (t b : ℝ) (ht : 0 < t) (hb : 0 < b) : Ideal.div ((t : EReal) * a) ((t : EReal) * (b : EReal)) = Ideal.div a (b : EReal) := by
  have e : ∀ (x : EReal) (y : ℝ), 0 < y → Ideal.div x (y : EReal) = x * ((y⁻¹ : ℝ) : EReal) := fun x y hy => by
    unfold Ideal.div
    rw [if_neg (by exact_mod_cast hy.ne'), EReal.coe_inv]
  rw [← EReal.coe_mul, e _ _ (mul_pos ht hb), e _ _ hb, mul_comm (t : EReal) a, mul_assoc, ← EReal.coe_mul]
  congr 2
  field_simp

/-- The strided sums over the rows modulo 8 add up to the sum over all rows. -/
theorem sum_strided (f : ℕ → EReal) (n : ℕ) : ∑ s : Fin 8, ∑ t ∈ Finset.range n, f (8 * t + s.val) = ∑ r ∈ Finset.range (8 * n), f r := by
  induction n with
  | zero => simp
  | succ n ih =>
    simp only [Finset.sum_range_succ _ n, Finset.sum_add_distrib]
    rw [ih, show 8 * (n + 1) = 8 * n + 8 by ring, Finset.sum_range_add, ← Fin.sum_univ_eq_sum_range (fun x => f (8 * n + x)) 8]

/-- The power of two of a real. -/
theorem exp2_coe (r : ℝ) : Ideal.exp2 (r : EReal) = (((2 : ℝ) ^ r : ℝ) : EReal) := rfl

section
variable (Z : Fin 16384 → Fin 512 → EReal) (L : Fin 512 → ℕ) (hZ : ∀ r j, ∃ x : ℝ, Z r j = (x : EReal))
  (VS : S1x1x128x128.Idx → EReal) (V : S1x128x16384.Idx → EReal) (j : Fin 512)

include hZ in
/-- A weight is a nonnegative real, positive for a visible key. -/
theorem ewt_real (r : ℕ) : ∃ e : ℝ, ewt Z L r j = (e : EReal) ∧ 0 ≤ e ∧ (r < L j → 0 < e) := by
  unfold ewt
  obtain ⟨x, hx⟩ := hZ (⟨r % 16384, Nat.mod_lt _ (by omega)⟩ : Fin 16384) j
  split
  · exact ⟨_, by rw [hx, exp2_coe], (Real.rpow_pos_of_pos two_pos x).le, fun _ => Real.rpow_pos_of_pos two_pos x⟩
  · exact ⟨0, rfl, le_rfl, fun h => absurd h ‹_›⟩

include hZ in
/-- The sum of the weights is a positive real. -/
theorem sum_ewt_real (h0 : 0 < L j) : ∃ e : ℝ, ∑ r ∈ Finset.range 16384, ewt Z L r j = (e : EReal) ∧ 0 < e := by
  choose e he hn hpos using fun r => ewt_real Z L hZ j r
  refine ⟨∑ r ∈ Finset.range 16384, e r, ?_, ?_⟩
  · rw [← sum_coe]; exact Finset.sum_congr rfl fun r _ => he r
  · exact Finset.sum_pos' (fun r _ => hn r) ⟨0, Finset.mem_range.2 (by omega), hpos 0 h0⟩

variable (z : S16384x512.Idx → EReal) (b : S8x512.Idx → EReal) (β : ℝ) (nM nT : ℕ) (l : S8x512.Idx → EReal) (o : S128x512.Idx → EReal)

include hZ in
/-- A weight of the passes is the unshifted weight times `2` to minus the bias. -/
theorem wgt_shift (hz : ∀ r : Fin 16384, r.val < 1024 * nM + 256 * nT → z (ix2 r j) = if r.val < L j then Z r j else ⊥)
    (hb : ∀ s : Fin 8, b (ix2 s j) = (β : EReal)) (hN : 1024 * nM + 256 * nT ≤ 16384) (r : ℕ) (hr : r < 1024 * nM + 256 * nT) :
    wgt z b r j = (((2 : ℝ) ^ (-β) : ℝ) : EReal) * ewt Z L r j := by
  have e : r % 16384 = r := Nat.mod_eq_of_lt (by omega)
  unfold wgt ewt
  rw [hz _ (by show r % 16384 < _; omega), hb]
  simp only [e]
  obtain ⟨x, hx⟩ := hZ (⟨r % 16384, Nat.mod_lt _ (by omega)⟩ : Fin 16384) j
  simp only [e] at hx
  split
  · rw [hx, ← EReal.coe_sub, exp2_coe, exp2_coe, ← EReal.coe_mul]
    congr 1
    rw [sub_eq_add_neg, add_comm]
    exact Real.rpow_add two_pos _ _
  · rw [mul_zero]; rfl

include hZ in
/-- The quotient of the accumulators is the mean. -/
theorem quot_mean (h : F7 z b VS V nM nT l o) (hz : ∀ r : Fin 16384, r.val < 1024 * nM + 256 * nT → z (ix2 r j) = if r.val < L j then Z r j else ⊥)
    (hb : ∀ s : Fin 8, b (ix2 s j) = (β : EReal)) (hN : 1024 * nM + 256 * nT ≤ 16384) (hL : L j ≤ 1024 * nM + 256 * nT) (h0 : 0 < L j) (d : Fin 128) :
    Ideal.div (o (ix2 d j)) (∑ s : Fin 8, l (ix2 s j)) = mean Z L VS V d j := by
  have hw := wgt_shift Z L hZ j z b β nM nT hz hb hN
  have ext : ∀ g : ℕ → EReal, (∀ r, 1024 * nM + 256 * nT ≤ r → g r = 0) → ∑ r ∈ Finset.range (1024 * nM + 256 * nT), g r = ∑ r ∈ Finset.range 16384, g r := fun g hg =>
    Finset.sum_subset (Finset.range_subset_range.2 hN) fun r _ hr => hg r (by simpa using hr)
  have ez : ∀ r, 1024 * nM + 256 * nT ≤ r → ewt Z L r j = 0 := fun r hr => if_neg (by omega)
  obtain ⟨e, he, hpos⟩ := sum_ewt_real Z L hZ j h0
  have ho : o (ix2 d j) = (((2 : ℝ) ^ (-β) : ℝ) : EReal) * ∑ r ∈ Finset.range 16384, vat V d r * (ewt Z L r j * vsc VS r) := by
    rw [h.acc, ← ext _ (fun r hr => by rw [ez r hr, zero_mul, mul_zero]), mul_sum_pos _ _ _ (Real.rpow_pos_of_pos two_pos _).le]
    refine Finset.sum_congr rfl fun r hr => ?_
    rw [hw r (Finset.mem_range.1 hr), mul_assoc, mul_left_comm]
  have hl : ∑ s : Fin 8, l (ix2 s j) = (((2 : ℝ) ^ (-β) : ℝ) : EReal) * ∑ r ∈ Finset.range 16384, ewt Z L r j := by
    rw [Finset.sum_congr rfl fun s _ => h.sums s j, sum_strided (fun r => wgt z b r j), show 8 * (128 * nM + 32 * nT) = 1024 * nM + 256 * nT by ring,
      ← ext _ ez, mul_sum_pos _ _ _ (Real.rpow_pos_of_pos two_pos _).le]
    exact Finset.sum_congr rfl fun r hr => hw r (Finset.mem_range.1 hr)
  rw [ho, hl, he, div_cancel _ _ _ (Real.rpow_pos_of_pos two_pos _) hpos, mean, he]
end

/-! ### The bias is a real number, the same for every row -/

/-- `1 / 448` as the body writes it. -/
theorem inv448_pos : ∃ r : ℝ, 0 < r ∧ Ideal.ofBits FTy.f32 991054117#32 = (r : EReal) := by
  refine ⟨_, ?_, rfl⟩
  norm_num [Ideal.ofBits]
  rw [if_neg (by decide)]
  positivity

/-- The smallest normal number is positive. -/
theorem tiny_pos : ∃ r : ℝ, 0 < r ∧ Ideal.ofBits FTy.f32 8388608#32 = (r : EReal) := by
  refine ⟨_, ?_, rfl⟩
  norm_num [Ideal.ofBits]
  rw [if_neg (by decide)]
  positivity

/-- The constant log2 448 of the kernel is a real number. -/
theorem log448_real : ∃ r : ℝ, Ideal.ofBits FTy.f32 1091365613#32 = (r : EReal) := ⟨_, rfl⟩

/-- The bias computed from a real maximum and a scaled maximum below `⊤` is real. -/
theorem bias_scalar (M : ℝ) (Y : EReal) (hY : Y < ⊤) : ∃ β : ℝ,
    (M : EReal) + max (if Ideal.exp2 (Y - (M : EReal)) * Ideal.ofBits FTy.f32 991054117#32 < Ideal.ofBits FTy.f32 8388608#32 then 0
        else Ideal.liftRound Int.floor (Ideal.log (Ideal.exp2 (Y - (M : EReal)) * Ideal.ofBits FTy.f32 991054117#32) * Ideal.ofBits FTy.f32 1069066811#32) + 1)
      (Y - (M : EReal) - Ideal.ofBits FTy.f32 1091365613#32) = (β : EReal) := by
  obtain ⟨c, hc, ec⟩ := inv448_pos
  obtain ⟨u, hu, eu⟩ := tiny_pos
  obtain ⟨w, ew⟩ := log448_real
  obtain ⟨v, hv, ev⟩ := inv_ln2_pos
  rw [ec, eu, ew, ev]
  induction Y using EReal.rec with
  | bot =>
    refine ⟨M, ?_⟩
    rw [EReal.bot_sub, show Ideal.exp2 ⊥ = 0 from rfl, zero_mul, if_pos (by exact_mod_cast hu), EReal.bot_sub, max_eq_left bot_le, add_zero]
  | top => exact absurd hY (lt_irrefl _)
  | coe y =>
    have hp : 0 < (2 : ℝ) ^ (y - M) * c := mul_pos (Real.rpow_pos_of_pos two_pos _) hc
    rw [← EReal.coe_sub, exp2_coe, ← EReal.coe_mul, ← EReal.coe_sub, Ideal.log_coe, if_neg (not_le.2 hp), ← EReal.coe_mul]
    have key : ∀ a b : ℝ, ∃ β : ℝ, (M : EReal) + max (a : EReal) (b : EReal) = (β : EReal) := fun a b =>
      ⟨M + max a b, by rw [EReal.coe_add, EReal.coe_strictMono.monotone.map_max]⟩
    split
    · exact key 0 _
    · exact key ((Int.floor (Real.log ((2 : ℝ) ^ (y - M) * c) * v) : ℝ) + 1) _

/-- The bias the weights are shifted by is real when the largest score is and the largest scaled score is below `⊤`. -/
theorem bias_real (m y : FVec Ideal S8x512 .f32) (j : Fin 512) (hm : ∀ s : Fin 8, m (ix2 s j) < ⊤) (hm' : ∃ s : Fin 8, ⊥ < m (ix2 s j)) (hy : ∀ s : Fin 8, y (ix2 s j) < ⊤) :
    ∃ β : ℝ, ∀ s : Fin 8, k0_pay198 (k0_pay194 m) (k0_pay195 m y) (k0_pay196 m y) (k0_pay197 m y) (FloatOps.ofBits FTy.f32 8388608#32) (ix2 s j) = (β : EReal) := by
  have hM : Finset.fold max (Ideal.ofBits FTy.f32 4286578688#32) (fun x => m (ix2 x j)) Finset.univ < ⊤ :=
    (Finset.fold_max_lt _).2 ⟨by rw [negInf]; exact bot_lt_top, fun s _ => hm s⟩
  have hM' : ⊥ < Finset.fold max (Ideal.ofBits FTy.f32 4286578688#32) (fun x => m (ix2 x j)) Finset.univ :=
    (Finset.lt_fold_max _).2 (Or.inr (let ⟨s, h⟩ := hm'; ⟨s, Finset.mem_univ _, h⟩))
  have hY : Finset.fold max (Ideal.ofBits FTy.f32 4286578688#32) (fun x => y (ix2 x j)) Finset.univ < ⊤ :=
    (Finset.fold_max_lt _).2 ⟨by rw [negInf]; exact bot_lt_top, fun s _ => hy s⟩
  obtain ⟨β, h⟩ := bias_scalar (Finset.fold max (Ideal.ofBits FTy.f32 4286578688#32) (fun x => m (ix2 x j)) Finset.univ).toReal _ hY
  rw [EReal.coe_toReal hM.ne hM'.ne'] at h
  refine ⟨β, fun s => ?_⟩
  pointwise [k0_pay198, k0_pay194, k0_pay195, k0_pay196, k0_pay197]
  exact h

/-! ### The output block, read -/

/-- A row of the quotient block: the accumulator over the sum of the eight partial sums, transposed. -/
theorem quot_apply (l : FVec Ideal S8x512 .f32) (o : Vec Ideal S128x512 .f32) (j : Fin 512) (d : Fin 128) :
    k0_pay228 l o (ix2 j d) = Ideal.div (o (ix2 d j)) (∑ s : Fin 8, l (ix2 s j)) := by
  pointwise [k0_pay228]

end Cert.KernelIdeal.Val
end
-- ==== Proof.Value.Spec.lean ====
/- What the program computes of its arguments, written over the whole arrays: the mean of the values over the visible keys. -/
module

public import proofs.«01_k».proof.Proof.Value.Out

@[expose] public section

noncomputable section

namespace Cert.KernelIdeal.Val

open Idealize.ShloMosaic Idealize.SL.Sem Cert.KernelIdeal
open Idealize.ShloMosaic.Pointwise

/-- The first row (or column) of key and value head `h / 8` of query head `h`. -/
def kcol (h : Fin 16) (d : Fin 128) : Fin 256 := ⟨h.val / 8 * 128 + d.val, by omega⟩
/-- The column of query head `h`. -/
def qcol (h : Fin 16) (d : Fin 128) : Fin 2048 := ⟨h.val * 128 + d.val, by omega⟩
/-- The key and value head of query head `h`. -/
def kvh (h : Fin 16) : Fin 2 := ⟨h.val / 8, by omega⟩

section
variable (P : S4.Idx → BitVec 32) (Q : S4x16384x2048.Idx → EReal) (QS : S4x16384x16.Idx → EReal) (K : S4x16384x256.Idx → EReal)
  (KS : S4x16384x2.Idx → EReal) (V : S4x256x16384.Idx → EReal) (VS : S4x16384x2.Idx → EReal)

/-- The product of key `r` with query `n` of head `h` in sequence `b`. -/
def adot (b : Fin 4) (n : Fin 16384) (h : Fin 16) (r : Fin 16384) : EReal :=
  ∑ d : Fin 128, K (ix3 b r (kcol h d)) * Q (ix3 b n (qcol h d))

/-- The capped score in base two. -/
def ascore (b : Fin 4) (n : Fin 16384) (h : Fin 16) (r : Fin 16384) : EReal :=
  Ideal.tanh (adot Q K b n h r * KS (ix3 b r (kvh h)) * (QS (ix3 b n h) * score)) * cap

/-- One past the last key query `n` of sequence `b` sees. -/
def alim (b : Fin 4) (n : Fin 16384) : ℕ := max (n.val + 1) (P (ix1 b)).toInt.toNat

/-- The weight of key `r`: two to its capped score where the query sees it, else zero. -/
def awt (b : Fin 4) (n : Fin 16384) (h : Fin 16) (r : Fin 16384) : EReal :=
  if r.val < alim P b n then Ideal.exp2 (ascore Q QS K KS b n h r) else 0

/-- The mean of the values, each with its scale, under the weights. -/
def amean (b : Fin 4) (n : Fin 16384) (h : Fin 16) (d : Fin 128) : EReal :=
  Ideal.div (∑ r : Fin 16384, V (ix3 b (kcol h d) r) * (awt P Q QS K KS b n h r * VS (ix3 b r (kvh h)))) (∑ r : Fin 16384, awt P Q QS K KS b n h r)

/-- The whole result: query `n` of head `h`, column `d`, is the mean. -/
def attn : S4x16384x2048.Idx → EReal := fun x =>
  amean P Q QS K KS V VS (x 0) (x 1) (⟨(x 2).val / 128, by have h : (x 2).val < 2048 := (x 2).isLt; omega⟩ : Fin 16)
    (⟨(x 2).val % 128, Nat.mod_lt _ (by omega)⟩ : Fin 128)
end

end Cert.KernelIdeal.Val
end
-- ==== Proof.Value.Loop5b.lean ====
/- All the trips of the second pass over whole blocks: what the pass leaves, as facts about the buffers and the carried sums. -/
module

public import proofs.«01_k».proof.Proof.Value.Loop5

@[expose] public section

set_option maxRecDepth 16384

noncomputable section

namespace Cert.KernelIdeal.Val

open Idealize.ShloMosaic Idealize.SL.Sem Cert.KernelIdeal Cert.KernelIdeal.Gen
open Idealize.ShloMosaic.Pointwise

/-- What holds before trip `k` of the second pass: the weights so far are summed, the previous block's scaled weights are stored, and the
    blocks before that one are accumulated. -/
structure F5 (z : S16384x512.Idx → EReal) (b : S8x512.Idx → EReal) (VS : S1x1x128x128.Idx → EReal) (V : S1x128x16384.Idx → EReal)
    (k : ℕ) (l : S8x512.Idx → EReal) (p : S1024x512.Idx → EReal) (o : S128x512.Idx → EReal) : Prop where
  sums : ∀ (s : Fin 8) (j : Fin 512), l (ix2 s j) = ∑ t ∈ Finset.range (128 * k), wgt z b (8 * t + s.val) j
  block : ∀ (a : Fin 1024) (j : Fin 512), p (ix2 a j) = if k = 0 then 0 else wgt z b (1024 * (k - 1) + a.val) j * vsc VS (1024 * (k - 1) + a.val)
  acc : ∀ (d : Fin 128) (j : Fin 512), o (ix2 d j) = ∑ r ∈ Finset.range (1024 * (k - 1)), vat V d r * (wgt z b r j * vsc VS r)

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v76 : BitVec 32) (v123 : FVec Ideal S1x512 .f32) (v126 : FVec Ideal S1x512 .f32) (v129 : FVec Ideal S1x512 .f32) (v135 : FVec Ideal S1x512 .f32) (cst_71 : Ideal .f32) (X_arg7 : BufTy.Contents (Elt Ideal) arg7.view.ty) (X_arg9 : BufTy.Contents (Elt Ideal) arg9.view.ty) (X_arg11 : BufTy.Contents (Elt Ideal) arg11.view.ty) (k : Fin (k0_t5_loop i v2).trips)
  (acc : FVec Ideal S8x512 .f32) (p : BufTy.Contents (Elt Ideal) arg13.view.ty) (o : BufTy.Contents (Elt Ideal) arg15.view.ty)
  (hp : v2.toInt ≤ 16384)

include hp in
/-- The block of scaled weights a trip stores. -/
theorem trip5_p (a : Fin 1024) (j : Fin 512) :
    arg13.view.read (Elt Ideal) (arg13.view.writes (Elt Ideal) p (tripL_k0_t5 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 k acc p o).1) (ix2 a j) = wgt (arg11.view.read (Elt Ideal) X_arg11) (k0_pay198 v123 v126 v129 v135 cst_71) (1024 * k.val + a.val) j * vsc (arg9.view.read (Elt Ideal) X_arg9) (1024 * k.val + a.val) := by
  unfold tripL_k0_t5 trip_k0_t5
  dsimp only
  by_cases h896 : 896 ≤ a.val
  · refine (View.read_writes_cons_rows_of_mem arg13.view p _ _ _ (ix2 a j) (ix2 (⟨a.val - 896, by omega⟩ : Fin 128) j) (o := 896) rfl ?_ rfl).trans ?_
    · show a.val = 896 + (a.val - 896); omega
    · exact (p5_896 (hp := hp) ..).trans (prod_at _ _ _ _ (by dsimp only; omega) (by dsimp only; omega))
  refine (View.read_writes_cons_rows_of_not_mem arg13.view p _ _ _ (ix2 a j) (o := 896) rfl (W := 128) rfl (Or.inl (by show a.val < 896; omega))).trans ?_
  by_cases h768 : 768 ≤ a.val
  · refine (View.read_writes_cons_rows_of_mem arg13.view p _ _ _ (ix2 a j) (ix2 (⟨a.val - 768, by omega⟩ : Fin 128) j) (o := 768) rfl ?_ rfl).trans ?_
    · show a.val = 768 + (a.val - 768); omega
    · exact (p5_768 (hp := hp) ..).trans (prod_at _ _ _ _ (by dsimp only; omega) (by dsimp only; omega))
  refine (View.read_writes_cons_rows_of_not_mem arg13.view p _ _ _ (ix2 a j) (o := 768) rfl (W := 128) rfl (Or.inl (by show a.val < 768; omega))).trans ?_
  by_cases h640 : 640 ≤ a.val
  · refine (View.read_writes_cons_rows_of_mem arg13.view p _ _ _ (ix2 a j) (ix2 (⟨a.val - 640, by omega⟩ : Fin 128) j) (o := 640) rfl ?_ rfl).trans ?_
    · show a.val = 640 + (a.val - 640); omega
    · exact (p5_640 (hp := hp) ..).trans (prod_at _ _ _ _ (by dsimp only; omega) (by dsimp only; omega))
  refine (View.read_writes_cons_rows_of_not_mem arg13.view p _ _ _ (ix2 a j) (o := 640) rfl (W := 128) rfl (Or.inl (by show a.val < 640; omega))).trans ?_
  by_cases h512 : 512 ≤ a.val
  · refine (View.read_writes_cons_rows_of_mem arg13.view p _ _ _ (ix2 a j) (ix2 (⟨a.val - 512, by omega⟩ : Fin 128) j) (o := 512) rfl ?_ rfl).trans ?_
    · show a.val = 512 + (a.val - 512); omega
    · exact (p5_512 (hp := hp) ..).trans (prod_at _ _ _ _ (by dsimp only; omega) (by dsimp only; omega))
  refine (View.read_writes_cons_rows_of_not_mem arg13.view p _ _ _ (ix2 a j) (o := 512) rfl (W := 128) rfl (Or.inl (by show a.val < 512; omega))).trans ?_
  by_cases h384 : 384 ≤ a.val
  · refine (View.read_writes_cons_rows_of_mem arg13.view p _ _ _ (ix2 a j) (ix2 (⟨a.val - 384, by omega⟩ : Fin 128) j) (o := 384) rfl ?_ rfl).trans ?_
    · show a.val = 384 + (a.val - 384); omega
    · exact (p5_384 (hp := hp) ..).trans (prod_at _ _ _ _ (by dsimp only; omega) (by dsimp only; omega))
  refine (View.read_writes_cons_rows_of_not_mem arg13.view p _ _ _ (ix2 a j) (o := 384) rfl (W := 128) rfl (Or.inl (by show a.val < 384; omega))).trans ?_
  by_cases h256 : 256 ≤ a.val
  · refine (View.read_writes_cons_rows_of_mem arg13.view p _ _ _ (ix2 a j) (ix2 (⟨a.val - 256, by omega⟩ : Fin 128) j) (o := 256) rfl ?_ rfl).trans ?_
    · show a.val = 256 + (a.val - 256); omega
    · exact (p5_256 (hp := hp) ..).trans (prod_at _ _ _ _ (by dsimp only; omega) (by dsimp only; omega))
  refine (View.read_writes_cons_rows_of_not_mem arg13.view p _ _ _ (ix2 a j) (o := 256) rfl (W := 128) rfl (Or.inl (by show a.val < 256; omega))).trans ?_
  by_cases h128 : 128 ≤ a.val
  · refine (View.read_writes_cons_rows_of_mem arg13.view p _ _ _ (ix2 a j) (ix2 (⟨a.val - 128, by omega⟩ : Fin 128) j) (o := 128) rfl ?_ rfl).trans ?_
    · show a.val = 128 + (a.val - 128); omega
    · exact (p5_128 (hp := hp) ..).trans (prod_at _ _ _ _ (by dsimp only; omega) (by dsimp only; omega))
  refine (View.read_writes_cons_rows_of_not_mem arg13.view p _ _ _ (ix2 a j) (o := 128) rfl (W := 128) rfl (Or.inl (by show a.val < 128; omega))).trans ?_
  by_cases h0 : 0 ≤ a.val
  · refine (View.read_writes_cons_rows_of_mem arg13.view p _ _ _ (ix2 a j) (ix2 (⟨a.val - 0, by omega⟩ : Fin 128) j) (o := 0) rfl ?_ rfl).trans ?_
    · show a.val = 0 + (a.val - 0); omega
    · exact (p5_0 (hp := hp) ..).trans (prod_at _ _ _ _ (by dsimp only; omega) (by dsimp only; omega))
  exact absurd (Nat.zero_le _) h0

include hp in
/-- One trip takes the facts before it to the facts after it. -/
theorem F5_step (h : F5 (arg11.view.read (Elt Ideal) X_arg11) (k0_pay198 v123 v126 v129 v135 cst_71) (arg9.view.read (Elt Ideal) X_arg9) (arg7.view.read (Elt Ideal) X_arg7) k.val acc (arg13.view.read (Elt Ideal) p) (arg15.view.read (Elt Ideal) o)) :
    F5 (arg11.view.read (Elt Ideal) X_arg11) (k0_pay198 v123 v126 v129 v135 cst_71) (arg9.view.read (Elt Ideal) X_arg9) (arg7.view.read (Elt Ideal) X_arg7) (k.val + 1) (tripR_k0_t5 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 k acc p o)
      (arg13.view.read (Elt Ideal) (arg13.view.writes (Elt Ideal) p (tripL_k0_t5 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 k acc p o).1))
      (arg15.view.read (Elt Ideal) (arg15.view.writes (Elt Ideal) o (tripL_k0_t5 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 k acc p o).2)) where
  sums s j := by
    unfold tripR_k0_t5 trip_k0_t5
    dsimp only
    exact l5 (hp := hp) (h := h.sums s j) ..
  block a j := by rw [if_neg (by omega)]; exact trip5_p (hp := hp) ..
  acc d j := by
    unfold tripL_k0_t5 trip_k0_t5
    dsimp only
    refine (View.read_writes_cons_rows_of_mem arg15.view o _ _ _ (ix2 d j) (ix2 d j) (o := 0) rfl (by show d.val = 0 + d.val; omega) rfl).trans ?_
    exact o5 (hp := hp) (g := fun r => wgt (arg11.view.read (Elt Ideal) X_arg11) (k0_pay198 v123 v126 v129 v135 cst_71) r j * vsc (arg9.view.read (Elt Ideal) X_arg9) r) (hb := fun a => h.block a j) (h := h.acc d j) ..
end

open Idealize.ShloMosaic.TcCoe Idealize.ShloMosaic.Tactic Idealize.SL Idealize.SL.RA Idealize.SL.BI
open scoped Idealize.SL.BI
open Idealize.SL.BI.BIBase Idealize.SL.BI.Laws Idealize.SL.ProofMode

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v76 : BitVec 32) (v123 : FVec Ideal S1x512 .f32) (v126 : FVec Ideal S1x512 .f32) (v129 : FVec Ideal S1x512 .f32) (v135 : FVec Ideal S1x512 .f32) (cst_71 : Ideal .f32) (X_arg7 : BufTy.Contents (Elt Ideal) arg7.view.ty) (X_arg9 : BufTy.Contents (Elt Ideal) arg9.view.ty) (X_arg11 : BufTy.Contents (Elt Ideal) arg11.view.ty) (G_arg13 : BufTy.Contents (Elt Ideal) arg13.view.ty) (G_arg15 : BufTy.Contents (Elt Ideal) arg15.view.ty)
  (init : FVec Ideal S8x512 .f32)

/-- All the trips: the facts hold before every one of them, and after the last. -/
theorem F5_all (hp : v2.toInt ≤ 16384) (h0 : F5 (arg11.view.read (Elt Ideal) X_arg11) (k0_pay198 v123 v126 v129 v135 cst_71) (arg9.view.read (Elt Ideal) X_arg9) (arg7.view.read (Elt Ideal) X_arg7) 0 init (arg13.view.read (Elt Ideal) G_arg13) (arg15.view.read (Elt Ideal) G_arg15)) (k : ℕ) (hk : k ≤ (k0_t5_loop i v2).trips) :
    F5 (arg11.view.read (Elt Ideal) X_arg11) (k0_pay198 v123 v126 v129 v135 cst_71) (arg9.view.read (Elt Ideal) X_arg9) (arg7.view.read (Elt Ideal) X_arg7) k (st_k0_t5 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 G_arg13 G_arg15 init k).1
      (arg13.view.read (Elt Ideal) (arg13.view.writes (Elt Ideal) G_arg13 (st_k0_t5 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 G_arg13 G_arg15 init k).2.1))
      (arg15.view.read (Elt Ideal) (arg15.view.writes (Elt Ideal) G_arg15 (st_k0_t5 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 G_arg13 G_arg15 init k).2.2)) := by
  induction k with
  | zero => exact h0
  | succ k ih =>
    have e := st_k0_t5_succ 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 G_arg13 G_arg15 init ⟨k, by omega⟩
    dsimp only at e
    rw [e, View.writes_append, View.writes_append]
    exact F5_step (hp := hp) (k := ⟨k, by omega⟩) (h := ih (by omega)) ..

set_option warn.classDefReducibility false in
/-- What the run of the body takes out of the pass: its buffers, with the facts. -/
def exit5 (E : Set ℕ) : LoopExit (loopInv_k0_t5 (F := Ideal) 𝒱 c bd E i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 G_arg13 G_arg15 init) where
  post acc := iprop((arg7.view.loc (c : Thread nD τ) ↦[arg7.view.set]{fullShare} X_arg7) ∗ (arg9.view.loc (c : Thread nD τ) ↦[arg9.view.set]{fullShare} X_arg9)
    ∗ (arg11.view.loc (c : Thread nD τ) ↦[arg11.view.set]{fullShare} X_arg11)
    ∗ (∃ f g, (arg13.view.loc (c : Thread nD τ) ↦[arg13.view.set]{fullShare} f) ∗ (arg15.view.loc (c : Thread nD τ) ↦[arg15.view.set]{fullShare} g)
      ∗ ⌜v2.toInt ≤ 16384 → F5 (arg11.view.read (Elt Ideal) X_arg11) (k0_pay198 v123 v126 v129 v135 cst_71) (arg9.view.read (Elt Ideal) X_arg9) (arg7.view.read (Elt Ideal) X_arg7) 0 init (arg13.view.read (Elt Ideal) G_arg13) (arg15.view.read (Elt Ideal) G_arg15) →
          F5 (arg11.view.read (Elt Ideal) X_arg11) (k0_pay198 v123 v126 v129 v135 cst_71) (arg9.view.read (Elt Ideal) X_arg9) (arg7.view.read (Elt Ideal) X_arg7) (nMain (qb i) (pn v2)) acc (arg13.view.read (Elt Ideal) f) (arg15.view.read (Elt Ideal) g)⌝))
  exit acc := by
    show inv_k0_t5 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 G_arg13 G_arg15 init (k0_t5_loop i v2).trips acc ⊢ _
    iintro ⟨H7, H9, H11, ⟨%f, H13, %hf⟩, ⟨%g, H15, %hg⟩, %ha⟩
    isplitl [H7]; · iexact H7
    isplitl [H9]; · iexact H9
    isplitl [H11]; · iexact H11
    iexists f, g
    isplitl [H13]; · iexact H13
    isplitl [H15]; · iexact H15
    ipureintro
    intro hp h0
    subst hf hg ha
    have h := F5_all 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 X_arg7 X_arg9 X_arg11 G_arg13 G_arg15 init hp h0 (k0_t5_loop i v2).trips le_rfl
    rw [← show (k0_t5_loop i v2).trips = nMain (qb i) (pn v2) from trips5 i v2 hp]
    exact h
end

end Cert.KernelIdeal.Val
end
-- ==== Proof.Value.Body.lean ====
/- The steps of the body between its loops, read: the query rows staged by heads, the products of the first block, the limits of the
   visible keys, the cleared accumulators, the last block's product, and the output written by heads. -/
module

public import proofs.«01_k».proof.Proof.Value.Out
public import proofs.«01_k».proof.Proof.Value.Loop5b

@[expose] public section

set_option maxRecDepth 16384

noncomputable section

namespace Cert.KernelIdeal.Val

open Idealize.ShloMosaic Idealize.SL.Sem Cert.KernelIdeal Cert.KernelIdeal.Gen
open Idealize.ShloMosaic.Pointwise

/-! ### The query rows -/

/-- A load of one head's columns of a query block reads them. -/
theorem head_apply (v : View sig .tc .vmem S1x64x1024 .fp8e4m3) (X : v.ty.Contents (Elt Ideal)) {off : Fin 3 → ℕ}
    (inb : ∀ a, off a + S1x64x128.size a ≤ S1x64x1024.size a) (o : ℕ) (ho : off = ![0, 0, o]) (a : Fin 64) (d : Fin 128) (h : o + d.val < 1024) :
    v.readAt (Elt Ideal) (Rect.unit (s := S1x64x1024) off S1x64x128.size inb).toLoadRect X (ix3 (0 : Fin 1) a d) = v.read (Elt Ideal) X (ix3 (0 : Fin 1) a (⟨o + d.val, h⟩ : Fin 1024)) :=
  cols3_apply (N := 64) (M := 1024) (R := 128) v X inb o ho a d h

section
variable (arg4 : Memref sig .tc .vmem S1x64x1024 .fp8e4m3) (harg4 : arg4.IsWhole) (x0 : Vec Ideal S1x64x1024 .fp8e4m3)

/-- The columns of one head of the query block, as the body loads them. -/
abbrev hload (o : ℕ) (inb : ∀ a, (![0, 0, o] : Fin 3 → ℕ) a + S1x64x128.size a ≤ S1x64x1024.size a) : Vec Ideal S1x64x128 .fp8e4m3 :=
  View.readAt (Elt Ideal) arg4.view (Rect.unit (s := S1x64x1024) ![0, 0, o] S1x64x128.size inb).toLoadRect (harg4.unread x0)

/-- The stores of the query rows, last first. -/
abbrev qpieces : List (View.Piece (Elt Ideal) S512x128 .fp8e4m3) :=
  [⟨Rect.unit ![448, 0] S64x128.size inb_S512x128_S64x128_448_0, k0_pay171 (hload arg4 harg4 x0 896 inb_S1x64x1024_S1x64x128_0_0_896)⟩,
   ⟨Rect.unit ![384, 0] S64x128.size inb_S512x128_S64x128_384_0, k0_pay170 (hload arg4 harg4 x0 768 inb_S1x64x1024_S1x64x128_0_0_768)⟩,
   ⟨Rect.unit ![320, 0] S64x128.size inb_S512x128_S64x128_320_0, k0_pay169 (hload arg4 harg4 x0 640 inb_S1x64x1024_S1x64x128_0_0_640)⟩,
   ⟨Rect.unit ![256, 0] S64x128.size inb_S512x128_S64x128_256_0, k0_pay168 (k0_pay167 (hload arg4 harg4 x0 512 inb_S1x64x1024_S1x64x128_0_0_512))⟩,
   ⟨Rect.unit ![192, 0] S64x128.size inb_S512x128_S64x128_192_0, k0_pay166 (hload arg4 harg4 x0 384 inb_S1x64x1024_S1x64x128_0_0_384)⟩,
   ⟨Rect.unit ![128, 0] S64x128.size inb_S512x128_S64x128_128_0, k0_pay165 (hload arg4 harg4 x0 256 inb_S1x64x1024_S1x64x128_0_0_256)⟩,
   ⟨Rect.unit ![64, 0] S64x128.size inb_S512x128_S64x128_64_0, k0_pay164 (hload arg4 harg4 x0 128 inb_S1x64x1024_S1x64x128_0_0_128)⟩,
   ⟨Rect.unit ![0, 0] S64x128.size inb_S512x128_S64x128_0_0, k0_pay163 (hload arg4 harg4 x0 0 inb_S1x64x1024_S1x64x128_0_0_0)⟩]

/-- One head's columns, read as a block of query rows. -/
theorem hload_at (o h : ℕ) (inb) (ho : o = 128 * h) (j : Fin 512) (d : Fin 128) (q : Fin 64) (hj : j.val = 64 * h + q.val) :
    hload arg4 harg4 x0 o inb (ix3 (0 : Fin 1) q d) = qrow x0 (ix2 j d) := by
  have hd := d.isLt
  have hj' := j.isLt
  unfold hload
  rw [head_apply _ _ _ o rfl q d (by omega), harg4.read_unread]
  unfold qrow
  refine congrArg x0 (congrArg₂ (ix3 (0 : Fin 1)) (Fin.ext ?_) (Fin.ext ?_))
  · show q.val = j.val % 64; omega
  · show o + d.val = j.val / 64 * 128 + d.val; omega

/-- The staged query rows. -/
theorem qs_read (v : View sig .tc .vmem S512x128 .fp8e4m3) (G : v.ty.Contents (Elt Ideal)) (j : Fin 512) (d : Fin 128) :
    v.read (Elt Ideal) (v.writes (Elt Ideal) G (qpieces arg4 harg4 x0)) (ix2 j d) = qrow x0 (ix2 j d) := by
  have hj := j.isLt
  by_cases h7 : 448 ≤ j.val
  · refine (View.read_writes_cons_rows_of_mem v G _ _ _ (ix2 j d) (ix2 (⟨j.val - 448, by omega⟩ : Fin 64) d) (o := 448) rfl (by show j.val = 448 + (j.val - 448); omega) rfl).trans ?_
    pointwise [k0_pay171]
    exact hload_at arg4 harg4 x0 896 7 _ rfl j d ⟨j.val - 448, by omega⟩ (by show j.val = 64 * 7 + (j.val - 448); omega)
  refine (View.read_writes_cons_rows_of_not_mem v G _ _ _ (ix2 j d) (o := 448) rfl (W := 64) rfl (Or.inl (by show j.val < 448; omega))).trans ?_
  by_cases h6 : 384 ≤ j.val
  · refine (View.read_writes_cons_rows_of_mem v G _ _ _ (ix2 j d) (ix2 (⟨j.val - 384, by omega⟩ : Fin 64) d) (o := 384) rfl (by show j.val = 384 + (j.val - 384); omega) rfl).trans ?_
    pointwise [k0_pay170]
    exact hload_at arg4 harg4 x0 768 6 _ rfl j d ⟨j.val - 384, by omega⟩ (by show j.val = 64 * 6 + (j.val - 384); omega)
  refine (View.read_writes_cons_rows_of_not_mem v G _ _ _ (ix2 j d) (o := 384) rfl (W := 64) rfl (Or.inl (by show j.val < 384; omega))).trans ?_
  by_cases h5 : 320 ≤ j.val
  · refine (View.read_writes_cons_rows_of_mem v G _ _ _ (ix2 j d) (ix2 (⟨j.val - 320, by omega⟩ : Fin 64) d) (o := 320) rfl (by show j.val = 320 + (j.val - 320); omega) rfl).trans ?_
    pointwise [k0_pay169]
    exact hload_at arg4 harg4 x0 640 5 _ rfl j d ⟨j.val - 320, by omega⟩ (by show j.val = 64 * 5 + (j.val - 320); omega)
  refine (View.read_writes_cons_rows_of_not_mem v G _ _ _ (ix2 j d) (o := 320) rfl (W := 64) rfl (Or.inl (by show j.val < 320; omega))).trans ?_
  by_cases h4 : 256 ≤ j.val
  · refine (View.read_writes_cons_rows_of_mem v G _ _ _ (ix2 j d) (ix2 (⟨j.val - 256, by omega⟩ : Fin 64) d) (o := 256) rfl (by show j.val = 256 + (j.val - 256); omega) rfl).trans ?_
    pointwise [k0_pay168, k0_pay167]
    exact hload_at arg4 harg4 x0 512 4 _ rfl j d ⟨j.val - 256, by omega⟩ (by show j.val = 64 * 4 + (j.val - 256); omega)
  refine (View.read_writes_cons_rows_of_not_mem v G _ _ _ (ix2 j d) (o := 256) rfl (W := 64) rfl (Or.inl (by show j.val < 256; omega))).trans ?_
  by_cases h3 : 192 ≤ j.val
  · refine (View.read_writes_cons_rows_of_mem v G _ _ _ (ix2 j d) (ix2 (⟨j.val - 192, by omega⟩ : Fin 64) d) (o := 192) rfl (by show j.val = 192 + (j.val - 192); omega) rfl).trans ?_
    pointwise [k0_pay166]
    exact hload_at arg4 harg4 x0 384 3 _ rfl j d ⟨j.val - 192, by omega⟩ (by show j.val = 64 * 3 + (j.val - 192); omega)
  refine (View.read_writes_cons_rows_of_not_mem v G _ _ _ (ix2 j d) (o := 192) rfl (W := 64) rfl (Or.inl (by show j.val < 192; omega))).trans ?_
  by_cases h2 : 128 ≤ j.val
  · refine (View.read_writes_cons_rows_of_mem v G _ _ _ (ix2 j d) (ix2 (⟨j.val - 128, by omega⟩ : Fin 64) d) (o := 128) rfl (by show j.val = 128 + (j.val - 128); omega) rfl).trans ?_
    pointwise [k0_pay165]
    exact hload_at arg4 harg4 x0 256 2 _ rfl j d ⟨j.val - 128, by omega⟩ (by show j.val = 64 * 2 + (j.val - 128); omega)
  refine (View.read_writes_cons_rows_of_not_mem v G _ _ _ (ix2 j d) (o := 128) rfl (W := 64) rfl (Or.inl (by show j.val < 128; omega))).trans ?_
  by_cases h1 : 64 ≤ j.val
  · refine (View.read_writes_cons_rows_of_mem v G _ _ _ (ix2 j d) (ix2 (⟨j.val - 64, by omega⟩ : Fin 64) d) (o := 64) rfl (by show j.val = 64 + (j.val - 64); omega) rfl).trans ?_
    pointwise [k0_pay164]
    exact hload_at arg4 harg4 x0 128 1 _ rfl j d ⟨j.val - 64, by omega⟩ (by show j.val = 64 * 1 + (j.val - 64); omega)
  refine (View.read_writes_cons_rows_of_not_mem v G _ _ _ (ix2 j d) (o := 64) rfl (W := 64) rfl (Or.inl (by show j.val < 64; omega))).trans ?_
  refine (View.read_writes_cons_rows_of_mem v G _ _ _ (ix2 j d) (ix2 (⟨j.val, by omega⟩ : Fin 64) d) (o := 0) rfl (by show j.val = 0 + j.val; omega) rfl).trans ?_
  pointwise [k0_pay163]
  exact hload_at arg4 harg4 x0 0 0 _ rfl j d ⟨j.val, by omega⟩ (by show j.val = 64 * 0 + j.val; omega)
end

/-! ### The other steps before the loops -/

/-- The products of the first block. -/
theorem raw0_read (v : View sig .tc .vmem S1024x512 .f32) (G : v.ty.Contents (Elt Ideal)) (i1 i2 i3)
    (vk : View sig .tc .vmem S1x16384x128 .fp8e4m3) (K : vk.ty.Contents (Elt Ideal)) (vq : View sig .tc .vmem S512x128 .fp8e4m3) (Q : vq.ty.Contents (Elt Ideal))
    (a : Fin 1024) (j : Fin 512) (r : Fin 16384) (hr : r.val = a.val) :
    v.read (Elt Ideal) (v.writes (Elt Ideal) G [⟨Rect.unit (s := S1024x512) ![0, 0] S1024x512.size i1,
        k0_pay175 (View.readAt (Elt Ideal) vk (Rect.unit (s := S1x16384x128) ![0, 0, 0] S1x1024x128.size i2).toLoadRect K)
          (View.readAt (Elt Ideal) vq (Rect.unit (s := S512x128) ![0, 0] S512x128.size i3).toLoadRect Q)⟩]) (ix2 a j)
      = kdot (vk.read (Elt Ideal) K) (vq.read (Elt Ideal) Q) r j := by
  refine (View.read_writes_cons_rows_of_mem v G _ _ _ (ix2 a j) (ix2 a j) (o := 0) rfl (by show a.val = 0 + a.val; omega) rfl).trans ?_
  pointwise [k0_pay175]
  refine Finset.sum_congr rfl fun d _ => ?_
  rw [rows3_apply _ _ _ 0 rfl a d (by have := a.isLt; omega), rows_apply _ _ _ 0 rfl j d (by have := j.isLt; omega)]
  have e1 : (⟨0 + a.val, by have := a.isLt; omega⟩ : Fin 16384) = r := Fin.ext (by dsimp only; omega)
  have e2 : (⟨0 + j.val, by have := j.isLt; omega⟩ : Fin 512) = j := Fin.ext (by dsimp only; omega)
  rw [e1, e2]

/-- The score factor by its name. -/
theorem score_named : (Named.named κ "score" 988263530#32 : Ideal .f32) = score :=
  IdealRules.named_const.ideal_named_scalar _ _ _ _ rfl

/-- The scale of a query column times the score factor. -/
theorem crow_read (arg5 : Memref sig .tc .vmem S1x1x1x1x512 .f32) (harg5 : arg5.IsWhole) (x1 : Vec Ideal S1x1x1x1x512 .f32) (inb) :
    k0_pay172 (View.readAt (Elt Ideal) arg5.view (Rect.unit (s := S1x1x1x1x512) ![0, 0, 0, 0, 0] S1x1x1x1x512.size inb).toLoadRect (harg5.unread x1)) = crow x1 := by
  funext x
  obtain ⟨s, j, rfl⟩ : ∃ (s : Fin 8) (j : Fin 512), x = ix2 s j := ⟨x 0, x 1, by funext a; fin_cases a <;> rfl⟩
  pointwise [k0_pay172]
  rw [View.readAt_apply, score_named]
  unfold crow
  refine congrArg (· * score) ?_
  rw [harg5.read_unread]
  refine congrArg x1 (funext fun a => Fin.ext ?_)
  fin_cases a
  · rfl
  · rfl
  · rfl
  · rfl
  · show 0 + 1 * j.val = j.val; omega

/-- The limits of the visible keys as the body computes them. -/
theorem lim_read (q : ℕ) (hq : q < 256) (v2 : BitVec 32) (hp : v2.toInt ≤ 16384) (s : Fin 8) (j : Fin 512) :
    k0_pay173 (F := Ideal) (Scalar.muli (BitVec.ofNat 32 q) 64#32) v2 (ix2 s j) = BitVec.ofNat 32 (lim q v2.toInt.toNat j) := by
  have hj := j.isLt
  have hn : v2.toInt.toNat ≤ 16384 := by omega
  have ea : Scalar.andi (BitVec.ofNat 32 j.val) 63#32 = BitVec.ofNat 32 (j.val % 64) := by
    apply BitVec.eq_of_toNat_eq
    show (BitVec.ofNat 32 j.val &&& 63#32).toNat = _
    rw [BitVec.toNat_and, BitVec.toNat_ofNat, BitVec.toNat_ofNat, BitVec.toNat_ofNat, Nat.mod_eq_of_lt (by omega), Nat.mod_eq_of_lt (by omega : j.val % 64 < 2 ^ 32)]
    exact Nat.and_two_pow_sub_one_eq_mod j.val 6
  pointwise [k0_pay173]
  show Scalar.maxsi (Scalar.addi (Scalar.addi (Scalar.muli (BitVec.ofNat 32 q) 64#32) (Scalar.andi (BitVec.ofNat 32 j.val) 63#32)) 1#32) v2 = _
  rw [ea, show (64#32 : BitVec 32) = BitVec.ofNat 32 64 from rfl, muli_ofNat, addi_ofNat, show (1#32 : BitVec 32) = BitVec.ofNat 32 1 from rfl, addi_ofNat,
    maxsi_ofNat _ _ (by omega), Nat.mul_comm q 64]
  rfl

/-- The number of rows in whole blocks as the body computes it. -/
theorem rows_word (i : grid0.Coords) (v2 : BitVec 32) (hp : v2.toInt ≤ 16384) :
    Scalar.muli (mainW (qb i) v2) 1024#32 = BitVec.ofNat 32 (1024 * nMain (qb i) (pn v2)) := by
  rw [mainW_eq i v2 hp, show (1024#32 : BitVec 32) = BitVec.ofNat 32 1024 from rfl, muli_ofNat, Nat.mul_comm]

/-- Every query sees a key. -/
theorem lim_pos (q p : ℕ) (j : Fin 512) : 0 < lim q p j := by unfold lim; omega

/-- The number of visible keys fits a word. -/
theorem lim_lt (i : grid0.Coords) (v2 : BitVec 32) (hp : v2.toInt ≤ 16384) (j : Fin 512) : lim (qb i) (pn v2) j < 2 ^ 31 := by
  have := qb_lt i; have := pn_le v2 hp; unfold lim; omega

/-- The blocks of the main loop are visible to every query. -/
theorem main_le_lim (q p : ℕ) (j : Fin 512) : 1024 * nMain q p ≤ lim q p j := by unfold nMain lim; omega

/-- The main and the tail loop reach every visible key. -/
theorem lim_le (q p : ℕ) (j : Fin 512) : lim q p j ≤ 1024 * nMain q p + 256 * nTail q p := by unfold lim nTail nVis nMain; omega

/-- Some block is visited. -/
theorem visits (q p : ℕ) : 0 < nMain q p ∨ 0 < nTail q p := by unfold nTail nVis nMain; omega

/-- The facts of the first pass before it starts. -/
theorem F1_zero (K Q KS VS cv nM z raw) (h : 0 < nM → ∀ (a : Fin 1024) (j : Fin 512) (r : Fin 16384), r.val = a.val → raw (ix2 a j) = kdot K Q r j) :
    F1 K Q KS VS cv nM 0 (k0_pay174 (F := Ideal)) (k0_pay174 (F := Ideal)) z raw where
  scores r j hr := absurd hr (by omega)
  products h0 a j r hr := h h0 a j r (by omega)
  m_lt s j := by pointwise [k0_pay174]; rw [negInf]; exact bot_lt_top
  y_lt _ s j := by pointwise [k0_pay174]; rw [negInf]; exact bot_lt_top
  lt_m h := absurd h (lt_irrefl _)

/-- The first pass's facts are what the tail starts from. -/
theorem F3_start {K Q KS VS cv nM m y z raw} {L : Fin 512 → ℕ} (h : F1 K Q KS VS cv nM nM m y z raw) (hL : ∀ j, 1024 * nM ≤ L j) :
    F3 K Q KS VS cv nM L 0 m y z where
  scores r j hr := by rw [if_pos (by have := hL j; omega)]; exact h.scores r j (by omega)
  m_lt := h.m_lt
  y_lt := h.y_lt
  lt_m h0 j := ⟨0, h.lt_m (h0.resolve_right (lt_irrefl _)) 0 j⟩

/-- The mean from the facts of the passes. -/
theorem mean_of {K Q KS VS V cv} {q p : ℕ} {m y : FVec Ideal S8x512 .f32} {z : S16384x512.Idx → EReal} {l : S8x512.Idx → EReal} {o : S128x512.Idx → EReal}
    (hv : ∀ x, VS x < ⊤) (hN : 1024 * nMain q p + 256 * nTail q p ≤ 16384) (h3 : F3 K Q KS VS cv (nMain q p) (lim q p) (nTail q p) m y z)
    (h7 : F7 z (k0_pay198 (k0_pay194 m) (k0_pay195 m y) (k0_pay196 m y) (k0_pay197 m y) (FloatOps.ofBits FTy.f32 8388608#32)) VS V (nMain q p) (nTail q p) l o)
    (d : Fin 128) (j : Fin 512) : Ideal.div (o (ix2 d j)) (∑ s : Fin 8, l (ix2 s j)) = mean (zfun K Q KS cv) (lim q p) VS V d j := by
  obtain ⟨β, hβ⟩ := bias_real m y j (fun s => h3.m_lt s j) (h3.lt_m (visits q p) j) (fun s => h3.y_lt hv s j)
  exact quot_mean _ _ (fun r j => tanh_cap_real _) VS V j z _ β _ _ l o h7 (fun r hr => h3.scores r j hr) hβ hN (lim_le q p j) (lim_pos q p j) d

/-! ### Between the second and the last pass -/

/-- The accumulators start at zero. -/
theorem F5_zero (z b VS V) (v : View sig .tc .vmem S1024x512 .fp8e4m3) (G : v.ty.Contents (Elt Ideal)) (w : View sig .tc .vmem S128x512 .f32) (H : w.ty.Contents (Elt Ideal)) (i1 i2) :
    F5 z b VS V 0 (k0_pay201 (F := Ideal))
      (v.read (Elt Ideal) (v.writes (Elt Ideal) G [⟨Rect.unit (s := S1024x512) ![0, 0] S1024x512.size i1, k0_pay200 (F := Ideal)⟩]))
      (w.read (Elt Ideal) (w.writes (Elt Ideal) H [⟨Rect.unit (s := S128x512) ![0, 0] S128x512.size i2, k0_pay199 (F := Ideal)⟩])) where
  sums s j := by pointwise [k0_pay201]; simp
  block a j := by
    refine (View.read_writes_cons_rows_of_mem v G _ _ _ (ix2 a j) (ix2 a j) (o := 0) rfl (by show a.val = 0 + a.val; omega) rfl).trans ?_
    pointwise [k0_pay200]; exact IdealRules.sign_bit.ideal_zero .fp8e4m3
  acc d j := by
    refine (View.read_writes_cons_rows_of_mem w H _ _ _ (ix2 d j) (ix2 d j) (o := 0) rfl (by show d.val = 0 + d.val; omega) rfl).trans ?_
    pointwise [k0_pay199]; simp

/-- After the last block's product the accumulator holds every whole block. -/
theorem F7_start (i : grid0.Coords) (v2 : BitVec 32) (hp : v2.toInt ≤ 16384) (z b VS) (l : S8x512.Idx → EReal)
    (vv : View sig .tc .vmem S1x128x16384 .fp8e4m3) (V : vv.ty.Contents (Elt Ideal))
    (v : View sig .tc .vmem S1024x512 .fp8e4m3) (G : v.ty.Contents (Elt Ideal)) (w : View sig .tc .vmem S128x512 .f32) (H J : w.ty.Contents (Elt Ideal)) (i1 i2 i3 i4)
    (h : F5 z b VS (vv.read (Elt Ideal) V) (nMain (qb i) (pn v2)) l (v.read (Elt Ideal) G) (w.read (Elt Ideal) H)) :
    F7 z b VS (vv.read (Elt Ideal) V) (nMain (qb i) (pn v2)) 0 l
      (w.read (Elt Ideal) (w.writes (Elt Ideal) J [⟨Rect.unit (s := S128x512) ![0, 0] S128x512.size i1,
        k0_pay219 (View.readAt (Elt Ideal) w (Rect.unit (s := S128x512) ![0, 0] S128x512.size i2).toLoadRect H)
          (View.readAt (Elt Ideal) v (Rect.unit (s := S1024x512) ![0, 0] S1024x512.size i3).toLoadRect G)
          (k0_pay218 (View.readAt (Elt Ideal) vv (Rect.unit (s := S1x128x16384) (k0_off20 i v2) S1x128x1024.size i4).toLoadRect V))
          (constant S128x512 FTy.f32 0#32)⟩])) where
  sums s j := by rw [h.sums]; rfl
  acc d j := by
    have hn := nMain_le i v2 hp
    refine (View.read_writes_cons_rows_of_mem w J _ _ _ (ix2 d j) (ix2 d j) (o := 0) rfl (by show d.val = 0 + d.val; omega) rfl).trans ?_
    pointwise [k0_pay219, k0_pay218]
    rw [rows_apply _ _ _ 0 rfl d j (by have := d.isLt; omega), show (⟨0 + d.val, by have := d.isLt; omega⟩ : Fin 128) = d from Fin.ext (by dsimp only; omega), h.acc]
    have ep : ∀ x : Fin 1024, View.readAt (Elt Ideal) v (Rect.unit (s := S1024x512) ![0, 0] S1024x512.size i3).toLoadRect G (ix2 x j) = v.read (Elt Ideal) G (ix2 x j) := fun x => by
      rw [rows_apply _ _ _ 0 rfl x j (by have := x.isLt; omega)]
      exact congrArg (fun y => v.read (Elt Ideal) G (ix2 y j)) (Fin.ext (by dsimp only; omega))
    have ev : ∀ x : Fin 1024, View.readAt (Elt Ideal) vv (Rect.unit (s := S1x128x16384) (k0_off20 i v2) S1x128x1024.size i4).toLoadRect V (ix3 (0 : Fin 1) d x)
        = vat (vv.read (Elt Ideal) V) d (1024 * (nMain (qb i) (pn v2) - 1) + x.val) := fun x => by
      have hx := x.isLt
      rw [cols3_apply (R := 1024) _ _ _ _ (off20_eq i v2 hp) d x (by omega)]
      unfold vat
      exact congrArg (fun y => vv.read (Elt Ideal) V (ix3 0 d y)) (Fin.ext (by dsimp only; omega))
    by_cases h0 : nMain (qb i) (pn v2) = 0
    · rw [show 1024 * (nMain (qb i) (pn v2) - 1) = 0 by omega, show 1024 * nMain (qb i) (pn v2) = 0 by omega, Finset.sum_range_zero, zero_add]
      refine Finset.sum_eq_zero fun x _ => ?_
      rw [ep, h.block, if_pos h0, mul_zero]
    · refine sum_more (N := 1024) _ (1024 * (nMain (qb i) (pn v2) - 1)) rfl (fun x => ?_) (by omega)
      rw [ep, ev, h.block, if_neg h0]

/-! ### The output by heads -/

/-- A position in a run of columns. -/
theorem cols_pos {N M R : ℕ} (b : Fin 1) (q : Fin N) (x : Fin M) (y : Fin R) (o : ℕ) (h : x.val = o + y.val) :
    ∀ a : Fin 3, ((ix3 b q x : (⟨3, ![1, N, M]⟩ : Shape).Idx) a).val = (![0, 0, o] : Fin 3 → ℕ) a + ((ix3 b q y : (⟨3, ![1, N, R]⟩ : Shape).Idx) a).val := by
  intro a; fin_cases a
  · show b.val = 0 + b.val; omega
  · show q.val = 0 + q.val; omega
  · exact h

/-- The output block read from the eight stores of its heads. -/
theorem out_read (v : View sig .tc .vmem S1x64x1024 .bf16) (G : v.ty.Contents (Elt Ideal)) (l : FVec Ideal S8x512 .f32)
    (w : View sig .tc .vmem S128x512 .f32) (H : w.ty.Contents (Elt Ideal)) (i1) (T : Fin 128 → Fin 512 → EReal)
    (hT : ∀ d j, Ideal.div (w.read (Elt Ideal) H (ix2 d j)) (∑ s : Fin 8, l (ix2 s j)) = T d j) (q : Fin 64) (x : Fin 1024)
    (j : Fin 512) (d : Fin 128) (hj : j.val = x.val / 128 * 64 + q.val) (hd : d.val = x.val % 128) :
    v.read (Elt Ideal) (v.writes (Elt Ideal) G
      [⟨Rect.unit (s := S1x64x1024) ![0, 0, 896] ![1, 64, 128] inb_S1x64x1024_S1x64x128_0_0_896, k0_pay4 (k0_pay228 l (View.readAt (Elt Ideal) w (Rect.unit (s := S128x512) ![0, 0] S128x512.size i1).toLoadRect H))⟩,
       ⟨Rect.unit (s := S1x64x1024) ![0, 0, 768] ![1, 64, 128] inb_S1x64x1024_S1x64x128_0_0_768, k0_pay3 (k0_pay228 l (View.readAt (Elt Ideal) w (Rect.unit (s := S128x512) ![0, 0] S128x512.size i1).toLoadRect H))⟩,
       ⟨Rect.unit (s := S1x64x1024) ![0, 0, 640] ![1, 64, 128] inb_S1x64x1024_S1x64x128_0_0_640, k0_pay2 (k0_pay228 l (View.readAt (Elt Ideal) w (Rect.unit (s := S128x512) ![0, 0] S128x512.size i1).toLoadRect H))⟩,
       ⟨Rect.unit (s := S1x64x1024) ![0, 0, 512] ![1, 64, 128] inb_S1x64x1024_S1x64x128_0_0_512, k0_pay1 (k0_pay228 l (View.readAt (Elt Ideal) w (Rect.unit (s := S128x512) ![0, 0] S128x512.size i1).toLoadRect H))⟩,
       ⟨Rect.unit (s := S1x64x1024) ![0, 0, 384] ![1, 64, 128] inb_S1x64x1024_S1x64x128_0_0_384, k0_pay232 l (View.readAt (Elt Ideal) w (Rect.unit (s := S128x512) ![0, 0] S128x512.size i1).toLoadRect H)⟩,
       ⟨Rect.unit (s := S1x64x1024) ![0, 0, 256] S1x64x128.size inb_S1x64x1024_S1x64x128_0_0_256, k0_pay231 l (View.readAt (Elt Ideal) w (Rect.unit (s := S128x512) ![0, 0] S128x512.size i1).toLoadRect H)⟩,
       ⟨Rect.unit (s := S1x64x1024) ![0, 0, 128] S1x64x128.size inb_S1x64x1024_S1x64x128_0_0_128, k0_pay230 l (View.readAt (Elt Ideal) w (Rect.unit (s := S128x512) ![0, 0] S128x512.size i1).toLoadRect H)⟩,
       ⟨Rect.unit (s := S1x64x1024) ![0, 0, 0] S1x64x128.size inb_S1x64x1024_S1x64x128_0_0_0, k0_pay229 l (View.readAt (Elt Ideal) w (Rect.unit (s := S128x512) ![0, 0] S128x512.size i1).toLoadRect H)⟩])
      (ix3 (0 : Fin 1) q x) = T d j := by
  have hx := x.isLt
  have hq := q.isLt
  have key : ∀ (j' : Fin 512) (d' : Fin 128), j'.val = j.val → d'.val = d.val →
      k0_pay228 l (View.readAt (Elt Ideal) w (Rect.unit (s := S128x512) ![0, 0] S128x512.size i1).toLoadRect H) (ix2 j' d') = T d j := fun j' d' ej ed => by
    rw [Fin.ext ej, Fin.ext ed, quot_apply, rows_apply _ _ _ 0 rfl d j (by have := d.isLt; omega),
      show (⟨0 + d.val, by have := d.isLt; omega⟩ : Fin 128) = d from Fin.ext (by dsimp only; omega)]
    exact hT d j
  by_cases h7 : 896 ≤ x.val
  · refine (View.read_writes_cons_unit_of_mem v G _ _ _ (ix3 (0 : Fin 1) q x) (ix3 (0 : Fin 1) q (⟨x.val - 896, by omega⟩ : Fin 128)) (off' := ![0, 0, 896]) rfl (cols_pos (0 : Fin 1) q x _ 896 (by show x.val = 896 + (x.val - 896); omega))).trans ?_
    pointwise [k0_pay4]
    exact key _ _ (by show 448 + q.val = j.val; omega) (by show x.val - 896 = d.val; omega)
  refine (View.read_writes_cons_unit_of_not_mem v G _ _ _ (ix3 (0 : Fin 1) q x) (off' := ![0, 0, 896]) rfl (2 : Fin 3) (Or.inl (by show x.val < 896; omega))).trans ?_
  by_cases h6 : 768 ≤ x.val
  · refine (View.read_writes_cons_unit_of_mem v G _ _ _ (ix3 (0 : Fin 1) q x) (ix3 (0 : Fin 1) q (⟨x.val - 768, by omega⟩ : Fin 128)) (off' := ![0, 0, 768]) rfl (cols_pos (0 : Fin 1) q x _ 768 (by show x.val = 768 + (x.val - 768); omega))).trans ?_
    pointwise [k0_pay3]
    exact key _ _ (by show 384 + q.val = j.val; omega) (by show x.val - 768 = d.val; omega)
  refine (View.read_writes_cons_unit_of_not_mem v G _ _ _ (ix3 (0 : Fin 1) q x) (off' := ![0, 0, 768]) rfl (2 : Fin 3) (Or.inl (by show x.val < 768; omega))).trans ?_
  by_cases h5 : 640 ≤ x.val
  · refine (View.read_writes_cons_unit_of_mem v G _ _ _ (ix3 (0 : Fin 1) q x) (ix3 (0 : Fin 1) q (⟨x.val - 640, by omega⟩ : Fin 128)) (off' := ![0, 0, 640]) rfl (cols_pos (0 : Fin 1) q x _ 640 (by show x.val = 640 + (x.val - 640); omega))).trans ?_
    pointwise [k0_pay2]
    exact key _ _ (by show 320 + q.val = j.val; omega) (by show x.val - 640 = d.val; omega)
  refine (View.read_writes_cons_unit_of_not_mem v G _ _ _ (ix3 (0 : Fin 1) q x) (off' := ![0, 0, 640]) rfl (2 : Fin 3) (Or.inl (by show x.val < 640; omega))).trans ?_
  by_cases h4 : 512 ≤ x.val
  · refine (View.read_writes_cons_unit_of_mem v G _ _ _ (ix3 (0 : Fin 1) q x) (ix3 (0 : Fin 1) q (⟨x.val - 512, by omega⟩ : Fin 128)) (off' := ![0, 0, 512]) rfl (cols_pos (0 : Fin 1) q x _ 512 (by show x.val = 512 + (x.val - 512); omega))).trans ?_
    pointwise [k0_pay1]
    exact key _ _ (by show 256 + q.val = j.val; omega) (by show x.val - 512 = d.val; omega)
  refine (View.read_writes_cons_unit_of_not_mem v G _ _ _ (ix3 (0 : Fin 1) q x) (off' := ![0, 0, 512]) rfl (2 : Fin 3) (Or.inl (by show x.val < 512; omega))).trans ?_
  by_cases h3 : 384 ≤ x.val
  · refine (View.read_writes_cons_unit_of_mem v G _ _ _ (ix3 (0 : Fin 1) q x) (ix3 (0 : Fin 1) q (⟨x.val - 384, by omega⟩ : Fin 128)) (off' := ![0, 0, 384]) rfl (cols_pos (0 : Fin 1) q x _ 384 (by show x.val = 384 + (x.val - 384); omega))).trans ?_
    pointwise [k0_pay232]
    exact key _ _ (by show 192 + q.val = j.val; omega) (by show x.val - 384 = d.val; omega)
  refine (View.read_writes_cons_unit_of_not_mem v G _ _ _ (ix3 (0 : Fin 1) q x) (off' := ![0, 0, 384]) rfl (2 : Fin 3) (Or.inl (by show x.val < 384; omega))).trans ?_
  by_cases h2 : 256 ≤ x.val
  · refine (View.read_writes_cons_unit_of_mem v G _ _ _ (ix3 (0 : Fin 1) q x) (ix3 (0 : Fin 1) q (⟨x.val - 256, by omega⟩ : Fin 128)) (off' := ![0, 0, 256]) rfl (cols_pos (0 : Fin 1) q x _ 256 (by show x.val = 256 + (x.val - 256); omega))).trans ?_
    pointwise [k0_pay231]
    exact key _ _ (by show 128 + q.val = j.val; omega) (by show x.val - 256 = d.val; omega)
  refine (View.read_writes_cons_unit_of_not_mem v G _ _ _ (ix3 (0 : Fin 1) q x) (off' := ![0, 0, 256]) rfl (2 : Fin 3) (Or.inl (by show x.val < 256; omega))).trans ?_
  by_cases h1 : 128 ≤ x.val
  · refine (View.read_writes_cons_unit_of_mem v G _ _ _ (ix3 (0 : Fin 1) q x) (ix3 (0 : Fin 1) q (⟨x.val - 128, by omega⟩ : Fin 128)) (off' := ![0, 0, 128]) rfl (cols_pos (0 : Fin 1) q x _ 128 (by show x.val = 128 + (x.val - 128); omega))).trans ?_
    pointwise [k0_pay230]
    exact key _ _ (by show 64 + q.val = j.val; omega) (by show x.val - 128 = d.val; omega)
  refine (View.read_writes_cons_unit_of_not_mem v G _ _ _ (ix3 (0 : Fin 1) q x) (off' := ![0, 0, 128]) rfl (2 : Fin 3) (Or.inl (by show x.val < 128; omega))).trans ?_
  refine (View.read_writes_cons_unit_of_mem v G _ _ _ (ix3 (0 : Fin 1) q x) (ix3 (0 : Fin 1) q (⟨x.val - 0, by omega⟩ : Fin 128)) (off' := ![0, 0, 0]) rfl (cols_pos (0 : Fin 1) q x _ 0 (by show x.val = 0 + (x.val - 0); omega))).trans ?_
  pointwise [k0_pay229]
  exact key _ _ (by show q.val = j.val; omega) (by show x.val - 0 = d.val; omega)
end Cert.KernelIdeal.Val
end
-- ==== Proof.Value.Idle.lean ====
/- The second loop of each pair runs no trip: it leaves its buffers and its carried values as they were. -/
module

public import proofs.«01_k».proof.Proof.Value.Base

@[expose] public section

set_option maxRecDepth 16384

noncomputable section

namespace Cert.KernelIdeal.Val

open Idealize.ShloMosaic Idealize.SL.Sem Cert.KernelIdeal Cert.KernelIdeal.Gen
open Idealize.ShloMosaic.TcCoe Idealize.ShloMosaic.Tactic Idealize.SL Idealize.SL.RA Idealize.SL.BI
open scoped Idealize.SL.BI
open Idealize.SL.BI.BIBase Idealize.SL.BI.Laws Idealize.SL.ProofMode

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v48 : FVec Ideal S8x512 .f32) (v57 : IVec S8x512 32) (v76 : BitVec 32) (v79 : BitVec 32) (v99 : BitVec 32) (v112 : BitVec 32) (X_arg6 : BufTy.Contents (Elt Ideal) arg6.view.ty) (X_arg8 : BufTy.Contents (Elt Ideal) arg8.view.ty) (X_arg9 : BufTy.Contents (Elt Ideal) arg9.view.ty) (X_arg14 : BufTy.Contents (Elt Ideal) arg14.view.ty) (G_arg11 : BufTy.Contents (Elt Ideal) arg11.view.ty) (G_arg12 : BufTy.Contents (Elt Ideal) arg12.view.ty)
  (init : FVec Ideal S8x512 .f32 × FVec Ideal S8x512 .f32)

set_option warn.classDefReducibility false in
/-- What the run of the body takes out of loop 2: everything as it was. -/
def exit2 (E : Set ℕ) : LoopExit (loopInv_k0_t2 (F := Ideal) 𝒱 c bd E i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 v112 X_arg6 X_arg8 X_arg9 X_arg14 G_arg11 G_arg12 init) where
  post acc := iprop((arg6.view.loc (c : Thread nD τ) ↦[arg6.view.set]{fullShare} X_arg6) ∗ (arg8.view.loc (c : Thread nD τ) ↦[arg8.view.set]{fullShare} X_arg8) ∗ (arg9.view.loc (c : Thread nD τ) ↦[arg9.view.set]{fullShare} X_arg9) ∗ (arg14.view.loc (c : Thread nD τ) ↦[arg14.view.set]{fullShare} X_arg14)
    ∗ (∃ f11 f12, (arg11.view.loc (c : Thread nD τ) ↦[arg11.view.set]{fullShare} f11) ∗ (arg12.view.loc (c : Thread nD τ) ↦[arg12.view.set]{fullShare} f12) ∗ ⌜v2.toInt ≤ 16384 → f11 = G_arg11 ∧ f12 = G_arg12 ∧ acc = init⌝))
  exit acc := by
    show inv_k0_t2 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 v112 X_arg6 X_arg8 X_arg9 X_arg14 G_arg11 G_arg12 init (k0_t2_loop i v2).trips acc ⊢ _
    iintro ⟨H6, H8, H9, H14, ⟨%f11, H11, %h11⟩, ⟨%f12, H12, %h12⟩, %ha⟩
    isplitl [H6]; · iexact H6
    isplitl [H8]; · iexact H8
    isplitl [H9]; · iexact H9
    isplitl [H14]; · iexact H14
    iexists f11, f12
    isplitl [H11]; · iexact H11
    isplitl [H12]; · iexact H12
    ipureintro
    intro hp
    subst h11 h12 ha
    rw [trips2 i v2 hp]
    exact ⟨rfl, rfl, rfl⟩
end

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v48 : FVec Ideal S8x512 .f32) (v57 : IVec S8x512 32) (v76 : BitVec 32) (v79 : BitVec 32) (v99 : BitVec 32) (v119 : BitVec 32) (X_arg6 : BufTy.Contents (Elt Ideal) arg6.view.ty) (X_arg8 : BufTy.Contents (Elt Ideal) arg8.view.ty) (X_arg9 : BufTy.Contents (Elt Ideal) arg9.view.ty) (X_arg14 : BufTy.Contents (Elt Ideal) arg14.view.ty) (G_arg11 : BufTy.Contents (Elt Ideal) arg11.view.ty)
  (init : FVec Ideal S8x512 .f32 × FVec Ideal S8x512 .f32)

set_option warn.classDefReducibility false in
/-- What the run of the body takes out of loop 4: everything as it was. -/
def exit4 (E : Set ℕ) : LoopExit (loopInv_k0_t4 (F := Ideal) 𝒱 c bd E i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 v119 X_arg6 X_arg8 X_arg9 X_arg14 G_arg11 init) where
  post acc := iprop((arg6.view.loc (c : Thread nD τ) ↦[arg6.view.set]{fullShare} X_arg6) ∗ (arg8.view.loc (c : Thread nD τ) ↦[arg8.view.set]{fullShare} X_arg8) ∗ (arg9.view.loc (c : Thread nD τ) ↦[arg9.view.set]{fullShare} X_arg9) ∗ (arg14.view.loc (c : Thread nD τ) ↦[arg14.view.set]{fullShare} X_arg14)
    ∗ (∃ f11, (arg11.view.loc (c : Thread nD τ) ↦[arg11.view.set]{fullShare} f11) ∗ ⌜v2.toInt ≤ 16384 → f11 = G_arg11 ∧ acc = init⌝))
  exit acc := by
    show inv_k0_t4 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v48 v57 v76 v79 v99 v119 X_arg6 X_arg8 X_arg9 X_arg14 G_arg11 init (k0_t4_loop i v2).trips acc ⊢ _
    iintro ⟨H6, H8, H9, H14, ⟨%f11, H11, %h11⟩, %ha⟩
    isplitl [H6]; · iexact H6
    isplitl [H8]; · iexact H8
    isplitl [H9]; · iexact H9
    isplitl [H14]; · iexact H14
    iexists f11
    isplitl [H11]; · iexact H11
    ipureintro
    intro hp
    subst h11 ha
    rw [trips4 i v2 hp]
    exact ⟨rfl, rfl⟩
end

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v76 : BitVec 32) (v123 : FVec Ideal S1x512 .f32) (v126 : FVec Ideal S1x512 .f32) (v129 : FVec Ideal S1x512 .f32) (v135 : FVec Ideal S1x512 .f32) (cst_71 : Ideal .f32) (v159 : BitVec 32) (X_arg7 : BufTy.Contents (Elt Ideal) arg7.view.ty) (X_arg9 : BufTy.Contents (Elt Ideal) arg9.view.ty) (X_arg11 : BufTy.Contents (Elt Ideal) arg11.view.ty) (G_arg13 : BufTy.Contents (Elt Ideal) arg13.view.ty) (G_arg15 : BufTy.Contents (Elt Ideal) arg15.view.ty)
  (init : FVec Ideal S8x512 .f32)

set_option warn.classDefReducibility false in
/-- What the run of the body takes out of loop 6: everything as it was. -/
def exit6 (E : Set ℕ) : LoopExit (loopInv_k0_t6 (F := Ideal) 𝒱 c bd E i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 v159 X_arg7 X_arg9 X_arg11 G_arg13 G_arg15 init) where
  post acc := iprop((arg7.view.loc (c : Thread nD τ) ↦[arg7.view.set]{fullShare} X_arg7) ∗ (arg9.view.loc (c : Thread nD τ) ↦[arg9.view.set]{fullShare} X_arg9) ∗ (arg11.view.loc (c : Thread nD τ) ↦[arg11.view.set]{fullShare} X_arg11)
    ∗ (∃ f13 f15, (arg13.view.loc (c : Thread nD τ) ↦[arg13.view.set]{fullShare} f13) ∗ (arg15.view.loc (c : Thread nD τ) ↦[arg15.view.set]{fullShare} f15) ∗ ⌜v2.toInt ≤ 16384 → f13 = G_arg13 ∧ f15 = G_arg15 ∧ acc = init⌝))
  exit acc := by
    show inv_k0_t6 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v76 v123 v126 v129 v135 cst_71 v159 X_arg7 X_arg9 X_arg11 G_arg13 G_arg15 init (k0_t6_loop i v2).trips acc ⊢ _
    iintro ⟨H7, H9, H11, ⟨%f13, H13, %h13⟩, ⟨%f15, H15, %h15⟩, %ha⟩
    isplitl [H7]; · iexact H7
    isplitl [H9]; · iexact H9
    isplitl [H11]; · iexact H11
    iexists f13, f15
    isplitl [H13]; · iexact H13
    isplitl [H15]; · iexact H15
    ipureintro
    intro hp
    subst h13 h15 ha
    rw [trips6 i v2 hp]
    exact ⟨rfl, rfl, rfl⟩
end

section
variable (𝒱 : Variants) (c : Dev nD) (bd : Option 𝒱.V) (i : grid0.Coords) (arg3 : Memref sig .tc .smem S4 .i32) (harg3 : arg3.IsWhole) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole) (v2 : Elt Ideal .i32) (k0_hw1 : k0_chk1 i v2) (v79 : BitVec 32) (v99 : BitVec 32) (v145 : FVec Ideal S8x512 .f32) (v161 : FVec Ideal S8x512 .f32) (v164 : Vec Ideal S128x512 .f32) (v167 : Vec Ideal S1024x512 .fp8e4m3) (v170 : FVec Ideal S128x1024 .fp8e4m3) (cst_94 : FVec Ideal S128x512 .f32) (v180 : BitVec 32) (X_arg7 : BufTy.Contents (Elt Ideal) arg7.view.ty) (X_arg9 : BufTy.Contents (Elt Ideal) arg9.view.ty) (X_arg11 : BufTy.Contents (Elt Ideal) arg11.view.ty) (G_arg15 : BufTy.Contents (Elt Ideal) arg15.view.ty)
  (init : FVec Ideal S8x512 .f32)

set_option warn.classDefReducibility false in
/-- What the run of the body takes out of loop 8: everything as it was. -/
def exit8 (E : Set ℕ) : LoopExit (loopInv_k0_t8 (F := Ideal) 𝒱 c bd E i arg3 harg3 arg4 harg4 arg5 harg5 arg6 harg6 arg7 harg7 arg8 harg8 arg9 harg9 arg10 harg10 arg11 harg11 arg12 harg12 arg13 harg13 arg14 harg14 arg15 harg15 v2 k0_hw1 v79 v99 v145 v161 v164 v167 v170 cst_94 v180 X_arg7 X_arg9 X_arg11 G_arg15 init) where
  post acc := iprop((arg7.view.loc (c : Thread nD τ) ↦[arg7.view.set]{fullShare} X_arg7) ∗ (arg9.view.loc (c : Thread nD τ) ↦[arg9.view.set]{fullShare} X_arg9) ∗ (arg11.view.loc (c : Thread nD τ) ↦[arg11.view.set]{fullShare} X_arg11)
    ∗ (∃ f15, (arg15.view.loc (c : Thread nD τ) ↦[arg15.view.set]{fullShare} f15) ∗ ⌜v2.toInt ≤ 16384 → f15 = G_arg15 ∧ acc = init⌝))
  exit acc := by
    show inv_k0_t8 𝒱 c bd i arg3 harg3 arg4 harg4 arg5 harg5 arg6 harg6 arg7 harg7 arg8 harg8 arg9 harg9 arg10 harg10 arg11 harg11 arg12 harg12 arg13 harg13 arg14 harg14 arg15 harg15 v2 k0_hw1 v79 v99 v145 v161 v164 v167 v170 cst_94 v180 X_arg7 X_arg9 X_arg11 G_arg15 init (k0_t8_loop i v2).trips acc ⊢ _
    iintro ⟨H7, H9, H11, ⟨%f15, H15, %h15⟩, %ha⟩
    isplitl [H7]; · iexact H7
    isplitl [H9]; · iexact H9
    isplitl [H11]; · iexact H11
    iexists f15
    isplitl [H15]; · iexact H15
    ipureintro
    intro hp
    subst h15 ha
    rw [trips8 i v2 hp]
    exact ⟨rfl, rfl⟩
end

end Cert.KernelIdeal.Val
end
-- ==== Proof.Value.Run.lean ====
/- One run of the kernel body at a grid point, at exact values, with the loops taken as the facts about them. -/
module

public import proofs.«01_k».proof.Proof.IdealFrame.Runs
public import proofs.«01_k».proof.Proof.Value.Loop1c
public import proofs.«01_k».proof.Proof.Value.Loop3b
public import proofs.«01_k».proof.Proof.Value.Loop5b
public import proofs.«01_k».proof.Proof.Value.Body
public import proofs.«01_k».proof.Proof.Value.Idle
public import proofs.«01_k».proof.Proof.Value.Out

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1496000 in
set_option warn.classDefReducibility false in
set_option warn.classDefReducibility false in
attribute [local instance] exit1 exit2 exit3 exit4 exit5 exit6 exit7 exit8 in
/-- The body's triple at exact values: run on its input blocks it leaves the output block the mean over the visible keys says, provided
    the sequence's prefix is at most the number of keys and the value scales are below `⊤`. -/
theorem kernelRunV (c : Dev nD) (i : grid0.Coords) (arg4 : Memref sig .tc .vmem S1x64x1024 .fp8e4m3) (harg4 : arg4.IsWhole) (arg5 : Memref sig .tc .vmem S1x1x1x1x512 .f32) (harg5 : arg5.IsWhole) (arg6 : Memref sig .tc .vmem S1x16384x128 .fp8e4m3) (harg6 : arg6.IsWhole) (arg7 : Memref sig .tc .vmem S1x128x16384 .fp8e4m3) (harg7 : arg7.IsWhole) (arg8 : Memref sig .tc .vmem S1x1x128x128 .f32) (harg8 : arg8.IsWhole) (arg9 : Memref sig .tc .vmem S1x1x128x128 .f32) (harg9 : arg9.IsWhole) (arg10 : Memref sig .tc .vmem S1x64x1024 .bf16) (harg10 : arg10.IsWhole) (arg11 : Memref sig .tc .vmem S16384x512 .f32) (harg11 : arg11.IsWhole) (arg12 : Memref sig .tc .vmem S1024x512 .f32) (harg12 : arg12.IsWhole) (arg13 : Memref sig .tc .vmem S1024x512 .fp8e4m3) (harg13 : arg13.IsWhole) (arg14 : Memref sig .tc .vmem S512x128 .fp8e4m3) (harg14 : arg14.IsWhole) (arg15 : Memref sig .tc .vmem S128x512 .f32) (harg15 : arg15.IsWhole)
    (x0 : Vec Ideal S1x64x1024 .fp8e4m3) (x1 : Vec Ideal S1x1x1x1x512 .f32) (x2 : Vec Ideal S1x16384x128 .fp8e4m3) (x3 : Vec Ideal S1x128x16384 .fp8e4m3) (x4 : Vec Ideal S1x1x128x128 .f32) (x5 : Vec Ideal S1x1x128x128 .f32) (xt0 : TbBuf0 (F := Ideal) c tbM0_0) (k0_hw1 : k0_chk1 i (tbM0_0.view.readAt (Elt Ideal) (Rect.unit (s := S4) (k0_off1 i) S1.size (k0_off1_inb i)).toLoadRect xt0 (Shape.Idx.first (numel1_S1.symm ▸ Nat.one_pos))))
    (hp : BitVec.toInt (tbM0_0.view.readAt (Elt Ideal) (Rect.unit (s := S4) (k0_off1 i) S1.size (k0_off1_inb i)).toLoadRect xt0 (Shape.Idx.first (numel1_S1.symm ▸ Nat.one_pos))) ≤ 16384) (hv : ∀ x, x5 x < ⊤) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (outSpec (qb i) (pn (tbM0_0.view.readAt (Elt Ideal) (Rect.unit (s := S4) (k0_off1 i) S1.size (k0_off1_inb i)).toLoadRect xt0 (Shape.Idx.first (numel1_S1.symm ▸ Nat.one_pos)))) x0 x1 x2 x3 x4 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := Ideal)) Variants.none c none) E (cc0_attention i tbM0_0 htbM0_0 arg4 harg4 arg5 harg5 arg6 harg6 arg7 harg7 arg8 harg8 arg9 harg9 arg10 harg10 arg11 harg11 arg12 harg12 arg13 harg13 arg14 harg14 arg15 harg15) K := by
    intro E K
    simp only [cc0_attention_eq_skeleton]; unfold cc0_attention_skel
    simp only [k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5
    sl_exec (disch := first | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [HL20]
    · iexists _; isplitr; · ipureintro; exact harg6.read_unread _
      iexact HL20
    isplitl [HL43]
    · iexists _; isplitr; · ipureintro; exact harg7.read_unread _
      iexact HL43
    isplitl [HL21]
    · iexists _; isplitr; · ipureintro; exact harg8.read_unread _
      iexact HL21
    isplitl [HL44]
    · iexists _; isplitr; · ipureintro; exact harg9.read_unread _
      iexact HL44
    isplitl [H6]
    · iexists _; isplitr; swap; · iexact H6
      ipureintro
      have f1 := hL6 hp (F1_zero _ _ _ _ _ _ _ _ fun _ a j r hr => raw0_read (hr := hr) ..)
      obtain ⟨e1, e2, e3⟩ := hL13 hp
      subst e1 e2 e3
      have f3 := hL19 hp (lim _ _) (rows_word i _ hp) (fun s j => lim_read _ (qb_lt i) _ hp s j) (lim_lt i _ hp) (lim_pos _ _)
        (F3_start f1 (main_le_lim _ _))
      obtain ⟨e4, e5⟩ := hL25 hp
      subst e4 e5
      have f5 := hL31 hp (F5_zero ..)
      obtain ⟨e6, e7, e8⟩ := hL37 hp
      subst e6 e7 e8
      have f7 := hL42 hp (F7_start (hp := hp) (h := f5) ..)
      obtain ⟨e9, e10⟩ := hL47 hp
      subst e9 e10
      have hT := mean_of (by rw [hf5]; exact hv) (tail_le i _ hp) f3 f7
      rw [hf2, hf3, hf4, hf5] at hT
      funext y
      obtain ⟨q, x, rfl⟩ : ∃ (q : Fin 64) (x : Fin 1024), y = ix3 (0 : Fin 1) q x := ⟨y 1, y 2, by funext a; fin_cases a; exact Subsingleton.elim (α := Fin 1) _ _; rfl; rfl⟩
      refine (out_read (hT := hT) (j := ⟨x.val / 128 * 64 + q.val, by have := x.isLt; have := q.isLt; omega⟩)
        (d := ⟨x.val % 128, by omega⟩) (hj := rfl) (hd := rfl) ..).trans ?_
      have eQ : arg14.view.read (Elt Ideal) (arg14.view.writes (Elt Ideal) arg14.view.junk (kernelRunV.sl.HS3_8 c arg4 harg4 x0)) = qrow x0 := by
        funext y
        obtain ⟨j, d, rfl⟩ : ∃ (j : Fin 512) (d : Fin 128), y = ix2 j d := ⟨y 0, y 1, by funext a; fin_cases a <;> rfl⟩
        exact qs_read arg4 harg4 x0 _ _ j d
      have eC : kernelRunV.sl.r_2 c arg5 harg5 x1 = crow x1 := crow_read arg5 harg5 x1 _
      rw [eQ, eC]
      rfl
    isplitl [HL45]
    · iexists _, _; isplitr; swap; · iexact HL45
      ipureintro; rfl
    isplitl [HL12]
    · iexists _, _; isplitr; swap; · iexact HL12
      ipureintro; rfl
    isplitl [HL35]
    · iexists _, _; isplitr; swap; · iexact HL35
      ipureintro; rfl
    isplitl [HL23]
    · iexists _, _; isplitr; swap; · iexact HL23
      ipureintro; rfl
    isplitl [HL46]
    · iexists _, _; isplitr; swap; · iexact HL46
      ipureintro; rfl
    iexact HT0

end Cert.KernelIdeal.Val

end
-- ==== Proof.Value.FrameV.lean ====
/- The run of the kernel at exact values with what every point leaves named: the block of the result that the mean over the visible keys says. -/
module

public import proofs.«01_k».proof.Proof.Value.Run
public import proofs.«01_k».proof.Proof.IdealFrame.Frame
public import Idealize.ShloMosaic.Lib.Pipeline.Value
public import Idealize.ShloMosaic.Lib.Claim

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The prefix length the body reads at a point. -/
abbrev pword (hO : Ok m) (c : Dev nD) (t : Fin (cfgM m hO).N) : BitVec 32 :=
  tbM0_0.view.readAt (Elt Ideal) (Rect.unit (s := S4) (k0_off1 (grid0.coords t)) S1.size (k0_off1_inb (grid0.coords t))).toLoadRect
    (show TbBuf0 (F := Ideal) c tbM0_0 from tbl m 0) (Shape.Idx.first (numel1_S1.symm ▸ Nat.one_pos))

/-- What the body leaves in the output's buffer at a point: the mean, from the point's blocks. -/
def outsAt (hO : Ok m) (c : Dev nD) (t : Fin (cfgM m hO).N) : Vec Ideal S1x64x1024 .bf16 :=
  outSpec (qb (grid0.coords t)) (pn (pword m hO c t)) (iblk m hO c 0 t) (iblk m hO c 1 t) (iblk m hO c 2 t) (iblk m hO c 3 t) (iblk m hO c 4 t) (iblk m hO c 5 t)

/-- What the value is stated under: every prefix is at most the number of keys, every value scale below `⊤`. -/
structure Fits (hO : Ok m) : Prop where
  hyps : Hyps m hO
  prefix_le : ∀ (c : Dev nD) (t : Fin (cfgM m hO).N), (pword m hO c t).toInt ≤ 16384
  scale_lt : ∀ (c : Dev nD) (t : Fin (cfgM m hO).N) (x : S1x1x128x128.Idx), @LT.lt EReal _ ((iblk m hO c 5 t : Vec Ideal S1x1x128x128 .f32) x) ⊤

/-- The proof data of the one pipeline on core `c`: the arrays as the region finds them (`V`); after the body at
    point `t` each input's buffer at its block and the output's at `outsAt`; the invariant the class's
    (Lib/Pipeline/Frame.lean `ΦA`: the scoped rest and the generator register) and the tables' halves (`ΦT`); nothing owed;
    full shares. -/
def dats (hO : Ok m) (hH : Fits m hO) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outsAt m hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Fits m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Fits m hO) (c : Dev nD) (t : Fin (cfgM m hO).N) : (dats m hO hH 0 c).after 0 t = iblk m hO c 0 t := by dsimp only [dats]; try rfl
/-- What window 1 holds after a grid point. -/
theorem after0_1 (hO : Ok m) (hH : Fits m hO) (c : Dev nD) (t : Fin (cfgM m hO).N) : (dats m hO hH 0 c).after 1 t = iblk m hO c 1 t := by dsimp only [dats]; try rfl
/-- What window 2 holds after a grid point. -/
theorem after0_2 (hO : Ok m) (hH : Fits m hO) (c : Dev nD) (t : Fin (cfgM m hO).N) : (dats m hO hH 0 c).after 2 t = iblk m hO c 2 t := by dsimp only [dats]; try rfl
/-- What window 3 holds after a grid point. -/
theorem after0_3 (hO : Ok m) (hH : Fits m hO) (c : Dev nD) (t : Fin (cfgM m hO).N) : (dats m hO hH 0 c).after 3 t = iblk m hO c 3 t := by dsimp only [dats]; try rfl
/-- What window 4 holds after a grid point. -/
theorem after0_4 (hO : Ok m) (hH : Fits m hO) (c : Dev nD) (t : Fin (cfgM m hO).N) : (dats m hO hH 0 c).after 4 t = iblk m hO c 4 t := by dsimp only [dats]; try rfl
/-- What window 5 holds after a grid point. -/
theorem after0_5 (hO : Ok m) (hH : Fits m hO) (c : Dev nD) (t : Fin (cfgM m hO).N) : (dats m hO hH 0 c).after 5 t = iblk m hO c 5 t := by dsimp only [dats]; try rfl
/-- What window 6 holds after a grid point. -/
theorem after0_6 (hO : Ok m) (hH : Fits m hO) (c : Dev nD) (t : Fin (cfgM m hO).N) : (dats m hO hH 0 c).after 6 t = outsAt m hO c t := by dsimp only [dats]; try rfl

/-- Each input's current staging buffer holds its block at every point, fetched there or not (`beforeK_W_of`). -/
theorem before0_0 (hO : Ok m) (hH : Fits m hO) (c : Dev nD) (t : Fin (cfgM m hO).N) (d) : (dats m hO hH 0 c).before 0 t d = iblk m hO c 0 t :=
  before0_0_of m hO (dats m hO hH 0 c) (A_eq m hO hH c 0) (after0_0 m hO hH c) t d
/-- What window 1 holds before the body runs. -/
theorem before0_1 (hO : Ok m) (hH : Fits m hO) (c : Dev nD) (t : Fin (cfgM m hO).N) (d) : (dats m hO hH 0 c).before 1 t d = iblk m hO c 1 t :=
  before0_1_of m hO (dats m hO hH 0 c) (A_eq m hO hH c 1) (after0_1 m hO hH c) t d
/-- What window 2 holds before the body runs. -/
theorem before0_2 (hO : Ok m) (hH : Fits m hO) (c : Dev nD) (t : Fin (cfgM m hO).N) (d) : (dats m hO hH 0 c).before 2 t d = iblk m hO c 2 t :=
  before0_2_of m hO (dats m hO hH 0 c) (A_eq m hO hH c 2) (after0_2 m hO hH c) t d
/-- What window 3 holds before the body runs. -/
theorem before0_3 (hO : Ok m) (hH : Fits m hO) (c : Dev nD) (t : Fin (cfgM m hO).N) (d) : (dats m hO hH 0 c).before 3 t d = iblk m hO c 3 t :=
  before0_3_of m hO (dats m hO hH 0 c) (A_eq m hO hH c 3) (after0_3 m hO hH c) t d
/-- What window 4 holds before the body runs. -/
theorem before0_4 (hO : Ok m) (hH : Fits m hO) (c : Dev nD) (t : Fin (cfgM m hO).N) (d) : (dats m hO hH 0 c).before 4 t d = iblk m hO c 4 t :=
  before0_4_of m hO (dats m hO hH 0 c) (A_eq m hO hH c 4) (after0_4 m hO hH c) t d
/-- What window 5 holds before the body runs. -/
theorem before0_5 (hO : Ok m) (hH : Fits m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Fits m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d)))

/-- and what it returns. -/
def bodyPost (hO : Ok m) (hH : Fits m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Fits m hO) (c : Dev nD) (t : Fin (cfgM m hO).N) :
    bodyPre m hO hH c t ⊢ wp frame (wpE (defs₀ (F := Ideal)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6]
  rw [show (dats m hO hH 0 c).Φ t.castSucc = iprop(Pipeline.ΦA spec0 c ∗ Pipeline.ΦT pre0 (tbl m) c) from rfl, PhiT0_eq, PhiA0_eq]
  iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((kernelRunV c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (Hyps.c0 hH.hyps c t) (hH.prefix_le c t) (hH.scale_lt c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, HS0, HS1, HS2, HS3, HS4, HT0⟩
  isplitl [HS0 HS1 HS2 HS3 HS4 Hg HT0]
  · isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Fits m hO) (c : Dev nD) : BodyObligation (dats m hO hH 0 c) (defs₀ (F := Ideal)) Variants.none () Set.univ := fun t => by
  rw [bigSep_W0, bigSep_W0, defs₀_row m hO]
  exact triple_restated (sound_body m hO hH c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Fits m hO) : θ_run defs (onTc (τ := τ) (main (F := Ideal))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- From any memory with zero counters the program ends with every array of the call at what the proof data says and every other
    buffer as the call found it. -/
theorem run_main (hO : Ok m) (hH : Fits m hO) : θ_run defs (onTc (τ := τ) (main (F := Ideal))) (s₀ m ρ) (Pipeline.FramePost (Pipeline.pin pcfgs fun _ => adm m hO) (dats m hO hH) 0 (V m)) :=
  (θ_run defs _ _).mono (fun _ h => h.1) (run_main_quiescent m ρ hO hH)

/-- Every argument array ends unchanged. -/
theorem unchanged (hO : Ok m) (hH : Fits m hO) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h => h.1) (Gen.frame m ρ hO hH.hyps)

end Cert.KernelIdeal.Val

end
-- ==== Proof.Value.Host.lean ====
/- The scales as the kernel finds them, after the host's reshapes and transposes, and the blocks of each point in the argument arrays. -/
module

public import proofs.«01_k».proof.Proof.Value.Spec
public import proofs.«01_k».proof.Proof.Value.FrameV
public import Idealize.ShloMosaic.Lib.Pipeline.ValueKit.Geometry
public import Idealize.ShloMosaic.Lib.StableHlo.ReadAt

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pointwise

variable (m : (ℓ : Loc nD τ sig) → Buf (Elt Ideal) ℓ)

/-- The key scales as the kernel finds them: key `r` in row `r / 128`, lane `r % 128`. -/
theorem V_v4 (c : Dev nD) (b : Fin 4) (h : Fin 2) (r : Fin 16384) :
    V m c main_v4 (ix4 b h (⟨r.val / 128, by omega⟩ : Fin 128) (⟨r.val % 128, by omega⟩ : Fin 128)) = m ((c : Thread nD τ).loc main_arg4) (ix3 b r h) := by
  unfold V
  after_reads_at

/-- The value scales, the same. -/
theorem V_v6 (c : Dev nD) (b : Fin 4) (h : Fin 2) (r : Fin 16384) :
    V m c main_v6 (ix4 b h (⟨r.val / 128, by omega⟩ : Fin 128) (⟨r.val % 128, by omega⟩ : Fin 128)) = m ((c : Thread nD τ).loc main_arg6) (ix3 b r h) := by
  unfold V
  after_reads_at

/-- The query scales: a block of 64 queries of one head group in one row, head by head. -/
theorem V_v2 (c : Dev nD) (b : Fin 4) (h : Fin 2) (i : Fin 256) (g : Fin 8) (q : Fin 64) :
    V m c main_v2 (ix5 b h i (0 : Fin 1) (⟨g.val * 64 + q.val, by omega⟩ : Fin 512))
      = m ((c : Thread nD τ).loc main_arg2) (ix3 b (⟨i.val * 64 + q.val, by omega⟩ : Fin 16384) (⟨h.val * 8 + g.val, by omega⟩ : Fin 16)) := by
  unfold V
  after_reads_at

/-! ### The coordinates of a point -/

/-- The point's sequence, key and value head, and block of queries. -/
abbrev pb (t : Fin grid0.N) : Fin 4 := grid0.coords t 0
/-- The key head of a grid point. -/
abbrev ph (t : Fin grid0.N) : Fin 2 := grid0.coords t 1
/-- The query block of a grid point. -/
abbrev pq (t : Fin grid0.N) : Fin 256 := grid0.coords t 2

/-- A coordinate's word is the coordinate. -/
theorem word (n : ℕ) (h : n < 4294967296) : (BitVec.ofNat 32 n).toNat = n := by rw [BitVec.toNat_ofNat]; exact Nat.mod_eq_of_lt h

/-- The block of window 0 at a grid point. -/
theorem tr0 (i : grid0.Coords) : cc0_transform_0 i = ![(i 0).val, (i 2).val, (i 1).val] := by
  have h0 : (i 0).val < 4 := (i 0).isLt
  have h1 : (i 1).val < 2 := (i 1).isLt
  have h2 : (i 2).val < 256 := (i 2).isLt
  show ![(BitVec.ofNat 32 (i 0).val).toNat, (BitVec.ofNat 32 (i 2).val).toNat, (BitVec.ofNat 32 (i 1).val).toNat] = _
  rw [word _ (by omega), word _ (by omega), word _ (by omega)]
/-- The block of window 1 at a grid point. -/
theorem tr1 (i : grid0.Coords) : cc0_transform_1 i = ![(i 0).val, (i 1).val, (i 2).val, 0, 0] := by
  have h0 : (i 0).val < 4 := (i 0).isLt
  have h1 : (i 1).val < 2 := (i 1).isLt
  have h2 : (i 2).val < 256 := (i 2).isLt
  show ![(BitVec.ofNat 32 (i 0).val).toNat, (BitVec.ofNat 32 (i 1).val).toNat, (BitVec.ofNat 32 (i 2).val).toNat, 0, 0] = _
  rw [word _ (by omega), word _ (by omega), word _ (by omega)]
/-- The block of window 2 at a grid point. -/
theorem tr2 (i : grid0.Coords) : cc0_transform_2 i = ![(i 0).val, 0, (i 1).val] := by
  have h0 : (i 0).val < 4 := (i 0).isLt
  have h1 : (i 1).val < 2 := (i 1).isLt
  show ![(BitVec.ofNat 32 (i 0).val).toNat, 0, (BitVec.ofNat 32 (i 1).val).toNat] = _
  rw [word _ (by omega), word _ (by omega)]
/-- The block of window 3 at a grid point. -/
theorem tr3 (i : grid0.Coords) : cc0_transform_3 i = ![(i 0).val, (i 1).val, 0] := by
  have h0 : (i 0).val < 4 := (i 0).isLt
  have h1 : (i 1).val < 2 := (i 1).isLt
  show ![(BitVec.ofNat 32 (i 0).val).toNat, (BitVec.ofNat 32 (i 1).val).toNat, 0] = _
  rw [word _ (by omega), word _ (by omega)]
/-- The block of window 4 at a grid point. -/
theorem tr4 (i : grid0.Coords) : cc0_transform_4 i = ![(i 0).val, (i 1).val, 0, 0] := by
  have h0 : (i 0).val < 4 := (i 0).isLt
  have h1 : (i 1).val < 2 := (i 1).isLt
  show ![(BitVec.ofNat 32 (i 0).val).toNat, (BitVec.ofNat 32 (i 1).val).toNat, 0, 0] = _
  rw [word _ (by omega), word _ (by omega)]
/-- The block of window 5 at a grid point. -/
theorem tr5 (i : grid0.Coords) : cc0_transform_5 i = ![(i 0).val, (i 1).val, 0, 0] := tr4 i
/-- The block of window 6 at a grid point. -/
theorem tr6 (i : grid0.Coords) : cc0_transform_6 i = ![(i 0).val, (i 2).val, (i 1).val] := tr0 i

/-! ### The blocks of a point -/

variable (hO : Ok m) (c : Dev nD) (t : Fin (cfgM m hO).N)

/-- The queries' codes. -/
theorem iblk0 (q : Fin 64) (y : Fin 1024) : (iblk m hO c 0 t : Vec Ideal S1x64x1024 .fp8e4m3) (ix3 (0 : Fin 1) q y)
    = m ((c : Thread nD τ).loc main_arg1) (ix3 (pb t) (⟨(pq t).val * 64 + q.val, by have := (pq t).isLt; omega⟩ : Fin 16384) (⟨(ph t).val * 1024 + y.val, by have := (ph t).isLt; omega⟩ : Fin 2048)) := by
  refine Eq.trans ?_ (congrFun (V_main_arg1 m c) _)
  show V m c main_arg1 ((((cfgM m hO).win 0).blk t).view.emb _) = _
  congr 1
  funext a
  apply Fin.ext
  have e := tr0 (grid0.coords t)
  match a with
  | ⟨0, _⟩ => show cc0_transform_0 (grid0.coords t) 0 * 1 + 1 * 0 = (pb t).val; rw [e]; show (pb t).val * 1 + 1 * 0 = (pb t).val; omega
  | ⟨1, _⟩ => show cc0_transform_0 (grid0.coords t) 1 * 64 + 1 * q.val = (pq t).val * 64 + q.val; rw [e]; show (pq t).val * 64 + 1 * q.val = _; omega
  | ⟨2, _⟩ => show cc0_transform_0 (grid0.coords t) 2 * 1024 + 1 * y.val = (ph t).val * 1024 + y.val; rw [e]; show (ph t).val * 1024 + 1 * y.val = _; omega

/-- The queries' scales. -/
theorem iblk1 (g : Fin 8) (q : Fin 64) : (iblk m hO c 1 t : Vec Ideal S1x1x1x1x512 .f32) (ix5 (0 : Fin 1) (0 : Fin 1) (0 : Fin 1) (0 : Fin 1) (⟨g.val * 64 + q.val, by omega⟩ : Fin 512))
    = m ((c : Thread nD τ).loc main_arg2) (ix3 (pb t) (⟨(pq t).val * 64 + q.val, by have := (pq t).isLt; omega⟩ : Fin 16384) (⟨(ph t).val * 8 + g.val, by have := (ph t).isLt; omega⟩ : Fin 16)) := by
  refine Eq.trans ?_ (V_v2 m c _ _ _ _ _)
  show V m c main_v2 ((((cfgM m hO).win 1).blk t).view.emb _) = _
  congr 1
  funext a
  apply Fin.ext
  have e := tr1 (grid0.coords t)
  match a with
  | ⟨0, _⟩ => show cc0_transform_1 (grid0.coords t) 0 * 1 + 1 * 0 = (pb t).val; rw [e]; show (pb t).val * 1 + 1 * 0 = (pb t).val; omega
  | ⟨1, _⟩ => show cc0_transform_1 (grid0.coords t) 1 * 1 + 1 * 0 = (ph t).val; rw [e]; show (ph t).val * 1 + 1 * 0 = (ph t).val; omega
  | ⟨2, _⟩ => show cc0_transform_1 (grid0.coords t) 2 * 1 + 1 * 0 = (pq t).val; rw [e]; show (pq t).val * 1 + 1 * 0 = (pq t).val; omega
  | ⟨3, _⟩ => show cc0_transform_1 (grid0.coords t) 3 * 1 + 1 * 0 = 0; rw [e]; rfl
  | ⟨4, _⟩ => show cc0_transform_1 (grid0.coords t) 4 * 512 + 1 * (g.val * 64 + q.val) = g.val * 64 + q.val; rw [e]; show 0 * 512 + 1 * (g.val * 64 + q.val) = _; omega

/-- The keys' codes. -/
theorem iblk2 (r : Fin 16384) (d : Fin 128) : (iblk m hO c 2 t : Vec Ideal S1x16384x128 .fp8e4m3) (ix3 (0 : Fin 1) r d)
    = m ((c : Thread nD τ).loc main_arg3) (ix3 (pb t) r (⟨(ph t).val * 128 + d.val, by have := (ph t).isLt; omega⟩ : Fin 256)) := by
  refine Eq.trans ?_ (congrFun (V_main_arg3 m c) _)
  show V m c main_arg3 ((((cfgM m hO).win 2).blk t).view.emb _) = _
  congr 1
  funext a
  apply Fin.ext
  have e := tr2 (grid0.coords t)
  match a with
  | ⟨0, _⟩ => show cc0_transform_2 (grid0.coords t) 0 * 1 + 1 * 0 = (pb t).val; rw [e]; show (pb t).val * 1 + 1 * 0 = (pb t).val; omega
  | ⟨1, _⟩ => show cc0_transform_2 (grid0.coords t) 1 * 16384 + 1 * r.val = r.val; rw [e]; show 0 * 16384 + 1 * r.val = _; omega
  | ⟨2, _⟩ => show cc0_transform_2 (grid0.coords t) 2 * 128 + 1 * d.val = (ph t).val * 128 + d.val; rw [e]; show (ph t).val * 128 + 1 * d.val = _; omega

/-- The values' codes. -/
theorem iblk3 (d : Fin 128) (r : Fin 16384) : (iblk m hO c 3 t : Vec Ideal S1x128x16384 .fp8e4m3) (ix3 (0 : Fin 1) d r)
    = m ((c : Thread nD τ).loc main_arg5) (ix3 (pb t) (⟨(ph t).val * 128 + d.val, by have := (ph t).isLt; omega⟩ : Fin 256) r) := by
  refine Eq.trans ?_ (congrFun (V_main_arg5 m c) _)
  show V m c main_arg5 ((((cfgM m hO).win 3).blk t).view.emb _) = _
  congr 1
  funext a
  apply Fin.ext
  have e := tr3 (grid0.coords t)
  match a with
  | ⟨0, _⟩ => show cc0_transform_3 (grid0.coords t) 0 * 1 + 1 * 0 = (pb t).val; rw [e]; show (pb t).val * 1 + 1 * 0 = (pb t).val; omega
  | ⟨1, _⟩ => show cc0_transform_3 (grid0.coords t) 1 * 128 + 1 * d.val = (ph t).val * 128 + d.val; rw [e]; show (ph t).val * 128 + 1 * d.val = _; omega
  | ⟨2, _⟩ => show cc0_transform_3 (grid0.coords t) 2 * 16384 + 1 * r.val = r.val; rw [e]; show 0 * 16384 + 1 * r.val = _; omega

/-- The keys' scales. -/
theorem iblk4 (x y : Fin 128) : (iblk m hO c 4 t : Vec Ideal S1x1x128x128 .f32) (ix4 (0 : Fin 1) (0 : Fin 1) x y)
    = m ((c : Thread nD τ).loc main_arg4) (ix3 (pb t) (⟨x.val * 128 + y.val, by omega⟩ : Fin 16384) (ph t)) := by
  refine Eq.trans ?_ (V_v4 m c _ _ _)
  show V m c main_v4 ((((cfgM m hO).win 4).blk t).view.emb _) = _
  congr 1
  funext a
  apply Fin.ext
  have e := tr4 (grid0.coords t)
  match a with
  | ⟨0, _⟩ => show cc0_transform_4 (grid0.coords t) 0 * 1 + 1 * 0 = (pb t).val; rw [e]; show (pb t).val * 1 + 1 * 0 = (pb t).val; omega
  | ⟨1, _⟩ => show cc0_transform_4 (grid0.coords t) 1 * 1 + 1 * 0 = (ph t).val; rw [e]; show (ph t).val * 1 + 1 * 0 = (ph t).val; omega
  | ⟨2, _⟩ => show cc0_transform_4 (grid0.coords t) 2 * 128 + 1 * x.val = (x.val * 128 + y.val) / 128; rw [e]; show 0 * 128 + 1 * x.val = _; omega
  | ⟨3, _⟩ => show cc0_transform_4 (grid0.coords t) 3 * 128 + 1 * y.val = (x.val * 128 + y.val) % 128; rw [e]; show 0 * 128 + 1 * y.val = _; omega

/-- The values' scales. -/
theorem iblk5 (x y : Fin 128) : (iblk m hO c 5 t : Vec Ideal S1x1x128x128 .f32) (ix4 (0 : Fin 1) (0 : Fin 1) x y)
    = m ((c : Thread nD τ).loc main_arg6) (ix3 (pb t) (⟨x.val * 128 + y.val, by omega⟩ : Fin 16384) (ph t)) := by
  refine Eq.trans ?_ (V_v6 m c _ _ _)
  show V m c main_v6 ((((cfgM m hO).win 5).blk t).view.emb _) = _
  congr 1
  funext a
  apply Fin.ext
  have e := tr5 (grid0.coords t)
  match a with
  | ⟨0, _⟩ => show cc0_transform_5 (grid0.coords t) 0 * 1 + 1 * 0 = (pb t).val; rw [e]; show (pb t).val * 1 + 1 * 0 = (pb t).val; omega
  | ⟨1, _⟩ => show cc0_transform_5 (grid0.coords t) 1 * 1 + 1 * 0 = (ph t).val; rw [e]; show (ph t).val * 1 + 1 * 0 = (ph t).val; omega
  | ⟨2, _⟩ => show cc0_transform_5 (grid0.coords t) 2 * 128 + 1 * x.val = (x.val * 128 + y.val) / 128; rw [e]; show 0 * 128 + 1 * x.val = _; omega
  | ⟨3, _⟩ => show cc0_transform_5 (grid0.coords t) 3 * 128 + 1 * y.val = (x.val * 128 + y.val) % 128; rw [e]; show 0 * 128 + 1 * y.val = _; omega

/-- Where the point's block of the result lies in it. -/
theorem emb6 (x : S1x64x1024.Idx) : (((cfgM m hO).win 6).blk t).view.emb x
    = ix3 (pb t) (⟨(pq t).val * 64 + (x 1).val, by have := (pq t).isLt; have : (x 1).val < 64 := (x 1).isLt; omega⟩ : Fin 16384)
      (⟨(ph t).val * 1024 + (x 2).val, by have := (ph t).isLt; have : (x 2).val < 1024 := (x 2).isLt; omega⟩ : Fin 2048) := by
  funext a
  apply Fin.ext
  have e := tr6 (grid0.coords t)
  match a with
  | ⟨0, _⟩ => show cc0_transform_6 (grid0.coords t) 0 * 1 + 1 * (x 0).val = (pb t).val; rw [e]; have : (x 0).val < 1 := (x 0).isLt; show (pb t).val * 1 + 1 * (x 0).val = (pb t).val; omega
  | ⟨1, _⟩ => show cc0_transform_6 (grid0.coords t) 1 * 64 + 1 * (x 1).val = (pq t).val * 64 + (x 1).val; rw [e]; show (pq t).val * 64 + 1 * (x 1).val = _; omega
  | ⟨2, _⟩ => show cc0_transform_6 (grid0.coords t) 2 * 1024 + 1 * (x 2).val = (ph t).val * 1024 + (x 2).val; rw [e]; show (ph t).val * 1024 + 1 * (x 2).val = _; omega

/-- The prefix the point reads is its sequence's. -/
theorem pword_eq : pword m hO c t = m (((0 : Dev nD) : Thread nD τ).loc main_arg0) (ix1 (pb t)) := by
  refine Eq.trans ?_ (congrFun (V_main_arg0 m 0) _)
  show V m 0 main_arg0 _ = _
  congr 1
  funext a
  apply Fin.ext
  have h0 : (grid0.coords t 0).val < 4 := (grid0.coords t 0).isLt
  match a with
  | ⟨0, _⟩ =>
    show (k0_off1 (grid0.coords t)) 0 + 1 * 0 = (pb t).val
    show (BitVec.ofNat 32 (grid0.coords t 0).val).toNat + 1 * 0 = _
    rw [word _ (by omega)]; rfl

end Cert.KernelIdeal.Val
end
-- ==== Proof.SideFinite.lean ====
/- The precondition of the value claim: its side conditions, and what it says of the prefixes and of the value scales. -/
module

public import proofs.«01_k».proof.Defs
public import proofs.«01_k».proof.Proof.Side
public import proofs.«01_k».proof.Proof.Value.Host
public import proofs.«01_k».proof.Proof.Value.FrameV

@[expose] public section

noncomputable section

namespace Cert.Proof

open Idealize.ShloMosaic Idealize.ShloMosaic.TcCoe Idealize.SL.Sem Cert.KernelIdeal Cert.KernelIdeal.Gen
open Idealize.ShloMosaic.Pointwise

/-- The side conditions of the precondition's own operations. -/
instance facts_scales : Cert.Pre_scales_finite.Facts where
  bcast_S_S4 := by decide
  bcast_S4_S4x1x1_0 := by decide
  bcast_S_S4x16384x2 := by decide
  bcast_S4x1x1_S4x16384x2_0_1_2 := by decide

/-- The index of a prefix among the scales' positions: its sequence, the first row, the first head. -/
def atSeq (x : S4.Idx) : S4x16384x2.Idx := fun a => match a with
  | ⟨0, _⟩ => x 0
  | ⟨1, _⟩ => (⟨0, by decide⟩ : Fin 16384)
  | ⟨2, _⟩ => (⟨0, by decide⟩ : Fin 2)

variable (m : (ℓ : Loc nD τ sig) → Buf (Elt Ideal) ℓ)

/-- Every prefix is at most the number of keys. -/
theorem fits_scales (h : Cert.Pre_KernelIdeal_scales_finite m) (c : Dev nD) (x : S4.Idx) :
    (m ((c.tc : Thread nD τ).loc main_arg0) x).toInt ≤ 16384 := by
  have e := congrFun (h c) (atSeq x)
  simp only [Pre_scales_finite.fn, andi, cmpi, broadcastInDim, constantI] at e
  have e' := le_of_sle _ (left_of_andi _ _ e)
  have hx : ∀ y : S4.Idx, (y 0).val = (x 0).val → (m ((c.tc : Thread nD τ).loc main_arg0) y).toInt ≤ 16384 →
      (m ((c.tc : Thread nD τ).loc main_arg0) x).toInt ≤ 16384 := fun y hy h => by
    have : y = x := funext fun a => by
      obtain rfl : a = 0 := Subsingleton.elim (α := Fin 1) _ _
      exact Fin.ext hy
    rw [← this]; exact h
  refine hx _ ?_ e'
  rfl

/-- An extended real whose absolute value compares below `⊤` is a real number. -/
theorem real_of_abs (a : EReal) (h : Ideal.cmp .olt (max a (-a)) ⊤ = 1#1) : ∃ r : ℝ, a = (r : EReal) := by
  have h' : max a (-a) < ⊤ := by
    by_contra hn
    simp [Ideal.cmp, hn] at h
  induction a with
  | bot => simp at h'
  | top => simp at h'
  | coe r => exact ⟨r, rfl⟩

/-- Every value scale is a real number. -/
theorem scales_real (h : Cert.Pre_KernelIdeal_scales_finite m) (c : Dev nD) (x : S4x16384x2.Idx) :
    ∃ r : ℝ, (m ((c.tc : Thread nD τ).loc main_arg6) x : EReal) = (r : EReal) := by
  have e := congrFun (h c) x
  simp only [Pre_scales_finite.fn, andi, cmpf, broadcastInDim, constant, Host.absf] at e
  exact real_of_abs _ (right_of_andi _ _ e)

/-- What the kernel's value is stated under. -/
theorem fits (h : Cert.Pre_KernelIdeal_scales_finite m) : Cert.KernelIdeal.Val.Fits m trivial where
  hyps := hyps_ideal m (fits_scales m h 0)
  prefix_le c t := by
    have e := Cert.KernelIdeal.Val.pword_eq m trivial c t
    rw [e]
    exact fits_scales m h 0 _
  scale_lt c t x := by
    have hx : x = ix4 (0 : Fin 1) (0 : Fin 1) (x 2 : Fin 128) (x 3 : Fin 128) := funext fun a => by
      match a with
      | ⟨0, _⟩ => exact Subsingleton.elim (α := Fin 1) _ _
      | ⟨1, _⟩ => exact Subsingleton.elim (α := Fin 1) _ _
      | ⟨2, _⟩ => rfl
      | ⟨3, _⟩ => rfl
    have h2 : (x 2).val < 128 := (x 2).isLt
    have h3 : (x 3).val < 128 := (x 3).isLt
    obtain ⟨r, hr⟩ := scales_real m h c (ix3 (Cert.KernelIdeal.Val.pb t) (⟨(x 2).val * 128 + (x 3).val, by omega⟩ : Fin 16384) (Cert.KernelIdeal.Val.ph t))
    have e := (Cert.KernelIdeal.Val.iblk5 m trivial c t (x 2 : Fin 128) (x 3 : Fin 128)).trans hr
    rw [hx]
    exact lt_of_eq_of_lt e (EReal.coe_lt_top r)

end Cert.Proof
end
-- ==== Proof.Value.Array.lean ====
/- The whole result of the kernel: each block is the mean of Spec.lean at its queries and heads, and the blocks fill the array. -/
module

public import proofs.«01_k».proof.Proof.Value.Host
public import Idealize.ShloMosaic.Lib.Pipeline.Covers

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pointwise

variable (m : (ℓ : Loc nD τ sig) → Buf (Elt Ideal) ℓ)

/-- The result the arguments of core `c` call for. -/
def want (c : Dev nD) : S4x16384x2048.Idx → EReal :=
  attn (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

variable (hO : Ok m) (c : Dev nD) (t : Fin (cfgM m hO).N)

section
variable (g : Fin 8) (q : Fin 64)

/-- The query's position in the sequence, its head, and its column among the scores of the block. -/
abbrev posn (t : Fin grid0.N) (q : Fin 64) : Fin 16384 := ⟨(pq t).val * 64 + q.val, by have := (pq t).isLt; omega⟩
/-- The query head of a grid point and a place in its group. -/
abbrev head (t : Fin grid0.N) (g : Fin 8) : Fin 16 := ⟨(ph t).val * 8 + g.val, by have := (ph t).isLt; omega⟩
/-- The column of a head and a query in the block of 512. -/
abbrev col (g : Fin 8) (q : Fin 64) : Fin 512 := ⟨g.val * 64 + q.val, by omega⟩

/-- The key head of such a query head is the grid point's. -/
theorem kvh_head : kvh (head t g) = ph t := Fin.ext (by show ((ph t).val * 8 + g.val) / 8 = _; omega)
/-- The column of an element of its key head. -/
theorem kcol_head (d : Fin 128) : kcol (head t g) d = (⟨(ph t).val * 128 + d.val, by have := (ph t).isLt; omega⟩ : Fin 256) :=
  Fin.ext (by show ((ph t).val * 8 + g.val) / 8 * 128 + d.val = _; show _ = (ph t).val * 128 + d.val; omega)

/-- The block's product is the array's. -/
theorem kdot_eq (r : Fin 16384) : kdot (iblk m hO c 2 t) (qrow (iblk m hO c 0 t)) r (col g q)
    = adot (m ((c : Thread nD τ).loc main_arg1)) (m ((c : Thread nD τ).loc main_arg3)) (pb t) (posn t q) (head t g) r := by
  unfold kdot adot
  refine Finset.sum_congr rfl fun d _ => ?_
  have e2 := iblk2 m hO c t r d
  have e0 := iblk0 m hO c t (⟨(g.val * 64 + q.val) % 64, Nat.mod_lt _ (by omega)⟩ : Fin 64) (⟨(g.val * 64 + q.val) / 64 * 128 + d.val, by omega⟩ : Fin 1024)
  rw [kcol_head]
  refine congrArg₂ (· * ·) e2 (e0.trans ?_)
  congr 1
  · exact congrArg₂ (ix3 (pb t)) (Fin.ext (by show (pq t).val * 64 + (g.val * 64 + q.val) % 64 = (pq t).val * 64 + q.val; omega))
      (Fin.ext (by show (ph t).val * 1024 + ((g.val * 64 + q.val) / 64 * 128 + d.val) = ((ph t).val * 8 + g.val) * 128 + d.val; omega))

/-- The block's capped score is the array's. -/
theorem zfun_eq (r : Fin 16384) : zfun (iblk m hO c 2 t) (qrow (iblk m hO c 0 t)) (iblk m hO c 4 t) (crow (iblk m hO c 1 t)) r (col g q)
    = ascore (m ((c : Thread nD τ).loc main_arg1)) (m ((c : Thread nD τ).loc main_arg2)) (m ((c : Thread nD τ).loc main_arg3)) (m ((c : Thread nD τ).loc main_arg4))
      (pb t) (posn t q) (head t g) r := by
  unfold zfun ascore
  rw [kdot_eq, kvh_head]
  have e4 := iblk4 m hO c t (⟨r.val / 128, by omega⟩ : Fin 128) (⟨r.val % 128, by omega⟩ : Fin 128)
  have e1 := iblk1 m hO c t g q
  have e4' : (iblk m hO c 4 t : Vec Ideal S1x1x128x128 .f32) (ix4 (0 : Fin 1) (0 : Fin 1) (⟨r.val / 128, by omega⟩ : Fin 128) (⟨r.val % 128, by omega⟩ : Fin 128))
      = m ((c : Thread nD τ).loc main_arg4) (ix3 (pb t) r (ph t)) := by
    refine e4.trans (congrArg _ (congrArg (fun z => ix3 (pb t) z (ph t)) (Fin.ext ?_)))
    show r.val / 128 * 128 + r.val % 128 = r.val; omega
  have e1' : crow (iblk m hO c 1 t) (ix2 (⟨r.val % 8, by omega⟩ : Fin 8) (col g q)) = HMul.hMul (α := EReal) (β := EReal) (m ((c : Thread nD τ).loc main_arg2) (ix3 (pb t) (posn t q) (head t g))) score :=
    congrArg (· * score) e1
  exact congrArg (fun z => Ideal.tanh z * cap) (congrArg₂ (· * ·) (congrArg (_ * ·) e4') e1')

variable (hc : c = 0)
include hc

/-- The block's weight is the array's. -/
theorem ewt_eq (r : Fin 16384) :
    ewt (zfun (iblk m hO c 2 t) (qrow (iblk m hO c 0 t)) (iblk m hO c 4 t) (crow (iblk m hO c 1 t))) (lim (qb (grid0.coords t)) (pn (pword m hO c t))) r.val (col g q)
      = awt (m ((c : Thread nD τ).loc main_arg0)) (m ((c : Thread nD τ).loc main_arg1)) (m ((c : Thread nD τ).loc main_arg2)) (m ((c : Thread nD τ).loc main_arg3)) (m ((c : Thread nD τ).loc main_arg4))
        (pb t) (posn t q) (head t g) r := by
  subst hc
  unfold ewt awt
  have el : lim (qb (grid0.coords t)) (pn (pword m hO 0 t)) (col g q) = alim (m (((0 : Dev nD) : Thread nD τ).loc main_arg0)) (pb t) (posn t q) := by
    unfold lim alim
    rw [pword_eq]
    show max (64 * (pq t).val + (g.val * 64 + q.val) % 64 + 1) _ = max ((pq t).val * 64 + q.val + 1) _
    congr 1; omega
  rw [el, ← zfun_eq]
  have er : (⟨r.val % 16384, Nat.mod_lt _ (by omega)⟩ : Fin 16384) = r := Fin.ext (Nat.mod_eq_of_lt r.isLt)
  rw [er]

/-- The block's mean is the array's. -/
theorem mean_eq (d : Fin 128) :
    mean (zfun (iblk m hO c 2 t) (qrow (iblk m hO c 0 t)) (iblk m hO c 4 t) (crow (iblk m hO c 1 t))) (lim (qb (grid0.coords t)) (pn (pword m hO c t)))
      (iblk m hO c 5 t) (iblk m hO c 3 t) d (col g q)
      = amean (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (pb t) (posn t q) (head t g) d := by
  unfold mean amean
  rw [Finset.sum_range, Finset.sum_range]
  refine congrArg₂ Ideal.div (Finset.sum_congr rfl fun r _ => ?_) (Finset.sum_congr rfl fun r _ => ewt_eq m hO c t g q hc r)
  rw [ewt_eq m hO c t g q hc r, kvh_head, kcol_head]
  have er : (⟨r.val % 16384, Nat.mod_lt _ (by omega)⟩ : Fin 16384) = r := Fin.ext (Nat.mod_eq_of_lt r.isLt)
  have e3 : vat (iblk m hO c 3 t) d r.val = m ((c : Thread nD τ).loc main_arg5) (ix3 (pb t) (⟨(ph t).val * 128 + d.val, by have := (ph t).isLt; omega⟩ : Fin 256) r) := by
    unfold vat; rw [er]; exact iblk3 m hO c t d r
  have e5 : vsc (iblk m hO c 5 t) r.val = m ((c : Thread nD τ).loc main_arg6) (ix3 (pb t) r (ph t)) := by
    unfold vsc
    refine (iblk5 m hO c t _ _).trans (congrArg _ (congrArg (fun z => ix3 (pb t) z (ph t)) (Fin.ext ?_)))
    show r.val / 128 % 128 * 128 + r.val % 128 = r.val; omega
  exact congrArg₂ (· * ·) e3 (congrArg (_ * ·) e5)

/-- What a point leaves is its block of the whole result. -/
theorem outsAt_eq (x : S1x64x1024.Idx) : outsAt m hO c t x
    = want m c (ix3 (pb t) (⟨(pq t).val * 64 + (x 1).val, by have := (pq t).isLt; have h1 : (x 1).val < 64 := (x 1).isLt; omega⟩ : Fin 16384)
        (⟨(ph t).val * 1024 + (x 2).val, by have := (ph t).isLt; have h2 : (x 2).val < 1024 := (x 2).isLt; omega⟩ : Fin 2048)) := by
  have h1 : (x 1).val < 64 := (x 1).isLt
  have h2 : (x 2).val < 1024 := (x 2).isLt
  unfold outsAt outSpec want attn
  refine (mean_eq m hO c t (⟨(x 2).val / 128, by omega⟩ : Fin 8) (⟨(x 1).val, h1⟩ : Fin 64) hc (⟨(x 2).val % 128, Nat.mod_lt _ (by omega)⟩ : Fin 128)).trans ?_
  have eh : head t (⟨(x 2).val / 128, by omega⟩ : Fin 8) = (⟨((ph t).val * 1024 + (x 2).val) / 128, by have := (ph t).isLt; omega⟩ : Fin 16) :=
    Fin.ext (by show (ph t).val * 8 + (x 2).val / 128 = ((ph t).val * 1024 + (x 2).val) / 128; omega)
  have ed : (⟨(x 2).val % 128, Nat.mod_lt _ (by omega)⟩ : Fin 128) = (⟨((ph t).val * 1024 + (x 2).val) % 128, Nat.mod_lt _ (by omega)⟩ : Fin 128) :=
    Fin.ext (by show (x 2).val % 128 = ((ph t).val * 1024 + (x 2).val) % 128; omega)
  exact congrArg₂ (amean _ _ _ _ _ _ _ (pb t) (posn t (⟨(x 1).val, h1⟩ : Fin 64))) eh ed
end

/-- The point of sequence `b`, key and value head `h`, block `q`. -/
theorem point (b : Fin 4) (h : Fin 2) (q : Fin 256) : ∃ t : Fin grid0.N, pb t = b ∧ ph t = h ∧ pq t = q := by
  obtain ⟨t, ht⟩ := grid0.coords_surjective (fun a => match a with | ⟨0, _⟩ => b | ⟨1, _⟩ => h | ⟨2, _⟩ => q)
  exact ⟨t, congrFun ht 0, congrFun ht 1, congrFun ht 2⟩

/-- Every index of the result lies in the block of some point. -/
theorem cover (i : S4x16384x2048.Idx) : ∃ t : Fin (cfgM m hO).N, ((cfgM m hO).win 6).flush t = true ∧ i ∈ (((cfgM m hO).win 6).blk t).view.set := by
  have i0 : (i 0).val < 4 := (i 0).isLt
  have i1 : (i 1).val < 16384 := (i 1).isLt
  have i2 : (i 2).val < 2048 := (i 2).isLt
  obtain ⟨t, hb, hh, hq⟩ := point (⟨(i 0).val, i0⟩ : Fin 4) (⟨(i 2).val / 1024, by omega⟩ : Fin 2) (⟨(i 1).val / 64, by omega⟩ : Fin 256)
  refine ⟨t, flush0_6 (adm m hO) t, ?_⟩
  have e := emb6 m hO t (ix3 (0 : Fin 1) (⟨(i 1).val % 64, Nat.mod_lt _ (by omega)⟩ : Fin 64) (⟨(i 2).val % 1024, Nat.mod_lt _ (by omega)⟩ : Fin 1024))
  have e' : (((cfgM m hO).win 6).blk t).view.emb (ix3 (0 : Fin 1) (⟨(i 1).val % 64, Nat.mod_lt _ (by omega)⟩ : Fin 64) (⟨(i 2).val % 1024, Nat.mod_lt _ (by omega)⟩ : Fin 1024)) = i := by
    refine e.trans ?_
    funext a
    apply Fin.ext
    match a with
    | ⟨0, _⟩ => exact congrArg Fin.val hb
    | ⟨1, _⟩ => show (pq t).val * 64 + (i 1).val % 64 = (i 1).val; rw [hq]; show (i 1).val / 64 * 64 + _ = _; omega
    | ⟨2, _⟩ => show (ph t).val * 1024 + (i 2).val % 1024 = (i 2).val; rw [hh]; show (i 2).val / 1024 * 1024 + _ = _; omega
  exact Eq.subst (motive := fun z => z ∈ (((cfgM m hO).win 6).blk t).view.set) e' (View.emb_mem_set _ _)

/-- After the run the array holds the whole result. -/
theorem arrAt_eq (hH : Fits m hO) : (dats m hO hH 0 0).arrAt 6 (cfgM m hO).N = want m 0 := by
  refine (dats m hO hH 0 0).arrAt_eq_of_emb 6 (want m 0) (fun t hf y => ?_) (fun i => cover m hO i)
  have e2 := congrArg (want m 0) (emb6 m hO t y)
  refine Eq.trans ?_ e2.symm
  rw [after0_6]
  have e3 := outsAt_eq m hO 0 t rfl y
  refine Eq.trans ?_ e3
  generalize outsAt m hO 0 t = f
  rfl

end Cert.KernelIdeal.Val
end
-- ==== Proof.Value.Result.lean ====
/- The kernel's run with its result. -/
module

public import proofs.«01_k».proof.Proof.Value.Array
public import Idealize.ShloMosaic.Lib.Claim

@[expose] public section

noncomputable section

namespace Cert.KernelIdeal.Val

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- THE KERNEL'S VALUE: from any memory with zero counters the program ends with the result holding the mean of the values over
    the visible keys, and every argument unchanged. -/
theorem run (hO : Ok m) (hH : Fits m hO) : θ_run defs (onTc (τ := τ) (main (F := Ideal))) ⟨m, fun _ => 0, ρ⟩ (fun r => ∀ c : Dev nD,
      r.2.mem ((c.tc : Thread nD τ).loc main_v7) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain rfl : c = 0 := Subsingleton.elim (α := Fin 1) _ _
    exact ⟨((h.1 0).1 6).trans (arrAt_eq m hO hH), h.2 0⟩) (θ_run_and (run_main m ρ hO hH) (unchanged m ρ hO hH))

end Cert.KernelIdeal.Val
end
-- ==== Proof.Ref.RowDefs.lean ====
/- One row of the reference: the softmax with its weights quantised. -/
module

public import Idealize.ShloMosaic.PureOps.Ideal
public import Mathlib.Data.Finset.Fold

@[expose] public noncomputable section

open Idealize Idealize.ShloMosaic

namespace Cert.ReferenceIdeal.Val

/-- The greatest of a row of scores. -/
def rmax (s : Fin 16384 → EReal) : EReal := Finset.univ.fold max ⊥ s

/-- The weight of a key before normalization. -/
def rexp (s : Fin 16384 → EReal) (r : Fin 16384) : EReal := Ideal.exp (s r - rmax s)

/-- The weight times the value scale of the key: what the reference quantises. -/
def rwt (s vs : Fin 16384 → EReal) (r : Fin 16384) : EReal := rexp s r * vs r

/-- The greatest of these in absolute value. -/
def rabs (s vs : Fin 16384 → EReal) : EReal := rmax fun r => max (rwt s vs r) (-rwt s vs r)

/-- The exponent of the scale for a greatest absolute value `a`. -/
def rexpo (a : EReal) : EReal :=
  Ideal.liftRound Int.floor (Ideal.div (Ideal.log (Ideal.div a (Ideal.ofBits .f32 0x43E00000#32))) (Ideal.log (Ideal.ofBits .f32 0x40000000#32)))
    + Ideal.ofBits .f32 0x3F800000#32

/-- The scale for a greatest absolute value `a`: a power of two, one for a zero row. -/
def rscale (a : EReal) : EReal :=
  Ideal.exp (Scalar.select (Ideal.cmp .oeq a (Ideal.ofBits .f32 0x00000000#32)) (Ideal.ofBits .f32 0x00000000#32) (rexpo a)
    * Ideal.log (Ideal.ofBits .f32 0x40000000#32))

/-- The code of a weight. -/
def rcode (s vs : Fin 16384 → EReal) (r : Fin 16384) : EReal :=
  min (Ideal.ofBits .f32 0x43E00000#32) (max (Ideal.ofBits .f32 0xC3E00000#32) (Ideal.div (rwt s vs r) (rscale (rabs s vs))))

/-- One entry of the result: the weighted mean of the values `v`. -/
def rout (s vs v : Fin 16384 → EReal) : EReal :=
  Ideal.div ((∑ r, v r * rcode s vs r) * rscale (rabs s vs)) (∑ r, rexp s r)

end Cert.ReferenceIdeal.Val
-- ==== Proof.Ref.Head.lean ====
/- The reference's host lines of the first stretch, read at an index, over any contents before them. -/
module

public import proofs.«01_k».proof.Proof.Gen.ReferenceIdeal.Frame
public import proofs.«01_k».proof.Proof.Ref.RowDefs
public import Idealize.ShloMosaic.Lib.IdealHost
public import Idealize.ShloMosaic.Lib.StackMember
public import Idealize.ShloMosaic.Lib.Pipeline.ValueKit.Geometry
public import Idealize.ShloMosaic.Lib.StableHlo.ReadAt

@[expose] public section

set_option maxRecDepth 16384

noncomputable section

namespace Cert.ReferenceIdeal.Val

open Idealize.ShloMosaic Idealize.ShloMosaic.TcCoe Idealize.SL.Sem Cert.ReferenceIdeal Cert.ReferenceIdeal.Gen
open Idealize.ShloMosaic.Pointwise

/-! ### The two products -/

/-- The scores: at (b, h, key, query, g) the product over the head's columns. -/
theorem dot_scores (L : FVec Ideal S4x16384x2x128 .f32) (R : FVec Ideal S4x16384x2x8x128 .f32)
    (b : Fin 4) (h : Fin 2) (r n : Fin 16384) (g : Fin 8) :
    Host.dotGeneral dot_S4x16384x2x128_S4x16384x2x8x128_S4x2x16384x16384x8_3_4_1_13_02_02 none L R (ix5 b h r n g)
      = ∑ d : Fin 128, HMul.hMul (α := EReal) (β := EReal) (L (ix4 b r h d)) (R (ix5 b n h g d)) := by
  show FloatOps.dotGeneral _ none _ L R (ix5 b h r n g) = _
  let D := dot_S4x16384x2x128_S4x16384x2x8x128_S4x2x16384x16384x8_3_4_1_13_02_02
  rw [Ideal.dotGeneral_apply, ← Equiv.sum_comp (ValueIdx.contrEquiv1 D 128 rfl rfl).symm]
  refine Finset.sum_congr rfl fun d _ => ?_
  have hd := ValueIdx.contrEquiv1_symm_val D 128 rfl rfl d
  have el : D.lhsIdx (ix5 b h r n g) ((ValueIdx.contrEquiv1 D 128 rfl rfl).symm d) = ix4 b r h d := by
    funext a; apply Fin.ext
    match a with
    | ⟨0, _⟩ => rfl
    | ⟨1, _⟩ => rfl
    | ⟨2, _⟩ => rfl
    | ⟨3, _⟩ => exact hd
  have er : D.rhsIdx (ix5 b h r n g) ((ValueIdx.contrEquiv1 D 128 rfl rfl).symm d) = ix5 b n h g d := by
    funext a; apply Fin.ext
    match a with
    | ⟨0, _⟩ => rfl
    | ⟨1, _⟩ => rfl
    | ⟨2, _⟩ => rfl
    | ⟨3, _⟩ => rfl
    | ⟨4, _⟩ => exact hd
  rw [el, er]

/-- The values: at (b, h, d, g, query) the product over the keys. -/
theorem dot_values (L : FVec Ideal S4x2x128x16384 .f32) (R : FVec Ideal S4x2x8x16384x16384 .f32)
    (b : Fin 4) (h : Fin 2) (d : Fin 128) (g : Fin 8) (n : Fin 16384) :
    Host.dotGeneral dot_S4x2x128x16384_S4x2x8x16384x16384_S4x2x128x8x16384_3_4_2_23_01_01 none L R (ix5 b h d g n)
      = ∑ r : Fin 16384, HMul.hMul (α := EReal) (β := EReal) (L (ix4 b h d r)) (R (ix5 b h g n r)) := by
  show FloatOps.dotGeneral _ none _ L R (ix5 b h d g n) = _
  let D := dot_S4x2x128x16384_S4x2x8x16384x16384_S4x2x128x8x16384_3_4_2_23_01_01
  rw [Ideal.dotGeneral_apply, ← Equiv.sum_comp (ValueIdx.contrEquiv1 D 16384 rfl rfl).symm]
  refine Finset.sum_congr rfl fun r _ => ?_
  have hr := ValueIdx.contrEquiv1_symm_val D 16384 rfl rfl r
  have el : D.lhsIdx (ix5 b h d g n) ((ValueIdx.contrEquiv1 D 16384 rfl rfl).symm r) = ix4 b h d r := by
    funext a; apply Fin.ext
    match a with
    | ⟨0, _⟩ => rfl
    | ⟨1, _⟩ => rfl
    | ⟨2, _⟩ => rfl
    | ⟨3, _⟩ => exact hr
  have er : D.rhsIdx (ix5 b h d g n) ((ValueIdx.contrEquiv1 D 16384 rfl rfl).symm r) = ix5 b h g n r := by
    funext a; apply Fin.ext
    match a with
    | ⟨0, _⟩ => rfl
    | ⟨1, _⟩ => rfl
    | ⟨2, _⟩ => rfl
    | ⟨3, _⟩ => rfl
    | ⟨4, _⟩ => exact hr
  rw [el, er]

/-! ### The coordinates of a result -/

/-- The key and value head, the query head in its group, and the column in the head. -/
abbrev xh (x : S4x16384x2048.Idx) : Fin 2 := ⟨(x 2).val / 1024, by have h2 : (x 2).val < 2048 := (x 2).isLt; omega⟩
/-- The query head of a column, within its key head. -/
abbrev xg (x : S4x16384x2048.Idx) : Fin 8 := ⟨(x 2).val / 128 % 8, Nat.mod_lt _ (by omega)⟩
/-- The element of a column within its head. -/
abbrev xd (x : S4x16384x2048.Idx) : Fin 128 := ⟨(x 2).val % 128, Nat.mod_lt _ (by omega)⟩

variable (U : Valuation τ sig (Elt Ideal))

/-! ### The first stretch: scores and mask -/

/-- The value scales. -/
theorem v12_at (b : Fin 4) (h : Fin 2) (r : Fin 16384) :
    (StableHlo.after (hostOps1 (F := Ideal)) U (Proc.devRef .tc main_v12) (ix3 b h r) : EReal) = U (Proc.devRef .tc main_arg6) (ix3 b r h) := by
  after_reads_at

/-- The value codes. -/
theorem v3_at (b : Fin 4) (h : Fin 2) (d : Fin 128) (r : Fin 16384) :
    (StableHlo.after (hostOps1 (F := Ideal)) U (Proc.devRef .tc main_v3) (ix4 b h d r) : EReal) = U (Proc.devRef .tc main_v0_2) (ix3 b (⟨h.val * 128 + d.val, by omega⟩ : Fin 256) r) := by
  after_reads_at

/-- The capped scores. -/
theorem v23_at (b : Fin 4) (h : Fin 2) (g : Fin 8) (n r : Fin 16384) :
    (StableHlo.after (hostOps1 (F := Ideal)) U (Proc.devRef .tc main_v23) (ix5 b h g n r) : EReal) = Ideal.ofBits .f32 0x42480000#32 * Ideal.tanh (Ideal.div
      ((∑ d : Fin 128, HMul.hMul (α := EReal) (β := EReal) (U (Proc.devRef .tc main_v0_1) (ix3 b r (⟨h.val * 128 + d.val, by omega⟩ : Fin 256)))
          (U (Proc.devRef .tc main_v0_0) (ix3 b n (⟨h.val * 1024 + g.val * 128 + d.val, by omega⟩ : Fin 2048))))
        * Ideal.div (U (Proc.devRef .tc main_arg2) (ix3 b n (⟨h.val * 8 + g.val, by omega⟩ : Fin 16))) (Ideal.sqrt (Ideal.ofBits .f32 0x43000000#32))
        * (U (Proc.devRef .tc main_arg4) (ix3 b r h) : EReal)) (Ideal.ofBits .f32 0x42480000#32)) := by
  after_reads_at
  rw [dot_scores]
  rfl

/-- The mask: the key is at most the query, or before the prefix ends. -/
theorem v38_at (b : Fin 4) (n r : Fin 16384) :
    StableHlo.after (hostOps1 (F := Ideal)) U (Proc.devRef .tc main_v38) (ix5 b (0 : Fin 1) (0 : Fin 1) n r)
      = IntOp.ori (IntOp.cmpi .sle (BitVec.ofNat 32 r.val) (BitVec.ofNat 32 n.val)) (IntOp.cmpi .slt (BitVec.ofNat 32 r.val) (U (Proc.devRef .tc main_arg0) (ix1 b))) := by
  after_reads_at

/-- The fill of the mask. -/
theorem cst2_at : (StableHlo.after (hostOps1 (F := Ideal)) U (Proc.devRef .tc main_cst_2) ix0 : EReal) = Ideal.ofBits .f32 0xFF800000#32 := by
  after_reads_at
  all_goals rfl

end Cert.ReferenceIdeal.Val
end
-- ==== Proof.Ref.Tail.lean ====
/- The reference's later host lines read at an index, stretch by stretch, over any contents before them. -/
module

public import proofs.«01_k».proof.Proof.Gen.ReferenceIdeal.Frame
public import proofs.«01_k».proof.Proof.Ref.RowDefs
public import proofs.«01_k».proof.Proof.Ref.Head
public import Idealize.ShloMosaic.Lib.IdealHost
public import Idealize.ShloMosaic.Lib.StackMember
public import Idealize.ShloMosaic.Lib.Pipeline.ValueKit.Geometry
public import Idealize.ShloMosaic.Lib.StableHlo.ReadAt

@[expose] public section

set_option maxRecDepth 16384

noncomputable section

namespace Cert.ReferenceIdeal.Val

open Idealize.ShloMosaic Idealize.ShloMosaic.TcCoe Idealize.SL.Sem Cert.ReferenceIdeal Cert.ReferenceIdeal.Gen
open Idealize.ShloMosaic.Pointwise

variable (U : Valuation τ sig (Elt Ideal))

/-! ### The later stretches -/

/-- The masked scores. -/
theorem v39_at (b : Fin 4) (h : Fin 2) (g : Fin 8) (n r : Fin 16384) :
    (StableHlo.after (hostOps1_1 (F := Ideal)) U (Proc.devRef .tc main_v39) (ix5 b h g n r) : EReal)
      = Scalar.select (U (Proc.devRef .tc main_v38) (ix5 b (0 : Fin 1) (0 : Fin 1) n r)) (U (Proc.devRef .tc main_v23) (ix5 b h g n r)) (U (Proc.devRef .tc main_cst_2) ix0) := by
  after_reads_at
  all_goals rfl

/-- The greatest of a row of an array of scores, as the reference takes it. -/
def top (X : FVec Ideal S4x2x8x16384x16384 .f32) (b : Fin 4) (h : Fin 2) (g : Fin 8) (n : Fin 16384) : EReal :=
  Host.reduce (FloatOps.maximumf (F := Ideal) (φ := .f32)) X (constant (F := Ideal) S_ .f32 0xFF800000#32) reducesTo_S4x2x8x16384x16384_S4x2x8x16384_d4 h_S_ (ix4 b h g n)

/-- The sum of a row. -/
def tot (X : FVec Ideal S4x2x8x16384x16384 .f32) (b : Fin 4) (h : Fin 2) (g : Fin 8) (n : Fin 16384) : EReal :=
  Host.reduceAdd X (constant (F := Ideal) S_ .f32 0x00000000#32) reducesTo_S4x2x8x16384x16384_S4x2x8x16384_d4 h_S_ (ix4 b h g n)

/-- The weights before normalization. -/
theorem v44_at (b : Fin 4) (h : Fin 2) (g : Fin 8) (n r : Fin 16384) :
    (StableHlo.after (hostOps1_2 (F := Ideal)) U (Proc.devRef .tc main_v44) (ix5 b h g n r) : EReal)
      = Ideal.exp (HSub.hSub (α := EReal) (β := EReal) (U (Proc.devRef .tc main_v39) (ix5 b h g n r)) (top (U (Proc.devRef .tc main_v39)) b h g n)) := by
  after_reads_at
  all_goals rfl

/-- Their sum. -/
theorem v45_at (b : Fin 4) (h : Fin 2) (g : Fin 8) (n : Fin 16384) :
    (StableHlo.after (hostOps1_2 (F := Ideal)) U (Proc.devRef .tc main_v45) (ix4 b h g n) : EReal)
      = tot (StableHlo.after (hostOps1_2 (F := Ideal)) U (Proc.devRef .tc main_v44)) b h g n := by
  unfold tot
  after_reads_simp

/-- Their products with the value scales. -/
theorem v48_at (b : Fin 4) (h : Fin 2) (g : Fin 8) (n r : Fin 16384) :
    (StableHlo.after (hostOps1_2 (F := Ideal)) U (Proc.devRef .tc main_v48) (ix5 b h g n r) : EReal)
      = HMul.hMul (α := EReal) (β := EReal) (Ideal.exp (HSub.hSub (α := EReal) (β := EReal) (U (Proc.devRef .tc main_v39) (ix5 b h g n r)) (top (U (Proc.devRef .tc main_v39)) b h g n)))
          (U (Proc.devRef .tc main_v12) (ix3 b h r)) := by
  after_reads_at
  all_goals rfl

/-- The logarithm of two. -/
theorem v49_at : (StableHlo.after (hostOps1_2 (F := Ideal)) U (Proc.devRef .tc main_v49) ix0 : EReal) = Ideal.log (Ideal.ofBits .f32 0x40000000#32) := by
  after_reads_at
  all_goals rfl

/-- The zero of a zero row's exponent. -/
theorem cst10_at : (StableHlo.after (hostOps1_2 (F := Ideal)) U (Proc.devRef .tc main_cst_10) ix0 : EReal) = Ideal.ofBits .f32 0x00000000#32 := by
  after_reads_at
  all_goals rfl

/-- The greatest product in absolute value. -/
theorem v51_at (b : Fin 4) (h : Fin 2) (g : Fin 8) (n : Fin 16384) :
    (StableHlo.after (hostOps1_2 (F := Ideal)) U (Proc.devRef .tc main_v51) (ix4 b h g n) : EReal)
      = top (Host.absf (F := Ideal) (φ := .f32) (StableHlo.after (hostOps1_2 (F := Ideal)) U (Proc.devRef .tc main_v48))) b h g n := by
  unfold top
  after_reads_simp

/-- The exponents, as an array of the greatest products. -/
theorem v59_at (b : Fin 4) (h : Fin 2) (g : Fin 8) (n : Fin 16384) :
    (StableHlo.after (hostOps1_2 (F := Ideal)) U (Proc.devRef .tc main_v59) (ix4 b h g n) : EReal)
      = rexpo (StableHlo.after (hostOps1_2 (F := Ideal)) U (Proc.devRef .tc main_v51) (ix4 b h g n)) := by
  unfold rexpo
  after_reads_at
  generalize Host.reduce _ _ _ _ _ (ix4 b h g n) = z
  rfl

/-- A comparison of arrays at an index. -/
theorem cmp_at (X Y : FVec Ideal S4x2x8x16384 .f32) (i : S4x2x8x16384.Idx) : cmpf (F := Ideal) (φ := .f32) .oeq X Y i = Ideal.cmp .oeq (X i) (Y i) := rfl

/-- Which rows are zero, as an array of the greatest products. -/
theorem v61_eq : StableHlo.after (hostOps1_2 (F := Ideal)) U (Proc.devRef .tc main_v61)
      = cmpf (F := Ideal) (φ := .f32) .oeq (StableHlo.after (hostOps1_2 (F := Ideal)) U (Proc.devRef .tc main_v51))
          (broadcastInDim S4x2x8x16384 ![] bcast_S_S4x2x8x16384 (constant (F := Ideal) S_ .f32 0x00000000#32)) := by after_reads_simp

/-- Whether the row is zero. -/
theorem v61_at (b : Fin 4) (h : Fin 2) (g : Fin 8) (n : Fin 16384) :
    StableHlo.after (hostOps1_2 (F := Ideal)) U (Proc.devRef .tc main_v61) (ix4 b h g n)
      = Ideal.cmp .oeq (StableHlo.after (hostOps1_2 (F := Ideal)) U (Proc.devRef .tc main_v51) (ix4 b h g n)) (Ideal.ofBits .f32 0x00000000#32) := by
  rw [v61_eq U]
  exact cmp_at _ _ _

/-- The exponent, zero for a zero row. -/
theorem v62_at (b : Fin 4) (h : Fin 2) (g : Fin 8) (n : Fin 16384) :
    (StableHlo.after (hostOps1_3 (F := Ideal)) U (Proc.devRef .tc main_v62) (ix4 b h g n) : EReal)
      = Scalar.select (U (Proc.devRef .tc main_v61) (ix4 b h g n)) (U (Proc.devRef .tc main_cst_10) ix0) (U (Proc.devRef .tc main_v59) (ix4 b h g n)) := by
  after_reads_at
  all_goals rfl

/-- The scale. -/
theorem v65_at (b : Fin 4) (h : Fin 2) (g : Fin 8) (n : Fin 16384) :
    (StableHlo.after (hostOps1_4 (F := Ideal)) U (Proc.devRef .tc main_v65) (ix4 b h g n) : EReal)
      = Ideal.exp (HMul.hMul (α := EReal) (β := EReal) (U (Proc.devRef .tc main_v62) (ix4 b h g n)) (U (Proc.devRef .tc main_v49) ix0)) := by
  after_reads_at
  all_goals rfl

/-- The scaled products. -/
theorem v68_at (b : Fin 4) (h : Fin 2) (g : Fin 8) (n r : Fin 16384) :
    (StableHlo.after (hostOps1_4 (F := Ideal)) U (Proc.devRef .tc main_v68) (ix5 b h g n r) : EReal)
      = Ideal.div (U (Proc.devRef .tc main_v48) (ix5 b h g n r)) (Ideal.exp (HMul.hMul (α := EReal) (β := EReal) (U (Proc.devRef .tc main_v62) (ix4 b h g n)) (U (Proc.devRef .tc main_v49) ix0))) := by
  after_reads_at
  all_goals rfl

/-- The bounds of the codes. -/
theorem cst11_at : (StableHlo.after (hostOps1_4 (F := Ideal)) U (Proc.devRef .tc main_cst_11) ix0 : EReal) = Ideal.ofBits .f32 0xC3E00000#32 := by
  after_reads_at
  all_goals rfl
/-- The constant of the quantiser, 448. -/
theorem cst12_at : (StableHlo.after (hostOps1_4 (F := Ideal)) U (Proc.devRef .tc main_cst_12) ix0 : EReal) = Ideal.ofBits .f32 0x43E00000#32 := by
  after_reads_at
  all_goals rfl

/-- The codes. -/
theorem v69_at (b : Fin 4) (h : Fin 2) (g : Fin 8) (n r : Fin 16384) :
    (StableHlo.after (hostOps1_5 (F := Ideal)) U (Proc.devRef .tc main_v69) (ix5 b h g n r) : EReal)
      = min (α := EReal) (U (Proc.devRef .tc main_cst_12) ix0) (max (α := EReal) (U (Proc.devRef .tc main_cst_11) ix0) (U (Proc.devRef .tc main_v68) (ix5 b h g n r))) := by
  after_reads_at
  all_goals rfl

/-- The result. -/
theorem v81_at (x : S4x16384x2048.Idx) :
    (StableHlo.after (hostOps1_6 (F := Ideal)) U (Proc.devRef .tc main_v81) x : EReal)
      = Ideal.div ((∑ r : Fin 16384, HMul.hMul (α := EReal) (β := EReal) (U (Proc.devRef .tc main_v3) (ix4 (x 0) (xh x) (xd x) r)) (U (Proc.devRef .tc main_v69) (ix5 (x 0) (xh x) (xg x) (x 1) r)))
          * (U (Proc.devRef .tc main_v65) (ix4 (x 0) (xh x) (xg x) (x 1)) : EReal)) (U (Proc.devRef .tc main_v45) (ix4 (x 0) (xh x) (xg x) (x 1))) := by
  after_reads_at
  exact congrArg (fun s : EReal => Ideal.div (HMul.hMul (α := EReal) (β := EReal) s (U (Proc.devRef .tc main_v65) (ix4 (x 0) (xh x) (xg x) (x 1)))) (U (Proc.devRef .tc main_v45) (ix4 (x 0) (xh x) (xg x) (x 1))))
    (dot_values (U (Proc.devRef .tc main_v3)) (U (Proc.devRef .tc main_v69)) _ _ _ _ _)

end Cert.ReferenceIdeal.Val
end
-- ==== Proof.Ref.Codes.lean ====
/- The three arrays of codes after the reference's first call: the codes themselves, as real numbers. -/
module

public import proofs.«01_k».proof.Proof.Gen.ReferenceIdeal.Frame
public import Idealize.ShloMosaic.PureOps.Ideal
public import Idealize.ShloMosaic.Lib.Pipeline.Value

@[expose] public section

set_option maxRecDepth 16384

noncomputable section

namespace Cert.ReferenceIdeal.Val

open Idealize.ShloMosaic Idealize.ShloMosaic.TcCoe Idealize.SL.Sem Cert.ReferenceIdeal Cert.ReferenceIdeal.Gen

variable (m : (ℓ : Loc nD τ sig) → Buf (Elt Ideal) ℓ)

/-- Three zero offsets are the zero function. -/
theorem hz : (![0, 0, 0] : Fin 3 → Nat) = fun _ => 0 := funext fun a => by fin_cases a <;> rfl

/-- The body's conversions: each output block is its input block. -/
theorem out3_eq (x0 : Vec Ideal S4x16384x2048 .fp8e4m3) (x1 : Vec Ideal S4x16384x256 .fp8e4m3) (x2 : Vec Ideal S4x256x16384 .fp8e4m3) :
    (out0_3 x0 x1 x2 : S4x16384x2048.Idx → EReal) = x0 := by
  unfold out0_3
  rw [View.canon_unit_zero hz, View.ld_unit_zero hz]
  rfl
/-- The second output of the conversion is the key codes, unchanged over the reals. -/
theorem out4_eq (x0 : Vec Ideal S4x16384x2048 .fp8e4m3) (x1 : Vec Ideal S4x16384x256 .fp8e4m3) (x2 : Vec Ideal S4x256x16384 .fp8e4m3) :
    (out0_4 x0 x1 x2 : S4x16384x256.Idx → EReal) = x1 := by
  unfold out0_4
  rw [View.canon_unit_zero hz, View.ld_unit_zero hz]
  rfl
/-- The third output of the conversion is the value codes, unchanged over the reals. -/
theorem out5_eq (x0 : Vec Ideal S4x16384x2048 .fp8e4m3) (x1 : Vec Ideal S4x16384x256 .fp8e4m3) (x2 : Vec Ideal S4x256x16384 .fp8e4m3) :
    (out0_5 x0 x1 x2 : S4x256x16384.Idx → EReal) = x2 := by
  unfold out0_5
  rw [View.canon_unit_zero hz, View.ld_unit_zero hz]
  rfl

/-- An index of a window's one block is the same index of its array. -/
theorem emb0 (t : Fin cfg0.N) (j : S4x16384x2048.Idx) : ((cfg0.win 0).blk t).view.emb j = j := by
  funext a; apply Fin.ext
  match a with
  | ⟨0, _⟩ => show 0 * 4 + 1 * (j 0).val = (j 0).val; omega
  | ⟨1, _⟩ => show 0 * 16384 + 1 * (j 1).val = (j 1).val; omega
  | ⟨2, _⟩ => show 0 * 2048 + 1 * (j 2).val = (j 2).val; omega
/-- The key codes are one whole block. -/
theorem emb1 (t : Fin cfg0.N) (j : S4x16384x256.Idx) : ((cfg0.win 1).blk t).view.emb j = j := by
  funext a; apply Fin.ext
  match a with
  | ⟨0, _⟩ => show 0 * 4 + 1 * (j 0).val = (j 0).val; omega
  | ⟨1, _⟩ => show 0 * 16384 + 1 * (j 1).val = (j 1).val; omega
  | ⟨2, _⟩ => show 0 * 256 + 1 * (j 2).val = (j 2).val; omega
/-- The value codes are one whole block. -/
theorem emb2 (t : Fin cfg0.N) (j : S4x256x16384.Idx) : ((cfg0.win 2).blk t).view.emb j = j := by
  funext a; apply Fin.ext
  match a with
  | ⟨0, _⟩ => show 0 * 4 + 1 * (j 0).val = (j 0).val; omega
  | ⟨1, _⟩ => show 0 * 256 + 1 * (j 1).val = (j 1).val; omega
  | ⟨2, _⟩ => show 0 * 16384 + 1 * (j 2).val = (j 2).val; omega
/-- The first output is one whole block. -/
theorem emb3 (t : Fin cfg0.N) (j : S4x16384x2048.Idx) : ((cfg0.win 3).blk t).view.emb j = j := emb0 t j
/-- The second output is one whole block. -/
theorem emb4 (t : Fin cfg0.N) (j : S4x16384x256.Idx) : ((cfg0.win 4).blk t).view.emb j = j := emb1 t j
/-- The third output is one whole block. -/
theorem emb5 (t : Fin cfg0.N) (j : S4x256x16384.Idx) : ((cfg0.win 5).blk t).view.emb j = j := emb2 t j

/-- The block of the query codes is the argument. -/
theorem iblk0_eq (c : Dev nD) (t : Fin cfg0.N) : iblk m c 0 t = V m c main_arg1 := by
  funext j; show V m c main_arg1 (((cfg0.win 0).blk t).view.emb j) = V m c main_arg1 j; rw [emb0]
/-- The block of the key codes is the argument. -/
theorem iblk1_eq (c : Dev nD) (t : Fin cfg0.N) : iblk m c 1 t = V m c main_arg3 := by
  funext j; show V m c main_arg3 (((cfg0.win 1).blk t).view.emb j) = V m c main_arg3 j; rw [emb1]
/-- The block of the value codes is the argument. -/
theorem iblk2_eq (c : Dev nD) (t : Fin cfg0.N) : iblk m c 2 t = V m c main_arg5 := by
  funext j; show V m c main_arg5 (((cfg0.win 2).blk t).view.emb j) = V m c main_arg5 j; rw [emb2]

/-- The query codes. -/
theorem arr3 (c : Dev nD) : ((dats m 0 c).arrAt 3 cfg0.N : S4x16384x2048.Idx → EReal) = m ((c : Thread nD τ).loc main_arg1) := by
  refine (dats m 0 c).arrAt_eq_of_cover 3 (V m c main_arg1 : S4x16384x2048.Idx → EReal) (fun t _ => ?_) (fun i => ⟨⟨0, by decide⟩, flush0_3 _, ?_⟩)
  · unfold Pipeline.Dat.flushed
    rw [after0_3, iblk0_eq, iblk1_eq, iblk2_eq]
    funext j
    show out0_3 (F := Ideal) _ _ _ j = V m c main_arg1 (((cfg0.win 3).blk t).view.emb j)
    rw [emb3]
    exact congrFun (out3_eq _ _ _) j
  · have h := ((cfg0.win 3).blk (⟨0, by decide⟩ : Fin cfg0.N)).view.emb_mem_set i
    rwa [emb3] at h
/-- The key codes. -/
theorem arr4 (c : Dev nD) : ((dats m 0 c).arrAt 4 cfg0.N : S4x16384x256.Idx → EReal) = m ((c : Thread nD τ).loc main_arg3) := by
  refine (dats m 0 c).arrAt_eq_of_cover 4 (V m c main_arg3 : S4x16384x256.Idx → EReal) (fun t _ => ?_) (fun i => ⟨⟨0, by decide⟩, flush0_4 _, ?_⟩)
  · unfold Pipeline.Dat.flushed
    rw [after0_4, iblk0_eq, iblk1_eq, iblk2_eq]
    funext j
    show out0_4 (F := Ideal) _ _ _ j = V m c main_arg3 (((cfg0.win 4).blk t).view.emb j)
    rw [emb4]
    exact congrFun (out4_eq _ _ _) j
  · have h := ((cfg0.win 4).blk (⟨0, by decide⟩ : Fin cfg0.N)).view.emb_mem_set i
    rwa [emb4] at h
/-- The value codes. -/
theorem arr5 (c : Dev nD) : ((dats m 0 c).arrAt 5 cfg0.N : S4x256x16384.Idx → EReal) = m ((c : Thread nD τ).loc main_arg5) := by
  refine (dats m 0 c).arrAt_eq_of_cover 5 (V m c main_arg5 : S4x256x16384.Idx → EReal) (fun t _ => ?_) (fun i => ⟨⟨0, by decide⟩, flush0_5 _, ?_⟩)
  · unfold Pipeline.Dat.flushed
    rw [after0_5, iblk0_eq, iblk1_eq, iblk2_eq]
    funext j
    show out0_5 (F := Ideal) _ _ _ j = V m c main_arg5 (((cfg0.win 5).blk t).view.emb j)
    rw [emb5]
    exact congrFun (out5_eq _ _ _) j
  · have h := ((cfg0.win 5).blk (⟨0, by decide⟩ : Fin cfg0.N)).view.emb_mem_set i
    rwa [emb5] at h

end Cert.ReferenceIdeal.Val
end
-- ==== Proof.Ref.Row.lean ====
/- The quantisation of a row's weights cancels. -/
module

public import proofs.«01_k».proof.Proof.Value.Out
public import proofs.«01_k».proof.Proof.Ref.RowDefs

@[expose] public noncomputable section

open Idealize Idealize.ShloMosaic

namespace Cert.ReferenceIdeal.Val

/-- The constant 448. -/
theorem c448 : Ideal.ofBits .f32 0x43E00000#32 = ((448 : ℝ) : EReal) := by
  norm_num [Ideal.ofBits, Ideal.ieee, Nat.shiftRight_eq_div_pow]
  decide
/-- The constant -448. -/
theorem cm448 : Ideal.ofBits .f32 0xC3E00000#32 = ((-448 : ℝ) : EReal) := by
  norm_num [Ideal.ofBits, Ideal.ieee, Nat.shiftRight_eq_div_pow]
  rw [if_pos (by decide)]
  norm_num
/-- The constant 2. -/
theorem c2 : Ideal.ofBits .f32 0x40000000#32 = ((2 : ℝ) : EReal) := by
  norm_num [Ideal.ofBits, Ideal.ieee, Nat.shiftRight_eq_div_pow]
  decide
/-- The constant 1. -/
theorem c1 : Ideal.ofBits .f32 0x3F800000#32 = ((1 : ℝ) : EReal) := by
  norm_num [Ideal.ofBits, Ideal.ieee, Nat.shiftRight_eq_div_pow]
  decide
/-- The constant 0. -/
theorem c0 : Ideal.ofBits .f32 0x00000000#32 = ((0 : ℝ) : EReal) := by
  norm_num [Ideal.ofBits, Ideal.ieee, Nat.shiftRight_eq_div_pow]

/-- The greatest of a row bounds the row. -/
theorem le_rmax (s : Fin 16384 → EReal) (r : Fin 16384) : s r ≤ rmax s := by
  rw [rmax, Finset.le_fold_max]
  exact Or.inr ⟨r, Finset.mem_univ r, le_rfl⟩

/-- The greatest of a row is reached. -/
theorem rmax_mem (s : Fin 16384 → EReal) : ∃ r, rmax s = s r := by
  obtain ⟨r, -, hr⟩ := Finset.exists_max_image Finset.univ s ⟨0, Finset.mem_univ 0⟩
  refine ⟨r, le_antisymm ?_ (le_rmax s r)⟩
  rw [rmax, Finset.fold_max_le]
  exact ⟨bot_le, hr⟩

/-- The scale is a positive real number, and it brings the greatest absolute value to 448 at most. -/
theorem rscale_real (a : ℝ) (ha : 0 ≤ a) : ∃ κ : ℝ, 0 < κ ∧ rscale (a : EReal) = (κ : EReal) ∧ a ≤ 448 * κ := by
  have hl2 : 0 < Real.log 2 := Real.log_pos (by norm_num)
  have l2 : Ideal.log ((2 : ℝ) : EReal) = ((Real.log 2 : ℝ) : EReal) := by
    rw [Ideal.log_coe, if_neg (by norm_num)]
  unfold rscale rexpo
  rw [c448, c2, c1, c0, l2]
  by_cases h0 : a = 0
  · subst h0
    refine ⟨1, one_pos, ?_, by norm_num⟩
    have hc : Ideal.cmp .oeq ((0 : ℝ) : EReal) ((0 : ℝ) : EReal) = 1#1 := by simp [Ideal.cmp]
    rw [hc]
    simp only [Scalar.select]
    rw [if_pos (by decide), ← EReal.coe_mul, Ideal.exp_coe, zero_mul, Real.exp_zero]
  · have hpos : 0 < a := lt_of_le_of_ne ha (Ne.symm h0)
    have hc : Ideal.cmp .oeq (a : EReal) ((0 : ℝ) : EReal) = 0#1 := by
      have : ¬ (a : EReal) = ((0 : ℝ) : EReal) := fun h => h0 (EReal.coe_injective h)
      simp only [Ideal.cmp]
      simp [h0]
    have hq : 0 < a * (1 / 448) := by positivity
    rw [hc]
    simp only [Scalar.select]
    rw [if_neg (by decide), Ideal.div_coe (by norm_num), Ideal.div_coe (by norm_num), ← EReal.coe_mul, Ideal.log_coe, if_neg (not_le.mpr hq), ← EReal.coe_mul,
      Ideal.liftRound_coe, ← EReal.coe_add, ← EReal.coe_mul, Ideal.exp_coe]
    refine ⟨_, Real.exp_pos _, rfl, ?_⟩
    have hf := Int.lt_floor_add_one (Real.log (a * (1 / 448)) * (1 / Real.log 2))
    have h1 : Real.log (a * (1 / 448)) < ((⌊Real.log (a * (1 / 448)) * (1 / Real.log 2)⌋ : ℝ) + 1) * Real.log 2 := by
      have h2 := mul_lt_mul_of_pos_right hf hl2
      rwa [mul_assoc, one_div_mul_cancel hl2.ne', mul_one] at h2
    have h3 := Real.exp_lt_exp.mpr h1
    rw [Real.exp_log hq] at h3
    linarith

/-- THE ROW. With scores `σ r` at the visible keys (there is one), `-∞` elsewhere and real value scales, the row's result is the
    quotient of the sums weighted with `exp (σ r)`: the greatest score and the scale of the codes cancel, and no code is clipped. -/
theorem rout_eq (s vs v : Fin 16384 → EReal) (vis : Fin 16384 → Prop) [DecidablePred vis] (σ ν : Fin 16384 → ℝ)
    (hs : ∀ r, s r = if vis r then (σ r : EReal) else ⊥) (hv : ∃ r, vis r) (hν : ∀ r, vs r = (ν r : EReal)) :
    rout s vs v = Ideal.div (∑ r, v r * (((if vis r then Real.exp (σ r) else 0 : ℝ) : EReal) * vs r))
      (∑ r, ((if vis r then Real.exp (σ r) else 0 : ℝ) : EReal)) := by
  obtain ⟨r0, h0⟩ := hv
  obtain ⟨rm, hm⟩ := rmax_mem s
  have hvm : vis rm := by
    by_contra h
    have h1 := le_rmax s r0
    rw [hm, hs rm, if_neg h, hs r0, if_pos h0] at h1
    exact absurd (le_bot_iff.mp h1) (EReal.coe_ne_bot _)
  have hM : rmax s = (σ rm : EReal) := by rw [hm, hs rm, if_pos hvm]
  have he : ∀ r, rexp s r = ((Real.exp (-σ rm) : ℝ) : EReal) * ((if vis r then Real.exp (σ r) else 0 : ℝ) : EReal) := by
    intro r
    unfold rexp
    rw [hM, hs r]
    by_cases h : vis r
    · rw [if_pos h, if_pos h, ← EReal.coe_sub, Ideal.exp_coe, ← EReal.coe_mul, ← Real.exp_add]
      exact congrArg (fun x : ℝ => ((Real.exp x : ℝ) : EReal)) (by ring)
    · rw [if_neg h, if_neg h, EReal.bot_sub, Ideal.exp_bot, EReal.coe_zero, mul_zero]
  generalize hω : (fun r => (if vis r then Real.exp (σ r) else 0 : ℝ)) = ω at *
  have hω' : ∀ r, (if vis r then Real.exp (σ r) else 0 : ℝ) = ω r := fun r => congrFun hω r
  simp only [hω'] at he ⊢
  have hω0 : ∀ r, 0 ≤ ω r := by
    intro r
    rw [← hω' r]
    split_ifs
    · exact (Real.exp_pos _).le
    · exact le_rfl
  have hωp : 0 < ω r0 := by rw [← hω' r0, if_pos h0]; exact Real.exp_pos _
  have hsum : 0 < ∑ r, ω r := Finset.sum_pos' (fun r _ => hω0 r) ⟨r0, Finset.mem_univ _, hωp⟩
  set τ := Real.exp (-σ rm) with hτ
  have hτp : 0 < τ := Real.exp_pos _
  have hw : ∀ r, rwt s vs r = ((τ * ω r * ν r : ℝ) : EReal) := by
    intro r
    unfold rwt
    rw [he, hν, EReal.coe_mul, EReal.coe_mul]
  have hab : ∀ r, max (rwt s vs r) (-rwt s vs r) = ((|τ * ω r * ν r| : ℝ) : EReal) := by
    intro r
    rw [hw, ← EReal.coe_neg, abs_eq_max_neg]
    exact (EReal.coe_strictMono.monotone.map_max).symm
  obtain ⟨ra, hra⟩ := rmax_mem fun r => max (rwt s vs r) (-rwt s vs r)
  have hA : rabs s vs = ((|τ * ω ra * ν ra| : ℝ) : EReal) := hra.trans (hab ra)
  have hle : ∀ r, |τ * ω r * ν r| ≤ |τ * ω ra * ν ra| := by
    intro r
    have h1 := le_rmax (fun r => max (rwt s vs r) (-rwt s vs r)) r
    rw [hra] at h1
    simp only [hab] at h1
    exact EReal.coe_le_coe_iff.mp h1
  obtain ⟨κ, hκ, hsc, hb⟩ := rscale_real _ (abs_nonneg (τ * ω ra * ν ra))
  have hcode : ∀ r, rcode s vs r = ((1 / κ : ℝ) : EReal) * ((τ * ω r * ν r : ℝ) : EReal) := by
    intro r
    unfold rcode
    rw [hA, hsc, hw, Ideal.div_coe hκ.ne', c448, cm448, ← EReal.coe_mul, ← EReal.coe_mul]
    have h1 : |τ * ω r * ν r| ≤ 448 * κ := (hle r).trans hb
    have h2 : |τ * ω r * ν r * (1 / κ)| ≤ 448 := by
      rw [abs_mul, abs_of_pos (one_div_pos.mpr hκ), mul_one_div, div_le_iff₀ hκ]
      exact h1
    obtain ⟨h3, h4⟩ := abs_le.mp h2
    rw [max_eq_right (EReal.coe_le_coe_iff.mpr h3), min_eq_right (EReal.coe_le_coe_iff.mpr h4), mul_comm (1 / κ)]
  have hnum : (∑ r, v r * rcode s vs r) * rscale (rabs s vs) = (τ : EReal) * ∑ r, v r * ((ω r : EReal) * vs r) := by
    rw [hA, hsc, mul_comm, Cert.KernelIdeal.Val.mul_sum_pos _ _ κ hκ.le, Cert.KernelIdeal.Val.mul_sum_pos _ _ τ hτp.le]
    refine Finset.sum_congr rfl fun r _ => ?_
    rw [hcode, hν, mul_left_comm (κ : EReal), mul_left_comm (τ : EReal), ← EReal.coe_mul, ← EReal.coe_mul, ← EReal.coe_mul, ← EReal.coe_mul]
    exact congrArg (fun x : ℝ => v r * ((x : ℝ) : EReal)) (by field_simp)
  have hden : ∑ r, rexp s r = (τ : EReal) * ((∑ r, ω r : ℝ) : EReal) := by
    rw [← Cert.KernelIdeal.Val.sum_coe, Cert.KernelIdeal.Val.mul_sum_pos _ _ τ hτp.le]
    exact Finset.sum_congr rfl fun r _ => he r
  unfold rout
  rw [hnum, hden, Cert.KernelIdeal.Val.div_cancel _ _ _ hτp hsum, Cert.KernelIdeal.Val.sum_coe]

end Cert.ReferenceIdeal.Val
-- ==== Proof.Ref.Scores.lean ====
/- The masked scores of the reference, of its arguments. -/
module

public import proofs.«01_k».proof.ReferenceIdeal
public import Idealize.ShloMosaic.PureOps.Ideal
public import Idealize.ShloMosaic.Lib.Pointwise

@[expose] public section

noncomputable section

namespace Cert.ReferenceIdeal.Val

open Idealize.ShloMosaic Cert.ReferenceIdeal
open Idealize.ShloMosaic.Pointwise

/-- The visibility of key `r` to query `n`. -/
def seen (p : BitVec 32) (n r : Fin 16384) : BitVec 1 :=
  IntOp.ori (IntOp.cmpi .sle (BitVec.ofNat 32 r.val) (BitVec.ofNat 32 n.val)) (IntOp.cmpi .slt (BitVec.ofNat 32 r.val) p)

/-- The capped score of a key, of the product, the query's scale and the key's scale. -/
def rcap (s q k : EReal) : EReal :=
  Ideal.ofBits .f32 0x42480000#32 * Ideal.tanh (Ideal.div (s * Ideal.div q (Ideal.sqrt (Ideal.ofBits .f32 0x43000000#32)) * k) (Ideal.ofBits .f32 0x42480000#32))

section
variable (P : S4.Idx → BitVec 32) (Q : S4x16384x2048.Idx → EReal) (QS : S4x16384x16.Idx → EReal) (K : S4x16384x256.Idx → EReal) (KS : S4x16384x2.Idx → EReal)

/-- The product of key `r` with query `n`. -/
def rdot (b : Fin 4) (h : Fin 2) (g : Fin 8) (n r : Fin 16384) : EReal :=
  ∑ d : Fin 128, K (ix3 b r (⟨h.val * 128 + d.val, by omega⟩ : Fin 256)) * Q (ix3 b n (⟨h.val * 1024 + g.val * 128 + d.val, by omega⟩ : Fin 2048))

/-- The masked scores of a row. -/
def rscore (b : Fin 4) (h : Fin 2) (g : Fin 8) (n r : Fin 16384) : EReal :=
  Scalar.select (seen (P (ix1 b)) n r) (rcap (rdot Q K b h g n r) (QS (ix3 b n (⟨h.val * 8 + g.val, by omega⟩ : Fin 16))) (KS (ix3 b r h)))
    (Ideal.ofBits .f32 0xFF800000#32)
end

end Cert.ReferenceIdeal.Val
end
-- ==== Proof.Ref.Compose.lean ====
/- The reference's result read back through its stretches: each entry is a row's quantised softmax (`rout`) of the arguments. -/
module

public import proofs.«01_k».proof.Proof.Ref.Tail
public import proofs.«01_k».proof.Proof.Ref.Codes
public import proofs.«01_k».proof.Proof.Ref.Row
public import proofs.«01_k».proof.Proof.Ref.Scores

@[expose] public section

set_option maxRecDepth 16384

noncomputable section

namespace Cert.ReferenceIdeal.Val

open Idealize.ShloMosaic Idealize.ShloMosaic.TcCoe Idealize.SL.Sem Cert.ReferenceIdeal Cert.ReferenceIdeal.Gen
open Idealize.ShloMosaic.Pointwise

/-- The greatest of a row. -/
theorem top_eq (X : FVec Ideal S4x2x8x16384x16384 .f32) (b : Fin 4) (h : Fin 2) (g : Fin 8) (n : Fin 16384) :
    top X b h g n = rmax (fun r => X (ix5 b h g n r)) := by
  unfold top
  rw [Host.reduce_eq_fold, Shape.ReducesTo.fold_fiber_r5_a4]
  rfl

/-- The sum of a row. -/
theorem tot_eq (X : FVec Ideal S4x2x8x16384x16384 .f32) (b : Fin 4) (h : Fin 2) (g : Fin 8) (n : Fin 16384) :
    tot X b h g n = ∑ r : Fin 16384, (X (ix5 b h g n r) : EReal) := by
  unfold tot
  rw [Host.reduceAdd_apply]
  refine (Ideal.hostReduceAdd_r5_a4 _ _ _ _).trans ?_
  have e : (constant (F := Ideal) S_ .f32 0x00000000#32 (Shape.Idx.first h_S_) : EReal) = 0 := c0.trans EReal.coe_zero
  exact (congrArg (· + _) e).trans (zero_add _)

variable (m : (ℓ : Loc nD τ sig) → Buf (Elt Ideal) ℓ) (c : Dev nD)

/-! ### The contents between the stretches -/

/-- After the first call, and after each stretch of host lines. -/
abbrev U0 : Valuation τ sig (Elt Ideal) := Pipeline.withArrays (cfgs 0).spec c (V0 m c) fun w => (dats m 0 c).arrAt w (cfgs 0).N
/-- The memory after the first 1 stretches of host lines. -/
abbrev U1 := StableHlo.after (hostOps1 (F := Ideal)) (U0 m c)
/-- The memory after the first 2 stretches of host lines. -/
abbrev U2 := StableHlo.after (hostOps1_1 (F := Ideal)) (U1 m c)
/-- The memory after the first 3 stretches of host lines. -/
abbrev U3 := StableHlo.after (hostOps1_2 (F := Ideal)) (U2 m c)
/-- The memory after the first 4 stretches of host lines. -/
abbrev U4 := StableHlo.after (hostOps1_3 (F := Ideal)) (U3 m c)
/-- The memory after the first 5 stretches of host lines. -/
abbrev U5 := StableHlo.after (hostOps1_4 (F := Ideal)) (U4 m c)
/-- The memory after the first 6 stretches of host lines. -/
abbrev U6 := StableHlo.after (hostOps1_5 (F := Ideal)) (U5 m c)

/-- The memory at the end is that of all stretches, one after the other. -/
theorem tail_eq (b : Ref sig .tc) :
    Pipeline.afterTail₀ cfgs (dats m) 0 (V0 m) [hostOps1, hostOps1_1, hostOps1_2, hostOps1_3, hostOps1_4, hostOps1_5, hostOps1_6] c b
      = StableHlo.after (hostOps1_6 (F := Ideal)) (U6 m c) (Proc.devRef .tc b) := by
  unfold Pipeline.afterTail₀
  rw [List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append]

/-- The arrays of the conversion are distinct. -/
theorem inj0 : Function.Injective (Pipeline.arrRef spec0) := by decide

/-- The prefixes are still the argument when the host lines begin. -/
theorem U0_arg0 : U0 m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
/-- The query scales are still the argument. -/
theorem U0_arg2 : U0 m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
/-- The key scales are still the argument. -/
theorem U0_arg4 : U0 m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
/-- The value scales are still the argument. -/
theorem U0_arg6 : U0 m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)
/-- The converted query codes. -/
theorem U0_v0_0 : (U0 m c (Proc.devRef .tc main_v0_0) : S4x16384x2048.Idx → EReal) = m ((c : Thread nD τ).loc main_arg1) :=
  (Pipeline.withArrays_arr spec0 inj0 c (V0 m c) (fun w => (dats m 0 c).arrAt w (cfgs 0).N) 3).trans (arr3 m c)
/-- The converted key codes. -/
theorem U0_v0_1 : (U0 m c (Proc.devRef .tc main_v0_1) : S4x16384x256.Idx → EReal) = m ((c : Thread nD τ).loc main_arg3) :=
  (Pipeline.withArrays_arr spec0 inj0 c (V0 m c) (fun w => (dats m 0 c).arrAt w (cfgs 0).N) 4).trans (arr4 m c)
/-- The converted value codes. -/
theorem U0_v0_2 : (U0 m c (Proc.devRef .tc main_v0_2) : S4x256x16384.Idx → EReal) = m ((c : Thread nD τ).loc main_arg5) :=
  (Pipeline.withArrays_arr spec0 inj0 c (V0 m c) (fun w => (dats m 0 c).arrAt w (cfgs 0).N) 5).trans (arr5 m c)

/-! ### The row -/

/-- The masked scores of the launched arguments. -/
abbrev ms (b : Fin 4) (h : Fin 2) (g : Fin 8) (n : Fin 16384) : Fin 16384 → EReal :=
  rscore (m ((c : Thread nD τ).loc main_arg0)) (m ((c : Thread nD τ).loc main_arg1)) (m ((c : Thread nD τ).loc main_arg2))
    (m ((c : Thread nD τ).loc main_arg3)) (m ((c : Thread nD τ).loc main_arg4)) b h g n
/-- The value scales of a head. -/
abbrev mvs (b : Fin 4) (h : Fin 2) : Fin 16384 → EReal := fun r => m ((c : Thread nD τ).loc main_arg6) (ix3 b r h)

/-- The masked scores. -/
theorem r39 (b : Fin 4) (h : Fin 2) (g : Fin 8) (n r : Fin 16384) :
    (U2 m c (Proc.devRef .tc main_v39) (ix5 b h g n r) : EReal) = ms m c b h g n r := by
  refine (v39_at (U1 m c) b h g n r).trans ?_
  have e1 : U1 m c (Proc.devRef .tc main_v38) (ix5 b (0 : Fin 1) (0 : Fin 1) n r) = _ := v38_at (U0 m c) b n r
  have e2 : U1 m c (Proc.devRef .tc main_v23) (ix5 b h g n r) = _ := v23_at (U0 m c) b h g n r
  have e3 : U1 m c (Proc.devRef .tc main_cst_2) ix0 = _ := cst2_at (U0 m c)
  rw [e1, e2, e3, U0_arg0, U0_arg2, U0_arg4, U0_v0_0, U0_v0_1]
  rfl

/-- The value scales, by head. -/
theorem r12 (b : Fin 4) (h : Fin 2) (r : Fin 16384) : (U2 m c (Proc.devRef .tc main_v12) (ix3 b h r) : EReal) = mvs m c b h r := by
  have e : U2 m c (Proc.devRef .tc main_v12) = U1 m c (Proc.devRef .tc main_v12) :=
    StableHlo.after_of_writes_sub (r := main_v12) hostOps1_1 _ hostOps1_1_writes (by decide +kernel)
  have e1 : U1 m c (Proc.devRef .tc main_v12) (ix3 b h r) = _ := v12_at (U0 m c) b h r
  rw [e, e1, U0_arg6]

/-- The row's greatest score. -/
theorem rtop (b : Fin 4) (h : Fin 2) (g : Fin 8) (n : Fin 16384) :
    top (U2 m c (Proc.devRef .tc main_v39)) b h g n = rmax (ms m c b h g n) := by
  rw [top_eq]
  exact congrArg rmax (funext fun r => r39 m c b h g n r)

/-- The exponentials of the row. -/
theorem r44 (b : Fin 4) (h : Fin 2) (g : Fin 8) (n r : Fin 16384) :
    (U3 m c (Proc.devRef .tc main_v44) (ix5 b h g n r) : EReal) = rexp (ms m c b h g n) r := by
  refine (v44_at (U2 m c) b h g n r).trans ?_
  rw [r39, rtop]
  rfl

/-- Their sum. -/
theorem r45 (b : Fin 4) (h : Fin 2) (g : Fin 8) (n : Fin 16384) :
    (U3 m c (Proc.devRef .tc main_v45) (ix4 b h g n) : EReal) = ∑ r, rexp (ms m c b h g n) r := by
  exact ((v45_at (U2 m c) b h g n).trans (tot_eq _ b h g n)).trans (Finset.sum_congr (ι := Fin 16384) (M := EReal) rfl fun r _ => r44 m c b h g n r)

/-- The weights: exponentials times value scales. -/
theorem r48 (b : Fin 4) (h : Fin 2) (g : Fin 8) (n r : Fin 16384) :
    (U3 m c (Proc.devRef .tc main_v48) (ix5 b h g n r) : EReal) = rwt (ms m c b h g n) (mvs m c b h) r := by
  refine (v48_at (U2 m c) b h g n r).trans ?_
  rw [r39, rtop, r12]
  rfl

/-- The greatest weight of a row. -/
theorem r51 (b : Fin 4) (h : Fin 2) (g : Fin 8) (n : Fin 16384) :
    (U3 m c (Proc.devRef .tc main_v51) (ix4 b h g n) : EReal) = rabs (ms m c b h g n) (mvs m c b h) := by
  refine (v51_at (U2 m c) b h g n).trans ?_
  rw [top_eq]
  unfold rabs
  exact congrArg rmax (funext fun r => congrArg (fun x : EReal => max x (-x)) (r48 m c b h g n r))

/-- The exponent times the logarithm of two gives the scale. -/
theorem r62 (b : Fin 4) (h : Fin 2) (g : Fin 8) (n : Fin 16384) :
    Ideal.exp (HMul.hMul (α := EReal) (β := EReal) (U4 m c (Proc.devRef .tc main_v62) (ix4 b h g n)) (U4 m c (Proc.devRef .tc main_v49) ix0))
      = rscale (rabs (ms m c b h g n) (mvs m c b h)) := by
  have e : U4 m c (Proc.devRef .tc main_v49) = U3 m c (Proc.devRef .tc main_v49) :=
    StableHlo.after_of_writes_sub (r := main_v49) hostOps1_3 _ hostOps1_3_writes (by decide +kernel)
  have e1 : U3 m c (Proc.devRef .tc main_v49) ix0 = _ := v49_at (U2 m c)
  have e2 : U4 m c (Proc.devRef .tc main_v62) (ix4 b h g n) = _ := v62_at (U3 m c) b h g n
  have e3 : U3 m c (Proc.devRef .tc main_v61) (ix4 b h g n) = Ideal.cmp .oeq (rabs (ms m c b h g n) (mvs m c b h)) (Ideal.ofBits .f32 0x00000000#32) := by
    rw [← r51 m c b h g n]; exact v61_at (U2 m c) b h g n
  have e4 : U3 m c (Proc.devRef .tc main_v59) (ix4 b h g n) = rexpo (rabs (ms m c b h g n) (mvs m c b h)) := by
    rw [← r51 m c b h g n]; exact v59_at (U2 m c) b h g n
  have e5 : U3 m c (Proc.devRef .tc main_cst_10) ix0 = _ := cst10_at (U2 m c)
  rw [e, e1, e2, e3, e4, e5]
  rfl

/-- The scale of the weight codes. -/
theorem r65 (b : Fin 4) (h : Fin 2) (g : Fin 8) (n : Fin 16384) :
    (U5 m c (Proc.devRef .tc main_v65) (ix4 b h g n) : EReal) = rscale (rabs (ms m c b h g n) (mvs m c b h)) :=
  (v65_at (U4 m c) b h g n).trans (r62 m c b h g n)

/-- The weight codes. -/
theorem r69 (b : Fin 4) (h : Fin 2) (g : Fin 8) (n r : Fin 16384) :
    (U6 m c (Proc.devRef .tc main_v69) (ix5 b h g n r) : EReal) = rcode (ms m c b h g n) (mvs m c b h) r := by
  refine (v69_at (U5 m c) b h g n r).trans ?_
  have e : U4 m c (Proc.devRef .tc main_v48) = U3 m c (Proc.devRef .tc main_v48) :=
    StableHlo.after_of_writes_sub (r := main_v48) hostOps1_3 _ hostOps1_3_writes (by decide +kernel)
  have e1 : U5 m c (Proc.devRef .tc main_cst_12) ix0 = _ := cst12_at (U4 m c)
  have e2 : U5 m c (Proc.devRef .tc main_cst_11) ix0 = _ := cst11_at (U4 m c)
  have e3 : U5 m c (Proc.devRef .tc main_v68) (ix5 b h g n r) = _ := (v68_at (U4 m c) b h g n r).trans (congrArg (Ideal.div _) (r62 m c b h g n))
  rw [e1, e2, e3, e, r48]
  rfl

/-- THE RESULT: each entry is its row's quantised softmax. -/
theorem res_eq (x : S4x16384x2048.Idx) :
    (Pipeline.afterTail₀ cfgs (dats m) 0 (V0 m) [hostOps1, hostOps1_1, hostOps1_2, hostOps1_3, hostOps1_4, hostOps1_5, hostOps1_6] c main_v81 x : EReal)
      = rout (ms m c (x 0) (xh x) (xg x) (x 1)) (mvs m c (x 0) (xh x))
          (fun r => m ((c : Thread nD τ).loc main_arg5) (ix3 (x 0) (⟨(xh x).val * 128 + (xd x).val, by have := (xh x).isLt; have := (xd x).isLt; omega⟩ : Fin 256) r)) := by
  rw [tail_eq]
  refine (v81_at (U6 m c) x).trans ?_
  have e3 : U6 m c (Proc.devRef .tc main_v3) = U1 m c (Proc.devRef .tc main_v3) := by
    unfold U6 U5 U4 U3 U2
    rw [StableHlo.after_of_writes_sub (r := main_v3) hostOps1_5 _ hostOps1_5_writes (by decide +kernel),
      StableHlo.after_of_writes_sub (r := main_v3) hostOps1_4 _ hostOps1_4_writes (by decide +kernel),
      StableHlo.after_of_writes_sub (r := main_v3) hostOps1_3 _ hostOps1_3_writes (by decide +kernel),
      StableHlo.after_of_writes_sub (r := main_v3) hostOps1_2 _ hostOps1_2_writes (by decide +kernel),
      StableHlo.after_of_writes_sub (r := main_v3) hostOps1_1 _ hostOps1_1_writes (by decide +kernel)]
  have e45 : U6 m c (Proc.devRef .tc main_v45) = U3 m c (Proc.devRef .tc main_v45) := by
    unfold U6 U5 U4
    rw [StableHlo.after_of_writes_sub (r := main_v45) hostOps1_5 _ hostOps1_5_writes (by decide +kernel),
      StableHlo.after_of_writes_sub (r := main_v45) hostOps1_4 _ hostOps1_4_writes (by decide +kernel),
      StableHlo.after_of_writes_sub (r := main_v45) hostOps1_3 _ hostOps1_3_writes (by decide +kernel)]
  have e65 : U6 m c (Proc.devRef .tc main_v65) = U5 m c (Proc.devRef .tc main_v65) :=
    StableHlo.after_of_writes_sub (r := main_v65) hostOps1_5 _ hostOps1_5_writes (by decide +kernel)
  rw [e3, e45, e65]
  have key : ∀ (b : Fin 4) (n : Fin 16384) (h : Fin 2) (g : Fin 8) (d : Fin 128),
      Ideal.div (HMul.hMul (α := EReal) (β := EReal) (∑ r : Fin 16384, HMul.hMul (α := EReal) (β := EReal) (U1 m c (Proc.devRef .tc main_v3) (ix4 b h d r)) (U6 m c (Proc.devRef .tc main_v69) (ix5 b h g n r)))
        (U5 m c (Proc.devRef .tc main_v65) (ix4 b h g n))) (U3 m c (Proc.devRef .tc main_v45) (ix4 b h g n))
        = rout (ms m c b h g n) (mvs m c b h) (fun r => m ((c : Thread nD τ).loc main_arg5) (ix3 b (⟨h.val * 128 + d.val, by omega⟩ : Fin 256) r)) := by
    intro b n h g d
    have hs : (∑ r : Fin 16384, HMul.hMul (α := EReal) (β := EReal) (U1 m c (Proc.devRef .tc main_v3) (ix4 b h d r)) (U6 m c (Proc.devRef .tc main_v69) (ix5 b h g n r)))
        = ∑ r : Fin 16384, HMul.hMul (α := EReal) (β := EReal) (m ((c : Thread nD τ).loc main_arg5) (ix3 b (⟨h.val * 128 + d.val, by omega⟩ : Fin 256) r)) (rcode (ms m c b h g n) (mvs m c b h) r) := by
      refine Finset.sum_congr rfl fun r _ => ?_
      have e : U1 m c (Proc.devRef .tc main_v3) (ix4 b h d r) = _ := v3_at (U0 m c) b h d r
      rw [r69, e, U0_v0_2]
    rw [r45, r65, hs]
    rfl
  exact key (x 0) (x 1) (xh x) (xg x) (xd x)

end Cert.ReferenceIdeal.Val
end
-- ==== Proof.Ref.Equal.lean ====
/- The reference's row is the mean of the values over the visible keys. -/
module

public import proofs.«01_k».proof.Proof.Ref.Row
public import proofs.«01_k».proof.Proof.Ref.Scores
public import proofs.«01_k».proof.Proof.Value.Spec

@[expose] public section

noncomputable section

namespace Cert.ReferenceIdeal.Val

open Idealize.ShloMosaic Cert.ReferenceIdeal
open Idealize.ShloMosaic.Pointwise

/-- The constant 50. -/
theorem c50 : Ideal.ofBits .f32 0x42480000#32 = ((50 : ℝ) : EReal) := by
  norm_num [Ideal.ofBits, Ideal.ieee, Nat.shiftRight_eq_div_pow]
  decide
/-- The constant 128. -/
theorem c128 : Ideal.ofBits .f32 0x43000000#32 = ((128 : ℝ) : EReal) := by
  norm_num [Ideal.ofBits, Ideal.ieee, Nat.shiftRight_eq_div_pow]
  decide

/-- The capped score is fifty times a hyperbolic tangent of the product with the two scales and the score factor. -/
theorem rcap_eq (s q k : EReal) : rcap s q k = ((50 : ℝ) : EReal) * Ideal.tanh (s * k * (q * Cert.KernelIdeal.Val.score)) := by
  unfold rcap Cert.KernelIdeal.Val.score
  have h128 : (0 : ℝ) < Real.sqrt 128 := Real.sqrt_pos.mpr (by norm_num)
  rw [c50, c128, Ideal.sqrt_coe, if_neg (by norm_num), Ideal.div_coe h128.ne', Ideal.div_coe (by norm_num : (50 : ℝ) ≠ 0), EReal.coe_mul, one_div (Real.sqrt 128)]
  congr 2
  ac_rfl

/-- The word of a position is that position. -/
theorem toInt_small (r : Fin 16384) : (BitVec.ofNat 32 r.val).toInt = r.val := by
  have h : (BitVec.ofNat 32 r.val).toNat = r.val := by rw [BitVec.toNat_ofNat]; exact Nat.mod_eq_of_lt (by omega)
  rw [BitVec.toInt_eq_toNat_of_lt (by rw [h]; omega), h]

/-- A key is seen exactly when it lies below the limit of the query. -/
theorem seen_iff (p : BitVec 32) (n r : Fin 16384) : seen p n r = 1#1 ↔ r.val < max (n.val + 1) p.toInt.toNat := by
  have hr : (BitVec.ofNat 32 r.val).toInt = r.val := by exact toInt_small _
  have hn : (BitVec.ofNat 32 n.val).toInt = n.val := by exact toInt_small _
  have hor : ∀ a b : Bool, IntOp.ori (BitVec.ofBool a) (BitVec.ofBool b) = 1#1 ↔ a = true ∨ b = true := by decide
  unfold seen
  show IntOp.ori (BitVec.ofBool (BitVec.sle _ _)) (BitVec.ofBool (BitVec.slt _ _)) = 1#1 ↔ _
  rw [hor, BitVec.sle_eq_decide, BitVec.slt_eq_decide, decide_eq_true_eq, decide_eq_true_eq, hr, hn]
  omega

/-- Two to the score in base two is the exponential of the score. -/
theorem exp2_cap (t : ℝ) : Ideal.exp2 ((t : EReal) * Cert.KernelIdeal.Val.cap) = ((Real.exp (50 * t) : ℝ) : EReal) := by
  have hl : Real.log 2 ≠ 0 := (Real.log_pos (by norm_num)).ne'
  unfold Cert.KernelIdeal.Val.cap
  rw [← EReal.coe_mul, Cert.KernelIdeal.Val.exp2_coe, Real.rpow_def_of_pos two_pos]
  congr 2
  field_simp

variable (P : S4.Idx → BitVec 32) (Q : S4x16384x2048.Idx → EReal) (QS : S4x16384x16.Idx → EReal) (K : S4x16384x256.Idx → EReal)
  (KS : S4x16384x2.Idx → EReal) (V : S4x256x16384.Idx → EReal) (VS : S4x16384x2.Idx → EReal)

/-- The query head of group member `g` of key and value head `h`. -/
abbrev qhead (h : Fin 2) (g : Fin 8) : Fin 16 := ⟨h.val * 8 + g.val, by omega⟩

/-- The key head of a query head. -/
theorem kvh_qhead (h : Fin 2) (g : Fin 8) : Cert.KernelIdeal.Val.kvh (qhead h g) = h := by
  apply Fin.ext; show (h.val * 8 + g.val) / 8 = h.val; omega
/-- The column of a key head's element. -/
theorem kcol_qhead (h : Fin 2) (g : Fin 8) (d : Fin 128) : Cert.KernelIdeal.Val.kcol (qhead h g) d = (⟨h.val * 128 + d.val, by omega⟩ : Fin 256) := by
  apply Fin.ext; show (h.val * 8 + g.val) / 8 * 128 + d.val = h.val * 128 + d.val; omega
/-- The column of a query head's element. -/
theorem qcol_qhead (h : Fin 2) (g : Fin 8) (d : Fin 128) : Cert.KernelIdeal.Val.qcol (qhead h g) d = (⟨h.val * 1024 + g.val * 128 + d.val, by omega⟩ : Fin 2048) := by
  apply Fin.ext; show (h.val * 8 + g.val) * 128 + d.val = h.val * 1024 + g.val * 128 + d.val; omega

/-- The reference's product of query and key is the one of the specification. -/
theorem rdot_eq (b : Fin 4) (h : Fin 2) (g : Fin 8) (n r : Fin 16384) : rdot Q K b h g n r = Cert.KernelIdeal.Val.adot Q K b n (qhead h g) r := by
  unfold rdot Cert.KernelIdeal.Val.adot
  refine Finset.sum_congr rfl fun d _ => ?_
  rw [kcol_qhead, qcol_qhead]

/-- THE EQUATION: the reference's quantised softmax of a row is the mean of the values under the kernel's weights. -/
theorem row_eq (b : Fin 4) (h : Fin 2) (g : Fin 8) (n : Fin 16384) (d : Fin 128) (hVS : ∀ x, ∃ ν : ℝ, VS x = (ν : EReal)) :
    rout (rscore P Q QS K KS b h g n) (fun r => VS (ix3 b r h)) (fun r => V (ix3 b (⟨h.val * 128 + d.val, by omega⟩ : Fin 256) r))
      = Cert.KernelIdeal.Val.amean P Q QS K KS V VS b n (qhead h g) d := by
  choose ν hν using hVS
  have ht : ∀ r : Fin 16384, ∃ t : ℝ, Ideal.tanh (Cert.KernelIdeal.Val.adot Q K b n (qhead h g) r * KS (ix3 b r h)
      * (QS (ix3 b n (qhead h g)) * Cert.KernelIdeal.Val.score)) = (t : EReal) := fun r => Cert.KernelIdeal.Val.tanh_real _
  choose t ht using ht
  rw [rout_eq _ _ _ (fun r => r.val < Cert.KernelIdeal.Val.alim P b n) (fun r => 50 * t r) (fun r => ν (ix3 b r h)) ?_ ?_ (fun r => hν _)]
  · have hw : ∀ r : Fin 16384, Cert.KernelIdeal.Val.awt P Q QS K KS b n (qhead h g) r
        = ((if r.val < Cert.KernelIdeal.Val.alim P b n then Real.exp (50 * t r) else 0 : ℝ) : EReal) := by
      intro r
      unfold Cert.KernelIdeal.Val.awt Cert.KernelIdeal.Val.ascore
      rw [kvh_qhead, ht r, exp2_cap]
      by_cases hl : r.val < Cert.KernelIdeal.Val.alim P b n
      · rw [if_pos hl, if_pos hl]
      · rw [if_neg hl, if_neg hl, EReal.coe_zero]
    unfold Cert.KernelIdeal.Val.amean
    simp only [hw, kvh_qhead, kcol_qhead]
  · intro r
    unfold rscore
    have hb : ∀ z : BitVec 1, z = 1#1 ∨ z = 0#1 := by decide
    by_cases hl : r.val < Cert.KernelIdeal.Val.alim P b n
    · rw [if_pos hl, (seen_iff _ n r).mpr hl, rcap_eq, rdot_eq, ht r, ← EReal.coe_mul]
      rfl
    · have h0 : seen (P (ix1 b)) n r = 0#1 := (hb _).resolve_left fun e => hl ((seen_iff _ n r).mp e)
      rw [if_neg hl, h0]
      rfl
  · exact ⟨⟨0, by omega⟩, by show 0 < max (n.val + 1) _; omega⟩

end Cert.ReferenceIdeal.Val
end
-- ==== Proof.Ref.Result.lean ====
/- The reference's run with its result. -/
module

public import proofs.«01_k».proof.Proof.Ref.Compose
public import proofs.«01_k».proof.Proof.Ref.Equal
public import Idealize.ShloMosaic.Lib.Claim

@[expose] public section

noncomputable section

namespace Cert.ReferenceIdeal.Val

open Idealize.ShloMosaic Idealize.ShloMosaic.TcCoe Idealize.SL.Sem Cert.ReferenceIdeal Cert.ReferenceIdeal.Gen
open Idealize.ShloMosaic.Pointwise

variable (m : (ℓ : Loc nD τ sig) → Buf (Elt Ideal) ℓ) (ρ : Dev nD → PrngReg)

/-- The mean of the values over the visible keys, of the launched arguments. -/
def want (c : Dev nD) : S4x16384x2048.Idx → EReal :=
  Cert.KernelIdeal.Val.attn (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- With real value scales the reference's result is that mean. -/
theorem res_want (c : Dev nD) (hVS : ∀ x, ∃ ν : ℝ, (m ((c : Thread nD τ).loc main_arg6) x : EReal) = (ν : EReal)) :
    (Pipeline.afterTail₀ cfgs (dats m) 0 (V0 m) [hostOps1, hostOps1_1, hostOps1_2, hostOps1_3, hostOps1_4, hostOps1_5, hostOps1_6] c main_v81 : S4x16384x2048.Idx → EReal)
      = want m c := by
  funext x
  refine (res_eq m c x).trans ?_
  refine (row_eq _ _ _ _ _ (m ((c : Thread nD τ).loc main_arg5)) (m ((c : Thread nD τ).loc main_arg6)) (x 0) (xh x) (xg x) (x 1) (xd x) hVS).trans ?_
  have h2 : (x 2).val < 2048 := (x 2).isLt
  have e : qhead (xh x) (xg x) = (⟨(x 2).val / 128, by omega⟩ : Fin 16) :=
    Fin.ext (by show (x 2).val / 1024 * 8 + (x 2).val / 128 % 8 = (x 2).val / 128; omega)
  rw [e]
  rfl

/-- THE REFERENCE'S VALUE: it ends with the result holding that mean and every argument unchanged. -/
theorem run (hVS : ∀ (c : Dev nD) x, ∃ ν : ℝ, (m ((c : Thread nD τ).loc main_arg6) x : EReal) = (ν : EReal)) :
    θ_run defs (onTc (τ := τ) (main (F := Ideal))) ⟨m, fun _ => 0, ρ⟩ (fun r => ∀ c : Dev nD,
      r.2.mem ((c.tc : Thread nD τ).loc main_v81) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h.1 c).2 main_v81 (Pipeline.mem_restRefs_of main_v81 (by decide) (by decide))).trans (res_want m c (hVS c)), h.2.1 c⟩)
    (θ_run_and (run_main m ρ) (Cert.ReferenceIdeal.Gen.frame m ρ))

end Cert.ReferenceIdeal.Val
end
-- ==== Proof.lean ====
/- The certificate of the prefix-LM attention: the frames, that the kernel over the reals is the printed kernel with its two
   rounded constants replaced by the reals they round, and that over the reals kernel and reference compute the same. -/
module

public import proofs.«01_k».proof.Defs
public import proofs.«01_k».proof.Proof.Gen.Pre_prefix_fits
public import proofs.«01_k».proof.Proof.Side
public import proofs.«01_k».proof.Proof.SideFinite
public import proofs.«01_k».proof.Proof.KernelFrame.Frame
public import proofs.«01_k».proof.Proof.IdealFrame.Frame
public import proofs.«01_k».proof.Proof.Gen.ReferenceIdeal.Frame
public import proofs.«01_k».proof.Proof.Value.Result
public import proofs.«01_k».proof.Proof.Ref.Result
public import Idealize.ShloMosaic.Adequacy
public import Idealize.ShloMosaic.Init

@[expose] public section

noncomputable section

namespace Cert.Proof

open Idealize.ShloMosaic Idealize.ShloMosaic.TcCoe Idealize.SL.Sem Cert.Kernel

/-- The two constants of the kernel are the f32 roundings of `1 / (50 √128)` and `50 / ln 2`. -/
theorem preserves : Cert.preserves_Kernel_KernelIdeal :=
  ⟨IdealRules.named_const.statement Cert.KernelIdeal.κ "score" .f32 0x3AE7B46A#32 _ rfl,
   IdealRules.named_const.statement Cert.KernelIdeal.κ "cap_log2e" .f32 0x429044FE#32 _ rfl⟩

/-- Equal arguments, equal means. -/
theorem attn_congr {P P' : Cert.KernelIdeal.S4.Idx → BitVec 32} {Q Q' : Cert.KernelIdeal.S4x16384x2048.Idx → EReal} {QS QS' : Cert.KernelIdeal.S4x16384x16.Idx → EReal}
    {K K' : Cert.KernelIdeal.S4x16384x256.Idx → EReal} {KS KS' : Cert.KernelIdeal.S4x16384x2.Idx → EReal} {V V' : Cert.KernelIdeal.S4x256x16384.Idx → EReal}
    {VS VS' : Cert.KernelIdeal.S4x16384x2.Idx → EReal} (h0 : P = P') (h1 : Q = Q') (h2 : QS = QS') (h3 : K = K') (h4 : KS = KS') (h5 : V = V') (h6 : VS = VS') :
    Cert.KernelIdeal.Val.attn P Q QS K KS V VS = Cert.KernelIdeal.Val.attn P' Q' QS' K' KS' V' VS' := by
  rw [h0, h1, h2, h3, h4, h5, h6]

/-- From arguments that agree the two programs are to compute the same. -/
theorem want_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Val.want m' c = Cert.KernelIdeal.Val.want m c := by
  unfold Cert.ReferenceIdeal.Val.want Cert.KernelIdeal.Val.want
  exact attn_congr h0 h1 h2 h3 h4 h5 h6

/-- THE VALUE: over the reals the kernel and the reference end with the same attention. -/
theorem algebraic : Cert.algebraic_KernelIdeal_ReferenceIdeal_pre_scales_finite := fun m g m' g' hpre hag =>
  ⟨fun c => Cert.KernelIdeal.Val.want m c, Cert.KernelIdeal.Val.run m g trivial (fits m hpre), by
    have hVS : ∀ (c : Dev Cert.ReferenceIdeal.nD) x, ∃ ν : ℝ, (m' ((c.tc : Thread Cert.ReferenceIdeal.nD Cert.ReferenceIdeal.τ).loc Cert.ReferenceIdeal.main_arg6) x : EReal) = (ν : EReal) := fun c x => by
      obtain ⟨-, -, -, -, -, -, h6⟩ := hag c
      obtain ⟨ν, hν⟩ := scales_real m hpre c x
      exact ⟨ν, (congrFun h6 x).trans hν⟩
    refine (θ_run Cert.ReferenceIdeal.defs _ _).mono (fun r h c => ?_) (Cert.ReferenceIdeal.Val.run m' g' hVS)
    obtain ⟨h0, h1, h2, h3, h4, h5, h6⟩ := hag c
    exact ⟨(h c).1.trans (want_eq m m' c h0 h1 h2 h3 h4 h5 h6), (h c).2⟩⟩

/-- Everything the certificate claims. -/
theorem claim : Cert.Claim := ⟨Cert.Kernel.Gen.facts, Cert.KernelIdeal.Gen.facts, Cert.ReferenceIdeal.Gen.facts, Cert.Pre_prefix_fits.Gen.facts, facts_scales,
  fun m ρ h => Cert.Kernel.Gen.frame m ρ trivial (hyps_kernel m h),
  fun m ρ h => Cert.KernelIdeal.Gen.frame m ρ trivial (hyps_ideal m (fits_ideal m h 0)),
  fun m ρ h => Cert.KernelIdeal.Gen.frame m ρ trivial (hyps_ideal m (fits_scales m h 0)),
  fun m ρ _ => Cert.ReferenceIdeal.Gen.frame m ρ,
  fun m ρ _ => Cert.ReferenceIdeal.Gen.frame m ρ,
  preserves, algebraic⟩

end Cert.Proof

end
